-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupReferenceIdeal (m : (ℓ : Loc Cert.GateupReferenceIdeal.nD Cert.GateupReferenceIdeal.τ Cert.GateupReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3)
      ∧ r.2.mem ((c.tc : Thread Cert.Gateup.nD Cert.Gateup.τ).loc Cert.Gateup.main_arg4) = m ((c.tc : Thread Cert.Gateup.nD Cert.Gateup.τ).loc Cert.Gateup.main_arg4))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
      ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4))
      ∧ r.2.sem = fun _ => 0)

def quiescent_GateupReferenceIdeal [hGateupReferenceIdeal : Cert.GateupReferenceIdeal.Facts] : Prop :=
  ∀ (m : (ℓ : Loc Cert.GateupReferenceIdeal.nD Cert.GateupReferenceIdeal.τ Cert.GateupReferenceIdeal.sig) → Buf (Elt Ideal) ℓ) (g : Dev Cert.GateupReferenceIdeal.nD → PrngReg), Pre_GateupReferenceIdeal m →
    θ_run (Cert.GateupReferenceIdeal.defs (F := Ideal)) (onTc (τ := Cert.GateupReferenceIdeal.τ) (Cert.GateupReferenceIdeal.main (F := Ideal))) ⟨m, fun _ => 0, g⟩ (fun r => (∀ c : Dev Cert.GateupReferenceIdeal.nD,
      r.2.mem ((c.tc : Thread Cert.GateupReferenceIdeal.nD Cert.GateupReferenceIdeal.τ).loc Cert.GateupReferenceIdeal.main_arg0) = m ((c.tc : Thread Cert.GateupReferenceIdeal.nD Cert.GateupReferenceIdeal.τ).loc Cert.GateupReferenceIdeal.main_arg0)
      ∧ r.2.mem ((c.tc : Thread Cert.GateupReferenceIdeal.nD Cert.GateupReferenceIdeal.τ).loc Cert.GateupReferenceIdeal.main_arg1) = m ((c.tc : Thread Cert.GateupReferenceIdeal.nD Cert.GateupReferenceIdeal.τ).loc Cert.GateupReferenceIdeal.main_arg1)
      ∧ r.2.mem ((c.tc : Thread Cert.GateupReferenceIdeal.nD Cert.GateupReferenceIdeal.τ).loc Cert.GateupReferenceIdeal.main_arg2) = m ((c.tc : Thread Cert.GateupReferenceIdeal.nD Cert.GateupReferenceIdeal.τ).loc Cert.GateupReferenceIdeal.main_arg2)
      ∧ r.2.mem ((c.tc : Thread Cert.GateupReferenceIdeal.nD Cert.GateupReferenceIdeal.τ).loc Cert.GateupReferenceIdeal.main_arg3) = m ((c.tc : Thread Cert.GateupReferenceIdeal.nD Cert.GateupReferenceIdeal.τ).loc Cert.GateupReferenceIdeal.main_arg3)
      ∧ r.2.mem ((c.tc : Thread Cert.GateupReferenceIdeal.nD Cert.GateupReferenceIdeal.τ).loc Cert.GateupReferenceIdeal.main_arg4) = m ((c.tc : Thread Cert.GateupReferenceIdeal.nD Cert.GateupReferenceIdeal.τ).loc Cert.GateupReferenceIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def preserves_Kernel_KernelIdeal : Prop :=
  IdealRules.bf16_pair.BufferStatement Cert.KernelIdeal.S192x2x7680 Cert.KernelIdeal.S192x1x7680
  ∧ IdealRules.bf16_pair.Statement Cert.KernelIdeal.S384x128 Cert.KernelIdeal.S192x128
  ∧ IdealRules.bf16_pair.Statement Cert.KernelIdeal.S192x2x128 Cert.KernelIdeal.S192x1x128
  ∧ IdealRules.bf16_pair.Statement Cert.KernelIdeal.S192x2x7680 Cert.KernelIdeal.S192x1x7680
  ∧ IdealRules.bf16_pair.Statement Cert.KernelIdeal.S384x7680 Cert.KernelIdeal.S192x7680

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gateup_GateupIdeal : Prop :=
  IdealRules.bf16_pair.BufferStatement Cert.GateupIdeal.S256x2x2880 Cert.GateupIdeal.S256x1x2880
  ∧ IdealRules.bf16_pair.Statement Cert.GateupIdeal.S256x128 Cert.GateupIdeal.S128x128
  ∧ IdealRules.bf16_pair.Statement Cert.GateupIdeal.S128x2x128 Cert.GateupIdeal.S128x1x128
  ∧ IdealRules.bf16_pair.Statement Cert.GateupIdeal.S128x2x64 Cert.GateupIdeal.S128x1x64
  ∧ IdealRules.bf16_pair.Statement Cert.GateupIdeal.S256x2x2880 Cert.GateupIdeal.S256x1x2880
  ∧ IdealRules.bf16_pair.Statement Cert.GateupIdeal.S512x2880 Cert.GateupIdeal.S256x2880
  ∧ IdealRules.bf16_pair.Statement Cert.GateupIdeal.S256x256 Cert.GateupIdeal.S128x256
  ∧ IdealRules.bf16_pair.Statement Cert.GateupIdeal.S1x256x128 Cert.GateupIdeal.S1x128x128
  ∧ IdealRules.bf16_pair.Statement Cert.GateupIdeal.S1x64x2x128 Cert.GateupIdeal.S1x64x1x128
  ∧ IdealRules.bf16_pair.Statement Cert.GateupIdeal.S128x256 Cert.GateupIdeal.S64x256

def algebraic_GateupIdeal_GateupReferenceIdeal [hGateupIdeal : Cert.GateupIdeal.Facts] [hGateupReferenceIdeal : Cert.GateupReferenceIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupReferenceIdeal.nD Cert.GateupReferenceIdeal.τ Cert.GateupReferenceIdeal.sig) → Buf (Elt Ideal) ℓ) (g' : Dev Cert.GateupReferenceIdeal.nD → PrngReg), Pre_GateupIdeal m →
    (∀ c : Dev Cert.GateupIdeal.nD,
      m' ((c.tc : Thread Cert.GateupReferenceIdeal.nD Cert.GateupReferenceIdeal.τ).loc Cert.GateupReferenceIdeal.main_arg0) = m ((c.tc : Thread Cert.GateupIdeal.nD Cert.GateupIdeal.τ).loc Cert.GateupIdeal.main_arg0)
      ∧ m' ((c.tc : Thread Cert.GateupReferenceIdeal.nD Cert.GateupReferenceIdeal.τ).loc Cert.GateupReferenceIdeal.main_arg1) = m ((c.tc : Thread Cert.GateupIdeal.nD Cert.GateupIdeal.τ).loc Cert.GateupIdeal.main_arg1)
      ∧ m' ((c.tc : Thread Cert.GateupReferenceIdeal.nD Cert.GateupReferenceIdeal.τ).loc Cert.GateupReferenceIdeal.main_arg2) = m ((c.tc : Thread Cert.GateupIdeal.nD Cert.GateupIdeal.τ).loc Cert.GateupIdeal.main_arg2)
      ∧ m' ((c.tc : Thread Cert.GateupReferenceIdeal.nD Cert.GateupReferenceIdeal.τ).loc Cert.GateupReferenceIdeal.main_arg3) = m ((c.tc : Thread Cert.GateupIdeal.nD Cert.GateupIdeal.τ).loc Cert.GateupIdeal.main_arg3)
      ∧ m' ((c.tc : Thread Cert.GateupReferenceIdeal.nD Cert.GateupReferenceIdeal.τ).loc Cert.GateupReferenceIdeal.main_arg4) = m ((c.tc : Thread Cert.GateupIdeal.nD Cert.GateupIdeal.τ).loc Cert.GateupIdeal.main_arg4)) →
    ∃ (v0 : (c : Dev Cert.GateupIdeal.nD) → Buf (Elt Ideal) ((c.tc : Thread Cert.GateupIdeal.nD Cert.GateupIdeal.τ).loc Cert.GateupIdeal.main_v0_0)) (v1 : (c : Dev Cert.GateupIdeal.nD) → Buf (Elt Ideal) ((c.tc : Thread Cert.GateupIdeal.nD Cert.GateupIdeal.τ).loc Cert.GateupIdeal.main_v0_1)) (v2 : (c : Dev Cert.GateupIdeal.nD) → Buf (Elt Ideal) ((c.tc : Thread Cert.GateupIdeal.nD Cert.GateupIdeal.τ).loc Cert.GateupIdeal.main_v0_2)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v0_0) = v0 c
          ∧ r.2.mem ((c.tc : Thread Cert.GateupIdeal.nD Cert.GateupIdeal.τ).loc Cert.GateupIdeal.main_v0_1) = v1 c
          ∧ r.2.mem ((c.tc : Thread Cert.GateupIdeal.nD Cert.GateupIdeal.τ).loc Cert.GateupIdeal.main_v0_2) = v2 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
          ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4))
      ∧ θ_run (Cert.GateupReferenceIdeal.defs (F := Ideal)) (onTc (τ := Cert.GateupReferenceIdeal.τ) (Cert.GateupReferenceIdeal.main (F := Ideal))) ⟨m', fun _ => 0, g'⟩ (fun r => ∀ c : Dev Cert.GateupReferenceIdeal.nD,
          r.2.mem ((c.tc : Thread Cert.GateupReferenceIdeal.nD Cert.GateupReferenceIdeal.τ).loc Cert.GateupReferenceIdeal.main_v250) = v0 c
          ∧ r.2.mem ((c.tc : Thread Cert.GateupReferenceIdeal.nD Cert.GateupReferenceIdeal.τ).loc Cert.GateupReferenceIdeal.main_v229) = v1 c
          ∧ r.2.mem ((c.tc : Thread Cert.GateupReferenceIdeal.nD Cert.GateupReferenceIdeal.τ).loc Cert.GateupReferenceIdeal.main_v230) = v2 c
          ∧ r.2.mem ((c.tc : Thread Cert.GateupReferenceIdeal.nD Cert.GateupReferenceIdeal.τ).loc Cert.GateupReferenceIdeal.main_arg0) = m' ((c.tc : Thread Cert.GateupReferenceIdeal.nD Cert.GateupReferenceIdeal.τ).loc Cert.GateupReferenceIdeal.main_arg0)
          ∧ r.2.mem ((c.tc : Thread Cert.GateupReferenceIdeal.nD Cert.GateupReferenceIdeal.τ).loc Cert.GateupReferenceIdeal.main_arg1) = m' ((c.tc : Thread Cert.GateupReferenceIdeal.nD Cert.GateupReferenceIdeal.τ).loc Cert.GateupReferenceIdeal.main_arg1)
          ∧ r.2.mem ((c.tc : Thread Cert.GateupReferenceIdeal.nD Cert.GateupReferenceIdeal.τ).loc Cert.GateupReferenceIdeal.main_arg2) = m' ((c.tc : Thread Cert.GateupReferenceIdeal.nD Cert.GateupReferenceIdeal.τ).loc Cert.GateupReferenceIdeal.main_arg2)
          ∧ r.2.mem ((c.tc : Thread Cert.GateupReferenceIdeal.nD Cert.GateupReferenceIdeal.τ).loc Cert.GateupReferenceIdeal.main_arg3) = m' ((c.tc : Thread Cert.GateupReferenceIdeal.nD Cert.GateupReferenceIdeal.τ).loc Cert.GateupReferenceIdeal.main_arg3)
          ∧ r.2.mem ((c.tc : Thread Cert.GateupReferenceIdeal.nD Cert.GateupReferenceIdeal.τ).loc Cert.GateupReferenceIdeal.main_arg4) = m' ((c.tc : Thread Cert.GateupReferenceIdeal.nD Cert.GateupReferenceIdeal.τ).loc Cert.GateupReferenceIdeal.main_arg4))

def preserves_Oproj_OprojIdeal : Prop :=
  IdealRules.bf16_pair.BufferStatement Cert.OprojIdeal.S144x2x3072 Cert.OprojIdeal.S144x1x3072
  ∧ IdealRules.bf16_pair.Statement Cert.OprojIdeal.S288x128 Cert.OprojIdeal.S144x128
  ∧ IdealRules.bf16_pair.Statement Cert.OprojIdeal.S144x2x128 Cert.OprojIdeal.S144x1x128
  ∧ IdealRules.bf16_pair.Statement Cert.OprojIdeal.S144x2x3072 Cert.OprojIdeal.S144x1x3072
  ∧ IdealRules.bf16_pair.Statement Cert.OprojIdeal.S288x3072 Cert.OprojIdeal.S144x3072
  ∧ IdealRules.bf16_pair.Statement Cert.OprojIdeal.S256x256 Cert.OprojIdeal.S128x256
  ∧ IdealRules.bf16_pair.Statement Cert.OprojIdeal.S1x256x128 Cert.OprojIdeal.S1x128x128
  ∧ IdealRules.bf16_pair.Statement Cert.OprojIdeal.S1x64x2x128 Cert.OprojIdeal.S1x64x1x128
  ∧ IdealRules.bf16_pair.Statement Cert.OprojIdeal.S128x256 Cert.OprojIdeal.S64x256
  ∧ IdealRules.bf16_pair.Statement Cert.OprojIdeal.S64x256 Cert.OprojIdeal.S32x256
  ∧ IdealRules.bf16_pair.Statement Cert.OprojIdeal.S1x64x128 Cert.OprojIdeal.S1x32x128
  ∧ IdealRules.bf16_pair.Statement Cert.OprojIdeal.S1x16x2x128 Cert.OprojIdeal.S1x16x1x128
  ∧ IdealRules.bf16_pair.Statement Cert.OprojIdeal.S32x256 Cert.OprojIdeal.S16x256

def Claim : Prop :=
  ∃ (hKernel : Cert.Kernel.Facts) (hKernelIdeal : Cert.KernelIdeal.Facts) (hReferenceIdeal : Cert.ReferenceIdeal.Facts) (hGateup : Cert.Gateup.Facts) (hGateupIdeal : Cert.GateupIdeal.Facts) (hGateupReferenceIdeal : Cert.GateupReferenceIdeal.Facts) (hOproj : Cert.Oproj.Facts) (hOprojIdeal : Cert.OprojIdeal.Facts),
    quiescent_Kernel (hKernel := hKernel)
    ∧ quiescent_KernelIdeal (hKernelIdeal := hKernelIdeal)
    ∧ quiescent_ReferenceIdeal (hReferenceIdeal := hReferenceIdeal)
    ∧ quiescent_Gateup (hGateup := hGateup)
    ∧ quiescent_GateupIdeal (hGateupIdeal := hGateupIdeal)
    ∧ quiescent_GateupReferenceIdeal (hGateupReferenceIdeal := hGateupReferenceIdeal)
    ∧ quiescent_Oproj (hOproj := hOproj)
    ∧ quiescent_OprojIdeal (hOprojIdeal := hOprojIdeal)
    ∧ preserves_Kernel_KernelIdeal
    ∧ algebraic_KernelIdeal_ReferenceIdeal (hKernelIdeal := hKernelIdeal) (hReferenceIdeal := hReferenceIdeal)
    ∧ preserves_Gateup_GateupIdeal
    ∧ algebraic_GateupIdeal_GateupReferenceIdeal (hGateupIdeal := hGateupIdeal) (hGateupReferenceIdeal := hGateupReferenceIdeal)
    ∧ preserves_Oproj_OprojIdeal
-- ==== Kernel.lean ====
abbrev S3840x1792 : Shape := ⟨2, ![3840, 1792]⟩
abbrev S240x1792 : Shape := ⟨2, ![240, 1792]⟩
abbrev S2880x1792 : Shape := ⟨2, ![2880, 1792]⟩
abbrev S2880x3840 : Shape := ⟨2, ![2880, 3840]⟩
abbrev S2880x240 : Shape := ⟨2, ![2880, 240]⟩
abbrev S1792x2880 : Shape := ⟨2, ![1792, 2880]⟩
abbrev S1792x240 : Shape := ⟨2, ![1792, 240]⟩
abbrev S384x1792 : Shape := ⟨2, ![384, 1792]⟩
abbrev S384x3840 : Shape := ⟨2, ![384, 3840]⟩
abbrev S384x240 : Shape := ⟨2, ![384, 240]⟩
abbrev S1792x384 : Shape := ⟨2, ![1792, 384]⟩
abbrev S192x7680 : Shape := ⟨2, ![192, 7680]⟩
abbrev S240x128 : Shape := ⟨2, ![240, 128]⟩
abbrev S128x240 : Shape := ⟨2, ![128, 240]⟩
abbrev S384x16 : Shape := ⟨2, ![384, 16]⟩
abbrev S384x256 : Shape := ⟨2, ![384, 256]⟩
abbrev S384x128 : Shape := ⟨2, ![384, 128]⟩
abbrev S96x128 : Shape := ⟨2, ![96, 128]⟩
abbrev S384x128x1 : Shape := ⟨3, ![384, 128, 1]⟩
abbrev S192x128 : Shape := ⟨2, ![192, 128]⟩
abbrev S3840x256 : Shape := ⟨2, ![3840, 256]⟩
abbrev S384x7680 : Shape := ⟨2, ![384, 7680]⟩
abbrev S7680x256 : Shape := ⟨2, ![7680, 256]⟩
abbrev S256x384 : Shape := ⟨2, ![256, 384]⟩

abbrev nBuf : Space → Nat
  | .hbm => 7
  | .vmem => 12
  | .smem => 0
  | _ => 0

abbrev bufTy : (tb : Table) → Fin (tcTables nBuf tb) → BufTy
  | .hbm, ⟨0, _⟩ => ⟨S3840x1792, .i32⟩
  | .hbm, ⟨1, _⟩ => ⟨S240x1792, .i32⟩
  | .hbm, ⟨2, _⟩ => ⟨S2880x1792, .f32⟩
  | .hbm, ⟨3, _⟩ => ⟨S2880x3840, .i8⟩
  | .hbm, ⟨4, _⟩ => ⟨S2880x240, .i8⟩
  | .hbm, ⟨5, _⟩ => ⟨S1792x2880, .bf16⟩
  | .hbm, ⟨6, _⟩ => ⟨S1792x240, .i8⟩
  | .local _ .vmem, ⟨0, _⟩ => ⟨S3840x1792, .i32⟩
  | .local _ .vmem, ⟨1, _⟩ => ⟨S240x1792, .i32⟩
  | .local _ .vmem, ⟨2, _⟩ => ⟨S384x1792, .f32⟩
  | .local _ .vmem, ⟨3, _⟩ => ⟨S384x1792, .f32⟩
  | .local _ .vmem, ⟨4, _⟩ => ⟨S384x3840, .i8⟩
  | .local _ .vmem, ⟨5, _⟩ => ⟨S384x3840, .i8⟩
  | .local _ .vmem, ⟨6, _⟩ => ⟨S384x240, .i8⟩
  | .local _ .vmem, ⟨7, _⟩ => ⟨S384x240, .i8⟩
  | .local _ .vmem, ⟨8, _⟩ => ⟨S1792x384, .bf16⟩
  | .local _ .vmem, ⟨9, _⟩ => ⟨S1792x384, .bf16⟩
  | .local _ .vmem, ⟨10, _⟩ => ⟨S1792x240, .i8⟩
  | .local _ .vmem, ⟨11, _⟩ => ⟨S192x7680, .i32⟩
  | _, _ => ⟨S3840x1792, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [BitOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3840x1792 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S240x1792 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x3840 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x240 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x240 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S192x2x7680 : Shape := ⟨3, ![192, 2, 7680]⟩
abbrev S192x1x7680 : Shape := ⟨3, ![192, 1, 7680]⟩
abbrev S192x2x128 : Shape := ⟨3, ![192, 2, 128]⟩
abbrev S192x1x128 : Shape := ⟨3, ![192, 1, 128]⟩
  | .local _ .vmem, ⟨11, _⟩ => ⟨S192x2x7680, .bf16⟩
variable {F : FTy → Type} [FloatOps F]
-- ==== ReferenceIdeal.lean ====
abbrev S3840x1792 : Shape := ⟨2, ![3840, 1792]⟩
abbrev S240x1792 : Shape := ⟨2, ![240, 1792]⟩
abbrev S2880x1792 : Shape := ⟨2, ![2880, 1792]⟩
abbrev S2880x3840 : Shape := ⟨2, ![2880, 3840]⟩
abbrev S2880x240 : Shape := ⟨2, ![2880, 240]⟩
abbrev S_ : Shape := ⟨0, ![]⟩
abbrev S2880x240x16 : Shape := ⟨3, ![2880, 240, 16]⟩
abbrev S2880x240x1 : Shape := ⟨3, ![2880, 240, 1]⟩
abbrev S3840x1792x2 : Shape := ⟨3, ![3840, 1792, 2]⟩
abbrev S3840x2x1792 : Shape := ⟨3, ![3840, 2, 1792]⟩
abbrev S30x2x128x1792 : Shape := ⟨4, ![30, 2, 128, 1792]⟩
abbrev S30x1x128x1792 : Shape := ⟨4, ![30, 1, 128, 1792]⟩
abbrev S30x128x1792 : Shape := ⟨3, ![30, 128, 1792]⟩
abbrev S1792x3840 : Shape := ⟨2, ![1792, 3840]⟩
abbrev S1792x2880 : Shape := ⟨2, ![1792, 2880]⟩
abbrev S1792x240 : Shape := ⟨2, ![1792, 240]⟩

abbrev nBuf : Space → Nat
  | .hbm => 160
  | .vmem => 0
  | .smem => 0
  | _ => 0

abbrev hbmTy0_0 (i : Nat) : BufTy := match i % 128 with
  | 0 => ⟨S3840x1792, .i32⟩
  | 1 => ⟨S240x1792, .i32⟩
  | 2 => ⟨S2880x1792, .f32⟩
  | 3 => ⟨S2880x3840, .i8⟩
  | 4 => ⟨S2880x240, .i8⟩
  | 5 => ⟨S2880x240, .i32⟩
  | 6 => ⟨S_, .i32⟩
  | 7 => ⟨S2880x240, .i32⟩
  | 8 => ⟨S2880x240, .i32⟩
  | 9 => ⟨S2880x240, .f32⟩
  | 10 => ⟨S_, .f32⟩
  | 11 => ⟨S2880x240, .f32⟩
  | 12 => ⟨S2880x240, .f32⟩
  | 13 => ⟨S_, .i32⟩
  | 14 => ⟨S2880x240, .i32⟩
  | 15 => ⟨S2880x240, .i1⟩
  | 16 => ⟨S_, .i32⟩
  | 17 => ⟨S2880x240, .i32⟩
  | 18 => ⟨S2880x240, .i1⟩
  | 19 => ⟨S_, .f32⟩
  | 20 => ⟨S2880x240, .f32⟩
  | 21 => ⟨S2880x240, .f32⟩
  | 22 => ⟨S_, .f32⟩
  | 23 => ⟨S2880x240, .f32⟩
  | 24 => ⟨S2880x240, .f32⟩
  | 25 => ⟨S2880x240, .bf16⟩
  | 26 => ⟨S2880x3840, .i32⟩
  | 27 => ⟨S_, .i32⟩
  | 28 => ⟨S2880x3840, .i32⟩
  | 29 => ⟨S2880x3840, .i32⟩
  | 30 => ⟨S_, .i32⟩
  | 31 => ⟨S2880x3840, .i32⟩
  | 32 => ⟨S2880x3840, .i32⟩
  | 33 => ⟨S_, .i32⟩
  | 34 => ⟨S2880x3840, .i32⟩
  | 35 => ⟨S2880x3840, .i1⟩
  | 36 => ⟨S_, .i32⟩
  | 37 => ⟨S2880x3840, .i32⟩
  | 38 => ⟨S2880x3840, .i32⟩
  | 39 => ⟨S_, .i32⟩
  | 40 => ⟨S2880x3840, .i32⟩
  | 41 => ⟨S2880x3840, .i1⟩
  | 42 => ⟨S_, .i32⟩
  | 43 => ⟨S2880x3840, .i32⟩
  | 44 => ⟨S2880x3840, .i32⟩
  | 45 => ⟨S_, .i32⟩
  | 46 => ⟨S2880x3840, .i32⟩
  | 47 => ⟨S2880x3840, .i1⟩
  | 48 => ⟨S_, .i32⟩
  | 49 => ⟨S2880x3840, .i32⟩
  | 50 => ⟨S2880x3840, .i32⟩
  | 51 => ⟨S_, .i32⟩
  | 52 => ⟨S2880x3840, .i32⟩
  | 53 => ⟨S2880x3840, .i1⟩
  | 54 => ⟨S_, .bf16⟩
  | 55 => ⟨S_, .bf16⟩
  | 56 => ⟨S2880x3840, .bf16⟩
  | 57 => ⟨S2880x3840, .bf16⟩
  | 58 => ⟨S2880x3840, .bf16⟩
  | 59 => ⟨S_, .bf16⟩
  | 60 => ⟨S_, .bf16⟩
  | 61 => ⟨S2880x3840, .bf16⟩
  | 62 => ⟨S2880x3840, .bf16⟩
  | 63 => ⟨S2880x3840, .bf16⟩
  | 64 => ⟨S2880x3840, .bf16⟩
  | 65 => ⟨S_, .bf16⟩
  | 66 => ⟨S_, .bf16⟩
  | 67 => ⟨S2880x3840, .bf16⟩
  | 68 => ⟨S2880x3840, .bf16⟩
  | 69 => ⟨S2880x3840, .bf16⟩
  | 70 => ⟨S_, .bf16⟩
  | 71 => ⟨S_, .bf16⟩
  | 72 => ⟨S2880x3840, .bf16⟩
  | 73 => ⟨S2880x3840, .bf16⟩
  | 74 => ⟨S2880x3840, .bf16⟩
  | 75 => ⟨S2880x3840, .bf16⟩
  | 76 => ⟨S2880x3840, .bf16⟩
  | 77 => ⟨S2880x3840, .bf16⟩
  | 78 => ⟨S2880x3840, .bf16⟩
  | 79 => ⟨S2880x240x16, .bf16⟩
  | 80 => ⟨S2880x240x1, .bf16⟩
  | 81 => ⟨S2880x240x16, .bf16⟩
  | 82 => ⟨S2880x240x16, .bf16⟩
  | 83 => ⟨S2880x3840, .bf16⟩
  | 84 => ⟨S_, .i32⟩
  | 85 => ⟨S2880x3840, .i32⟩
  | 86 => ⟨S2880x3840, .i32⟩
  | 87 => ⟨S_, .i32⟩
  | 88 => ⟨S2880x3840, .i32⟩
  | 89 => ⟨S2880x3840, .i32⟩
  | 90 => ⟨S_, .i32⟩
  | 91 => ⟨S2880x3840, .i32⟩
  | 92 => ⟨S2880x3840, .i1⟩
  | 93 => ⟨S_, .i32⟩
  | 94 => ⟨S2880x3840, .i32⟩
  | 95 => ⟨S2880x3840, .i32⟩
  | 96 => ⟨S_, .i32⟩
  | 97 => ⟨S2880x3840, .i32⟩
  | 98 => ⟨S2880x3840, .i1⟩
  | 99 => ⟨S_, .i32⟩
  | 100 => ⟨S2880x3840, .i32⟩
  | 101 => ⟨S2880x3840, .i32⟩
  | 102 => ⟨S_, .i32⟩
  | 103 => ⟨S2880x3840, .i32⟩
  | 104 => ⟨S2880x3840, .i1⟩
  | 105 => ⟨S_, .i32⟩
  | 106 => ⟨S2880x3840, .i32⟩
  | 107 => ⟨S2880x3840, .i32⟩
  | 108 => ⟨S_, .i32⟩
  | 109 => ⟨S2880x3840, .i32⟩
  | 110 => ⟨S2880x3840, .i1⟩
  | 111 => ⟨S_, .bf16⟩
  | 112 => ⟨S_, .bf16⟩
  | 113 => ⟨S2880x3840, .bf16⟩
  | 114 => ⟨S2880x3840, .bf16⟩
  | 115 => ⟨S2880x3840, .bf16⟩
  | 116 => ⟨S_, .bf16⟩
  | 117 => ⟨S_, .bf16⟩
  | 118 => ⟨S2880x3840, .bf16⟩
  | 119 => ⟨S2880x3840, .bf16⟩
  | 120 => ⟨S2880x3840, .bf16⟩
  | 121 => ⟨S2880x3840, .bf16⟩
  | 122 => ⟨S_, .bf16⟩
  | 123 => ⟨S_, .bf16⟩
  | 124 => ⟨S2880x3840, .bf16⟩
  | 125 => ⟨S2880x3840, .bf16⟩
  | 126 => ⟨S2880x3840, .bf16⟩
  | 127 => ⟨S_, .bf16⟩
  | _ => ⟨S3840x1792, .i32⟩

abbrev hbmTy0_1 (i : Nat) : BufTy := match i % 128 with
  | 0 => ⟨S_, .bf16⟩
  | 1 => ⟨S2880x3840, .bf16⟩
  | 2 => ⟨S2880x3840, .bf16⟩
  | 3 => ⟨S2880x3840, .bf16⟩
  | 4 => ⟨S2880x3840, .bf16⟩
  | 5 => ⟨S2880x3840, .bf16⟩
  | 6 => ⟨S2880x3840, .bf16⟩
  | 7 => ⟨S2880x3840, .bf16⟩
  | 8 => ⟨S2880x240x16, .bf16⟩
  | 9 => ⟨S2880x240x1, .bf16⟩
  | 10 => ⟨S2880x240x16, .bf16⟩
  | 11 => ⟨S2880x240x16, .bf16⟩
  | 12 => ⟨S2880x3840, .bf16⟩
  | 13 => ⟨S3840x1792x2, .bf16⟩
  | 14 => ⟨S3840x2x1792, .bf16⟩
  | 15 => ⟨S30x2x128x1792, .bf16⟩
  | 16 => ⟨S30x1x128x1792, .bf16⟩
  | 17 => ⟨S30x128x1792, .bf16⟩
  | 18 => ⟨S3840x1792, .bf16⟩
  | 19 => ⟨S1792x3840, .bf16⟩
  | 20 => ⟨S30x1x128x1792, .bf16⟩
  | 21 => ⟨S30x128x1792, .bf16⟩
  | 22 => ⟨S3840x1792, .bf16⟩
  | 23 => ⟨S1792x3840, .bf16⟩
  | 24 => ⟨S1792x2880, .f32⟩
  | 25 => ⟨S1792x2880, .f32⟩
  | 26 => ⟨S1792x2880, .f32⟩
  | 27 => ⟨S1792x2880, .f32⟩
  | 28 => ⟨S1792x2880, .f32⟩
  | 29 => ⟨S1792x2880, .bf16⟩
  | 30 => ⟨S1792x240, .i32⟩
  | 31 => ⟨S1792x240, .i8⟩
  | _ => ⟨S3840x1792, .i32⟩

abbrev hbmTy (i : Nat) : BufTy := match i / 128 with
  | 0 => hbmTy0_0 i
  | 1 => hbmTy0_1 i
  | _ => ⟨S3840x1792, .i32⟩

abbrev bufTy : (tb : Table) → Fin (tcTables nBuf tb) → BufTy
  | .hbm, ⟨i, _⟩ => hbmTy i
  | _, _ => ⟨S3840x1792, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_call0_v0 : Ref sig .tc := ⟨.hbm, 20, rfl⟩
abbrev main_v10 : Ref sig .tc := ⟨.hbm, 21, rfl⟩
abbrev main_cst_3 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_v20 : Ref sig .tc := ⟨.hbm, 37, rfl⟩
abbrev main_v21 : Ref sig .tc := ⟨.hbm, 38, rfl⟩
abbrev main_c_8 : Ref sig .tc := ⟨.hbm, 39, rfl⟩
abbrev main_v22 : Ref sig .tc := ⟨.hbm, 40, rfl⟩
abbrev main_v23 : Ref sig .tc := ⟨.hbm, 41, rfl⟩
abbrev main_c_9 : Ref sig .tc := ⟨.hbm, 42, rfl⟩
abbrev main_v24 : Ref sig .tc := ⟨.hbm, 43, rfl⟩
abbrev main_v25 : Ref sig .tc := ⟨.hbm, 44, rfl⟩
abbrev main_c_10 : Ref sig .tc := ⟨.hbm, 45, rfl⟩
abbrev main_v26 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_cst_13 : Ref sig .tc := ⟨.hbm, 54, rfl⟩
abbrev main_cst_14 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_cst_15 : Ref sig .tc := ⟨.hbm, 59, rfl⟩
abbrev main_cst_16 : Ref sig .tc := ⟨.hbm, 60, rfl⟩
abbrev main_call3_v0 : Ref sig .tc := ⟨.hbm, 61, rfl⟩
abbrev main_call3_v1 : Ref sig .tc := ⟨.hbm, 62, rfl⟩
abbrev main_v33 : Ref sig .tc := ⟨.hbm, 63, rfl⟩
abbrev main_v34 : Ref sig .tc := ⟨.hbm, 64, rfl⟩
abbrev main_cst_17 : Ref sig .tc := ⟨.hbm, 65, rfl⟩
abbrev main_cst_18 : Ref sig .tc := ⟨.hbm, 66, rfl⟩
abbrev main_call5_v0 : Ref sig .tc := ⟨.hbm, 67, rfl⟩
abbrev main_call5_v1 : Ref sig .tc := ⟨.hbm, 68, rfl⟩
abbrev main_v35 : Ref sig .tc := ⟨.hbm, 69, rfl⟩
abbrev main_cst_19 : Ref sig .tc := ⟨.hbm, 70, rfl⟩
abbrev main_cst_20 : Ref sig .tc := ⟨.hbm, 71, rfl⟩
abbrev main_call6_v0 : Ref sig .tc := ⟨.hbm, 72, rfl⟩
abbrev main_call6_v1 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_21 : Ref sig .tc := ⟨.hbm, 84, rfl⟩
abbrev main_v46 : Ref sig .tc := ⟨.hbm, 85, rfl⟩
abbrev main_v47 : Ref sig .tc := ⟨.hbm, 86, rfl⟩
abbrev main_c_22 : Ref sig .tc := ⟨.hbm, 87, rfl⟩
abbrev main_v48 : Ref sig .tc := ⟨.hbm, 88, rfl⟩
abbrev main_v49 : Ref sig .tc := ⟨.hbm, 89, rfl⟩
abbrev main_c_23 : Ref sig .tc := ⟨.hbm, 90, rfl⟩
abbrev main_v50 : Ref sig .tc := ⟨.hbm, 91, rfl⟩
abbrev main_v51 : Ref sig .tc := ⟨.hbm, 92, rfl⟩
abbrev main_c_24 : Ref sig .tc := ⟨.hbm, 93, rfl⟩
abbrev main_v52 : Ref sig .tc := ⟨.hbm, 94, rfl⟩
abbrev main_v53 : Ref sig .tc := ⟨.hbm, 95, rfl⟩
abbrev main_c_25 : Ref sig .tc := ⟨.hbm, 96, rfl⟩
abbrev main_v54 : Ref sig .tc := ⟨.hbm, 97, rfl⟩
abbrev main_v55 : Ref sig .tc := ⟨.hbm, 98, rfl⟩
abbrev main_c_26 : Ref sig .tc := ⟨.hbm, 99, rfl⟩
abbrev main_v56 : Ref sig .tc := ⟨.hbm, 100, rfl⟩
abbrev main_v57 : Ref sig .tc := ⟨.hbm, 101, rfl⟩
abbrev main_c_27 : Ref sig .tc := ⟨.hbm, 102, rfl⟩
abbrev main_v58 : Ref sig .tc := ⟨.hbm, 103, rfl⟩
abbrev main_v59 : Ref sig .tc := ⟨.hbm, 104, rfl⟩
abbrev main_c_28 : Ref sig .tc := ⟨.hbm, 105, rfl⟩
abbrev main_v60 : Ref sig .tc := ⟨.hbm, 106, rfl⟩
abbrev main_v61 : Ref sig .tc := ⟨.hbm, 107, rfl⟩
abbrev main_c_29 : Ref sig .tc := ⟨.hbm, 108, rfl⟩
abbrev main_v62 : Ref sig .tc := ⟨.hbm, 109, rfl⟩
abbrev main_v63 : Ref sig .tc := ⟨.hbm, 110, rfl⟩
abbrev main_cst_30 : Ref sig .tc := ⟨.hbm, 111, rfl⟩
abbrev main_cst_31 : Ref sig .tc := ⟨.hbm, 112, rfl⟩
abbrev main_call10_v0 : Ref sig .tc := ⟨.hbm, 113, rfl⟩
abbrev main_call10_v1 : Ref sig .tc := ⟨.hbm, 114, rfl⟩
abbrev main_v64 : Ref sig .tc := ⟨.hbm, 115, rfl⟩
abbrev main_cst_32 : Ref sig .tc := ⟨.hbm, 116, rfl⟩
abbrev main_cst_33 : Ref sig .tc := ⟨.hbm, 117, rfl⟩
abbrev main_call11_v0 : Ref sig .tc := ⟨.hbm, 118, rfl⟩
abbrev main_call11_v1 : Ref sig .tc := ⟨.hbm, 119, rfl⟩
abbrev main_v65 : Ref sig .tc := ⟨.hbm, 120, rfl⟩
abbrev main_v66 : Ref sig .tc := ⟨.hbm, 121, rfl⟩
abbrev main_cst_34 : Ref sig .tc := ⟨.hbm, 122, rfl⟩
abbrev main_cst_35 : Ref sig .tc := ⟨.hbm, 123, rfl⟩
abbrev main_call13_v0 : Ref sig .tc := ⟨.hbm, 124, rfl⟩
abbrev main_call13_v1 : Ref sig .tc := ⟨.hbm, 125, rfl⟩
abbrev main_v67 : Ref sig .tc := ⟨.hbm, 126, rfl⟩
abbrev main_cst_36 : Ref sig .tc := ⟨.hbm, 127, rfl⟩
abbrev main_cst_37 : Ref sig .tc := ⟨.hbm, 128, rfl⟩
abbrev main_call14_v0 : Ref sig .tc := ⟨.hbm, 129, rfl⟩
abbrev main_call14_v1 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩

abbrev nD : Nat := 1
abbrev τ : Topo := Topo.v7x

variable {F : FTy → Type} [FloatOps F]
-- ==== Gateup.lean ====
abbrev S1440x1792 : Shape := ⟨2, ![1440, 1792]⟩
abbrev S7680x1440 : Shape := ⟨2, ![7680, 1440]⟩
abbrev S7680x90 : Shape := ⟨2, ![7680, 90]⟩
abbrev S7680x1792 : Shape := ⟨2, ![7680, 1792]⟩
abbrev S1792x7680 : Shape := ⟨2, ![1792, 7680]⟩
abbrev S240x1792 : Shape := ⟨2, ![240, 1792]⟩
abbrev S256x1440 : Shape := ⟨2, ![256, 1440]⟩
abbrev S256x90 : Shape := ⟨2, ![256, 90]⟩
abbrev S512x1792 : Shape := ⟨2, ![512, 1792]⟩
abbrev S1792x512 : Shape := ⟨2, ![1792, 512]⟩
abbrev S16x1792 : Shape := ⟨2, ![16, 1792]⟩
abbrev S256x2880 : Shape := ⟨2, ![256, 2880]⟩
abbrev S28x256x128 : Shape := ⟨3, ![28, 256, 128]⟩
abbrev S256x38 : Shape := ⟨2, ![256, 38]⟩
abbrev S256x128 : Shape := ⟨2, ![256, 128]⟩
abbrev S64x128 : Shape := ⟨2, ![64, 128]⟩
abbrev S256x128x1 : Shape := ⟨3, ![256, 128, 1]⟩
abbrev S128x128 : Shape := ⟨2, ![128, 128]⟩
abbrev S256x32 : Shape := ⟨2, ![256, 32]⟩
abbrev S128x32 : Shape := ⟨2, ![128, 32]⟩
abbrev S128x64 : Shape := ⟨2, ![128, 64]⟩
abbrev S1440x256 : Shape := ⟨2, ![1440, 256]⟩
abbrev S512x2880 : Shape := ⟨2, ![512, 2880]⟩
abbrev S2880x256 : Shape := ⟨2, ![2880, 256]⟩
abbrev S512x256 : Shape := ⟨2, ![512, 256]⟩
abbrev S256x256 : Shape := ⟨2, ![256, 256]⟩
abbrev S8x32x256 : Shape := ⟨3, ![8, 32, 256]⟩
abbrev S8x256 : Shape := ⟨2, ![8, 256]⟩
abbrev S8x1x256 : Shape := ⟨3, ![8, 1, 256]⟩
abbrev S128x256 : Shape := ⟨2, ![128, 256]⟩
abbrev S28x128x128 : Shape := ⟨3, ![28, 128, 128]⟩
abbrev S1x128x128 : Shape := ⟨3, ![1, 128, 128]⟩
abbrev S1x256x128 : Shape := ⟨3, ![1, 256, 128]⟩
abbrev S28x128x2x128 : Shape := ⟨4, ![28, 128, 2, 128]⟩
abbrev S1x64x2x128 : Shape := ⟨4, ![1, 64, 2, 128]⟩
abbrev S1x64x1x128 : Shape := ⟨4, ![1, 64, 1, 128]⟩
abbrev S64x256 : Shape := ⟨2, ![64, 256]⟩
abbrev S256x1792 : Shape := ⟨2, ![256, 1792]⟩

abbrev nBuf : Space → Nat
  | .hbm => 8
  | .vmem => 26
  | .smem => 0
  | _ => 0

abbrev bufTy : (tb : Table) → Fin (tcTables nBuf tb) → BufTy
  | .hbm, ⟨0, _⟩ => ⟨S1440x1792, .i32⟩
  | .hbm, ⟨1, _⟩ => ⟨S7680x1440, .i8⟩
  | .hbm, ⟨2, _⟩ => ⟨S7680x90, .i8⟩
  | .hbm, ⟨3, _⟩ => ⟨S7680x1440, .i8⟩
  | .hbm, ⟨4, _⟩ => ⟨S7680x90, .i8⟩
  | .hbm, ⟨5, _⟩ => ⟨S7680x1792, .bf16⟩
  | .hbm, ⟨6, _⟩ => ⟨S1792x7680, .fp8e4m3⟩
  | .hbm, ⟨7, _⟩ => ⟨S240x1792, .i32⟩
  | .local _ .vmem, ⟨0, _⟩ => ⟨S1440x1792, .i32⟩
  | .local _ .vmem, ⟨1, _⟩ => ⟨S256x1440, .i8⟩
  | .local _ .vmem, ⟨2, _⟩ => ⟨S256x1440, .i8⟩
  | .local _ .vmem, ⟨3, _⟩ => ⟨S256x90, .i8⟩
  | .local _ .vmem, ⟨4, _⟩ => ⟨S256x90, .i8⟩
  | .local _ .vmem, ⟨5, _⟩ => ⟨S256x1440, .i8⟩
  | .local _ .vmem, ⟨6, _⟩ => ⟨S256x1440, .i8⟩
  | .local _ .vmem, ⟨7, _⟩ => ⟨S256x90, .i8⟩
  | .local _ .vmem, ⟨8, _⟩ => ⟨S256x90, .i8⟩
  | .local _ .vmem, ⟨9, _⟩ => ⟨S256x1440, .i8⟩
  | .local _ .vmem, ⟨10, _⟩ => ⟨S256x1440, .i8⟩
  | .local _ .vmem, ⟨11, _⟩ => ⟨S256x90, .i8⟩
  | .local _ .vmem, ⟨12, _⟩ => ⟨S256x90, .i8⟩
  | .local _ .vmem, ⟨13, _⟩ => ⟨S256x1440, .i8⟩
  | .local _ .vmem, ⟨14, _⟩ => ⟨S256x1440, .i8⟩
  | .local _ .vmem, ⟨15, _⟩ => ⟨S256x90, .i8⟩
  | .local _ .vmem, ⟨16, _⟩ => ⟨S256x90, .i8⟩
  | .local _ .vmem, ⟨17, _⟩ => ⟨S512x1792, .bf16⟩
  | .local _ .vmem, ⟨18, _⟩ => ⟨S512x1792, .bf16⟩
  | .local _ .vmem, ⟨19, _⟩ => ⟨S1792x512, .fp8e4m3⟩
  | .local _ .vmem, ⟨20, _⟩ => ⟨S1792x512, .fp8e4m3⟩
  | .local _ .vmem, ⟨21, _⟩ => ⟨S16x1792, .i32⟩
  | .local _ .vmem, ⟨22, _⟩ => ⟨S16x1792, .i32⟩
  | .local _ .vmem, ⟨23, _⟩ => ⟨S256x2880, .i32⟩
  | .local _ .vmem, ⟨24, _⟩ => ⟨S256x2880, .i32⟩
  | .local _ .vmem, ⟨25, _⟩ => ⟨S28x256x128, .bf16⟩
  | _, _ => ⟨S1440x1792, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [BitOps F]

abbrev grid0 : Pipeline.Grid := ⟨1, ![16], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c29_i32 : BitVec 32 := 29#32
  let v2 : BitVec 32 := Scalar.maxsi c0_i32_0 v1
  let v3 : BitVec 32 := Scalar.minsi c29_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c29_i32 : BitVec 32 := 29#32
  let v2 : BitVec 32 := Scalar.maxsi c0_i32_0 v1
  let v3 : BitVec 32 := Scalar.minsi c29_i32 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c29_i32 : BitVec 32 := 29#32
  let v2 : BitVec 32 := Scalar.maxsi c0_i32_0 v1
  let v3 : BitVec 32 := Scalar.minsi c29_i32 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c29_i32 : BitVec 32 := 29#32
  let v2 : BitVec 32 := Scalar.maxsi c0_i32_0 v1
  let v3 : BitVec 32 := Scalar.minsi c29_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c29_i32 : BitVec 32 := 29#32
  let v2 : BitVec 32 := Scalar.maxsi c0_i32 v1
  let v3 : BitVec 32 := Scalar.minsi c29_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c29_i32 : BitVec 32 := 29#32
  let v2 : BitVec 32 := Scalar.maxsi c0_i32 v1
  let v3 : BitVec 32 := Scalar.minsi c29_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c29_i32 : BitVec 32 := 29#32
  let v2 : BitVec 32 := Scalar.maxsi c0_i32 v1
  let v3 : BitVec 32 := Scalar.minsi c29_i32 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c29_i32 : BitVec 32 := 29#32
  let v2 : BitVec 32 := Scalar.maxsi c0_i32 v1
  let v3 : BitVec 32 := Scalar.minsi c29_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S1440x1792 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1440 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x90 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1440 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x90 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1440 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x90 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1440 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x90 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1792x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1792 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateupIdeal.lean ====
abbrev S256x2x2880 : Shape := ⟨3, ![256, 2, 2880]⟩
abbrev S256x1x2880 : Shape := ⟨3, ![256, 1, 2880]⟩
abbrev S128x2x128 : Shape := ⟨3, ![128, 2, 128]⟩
abbrev S128x1x128 : Shape := ⟨3, ![128, 1, 128]⟩
abbrev S128x2x64 : Shape := ⟨3, ![128, 2, 64]⟩
abbrev S128x1x64 : Shape := ⟨3, ![128, 1, 64]⟩
  | .local _ .vmem, ⟨23, _⟩ => ⟨S256x2x2880, .bf16⟩
  | .local _ .vmem, ⟨24, _⟩ => ⟨S256x2x2880, .bf16⟩
variable {F : FTy → Type} [FloatOps F]
-- ==== GateupReferenceIdeal.lean ====
abbrev S1440x1792 : Shape := ⟨2, ![1440, 1792]⟩
abbrev S7680x1440 : Shape := ⟨2, ![7680, 1440]⟩
abbrev S7680x90 : Shape := ⟨2, ![7680, 90]⟩
abbrev S1440x1792x2 : Shape := ⟨3, ![1440, 1792, 2]⟩
abbrev S1440x2x1792 : Shape := ⟨3, ![1440, 2, 1792]⟩
abbrev S2880x1792 : Shape := ⟨2, ![2880, 1792]⟩
abbrev S2816x1792 : Shape := ⟨2, ![2816, 1792]⟩
abbrev S11x2x128x1792 : Shape := ⟨4, ![11, 2, 128, 1792]⟩
abbrev S64x1792 : Shape := ⟨2, ![64, 1792]⟩
abbrev S2x32x1792 : Shape := ⟨3, ![2, 32, 1792]⟩
abbrev S11x1x128x1792 : Shape := ⟨4, ![11, 1, 128, 1792]⟩
abbrev S11x128x1792 : Shape := ⟨3, ![11, 128, 1792]⟩
abbrev S1408x1792 : Shape := ⟨2, ![1408, 1792]⟩
abbrev S1x32x1792 : Shape := ⟨3, ![1, 32, 1792]⟩
abbrev S32x1792 : Shape := ⟨2, ![32, 1792]⟩
abbrev S1792x1440 : Shape := ⟨2, ![1792, 1440]⟩
abbrev S_ : Shape := ⟨0, ![]⟩
abbrev S7680x90x16 : Shape := ⟨3, ![7680, 90, 16]⟩
abbrev S7680x90x1 : Shape := ⟨3, ![7680, 90, 1]⟩
abbrev S1792x7680 : Shape := ⟨2, ![1792, 7680]⟩
abbrev S1792x240x32 : Shape := ⟨3, ![1792, 240, 32]⟩
abbrev S1792x240 : Shape := ⟨2, ![1792, 240]⟩
abbrev S1792x240x255 : Shape := ⟨3, ![1792, 240, 255]⟩
abbrev S1792x240x1 : Shape := ⟨3, ![1792, 240, 1]⟩
abbrev S240x1792 : Shape := ⟨2, ![240, 1792]⟩
abbrev S1792x30x128x2 : Shape := ⟨4, ![1792, 30, 128, 2]⟩
abbrev S30x2x128x1792 : Shape := ⟨4, ![30, 2, 128, 1792]⟩
abbrev S7680x1792 : Shape := ⟨2, ![7680, 1792]⟩

abbrev nBuf : Space → Nat
  | .hbm => 412
  | .vmem => 0
  | .smem => 0
  | _ => 0

abbrev hbmTy0_0 (i : Nat) : BufTy := match i % 128 with
  | 0 => ⟨S1440x1792, .i32⟩
  | 1 => ⟨S7680x1440, .i8⟩
  | 2 => ⟨S7680x90, .i8⟩
  | 3 => ⟨S7680x1440, .i8⟩
  | 4 => ⟨S7680x90, .i8⟩
  | 5 => ⟨S1440x1792x2, .bf16⟩
  | 6 => ⟨S1440x2x1792, .bf16⟩
  | 7 => ⟨S2880x1792, .bf16⟩
  | 8 => ⟨S2816x1792, .bf16⟩
  | 9 => ⟨S11x2x128x1792, .bf16⟩
  | 10 => ⟨S64x1792, .bf16⟩
  | 11 => ⟨S2x32x1792, .bf16⟩
  | 12 => ⟨S11x1x128x1792, .bf16⟩
  | 13 => ⟨S11x128x1792, .bf16⟩
  | 14 => ⟨S1408x1792, .bf16⟩
  | 15 => ⟨S1x32x1792, .bf16⟩
  | 16 => ⟨S32x1792, .bf16⟩
  | 17 => ⟨S1440x1792, .bf16⟩
  | 18 => ⟨S11x1x128x1792, .bf16⟩
  | 19 => ⟨S11x128x1792, .bf16⟩
  | 20 => ⟨S1408x1792, .bf16⟩
  | 21 => ⟨S1x32x1792, .bf16⟩
  | 22 => ⟨S32x1792, .bf16⟩
  | 23 => ⟨S1440x1792, .bf16⟩
  | 24 => ⟨S1792x1440, .bf16⟩
  | 25 => ⟨S1792x1440, .bf16⟩
  | 26 => ⟨S7680x90, .i32⟩
  | 27 => ⟨S_, .i32⟩
  | 28 => ⟨S7680x90, .i32⟩
  | 29 => ⟨S7680x90, .i32⟩
  | 30 => ⟨S7680x90, .f32⟩
  | 31 => ⟨S_, .f32⟩
  | 32 => ⟨S7680x90, .f32⟩
  | 33 => ⟨S7680x90, .f32⟩
  | 34 => ⟨S_, .i32⟩
  | 35 => ⟨S7680x90, .i32⟩
  | 36 => ⟨S7680x90, .i1⟩
  | 37 => ⟨S_, .i32⟩
  | 38 => ⟨S7680x90, .i32⟩
  | 39 => ⟨S7680x90, .i1⟩
  | 40 => ⟨S_, .f32⟩
  | 41 => ⟨S7680x90, .f32⟩
  | 42 => ⟨S7680x90, .f32⟩
  | 43 => ⟨S_, .f32⟩
  | 44 => ⟨S7680x90, .f32⟩
  | 45 => ⟨S7680x90, .f32⟩
  | 46 => ⟨S7680x90, .bf16⟩
  | 47 => ⟨S7680x1440, .i32⟩
  | 48 => ⟨S_, .i32⟩
  | 49 => ⟨S7680x1440, .i32⟩
  | 50 => ⟨S7680x1440, .i32⟩
  | 51 => ⟨S_, .i32⟩
  | 52 => ⟨S7680x1440, .i32⟩
  | 53 => ⟨S7680x1440, .i32⟩
  | 54 => ⟨S_, .i32⟩
  | 55 => ⟨S7680x1440, .i32⟩
  | 56 => ⟨S7680x1440, .i1⟩
  | 57 => ⟨S_, .i32⟩
  | 58 => ⟨S7680x1440, .i32⟩
  | 59 => ⟨S7680x1440, .i32⟩
  | 60 => ⟨S_, .i32⟩
  | 61 => ⟨S7680x1440, .i32⟩
  | 62 => ⟨S7680x1440, .i1⟩
  | 63 => ⟨S_, .i32⟩
  | 64 => ⟨S7680x1440, .i32⟩
  | 65 => ⟨S7680x1440, .i32⟩
  | 66 => ⟨S_, .i32⟩
  | 67 => ⟨S7680x1440, .i32⟩
  | 68 => ⟨S7680x1440, .i1⟩
  | 69 => ⟨S_, .i32⟩
  | 70 => ⟨S7680x1440, .i32⟩
  | 71 => ⟨S7680x1440, .i32⟩
  | 72 => ⟨S_, .i32⟩
  | 73 => ⟨S7680x1440, .i32⟩
  | 74 => ⟨S7680x1440, .i1⟩
  | 75 => ⟨S_, .bf16⟩
  | 76 => ⟨S_, .bf16⟩
  | 77 => ⟨S7680x1440, .bf16⟩
  | 78 => ⟨S7680x1440, .bf16⟩
  | 79 => ⟨S7680x1440, .bf16⟩
  | 80 => ⟨S_, .bf16⟩
  | 81 => ⟨S_, .bf16⟩
  | 82 => ⟨S7680x1440, .bf16⟩
  | 83 => ⟨S7680x1440, .bf16⟩
  | 84 => ⟨S7680x1440, .bf16⟩
  | 85 => ⟨S7680x1440, .bf16⟩
  | 86 => ⟨S_, .bf16⟩
  | 87 => ⟨S_, .bf16⟩
  | 88 => ⟨S7680x1440, .bf16⟩
  | 89 => ⟨S7680x1440, .bf16⟩
  | 90 => ⟨S7680x1440, .bf16⟩
  | 91 => ⟨S_, .bf16⟩
  | 92 => ⟨S_, .bf16⟩
  | 93 => ⟨S7680x1440, .bf16⟩
  | 94 => ⟨S7680x1440, .bf16⟩
  | 95 => ⟨S7680x1440, .bf16⟩
  | 96 => ⟨S7680x1440, .bf16⟩
  | 97 => ⟨S7680x1440, .bf16⟩
  | 98 => ⟨S7680x1440, .bf16⟩
  | 99 => ⟨S7680x1440, .bf16⟩
  | 100 => ⟨S7680x90x16, .bf16⟩
  | 101 => ⟨S7680x90x1, .bf16⟩
  | 102 => ⟨S7680x90x16, .bf16⟩
  | 103 => ⟨S7680x90x16, .bf16⟩
  | 104 => ⟨S7680x1440, .bf16⟩
  | 105 => ⟨S_, .i32⟩
  | 106 => ⟨S7680x1440, .i32⟩
  | 107 => ⟨S7680x1440, .i32⟩
  | 108 => ⟨S_, .i32⟩
  | 109 => ⟨S7680x1440, .i32⟩
  | 110 => ⟨S7680x1440, .i32⟩
  | 111 => ⟨S_, .i32⟩
  | 112 => ⟨S7680x1440, .i32⟩
  | 113 => ⟨S7680x1440, .i1⟩
  | 114 => ⟨S_, .i32⟩
  | 115 => ⟨S7680x1440, .i32⟩
  | 116 => ⟨S7680x1440, .i32⟩
  | 117 => ⟨S_, .i32⟩
  | 118 => ⟨S7680x1440, .i32⟩
  | 119 => ⟨S7680x1440, .i1⟩
  | 120 => ⟨S_, .i32⟩
  | 121 => ⟨S7680x1440, .i32⟩
  | 122 => ⟨S7680x1440, .i32⟩
  | 123 => ⟨S_, .i32⟩
  | 124 => ⟨S7680x1440, .i32⟩
  | 125 => ⟨S7680x1440, .i1⟩
  | 126 => ⟨S_, .i32⟩
  | 127 => ⟨S7680x1440, .i32⟩
  | _ => ⟨S1440x1792, .i32⟩

abbrev hbmTy0_1 (i : Nat) : BufTy := match i % 128 with
  | 0 => ⟨S7680x1440, .i32⟩
  | 1 => ⟨S_, .i32⟩
  | 2 => ⟨S7680x1440, .i32⟩
  | 3 => ⟨S7680x1440, .i1⟩
  | 4 => ⟨S_, .bf16⟩
  | 5 => ⟨S_, .bf16⟩
  | 6 => ⟨S7680x1440, .bf16⟩
  | 7 => ⟨S7680x1440, .bf16⟩
  | 8 => ⟨S7680x1440, .bf16⟩
  | 9 => ⟨S_, .bf16⟩
  | 10 => ⟨S_, .bf16⟩
  | 11 => ⟨S7680x1440, .bf16⟩
  | 12 => ⟨S7680x1440, .bf16⟩
  | 13 => ⟨S7680x1440, .bf16⟩
  | 14 => ⟨S7680x1440, .bf16⟩
  | 15 => ⟨S_, .bf16⟩
  | 16 => ⟨S_, .bf16⟩
  | 17 => ⟨S7680x1440, .bf16⟩
  | 18 => ⟨S7680x1440, .bf16⟩
  | 19 => ⟨S7680x1440, .bf16⟩
  | 20 => ⟨S_, .bf16⟩
  | 21 => ⟨S_, .bf16⟩
  | 22 => ⟨S7680x1440, .bf16⟩
  | 23 => ⟨S7680x1440, .bf16⟩
  | 24 => ⟨S7680x1440, .bf16⟩
  | 25 => ⟨S7680x1440, .bf16⟩
  | 26 => ⟨S7680x1440, .bf16⟩
  | 27 => ⟨S7680x1440, .bf16⟩
  | 28 => ⟨S7680x1440, .bf16⟩
  | 29 => ⟨S7680x90x16, .bf16⟩
  | 30 => ⟨S7680x90x1, .bf16⟩
  | 31 => ⟨S7680x90x16, .bf16⟩
  | 32 => ⟨S7680x90x16, .bf16⟩
  | 33 => ⟨S7680x1440, .bf16⟩
  | 34 => ⟨S1792x7680, .f32⟩
  | 35 => ⟨S1792x7680, .f32⟩
  | 36 => ⟨S1792x7680, .f32⟩
  | 37 => ⟨S7680x90, .i32⟩
  | 38 => ⟨S_, .i32⟩
  | 39 => ⟨S7680x90, .i32⟩
  | 40 => ⟨S7680x90, .i32⟩
  | 41 => ⟨S7680x90, .f32⟩
  | 42 => ⟨S_, .f32⟩
  | 43 => ⟨S7680x90, .f32⟩
  | 44 => ⟨S7680x90, .f32⟩
  | 45 => ⟨S_, .i32⟩
  | 46 => ⟨S7680x90, .i32⟩
  | 47 => ⟨S7680x90, .i1⟩
  | 48 => ⟨S_, .i32⟩
  | 49 => ⟨S7680x90, .i32⟩
  | 50 => ⟨S7680x90, .i1⟩
  | 51 => ⟨S_, .f32⟩
  | 52 => ⟨S7680x90, .f32⟩
  | 53 => ⟨S7680x90, .f32⟩
  | 54 => ⟨S_, .f32⟩
  | 55 => ⟨S7680x90, .f32⟩
  | 56 => ⟨S7680x90, .f32⟩
  | 57 => ⟨S7680x90, .bf16⟩
  | 58 => ⟨S7680x1440, .i32⟩
  | 59 => ⟨S_, .i32⟩
  | 60 => ⟨S7680x1440, .i32⟩
  | 61 => ⟨S7680x1440, .i32⟩
  | 62 => ⟨S_, .i32⟩
  | 63 => ⟨S7680x1440, .i32⟩
  | 64 => ⟨S7680x1440, .i32⟩
  | 65 => ⟨S_, .i32⟩
  | 66 => ⟨S7680x1440, .i32⟩
  | 67 => ⟨S7680x1440, .i1⟩
  | 68 => ⟨S_, .i32⟩
  | 69 => ⟨S7680x1440, .i32⟩
  | 70 => ⟨S7680x1440, .i32⟩
  | 71 => ⟨S_, .i32⟩
  | 72 => ⟨S7680x1440, .i32⟩
  | 73 => ⟨S7680x1440, .i1⟩
  | 74 => ⟨S_, .i32⟩
  | 75 => ⟨S7680x1440, .i32⟩
  | 76 => ⟨S7680x1440, .i32⟩
  | 77 => ⟨S_, .i32⟩
  | 78 => ⟨S7680x1440, .i32⟩
  | 79 => ⟨S7680x1440, .i1⟩
  | 80 => ⟨S_, .i32⟩
  | 81 => ⟨S7680x1440, .i32⟩
  | 82 => ⟨S7680x1440, .i32⟩
  | 83 => ⟨S_, .i32⟩
  | 84 => ⟨S7680x1440, .i32⟩
  | 85 => ⟨S7680x1440, .i1⟩
  | 86 => ⟨S_, .bf16⟩
  | 87 => ⟨S_, .bf16⟩
  | 88 => ⟨S7680x1440, .bf16⟩
  | 89 => ⟨S7680x1440, .bf16⟩
  | 90 => ⟨S7680x1440, .bf16⟩
  | 91 => ⟨S_, .bf16⟩
  | 92 => ⟨S_, .bf16⟩
  | 93 => ⟨S7680x1440, .bf16⟩
  | 94 => ⟨S7680x1440, .bf16⟩
  | 95 => ⟨S7680x1440, .bf16⟩
  | 96 => ⟨S7680x1440, .bf16⟩
  | 97 => ⟨S_, .bf16⟩
  | 98 => ⟨S_, .bf16⟩
  | 99 => ⟨S7680x1440, .bf16⟩
  | 100 => ⟨S7680x1440, .bf16⟩
  | 101 => ⟨S7680x1440, .bf16⟩
  | 102 => ⟨S_, .bf16⟩
  | 103 => ⟨S_, .bf16⟩
  | 104 => ⟨S7680x1440, .bf16⟩
  | 105 => ⟨S7680x1440, .bf16⟩
  | 106 => ⟨S7680x1440, .bf16⟩
  | 107 => ⟨S7680x1440, .bf16⟩
  | 108 => ⟨S7680x1440, .bf16⟩
  | 109 => ⟨S7680x1440, .bf16⟩
  | 110 => ⟨S7680x1440, .bf16⟩
  | 111 => ⟨S7680x90x16, .bf16⟩
  | 112 => ⟨S7680x90x1, .bf16⟩
  | 113 => ⟨S7680x90x16, .bf16⟩
  | 114 => ⟨S7680x90x16, .bf16⟩
  | 115 => ⟨S7680x1440, .bf16⟩
  | 116 => ⟨S_, .i32⟩
  | 117 => ⟨S7680x1440, .i32⟩
  | 118 => ⟨S7680x1440, .i32⟩
  | 119 => ⟨S_, .i32⟩
  | 120 => ⟨S7680x1440, .i32⟩
  | 121 => ⟨S7680x1440, .i32⟩
  | 122 => ⟨S_, .i32⟩
  | 123 => ⟨S7680x1440, .i32⟩
  | 124 => ⟨S7680x1440, .i1⟩
  | 125 => ⟨S_, .i32⟩
  | 126 => ⟨S7680x1440, .i32⟩
  | 127 => ⟨S7680x1440, .i32⟩
  | _ => ⟨S1440x1792, .i32⟩

abbrev hbmTy0_2 (i : Nat) : BufTy := match i % 128 with
  | 0 => ⟨S_, .i32⟩
  | 1 => ⟨S7680x1440, .i32⟩
  | 2 => ⟨S7680x1440, .i1⟩
  | 3 => ⟨S_, .i32⟩
  | 4 => ⟨S7680x1440, .i32⟩
  | 5 => ⟨S7680x1440, .i32⟩
  | 6 => ⟨S_, .i32⟩
  | 7 => ⟨S7680x1440, .i32⟩
  | 8 => ⟨S7680x1440, .i1⟩
  | 9 => ⟨S_, .i32⟩
  | 10 => ⟨S7680x1440, .i32⟩
  | 11 => ⟨S7680x1440, .i32⟩
  | 12 => ⟨S_, .i32⟩
  | 13 => ⟨S7680x1440, .i32⟩
  | 14 => ⟨S7680x1440, .i1⟩
  | 15 => ⟨S_, .bf16⟩
  | 16 => ⟨S_, .bf16⟩
  | 17 => ⟨S7680x1440, .bf16⟩
  | 18 => ⟨S7680x1440, .bf16⟩
  | 19 => ⟨S7680x1440, .bf16⟩
  | 20 => ⟨S_, .bf16⟩
  | 21 => ⟨S_, .bf16⟩
  | 22 => ⟨S7680x1440, .bf16⟩
  | 23 => ⟨S7680x1440, .bf16⟩
  | 24 => ⟨S7680x1440, .bf16⟩
  | 25 => ⟨S7680x1440, .bf16⟩
  | 26 => ⟨S_, .bf16⟩
  | 27 => ⟨S_, .bf16⟩
  | 28 => ⟨S7680x1440, .bf16⟩
  | 29 => ⟨S7680x1440, .bf16⟩
  | 30 => ⟨S7680x1440, .bf16⟩
  | 31 => ⟨S_, .bf16⟩
  | 32 => ⟨S_, .bf16⟩
  | 33 => ⟨S7680x1440, .bf16⟩
  | 34 => ⟨S7680x1440, .bf16⟩
  | 35 => ⟨S7680x1440, .bf16⟩
  | 36 => ⟨S7680x1440, .bf16⟩
  | 37 => ⟨S7680x1440, .bf16⟩
  | 38 => ⟨S7680x1440, .bf16⟩
  | 39 => ⟨S7680x1440, .bf16⟩
  | 40 => ⟨S7680x90x16, .bf16⟩
  | 41 => ⟨S7680x90x1, .bf16⟩
  | 42 => ⟨S7680x90x16, .bf16⟩
  | 43 => ⟨S7680x90x16, .bf16⟩
  | 44 => ⟨S7680x1440, .bf16⟩
  | 45 => ⟨S1792x7680, .f32⟩
  | 46 => ⟨S1792x7680, .f32⟩
  | 47 => ⟨S1792x7680, .f32⟩
  | 48 => ⟨S1792x7680, .f32⟩
  | 49 => ⟨S1792x7680, .f32⟩
  | 50 => ⟨S_, .f32⟩
  | 51 => ⟨S1792x7680, .f32⟩
  | 52 => ⟨S1792x7680, .f32⟩
  | 53 => ⟨S_, .f32⟩
  | 54 => ⟨S1792x7680, .f32⟩
  | 55 => ⟨S1792x7680, .f32⟩
  | 56 => ⟨S1792x7680, .f32⟩
  | 57 => ⟨S1792x7680, .f32⟩
  | 58 => ⟨S1792x240x32, .f32⟩
  | 59 => ⟨S1792x240x32, .f32⟩
  | 60 => ⟨S_, .f32⟩
  | 61 => ⟨S1792x240, .f32⟩
  | 62 => ⟨S_, .f32⟩
  | 63 => ⟨S1792x240, .f32⟩
  | 64 => ⟨S1792x240, .i1⟩
  | 65 => ⟨S1792x240x255, .i32⟩
  | 66 => ⟨S_, .i32⟩
  | 67 => ⟨S1792x240x255, .i32⟩
  | 68 => ⟨S1792x240x255, .i32⟩
  | 69 => ⟨S_, .i32⟩
  | 70 => ⟨S1792x240x255, .i32⟩
  | 71 => ⟨S1792x240x255, .i1⟩
  | 72 => ⟨S_, .i32⟩
  | 73 => ⟨S1792x240x255, .i32⟩
  | 74 => ⟨S1792x240x255, .i32⟩
  | 75 => ⟨S1792x240x255, .f32⟩
  | 76 => ⟨S_, .f32⟩
  | 77 => ⟨S1792x240x255, .f32⟩
  | 78 => ⟨S1792x240x255, .f32⟩
  | 79 => ⟨S_, .f32⟩
  | 80 => ⟨S1792x240x255, .f32⟩
  | 81 => ⟨S1792x240x255, .f32⟩
  | 82 => ⟨S1792x240x1, .f32⟩
  | 83 => ⟨S1792x240x255, .f32⟩
  | 84 => ⟨S1792x240x255, .i1⟩
  | 85 => ⟨S1792x240x255, .i32⟩
  | 86 => ⟨S_, .i32⟩
  | 87 => ⟨S1792x240, .i32⟩
  | 88 => ⟨S_, .i32⟩
  | 89 => ⟨S1792x240, .i32⟩
  | 90 => ⟨S1792x240, .i32⟩
  | 91 => ⟨S_, .i32⟩
  | 92 => ⟨S1792x240, .i32⟩
  | 93 => ⟨S1792x240, .i32⟩
  | 94 => ⟨S_, .i32⟩
  | 95 => ⟨S_, .i32⟩
  | 96 => ⟨S1792x240, .i32⟩
  | 97 => ⟨S1792x240, .i32⟩
  | 98 => ⟨S_, .i32⟩
  | 99 => ⟨S_, .i32⟩
  | 100 => ⟨S_, .i32⟩
  | 101 => ⟨S1792x240, .i32⟩
  | 102 => ⟨S1792x240, .i32⟩
  | 103 => ⟨S_, .i32⟩
  | 104 => ⟨S1792x240, .i32⟩
  | 105 => ⟨S1792x240, .i32⟩
  | 106 => ⟨S1792x240, .i32⟩
  | 107 => ⟨S1792x240, .f32⟩
  | 108 => ⟨S_, .f32⟩
  | 109 => ⟨S1792x240, .f32⟩
  | 110 => ⟨S1792x240, .f32⟩
  | 111 => ⟨S1792x240x1, .f32⟩
  | 112 => ⟨S1792x240x32, .f32⟩
  | 113 => ⟨S1792x240x32, .f32⟩
  | 114 => ⟨S_, .f32⟩
  | 115 => ⟨S_, .f32⟩
  | 116 => ⟨S_, .f32⟩
  | 117 => ⟨S1792x240x32, .f32⟩
  | 118 => ⟨S1792x240x32, .f32⟩
  | 119 => ⟨S_, .f32⟩
  | 120 => ⟨S1792x240x32, .f32⟩
  | 121 => ⟨S1792x240x32, .f32⟩
  | 122 => ⟨S1792x7680, .f32⟩
  | 123 => ⟨S_, .i32⟩
  | 124 => ⟨S1792x240, .i32⟩
  | 125 => ⟨S1792x240, .i32⟩
  | 126 => ⟨S1792x7680, .fp8e4m3⟩
  | 127 => ⟨S240x1792, .i32⟩
  | _ => ⟨S1440x1792, .i32⟩

abbrev hbmTy0_3 (i : Nat) : BufTy := match i % 128 with
  | 0 => ⟨S1792x7680, .bf16⟩
  | 1 => ⟨S1792x240x32, .bf16⟩
  | 2 => ⟨S_, .i32⟩
  | 3 => ⟨S1792x240, .i32⟩
  | 4 => ⟨S1792x240, .i32⟩
  | 5 => ⟨S1792x240, .f32⟩
  | 6 => ⟨S_, .f32⟩
  | 7 => ⟨S1792x240, .f32⟩
  | 8 => ⟨S1792x240, .f32⟩
  | 9 => ⟨S_, .i32⟩
  | 10 => ⟨S1792x240, .i32⟩
  | 11 => ⟨S1792x240, .i1⟩
  | 12 => ⟨S_, .i32⟩
  | 13 => ⟨S1792x240, .i32⟩
  | 14 => ⟨S1792x240, .i1⟩
  | 15 => ⟨S_, .f32⟩
  | 16 => ⟨S1792x240, .f32⟩
  | 17 => ⟨S1792x240, .f32⟩
  | 18 => ⟨S_, .f32⟩
  | 19 => ⟨S1792x240, .f32⟩
  | 20 => ⟨S1792x240, .f32⟩
  | 21 => ⟨S1792x240, .bf16⟩
  | 22 => ⟨S1792x240x1, .bf16⟩
  | 23 => ⟨S1792x240x32, .bf16⟩
  | 24 => ⟨S1792x240x32, .bf16⟩
  | 25 => ⟨S1792x30x128x2, .bf16⟩
  | 26 => ⟨S30x2x128x1792, .bf16⟩
  | 27 => ⟨S7680x1792, .bf16⟩
  | _ => ⟨S1440x1792, .i32⟩

abbrev hbmTy (i : Nat) : BufTy := match i / 128 with
  | 0 => hbmTy0_0 i
  | 1 => hbmTy0_1 i
  | 2 => hbmTy0_2 i
  | 3 => hbmTy0_3 i
  | _ => ⟨S1440x1792, .i32⟩

abbrev bufTy : (tb : Table) → Fin (tcTables nBuf tb) → BufTy
  | .hbm, ⟨i, _⟩ => hbmTy i
  | _, _ => ⟨S1440x1792, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_call0_v0 : Ref sig .tc := ⟨.hbm, 41, rfl⟩
abbrev main_v31 : Ref sig .tc := ⟨.hbm, 42, rfl⟩
abbrev main_cst_3 : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_cst_14 : Ref sig .tc := ⟨.hbm, 76, rfl⟩
abbrev main_call2_v0 : Ref sig .tc := ⟨.hbm, 77, rfl⟩
abbrev main_call2_v1 : Ref sig .tc := ⟨.hbm, 78, rfl⟩
abbrev main_v53 : Ref sig .tc := ⟨.hbm, 79, rfl⟩
abbrev main_cst_15 : Ref sig .tc := ⟨.hbm, 80, rfl⟩
abbrev main_cst_16 : Ref sig .tc := ⟨.hbm, 81, rfl⟩
abbrev main_call3_v0 : Ref sig .tc := ⟨.hbm, 82, rfl⟩
abbrev main_call3_v1 : Ref sig .tc := ⟨.hbm, 83, rfl⟩
abbrev main_v54 : Ref sig .tc := ⟨.hbm, 84, rfl⟩
abbrev main_v55 : Ref sig .tc := ⟨.hbm, 85, rfl⟩
abbrev main_cst_17 : Ref sig .tc := ⟨.hbm, 86, rfl⟩
abbrev main_cst_18 : Ref sig .tc := ⟨.hbm, 87, rfl⟩
abbrev main_call5_v0 : Ref sig .tc := ⟨.hbm, 88, rfl⟩
abbrev main_call5_v1 : Ref sig .tc := ⟨.hbm, 89, rfl⟩
abbrev main_v56 : Ref sig .tc := ⟨.hbm, 90, rfl⟩
abbrev main_cst_19 : Ref sig .tc := ⟨.hbm, 91, rfl⟩
abbrev main_cst_20 : Ref sig .tc := ⟨.hbm, 92, rfl⟩
abbrev main_call6_v0 : Ref sig .tc := ⟨.hbm, 93, rfl⟩
abbrev main_call6_v1 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_21 : Ref sig .tc := ⟨.hbm, 105, rfl⟩
abbrev main_v67 : Ref sig .tc := ⟨.hbm, 106, rfl⟩
abbrev main_v68 : Ref sig .tc := ⟨.hbm, 107, rfl⟩
abbrev main_c_22 : Ref sig .tc := ⟨.hbm, 108, rfl⟩
abbrev main_v69 : Ref sig .tc := ⟨.hbm, 109, rfl⟩
abbrev main_v70 : Ref sig .tc := ⟨.hbm, 110, rfl⟩
abbrev main_c_23 : Ref sig .tc := ⟨.hbm, 111, rfl⟩
abbrev main_v71 : Ref sig .tc := ⟨.hbm, 112, rfl⟩
abbrev main_v72 : Ref sig .tc := ⟨.hbm, 113, rfl⟩
abbrev main_c_24 : Ref sig .tc := ⟨.hbm, 114, rfl⟩
abbrev main_v73 : Ref sig .tc := ⟨.hbm, 115, rfl⟩
abbrev main_v74 : Ref sig .tc := ⟨.hbm, 116, rfl⟩
abbrev main_c_25 : Ref sig .tc := ⟨.hbm, 117, rfl⟩
abbrev main_v75 : Ref sig .tc := ⟨.hbm, 118, rfl⟩
abbrev main_v76 : Ref sig .tc := ⟨.hbm, 119, rfl⟩
abbrev main_c_26 : Ref sig .tc := ⟨.hbm, 120, rfl⟩
abbrev main_v77 : Ref sig .tc := ⟨.hbm, 121, rfl⟩
abbrev main_v78 : Ref sig .tc := ⟨.hbm, 122, rfl⟩
abbrev main_c_27 : Ref sig .tc := ⟨.hbm, 123, rfl⟩
abbrev main_v79 : Ref sig .tc := ⟨.hbm, 124, rfl⟩
abbrev main_v80 : Ref sig .tc := ⟨.hbm, 125, rfl⟩
abbrev main_c_28 : Ref sig .tc := ⟨.hbm, 126, rfl⟩
abbrev main_v81 : Ref sig .tc := ⟨.hbm, 127, rfl⟩
abbrev main_v82 : Ref sig .tc := ⟨.hbm, 128, rfl⟩
abbrev main_c_29 : Ref sig .tc := ⟨.hbm, 129, rfl⟩
abbrev main_v83 : Ref sig .tc := ⟨.hbm, 130, rfl⟩
abbrev main_v84 : Ref sig .tc := ⟨.hbm, 131, rfl⟩
abbrev main_cst_30 : Ref sig .tc := ⟨.hbm, 132, rfl⟩
abbrev main_cst_31 : Ref sig .tc := ⟨.hbm, 133, rfl⟩
abbrev main_call10_v0 : Ref sig .tc := ⟨.hbm, 134, rfl⟩
abbrev main_call10_v1 : Ref sig .tc := ⟨.hbm, 135, rfl⟩
abbrev main_v85 : Ref sig .tc := ⟨.hbm, 136, rfl⟩
abbrev main_cst_32 : Ref sig .tc := ⟨.hbm, 137, rfl⟩
abbrev main_cst_33 : Ref sig .tc := ⟨.hbm, 138, rfl⟩
abbrev main_call11_v0 : Ref sig .tc := ⟨.hbm, 139, rfl⟩
abbrev main_call11_v1 : Ref sig .tc := ⟨.hbm, 140, rfl⟩
abbrev main_v86 : Ref sig .tc := ⟨.hbm, 141, rfl⟩
abbrev main_v87 : Ref sig .tc := ⟨.hbm, 142, rfl⟩
abbrev main_cst_34 : Ref sig .tc := ⟨.hbm, 143, rfl⟩
abbrev main_cst_35 : Ref sig .tc := ⟨.hbm, 144, rfl⟩
abbrev main_call13_v0 : Ref sig .tc := ⟨.hbm, 145, rfl⟩
abbrev main_call13_v1 : Ref sig .tc := ⟨.hbm, 146, rfl⟩
abbrev main_v88 : Ref sig .tc := ⟨.hbm, 147, rfl⟩
abbrev main_cst_36 : Ref sig .tc := ⟨.hbm, 148, rfl⟩
abbrev main_cst_37 : Ref sig .tc := ⟨.hbm, 149, rfl⟩
abbrev main_call14_v0 : Ref sig .tc := ⟨.hbm, 150, rfl⟩
abbrev main_call14_v1 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_38 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_39 : Ref sig .tc := ⟨.hbm, 170, rfl⟩
abbrev main_v106 : Ref sig .tc := ⟨.hbm, 171, rfl⟩
abbrev main_v107 : Ref sig .tc := ⟨.hbm, 172, rfl⟩
abbrev main_c_40 : Ref sig .tc := ⟨.hbm, 173, rfl⟩
abbrev main_v108 : Ref sig .tc := ⟨.hbm, 174, rfl⟩
abbrev main_v109 : Ref sig .tc := ⟨.hbm, 175, rfl⟩
abbrev main_c_41 : Ref sig .tc := ⟨.hbm, 176, rfl⟩
abbrev main_v110 : Ref sig .tc := ⟨.hbm, 177, rfl⟩
abbrev main_v111 : Ref sig .tc := ⟨.hbm, 178, rfl⟩
abbrev main_cst_42 : Ref sig .tc := ⟨.hbm, 179, rfl⟩
abbrev main_call18_v0 : Ref sig .tc := ⟨.hbm, 180, rfl⟩
abbrev main_v112 : Ref sig .tc := ⟨.hbm, 181, rfl⟩
abbrev main_cst_43 : Ref sig .tc := ⟨.hbm, 182, rfl⟩
abbrev main_call19_v0 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_44 : Ref sig .tc := ⟨.hbm, 187, rfl⟩
abbrev main_v116 : Ref sig .tc := ⟨.hbm, 188, rfl⟩
abbrev main_v117 : Ref sig .tc := ⟨.hbm, 189, rfl⟩
abbrev main_c_45 : Ref sig .tc := ⟨.hbm, 190, rfl⟩
abbrev main_v118 : Ref sig .tc := ⟨.hbm, 191, rfl⟩
abbrev main_v119 : Ref sig .tc := ⟨.hbm, 192, rfl⟩
abbrev main_c_46 : Ref sig .tc := ⟨.hbm, 193, rfl⟩
abbrev main_v120 : Ref sig .tc := ⟨.hbm, 194, rfl⟩
abbrev main_v121 : Ref sig .tc := ⟨.hbm, 195, rfl⟩
abbrev main_c_47 : Ref sig .tc := ⟨.hbm, 196, rfl⟩
abbrev main_v122 : Ref sig .tc := ⟨.hbm, 197, rfl⟩
abbrev main_v123 : Ref sig .tc := ⟨.hbm, 198, rfl⟩
abbrev main_c_48 : Ref sig .tc := ⟨.hbm, 199, rfl⟩
abbrev main_v124 : Ref sig .tc := ⟨.hbm, 200, rfl⟩
abbrev main_v125 : Ref sig .tc := ⟨.hbm, 201, rfl⟩
abbrev main_c_49 : Ref sig .tc := ⟨.hbm, 202, rfl⟩
abbrev main_v126 : Ref sig .tc := ⟨.hbm, 203, rfl⟩
abbrev main_v127 : Ref sig .tc := ⟨.hbm, 204, rfl⟩
abbrev main_c_50 : Ref sig .tc := ⟨.hbm, 205, rfl⟩
abbrev main_v128 : Ref sig .tc := ⟨.hbm, 206, rfl⟩
abbrev main_v129 : Ref sig .tc := ⟨.hbm, 207, rfl⟩
abbrev main_c_51 : Ref sig .tc := ⟨.hbm, 208, rfl⟩
abbrev main_v130 : Ref sig .tc := ⟨.hbm, 209, rfl⟩
abbrev main_v131 : Ref sig .tc := ⟨.hbm, 210, rfl⟩
abbrev main_c_52 : Ref sig .tc := ⟨.hbm, 211, rfl⟩
abbrev main_v132 : Ref sig .tc := ⟨.hbm, 212, rfl⟩
abbrev main_v133 : Ref sig .tc := ⟨.hbm, 213, rfl⟩
abbrev main_cst_53 : Ref sig .tc := ⟨.hbm, 214, rfl⟩
abbrev main_cst_54 : Ref sig .tc := ⟨.hbm, 215, rfl⟩
abbrev main_call20_v0 : Ref sig .tc := ⟨.hbm, 216, rfl⟩
abbrev main_call20_v1 : Ref sig .tc := ⟨.hbm, 217, rfl⟩
abbrev main_v134 : Ref sig .tc := ⟨.hbm, 218, rfl⟩
abbrev main_cst_55 : Ref sig .tc := ⟨.hbm, 219, rfl⟩
abbrev main_cst_56 : Ref sig .tc := ⟨.hbm, 220, rfl⟩
abbrev main_call21_v0 : Ref sig .tc := ⟨.hbm, 221, rfl⟩
abbrev main_call21_v1 : Ref sig .tc := ⟨.hbm, 222, rfl⟩
abbrev main_v135 : Ref sig .tc := ⟨.hbm, 223, rfl⟩
abbrev main_v136 : Ref sig .tc := ⟨.hbm, 224, rfl⟩
abbrev main_cst_57 : Ref sig .tc := ⟨.hbm, 225, rfl⟩
abbrev main_cst_58 : Ref sig .tc := ⟨.hbm, 226, rfl⟩
abbrev main_call23_v0 : Ref sig .tc := ⟨.hbm, 227, rfl⟩
abbrev main_call23_v1 : Ref sig .tc := ⟨.hbm, 228, rfl⟩
abbrev main_v137 : Ref sig .tc := ⟨.hbm, 229, rfl⟩
abbrev main_cst_59 : Ref sig .tc := ⟨.hbm, 230, rfl⟩
abbrev main_cst_60 : Ref sig .tc := ⟨.hbm, 231, rfl⟩
abbrev main_call24_v0 : Ref sig .tc := ⟨.hbm, 232, rfl⟩
abbrev main_call24_v1 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_c_61 : Ref sig .tc := ⟨.hbm, 244, rfl⟩
abbrev main_v148 : Ref sig .tc := ⟨.hbm, 245, rfl⟩
abbrev main_v149 : Ref sig .tc := ⟨.hbm, 246, rfl⟩
abbrev main_c_62 : Ref sig .tc := ⟨.hbm, 247, rfl⟩
abbrev main_v150 : Ref sig .tc := ⟨.hbm, 248, rfl⟩
abbrev main_v151 : Ref sig .tc := ⟨.hbm, 249, rfl⟩
abbrev main_c_63 : Ref sig .tc := ⟨.hbm, 250, rfl⟩
abbrev main_v152 : Ref sig .tc := ⟨.hbm, 251, rfl⟩
abbrev main_v153 : Ref sig .tc := ⟨.hbm, 252, rfl⟩
abbrev main_c_64 : Ref sig .tc := ⟨.hbm, 253, rfl⟩
abbrev main_v154 : Ref sig .tc := ⟨.hbm, 254, rfl⟩
abbrev main_v155 : Ref sig .tc := ⟨.hbm, 255, rfl⟩
abbrev main_c_65 : Ref sig .tc := ⟨.hbm, 256, rfl⟩
abbrev main_v156 : Ref sig .tc := ⟨.hbm, 257, rfl⟩
abbrev main_v157 : Ref sig .tc := ⟨.hbm, 258, rfl⟩
abbrev main_c_66 : Ref sig .tc := ⟨.hbm, 259, rfl⟩
abbrev main_v158 : Ref sig .tc := ⟨.hbm, 260, rfl⟩
abbrev main_v159 : Ref sig .tc := ⟨.hbm, 261, rfl⟩
abbrev main_c_67 : Ref sig .tc := ⟨.hbm, 262, rfl⟩
abbrev main_v160 : Ref sig .tc := ⟨.hbm, 263, rfl⟩
abbrev main_v161 : Ref sig .tc := ⟨.hbm, 264, rfl⟩
abbrev main_c_68 : Ref sig .tc := ⟨.hbm, 265, rfl⟩
abbrev main_v162 : Ref sig .tc := ⟨.hbm, 266, rfl⟩
abbrev main_v163 : Ref sig .tc := ⟨.hbm, 267, rfl⟩
abbrev main_c_69 : Ref sig .tc := ⟨.hbm, 268, rfl⟩
abbrev main_v164 : Ref sig .tc := ⟨.hbm, 269, rfl⟩
abbrev main_v165 : Ref sig .tc := ⟨.hbm, 270, rfl⟩
abbrev main_cst_70 : Ref sig .tc := ⟨.hbm, 271, rfl⟩
abbrev main_cst_71 : Ref sig .tc := ⟨.hbm, 272, rfl⟩
abbrev main_call28_v0 : Ref sig .tc := ⟨.hbm, 273, rfl⟩
abbrev main_call28_v1 : Ref sig .tc := ⟨.hbm, 274, rfl⟩
abbrev main_v166 : Ref sig .tc := ⟨.hbm, 275, rfl⟩
abbrev main_cst_72 : Ref sig .tc := ⟨.hbm, 276, rfl⟩
abbrev main_cst_73 : Ref sig .tc := ⟨.hbm, 277, rfl⟩
abbrev main_call29_v0 : Ref sig .tc := ⟨.hbm, 278, rfl⟩
abbrev main_call29_v1 : Ref sig .tc := ⟨.hbm, 279, rfl⟩
abbrev main_v167 : Ref sig .tc := ⟨.hbm, 280, rfl⟩
abbrev main_v168 : Ref sig .tc := ⟨.hbm, 281, rfl⟩
abbrev main_cst_74 : Ref sig .tc := ⟨.hbm, 282, rfl⟩
abbrev main_cst_75 : Ref sig .tc := ⟨.hbm, 283, rfl⟩
abbrev main_call31_v0 : Ref sig .tc := ⟨.hbm, 284, rfl⟩
abbrev main_call31_v1 : Ref sig .tc := ⟨.hbm, 285, rfl⟩
abbrev main_v169 : Ref sig .tc := ⟨.hbm, 286, rfl⟩
abbrev main_cst_76 : Ref sig .tc := ⟨.hbm, 287, rfl⟩
abbrev main_cst_77 : Ref sig .tc := ⟨.hbm, 288, rfl⟩
abbrev main_call32_v0 : Ref sig .tc := ⟨.hbm, 289, rfl⟩
abbrev main_call32_v1 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_cst_78 : Ref sig .tc := ⟨.hbm, 306, rfl⟩
abbrev main_v185 : Ref sig .tc := ⟨.hbm, 307, rfl⟩
abbrev main_v186 : Ref sig .tc := ⟨.hbm, 308, rfl⟩
abbrev main_cst_79 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_cst_80 : Ref sig .tc := ⟨.hbm, 316, rfl⟩
abbrev main_v193 : Ref sig .tc := ⟨.hbm, 317, rfl⟩
abbrev main_cst_81 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_c_82 : Ref sig .tc := ⟨.hbm, 322, rfl⟩
abbrev main_v197 : Ref sig .tc := ⟨.hbm, 323, rfl⟩
abbrev main_v198 : Ref sig .tc := ⟨.hbm, 324, rfl⟩
abbrev main_c_83 : Ref sig .tc := ⟨.hbm, 325, rfl⟩
abbrev main_v199 : Ref sig .tc := ⟨.hbm, 326, rfl⟩
abbrev main_v200 : Ref sig .tc := ⟨.hbm, 327, rfl⟩
abbrev main_c_84 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_cst_85 : Ref sig .tc := ⟨.hbm, 332, rfl⟩
abbrev main_v204 : Ref sig .tc := ⟨.hbm, 333, rfl⟩
abbrev main_v205 : Ref sig .tc := ⟨.hbm, 334, rfl⟩
abbrev main_cst_86 : Ref sig .tc := ⟨.hbm, 335, rfl⟩
abbrev main_call36_v0 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_c_87 : Ref sig .tc := ⟨.hbm, 342, rfl⟩
abbrev main_v211 : Ref sig .tc := ⟨.hbm, 343, rfl⟩
abbrev main_c_88 : Ref sig .tc := ⟨.hbm, 344, rfl⟩
abbrev main_v212 : Ref sig .tc := ⟨.hbm, 345, rfl⟩
abbrev main_v213 : Ref sig .tc := ⟨.hbm, 346, rfl⟩
abbrev main_c_89 : Ref sig .tc := ⟨.hbm, 347, rfl⟩
abbrev main_v214 : Ref sig .tc := ⟨.hbm, 348, rfl⟩
abbrev main_v215 : Ref sig .tc := ⟨.hbm, 349, rfl⟩
abbrev main_c_90 : Ref sig .tc := ⟨.hbm, 350, rfl⟩
abbrev main_call37_v0 : Ref sig .tc := ⟨.hbm, 351, rfl⟩
abbrev main_call37_v1 : Ref sig .tc := ⟨.hbm, 352, rfl⟩
abbrev main_v216 : Ref sig .tc := ⟨.hbm, 353, rfl⟩
abbrev main_c_91 : Ref sig .tc := ⟨.hbm, 354, rfl⟩
abbrev main_c_92 : Ref sig .tc := ⟨.hbm, 355, rfl⟩
abbrev main_call38_v0 : Ref sig .tc := ⟨.hbm, 356, rfl⟩
abbrev main_call38_v1 : Ref sig .tc := ⟨.hbm, 357, rfl⟩
abbrev main_call38_v2 : Ref sig .tc := ⟨.hbm, 358, rfl⟩
abbrev main_call38_v3 : Ref sig .tc := ⟨.hbm, 359, rfl⟩
abbrev main_call38_v4 : Ref sig .tc := ⟨.hbm, 360, rfl⟩
abbrev main_v217 : Ref sig .tc := ⟨.hbm, 361, rfl⟩
abbrev main_v218 : Ref sig .tc := ⟨.hbm, 362, rfl⟩
abbrev main_v219 : Ref sig .tc := ⟨.hbm, 363, rfl⟩
abbrev main_cst_93 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩
abbrev main_v224 : Ref sig .tc := ⟨.hbm, 369, rfl⟩
abbrev main_cst_94 : Ref sig .tc := ⟨.hbm, 370, rfl⟩
abbrev main_cst_95 : Ref sig .tc := ⟨.hbm, 371, rfl⟩
abbrev main_call39_v0 : Ref sig .tc := ⟨.hbm, 372, rfl⟩
abbrev main_call39_v1 : Ref sig .tc := ⟨.hbm, 373, rfl⟩
abbrev main_call39_v2 : Ref sig .tc := ⟨.hbm, 374, rfl⟩
abbrev main_call39_v3 : Ref sig .tc := ⟨.hbm, 375, rfl⟩
abbrev main_call39_v4 : Ref sig .tc := ⟨.hbm, 376, rfl⟩
abbrev main_v225 : Ref sig .tc := ⟨.hbm, 377, rfl⟩
abbrev main_v226 : Ref sig .tc := ⟨.hbm, 378, rfl⟩
abbrev main_c_96 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_c_97 : Ref sig .tc := ⟨.hbm, 386, rfl⟩
abbrev main_v233 : Ref sig .tc := ⟨.hbm, 387, rfl⟩
abbrev main_v234 : Ref sig .tc := ⟨.hbm, 388, rfl⟩
abbrev main_v235 : Ref sig .tc := ⟨.hbm, 389, rfl⟩
abbrev main_cst_98 : Ref sig .tc := ⟨.hbm, 390, rfl⟩
abbrev main_v236 : Ref sig .tc := ⟨.hbm, 391, rfl⟩
abbrev main_v237 : Ref sig .tc := ⟨.hbm, 392, rfl⟩
abbrev main_c_99 : Ref sig .tc := ⟨.hbm, 393, rfl⟩
abbrev main_v238 : Ref sig .tc := ⟨.hbm, 394, rfl⟩
abbrev main_v239 : Ref sig .tc := ⟨.hbm, 395, rfl⟩
abbrev main_c_100 : Ref sig .tc := ⟨.hbm, 396, rfl⟩
abbrev main_v240 : Ref sig .tc := ⟨.hbm, 397, rfl⟩
abbrev main_v241 : Ref sig .tc := ⟨.hbm, 398, rfl⟩
abbrev main_cst_101 : Ref sig .tc := ⟨.hbm, 399, rfl⟩
abbrev main_call40_v0 : Ref sig .tc := ⟨.hbm, 400, rfl⟩
abbrev main_v242 : Ref sig .tc := ⟨.hbm, 401, rfl⟩
abbrev main_cst_102 : Ref sig .tc := ⟨.hbm, 402, rfl⟩
abbrev main_call41_v0 : Ref sig .tc := ⟨.hbm, 403, rfl⟩
abbrev main_v243 : Ref sig .tc := ⟨.hbm, 404, rfl⟩
abbrev main_v244 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_v249 : Ref sig .tc := ⟨.hbm, 410, rfl⟩
abbrev main_v250 : Ref sig .tc := ⟨.hbm, 411, rfl⟩

abbrev nD : Nat := 1
abbrev τ : Topo := Topo.v7x

variable {F : FTy → Type} [FloatOps F]
-- ==== Oproj.lean ====
abbrev S1536x1792 : Shape := ⟨2, ![1536, 1792]⟩
abbrev S96x1792 : Shape := ⟨2, ![96, 1792]⟩
abbrev S1x2880 : Shape := ⟨2, ![1, 2880]⟩
abbrev S2880x1536 : Shape := ⟨2, ![2880, 1536]⟩
abbrev S2880x96 : Shape := ⟨2, ![2880, 96]⟩
abbrev S1440x1792 : Shape := ⟨2, ![1440, 1792]⟩
abbrev S2880x1792 : Shape := ⟨2, ![2880, 1792]⟩
abbrev S1792x2880 : Shape := ⟨2, ![1792, 2880]⟩
abbrev S1792x90 : Shape := ⟨2, ![1792, 90]⟩
abbrev S1792x96 : Shape := ⟨2, ![1792, 96]⟩
abbrev S288x1536 : Shape := ⟨2, ![288, 1536]⟩
abbrev S288x96 : Shape := ⟨2, ![288, 96]⟩
abbrev S144x1792 : Shape := ⟨2, ![144, 1792]⟩
abbrev S144x3072 : Shape := ⟨2, ![144, 3072]⟩
abbrev S2880x128 : Shape := ⟨2, ![2880, 128]⟩
abbrev S24x256x128 : Shape := ⟨3, ![24, 256, 128]⟩
abbrev S8x1792 : Shape := ⟨2, ![8, 1792]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S64x128 : Shape := ⟨2, ![64, 128]⟩
abbrev S96x128 : Shape := ⟨2, ![96, 128]⟩
abbrev S128x96 : Shape := ⟨2, ![128, 96]⟩
abbrev S288x32 : Shape := ⟨2, ![288, 32]⟩
abbrev S288x128 : Shape := ⟨2, ![288, 128]⟩
abbrev S72x128 : Shape := ⟨2, ![72, 128]⟩
abbrev S288x128x1 : Shape := ⟨3, ![288, 128, 1]⟩
abbrev S144x128 : Shape := ⟨2, ![144, 128]⟩
abbrev S1536x256 : Shape := ⟨2, ![1536, 256]⟩
abbrev S288x3072 : Shape := ⟨2, ![288, 3072]⟩
abbrev S3072x256 : Shape := ⟨2, ![3072, 256]⟩
abbrev S288x256 : Shape := ⟨2, ![288, 256]⟩
abbrev S144x256 : Shape := ⟨2, ![144, 256]⟩
abbrev S8x256 : Shape := ⟨2, ![8, 256]⟩
abbrev S36x8x256 : Shape := ⟨3, ![36, 8, 256]⟩
abbrev S256 : Shape := ⟨1, ![256]⟩
abbrev S1x256 : Shape := ⟨2, ![1, 256]⟩
abbrev S256x128 : Shape := ⟨2, ![256, 128]⟩
abbrev S256x256 : Shape := ⟨2, ![256, 256]⟩
abbrev S8x32x256 : Shape := ⟨3, ![8, 32, 256]⟩
abbrev S8x1x256 : Shape := ⟨3, ![8, 1, 256]⟩
abbrev S128x256 : Shape := ⟨2, ![128, 256]⟩
abbrev S24x128x128 : Shape := ⟨3, ![24, 128, 128]⟩
abbrev S1x128x128 : Shape := ⟨3, ![1, 128, 128]⟩
abbrev S1x256x128 : Shape := ⟨3, ![1, 256, 128]⟩
abbrev S24x128x2x128 : Shape := ⟨4, ![24, 128, 2, 128]⟩
abbrev S1x64x2x128 : Shape := ⟨4, ![1, 64, 2, 128]⟩
abbrev S1x64x1x128 : Shape := ⟨4, ![1, 64, 1, 128]⟩
abbrev S64x256 : Shape := ⟨2, ![64, 256]⟩
abbrev S2x32x256 : Shape := ⟨3, ![2, 32, 256]⟩
abbrev S2x256 : Shape := ⟨2, ![2, 256]⟩
abbrev S2x1x256 : Shape := ⟨3, ![2, 1, 256]⟩
abbrev S32x256 : Shape := ⟨2, ![32, 256]⟩
abbrev S32x128 : Shape := ⟨2, ![32, 128]⟩
abbrev S1x64x128 : Shape := ⟨3, ![1, 64, 128]⟩
abbrev S1x32x128 : Shape := ⟨3, ![1, 32, 128]⟩
abbrev S16x128 : Shape := ⟨2, ![16, 128]⟩
abbrev S1x16x2x128 : Shape := ⟨4, ![1, 16, 2, 128]⟩
abbrev S1x16x1x128 : Shape := ⟨4, ![1, 16, 1, 128]⟩
abbrev S16x256 : Shape := ⟨2, ![16, 256]⟩
abbrev S256x64 : Shape := ⟨2, ![256, 64]⟩
abbrev S128x90 : Shape := ⟨2, ![128, 90]⟩

abbrev nBuf : Space → Nat
  | .hbm => 11
  | .vmem => 26
  | .smem => 0
  | _ => 0

abbrev bufTy : (tb : Table) → Fin (tcTables nBuf tb) → BufTy
  | .hbm, ⟨0, _⟩ => ⟨S1536x1792, .i32⟩
  | .hbm, ⟨1, _⟩ => ⟨S96x1792, .i32⟩
  | .hbm, ⟨2, _⟩ => ⟨S1x2880, .f32⟩
  | .hbm, ⟨3, _⟩ => ⟨S2880x1536, .i8⟩
  | .hbm, ⟨4, _⟩ => ⟨S2880x96, .i8⟩
  | .hbm, ⟨5, _⟩ => ⟨S1440x1792, .i32⟩
  | .hbm, ⟨6, _⟩ => ⟨S2880x1792, .f32⟩
  | .hbm, ⟨7, _⟩ => ⟨S2880x1792, .bf16⟩
  | .hbm, ⟨8, _⟩ => ⟨S1792x2880, .fp8e4m3⟩
  | .hbm, ⟨9, _⟩ => ⟨S1792x90, .i8⟩
  | .hbm, ⟨10, _⟩ => ⟨S1792x96, .i8⟩
  | .local _ .vmem, ⟨0, _⟩ => ⟨S1536x1792, .i32⟩
  | .local _ .vmem, ⟨1, _⟩ => ⟨S96x1792, .i32⟩
  | .local _ .vmem, ⟨2, _⟩ => ⟨S1x2880, .f32⟩
  | .local _ .vmem, ⟨3, _⟩ => ⟨S288x1536, .i8⟩
  | .local _ .vmem, ⟨4, _⟩ => ⟨S288x1536, .i8⟩
  | .local _ .vmem, ⟨5, _⟩ => ⟨S288x96, .i8⟩
  | .local _ .vmem, ⟨6, _⟩ => ⟨S288x96, .i8⟩
  | .local _ .vmem, ⟨7, _⟩ => ⟨S144x1792, .i32⟩
  | .local _ .vmem, ⟨8, _⟩ => ⟨S144x1792, .i32⟩
  | .local _ .vmem, ⟨9, _⟩ => ⟨S288x1536, .i8⟩
  | .local _ .vmem, ⟨10, _⟩ => ⟨S288x1536, .i8⟩
  | .local _ .vmem, ⟨11, _⟩ => ⟨S288x96, .i8⟩
  | .local _ .vmem, ⟨12, _⟩ => ⟨S288x96, .i8⟩
  | .local _ .vmem, ⟨13, _⟩ => ⟨S144x1792, .i32⟩
  | .local _ .vmem, ⟨14, _⟩ => ⟨S144x1792, .i32⟩
  | .local _ .vmem, ⟨15, _⟩ => ⟨S2880x1792, .f32⟩
  | .local _ .vmem, ⟨16, _⟩ => ⟨S2880x1792, .bf16⟩
  | .local _ .vmem, ⟨17, _⟩ => ⟨S1792x2880, .fp8e4m3⟩
  | .local _ .vmem, ⟨18, _⟩ => ⟨S1792x90, .i8⟩
  | .local _ .vmem, ⟨19, _⟩ => ⟨S1792x96, .i8⟩
  | .local _ .vmem, ⟨20, _⟩ => ⟨S144x3072, .i32⟩
  | .local _ .vmem, ⟨21, _⟩ => ⟨S144x3072, .i32⟩
  | .local _ .vmem, ⟨22, _⟩ => ⟨S2880x128, .f32⟩
  | .local _ .vmem, ⟨23, _⟩ => ⟨S96x1792, .i32⟩
  | .local _ .vmem, ⟨24, _⟩ => ⟨S24x256x128, .bf16⟩
  | .local _ .vmem, ⟨25, _⟩ => ⟨S8x1792, .f32⟩
  | _, _ => ⟨S1536x1792, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [BitOps F]

abbrev grid0 : Pipeline.Grid := ⟨1, ![6], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  v11
def k0_off1 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v893 : Index := Scalar.indexCast v12
  let c0_272 : Index := 0#32
  ![v893.toNat, 0]
def k0_off2 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v912 : Index := Scalar.indexCast v12
  let c256_285 : Index := 256#32
  ![v912.toNat, 256]
def k0_off3 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v931 : Index := Scalar.indexCast v12
  let c512_298 : Index := 512#32
  ![v931.toNat, 512]
def k0_off4 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v950 : Index := Scalar.indexCast v12
  let c768_311 : Index := 768#32
  ![v950.toNat, 768]
def k0_off5 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v969 : Index := Scalar.indexCast v12
  let c1024_324 : Index := 1024#32
  ![v969.toNat, 1024]
def k0_off6 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v988 : Index := Scalar.indexCast v12
  let c1280_337 : Index := 1280#32
  ![v988.toNat, 1280]
def k0_off7 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let v1007 : Index := Scalar.indexCast v12
  let c1536_350 : Index := 1536#32
  ![v1007.toNat, 1536]
def k0_off8 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v1898 : Index := Scalar.indexCast v1888
  let c0_668 : Index := 0#32
  ![v1898.toNat, 0]
def k0_off9 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v1917 : Index := Scalar.indexCast v1888
  let c256_681 : Index := 256#32
  ![v1917.toNat, 256]
def k0_off10 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v1936 : Index := Scalar.indexCast v1888
  let c512_694 : Index := 512#32
  ![v1936.toNat, 512]
def k0_off11 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v1955 : Index := Scalar.indexCast v1888
  let c768_707 : Index := 768#32
  ![v1955.toNat, 768]
def k0_off12 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v1974 : Index := Scalar.indexCast v1888
  let c1024_720 : Index := 1024#32
  ![v1974.toNat, 1024]
def k0_off13 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v1993 : Index := Scalar.indexCast v1888
  let c1280_733 : Index := 1280#32
  ![v1993.toNat, 1280]
def k0_off14 (i : grid0.Coords) : Fin 2 → Nat :=
  let arg0 : BitVec 32 := BitVec.ofNat 32 (i 0).val
  let c1_i32 : BitVec 32 := 1#32
  let v9 : BitVec 32 := Scalar.subi arg0 c1_i32
  let c2_i32 : BitVec 32 := 2#32
  let v10 : BitVec 32 := Scalar.muli v9 c2_i32
  let c288_i32 : BitVec 32 := 288#32
  let v11 : BitVec 32 := Scalar.muli v10 c288_i32
  let v12 : BitVec 32 := v11
  let c288_i32_660 : BitVec 32 := 288#32
  let v1888 : BitVec 32 := Scalar.addi v12 c288_i32_660
  let v2012 : Index := Scalar.indexCast v1888
  let c1536_746 : Index := 1536#32
  ![v2012.toNat, 1536]
def k0_cond3 (i : grid0.Coords) : BitVec 1 :=
  let arg0 : BitVec 32 := BitVec.ofNat 32 (i 0).val
  let c5_i32 : BitVec 32 := 5#32
  let v6 : BitVec 1 := Scalar.cmpi .eq arg0 c5_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c7_i32 : BitVec 32 := 7#32
  let v9 : BitVec 32 := Scalar.addi c0_i32_4 c7_i32
  let c1_i32 : BitVec 32 := 1#32
  ⟨c0_i32_4, v9, c1_i32⟩
def k0_mult2 (k0_t1 : Fin k0_t1_loop.trips) : BitVec 32 :=
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  v80
def k0_off15 (k0_t1 : Fin k0_t1_loop.trips) : Fin 2 → Nat :=
  let c0_48 : Index := 0#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v82 : Index := Scalar.indexCast v81
  ![0, v82.toNat]
def k0_mult3 (k0_t1 : Fin k0_t1_loop.trips) : BitVec 32 :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  v91
def k0_off16 (k0_t1 : Fin k0_t1_loop.trips) : Fin 2 → Nat :=
  let c0_54 : Index := 0#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v95 : Index := Scalar.indexCast v81
  ![0, v95.toNat]
def k0_off17 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v265 : Index := Scalar.indexCast v92
  ![0, v265.toNat]
def k0_off18 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v268 : Index := Scalar.indexCast v92
  ![128, v268.toNat]
def k0_off19 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v272 : Index := Scalar.indexCast v92
  let c0_117 : Index := 0#32
  ![v272.toNat, 0]
def k0_off20 (k0_t1 : Fin k0_t1_loop.trips) : Fin 2 → Nat :=
  let c0_118 : Index := 0#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v274 : Index := Scalar.indexCast v92
  ![0, v274.toNat]
def k0_off21 (k0_t1 : Fin k0_t1_loop.trips) : Fin 2 → Nat :=
  let c256_121 : Index := 256#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v280 : Index := Scalar.indexCast v81
  ![256, v280.toNat]
def k0_off22 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v450 : Index := Scalar.indexCast v92
  ![256, v450.toNat]
def k0_off23 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v453 : Index := Scalar.indexCast v92
  ![384, v453.toNat]
def k0_off24 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v457 : Index := Scalar.indexCast v92
  let c256_196 : Index := 256#32
  ![v457.toNat, 256]
def k0_off25 (k0_t1 : Fin k0_t1_loop.trips) : Fin 2 → Nat :=
  let c8 : Index := 8#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v459 : Index := Scalar.indexCast v92
  ![8, v459.toNat]
def k0_off26 (k0_t1 : Fin k0_t1_loop.trips) : Fin 2 → Nat :=
  let c512_199 : Index := 512#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v465 : Index := Scalar.indexCast v81
  ![512, v465.toNat]
def k0_off27 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v635 : Index := Scalar.indexCast v92
  ![512, v635.toNat]
def k0_off28 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v638 : Index := Scalar.indexCast v92
  ![640, v638.toNat]
def k0_off29 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v642 : Index := Scalar.indexCast v92
  let c512_275 : Index := 512#32
  ![v642.toNat, 512]
def k0_off30 (k0_t1 : Fin k0_t1_loop.trips) : Fin 2 → Nat :=
  let c16 : Index := 16#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v644 : Index := Scalar.indexCast v92
  ![16, v644.toNat]
def k0_off31 (k0_t1 : Fin k0_t1_loop.trips) : Fin 2 → Nat :=
  let c768_278 : Index := 768#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v650 : Index := Scalar.indexCast v81
  ![768, v650.toNat]
def k0_off32 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v820 : Index := Scalar.indexCast v92
  ![768, v820.toNat]
def k0_off33 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v823 : Index := Scalar.indexCast v92
  ![896, v823.toNat]
def k0_off34 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v827 : Index := Scalar.indexCast v92
  let c768_353 : Index := 768#32
  ![v827.toNat, 768]
def k0_off35 (k0_t1 : Fin k0_t1_loop.trips) : Fin 2 → Nat :=
  let c24 : Index := 24#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v829 : Index := Scalar.indexCast v92
  ![24, v829.toNat]
def k0_off36 (k0_t1 : Fin k0_t1_loop.trips) : Fin 2 → Nat :=
  let c1024_356 : Index := 1024#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v835 : Index := Scalar.indexCast v81
  ![1024, v835.toNat]
def k0_off37 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1005 : Index := Scalar.indexCast v92
  ![1024, v1005.toNat]
def k0_off38 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1008 : Index := Scalar.indexCast v92
  ![1152, v1008.toNat]
def k0_off39 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1012 : Index := Scalar.indexCast v92
  let c1024_431 : Index := 1024#32
  ![v1012.toNat, 1024]
def k0_off40 (k0_t1 : Fin k0_t1_loop.trips) : Fin 2 → Nat :=
  let c32 : Index := 32#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1014 : Index := Scalar.indexCast v92
  ![32, v1014.toNat]
def k0_off41 (k0_t1 : Fin k0_t1_loop.trips) : Fin 2 → Nat :=
  let c1280_434 : Index := 1280#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v1020 : Index := Scalar.indexCast v81
  ![1280, v1020.toNat]
def k0_off42 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1190 : Index := Scalar.indexCast v92
  ![1280, v1190.toNat]
def k0_off43 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1193 : Index := Scalar.indexCast v92
  ![1408, v1193.toNat]
def k0_off44 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1197 : Index := Scalar.indexCast v92
  let c1280_508 : Index := 1280#32
  ![v1197.toNat, 1280]
def k0_off45 (k0_t1 : Fin k0_t1_loop.trips) : Fin 2 → Nat :=
  let c40 : Index := 40#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1199 : Index := Scalar.indexCast v92
  ![40, v1199.toNat]
def k0_off46 (k0_t1 : Fin k0_t1_loop.trips) : Fin 2 → Nat :=
  let c1536_511 : Index := 1536#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v1205 : Index := Scalar.indexCast v81
  ![1536, v1205.toNat]
def k0_off47 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1375 : Index := Scalar.indexCast v92
  ![1536, v1375.toNat]
def k0_off48 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1378 : Index := Scalar.indexCast v92
  ![1664, v1378.toNat]
def k0_off49 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1382 : Index := Scalar.indexCast v92
  let c1536_585 : Index := 1536#32
  ![v1382.toNat, 1536]
def k0_off50 (k0_t1 : Fin k0_t1_loop.trips) : Fin 2 → Nat :=
  let c48 : Index := 48#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1384 : Index := Scalar.indexCast v92
  ![48, v1384.toNat]
def k0_off51 (k0_t1 : Fin k0_t1_loop.trips) : Fin 2 → Nat :=
  let c1792_587 : Index := 1792#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v1390 : Index := Scalar.indexCast v81
  ![1792, v1390.toNat]
def k0_off52 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1560 : Index := Scalar.indexCast v92
  ![1792, v1560.toNat]
def k0_off53 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1563 : Index := Scalar.indexCast v92
  ![1920, v1563.toNat]
def k0_off54 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1567 : Index := Scalar.indexCast v92
  let c1792_661 : Index := 1792#32
  ![v1567.toNat, 1792]
def k0_off55 (k0_t1 : Fin k0_t1_loop.trips) : Fin 2 → Nat :=
  let c56 : Index := 56#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1569 : Index := Scalar.indexCast v92
  ![56, v1569.toNat]
def k0_off56 (k0_t1 : Fin k0_t1_loop.trips) : Fin 2 → Nat :=
  let c2048_663 : Index := 2048#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v1575 : Index := Scalar.indexCast v81
  ![2048, v1575.toNat]
def k0_off57 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1745 : Index := Scalar.indexCast v92
  ![2048, v1745.toNat]
def k0_off58 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1748 : Index := Scalar.indexCast v92
  ![2176, v1748.toNat]
def k0_off59 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1752 : Index := Scalar.indexCast v92
  let c2048_738 : Index := 2048#32
  ![v1752.toNat, 2048]
def k0_off60 (k0_t1 : Fin k0_t1_loop.trips) : Fin 2 → Nat :=
  let c64_739 : Index := 64#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1754 : Index := Scalar.indexCast v92
  ![64, v1754.toNat]
def k0_off61 (k0_t1 : Fin k0_t1_loop.trips) : Fin 2 → Nat :=
  let c2304_741 : Index := 2304#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v1760 : Index := Scalar.indexCast v81
  ![2304, v1760.toNat]
def k0_off62 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1930 : Index := Scalar.indexCast v92
  ![2304, v1930.toNat]
def k0_off63 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1933 : Index := Scalar.indexCast v92
  ![2432, v1933.toNat]
def k0_off64 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1937 : Index := Scalar.indexCast v92
  let c2304_815 : Index := 2304#32
  ![v1937.toNat, 2304]
def k0_off65 (k0_t1 : Fin k0_t1_loop.trips) : Fin 2 → Nat :=
  let c72 : Index := 72#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v1939 : Index := Scalar.indexCast v92
  ![72, v1939.toNat]
def k0_off66 (k0_t1 : Fin k0_t1_loop.trips) : Fin 2 → Nat :=
  let c2560_817 : Index := 2560#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v1945 : Index := Scalar.indexCast v81
  ![2560, v1945.toNat]
def k0_off67 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2115 : Index := Scalar.indexCast v92
  ![2560, v2115.toNat]
def k0_off68 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2118 : Index := Scalar.indexCast v92
  ![2688, v2118.toNat]
def k0_off69 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2122 : Index := Scalar.indexCast v92
  let c2560_891 : Index := 2560#32
  ![v2122.toNat, 2560]
def k0_off70 (k0_t1 : Fin k0_t1_loop.trips) : Fin 2 → Nat :=
  let c80 : Index := 80#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2124 : Index := Scalar.indexCast v92
  ![80, v2124.toNat]
def k0_off71 (k0_t1 : Fin k0_t1_loop.trips) : Fin 2 → Nat :=
  let c2816_893 : Index := 2816#32
  let c0_i32_4 : BitVec 32 := 0#32
  let c1_i32 : BitVec 32 := 1#32
  let arg21 : BitVec 32 := Scf.iv c0_i32_4 c1_i32 k0_t1
  let c256_i32 : BitVec 32 := 256#32
  let v80 : BitVec 32 := Scalar.muli arg21 c256_i32
  let v81 : BitVec 32 := v80
  let v2130 : Index := Scalar.indexCast v81
  ![2816, v2130.toNat]
def k0_off72 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2300 : Index := Scalar.indexCast v92
  ![2816, v2300.toNat]
def k0_off73 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2303 : Index := Scalar.indexCast v92
  ![2848, v2303.toNat]
def k0_off74 (k0_t1 : Fin k0_t1_loop.trips) : Fin 2 → Nat :=
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2307 : Index := Scalar.indexCast v92
  let c2816_968 : Index := 2816#32
  ![v2307.toNat, 2816]
def k0_off75 (k0_t1 : Fin k0_t1_loop.trips) : Fin 2 → Nat :=
  let c88 : Index := 88#32
  let c0_i32_4 : BitVec 32 := 0#32
  let c1_i32 : BitVec 32 := 1#32
  let arg21 : BitVec 32 := Scf.iv c0_i32_4 c1_i32 k0_t1
  let c256_i32_51 : BitVec 32 := 256#32
  let v91 : BitVec 32 := Scalar.muli arg21 c256_i32_51
  let v92 : BitVec 32 := v91
  let v2309 : Index := Scalar.indexCast v92
  ![88, v2309.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c9_i32 : BitVec 32 := 9#32
  let v2 : BitVec 32 := Scalar.maxsi c0_i32_0 v1
  let v3 : BitVec 32 := Scalar.minsi c9_i32 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c9_i32 : BitVec 32 := 9#32
  let v2 : BitVec 32 := Scalar.maxsi c0_i32_0 v1
  let v3 : BitVec 32 := Scalar.minsi c9_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c_m2_i32 : BitVec 32 := 4294967294#32
  let v1 : BitVec 32 := Scalar.addi v0 c_m2_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c_m1_i32 : BitVec 32 := 4294967295#32
  let v1 : BitVec 32 := Scalar.addi v0 c_m1_i32
  let c0_i32 : BitVec 32 := 0#32
  let c9_i32 : BitVec 32 := 9#32
  let v2 : BitVec 32 := Scalar.maxsi c0_i32 v1
  let v3 : BitVec 32 := Scalar.minsi c9_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1792 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1792 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S288x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S288x96 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1792 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S288x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S288x96 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S144x1792 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2880x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2880x1792 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1792x2880 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1792x90 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1792x96 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OprojIdeal.lean ====
abbrev S144x2x3072 : Shape := ⟨3, ![144, 2, 3072]⟩
abbrev S144x1x3072 : Shape := ⟨3, ![144, 1, 3072]⟩
abbrev S144x2x128 : Shape := ⟨3, ![144, 2, 128]⟩
abbrev S144x1x128 : Shape := ⟨3, ![144, 1, 128]⟩
  | .local _ .vmem, ⟨20, _⟩ => ⟨S144x2x3072, .bf16⟩
  | .local _ .vmem, ⟨21, _⟩ => ⟨S144x2x3072, .bf16⟩
variable {F : FTy → Type} [FloatOps F]
-- ==== Proof.Body.lean ====
/- The body of the kernel at ideal values, told as four short loops.

   The printed body is one long straight line: fourteen copies of a slab of scales, thirty decoded weight
   tiles, seven slabs of the product. Here each loop is a list of one tile, written once. -/
module

public import proofs.«01_k».proof.Proof.Gen.KernelIdeal.Frame
public import proofs.«01_k».proof.Proof.Gen.KernelIdeal.Skeleton

@[expose] public section

noncomputable section

namespace Cert.KernelIdeal.Down

open Idealize.ShloMosaic Idealize.SL Idealize.SL.Sem
open Cert.KernelIdeal Cert.KernelIdeal.Gen

variable {F : FTy → Type} [FloatOps F]

/-! ## The values of a tile -/

/-- The weight scales of a block of rows: each scale byte becomes the exponent of an f32, and sixteen
    zero columns are appended. -/
def scales (b : Vec F S384x240 .i8) : FVec F S384x256 .f32 :=
  concatenate S384x256 1 [⟨S384x240, bitcastToFloat .f32 (shli (extui 32 b natLt_8_32) (broadcast S384x240 23#32))⟩,
    ⟨S384x16, broadcast S384x16 (Scalar.ofBits .f32 0x00000000#32)⟩] concatenates_S384x240_S384x16_S384x256_d1

/-- The low nibbles of the code words, moved to the places of an e4m3 byte's sign and magnitude. -/
def lowWords (c : Vec F S384x128 .i8) : IVec S96x128 32 :=
  ori (shli (andi (bitcast S96x128 32 c bitcasts_S384x128_w8_S96x128_w32) (broadcast S96x128 134744072#32)) (broadcast S96x128 4#32))
    (shli (andi (bitcast S96x128 32 c bitcasts_S384x128_w8_S96x128_w32) (broadcast S96x128 117901063#32)) (broadcast S96x128 2#32))

/-- The high nibbles of the code words, likewise. -/
def highWords (c : Vec F S384x128 .i8) : IVec S96x128 32 :=
  ori (andi (bitcast S96x128 32 c bitcasts_S384x128_w8_S96x128_w32) (broadcast S96x128 2155905152#32))
    (shrui (andi (bitcast S96x128 32 c bitcasts_S384x128_w8_S96x128_w32) (broadcast S96x128 1886417008#32)) (broadcast S96x128 2#32))

def lanes : IVec S384x128 32 := iota .tc S384x128 32 [1] iota_S384x128_d1_w32

/-- The lane number divided by sixteen, rounding down, as the division by a signed constant is spelled. -/
def lanesDiv : IVec S384x128 32 :=
  select (andi (cmpi .ne (subi (extui 32 (cmpi .sgt lanes (broadcast S384x128 0#32)) natLt_1_32) (extui 32 (cmpi .slt lanes (broadcast S384x128 0#32)) natLt_1_32))
      (broadcast S384x128 (Scalar.subi (Scalar.extui (Scalar.cmpi .sgt 16#32 0#32)) (Scalar.extui (Scalar.cmpi .slt 16#32 0#32)))))
      (cmpi .ne (remsi lanes (broadcast S384x128 16#32)) (broadcast S384x128 0#32)))
    (subi (divsi lanes (broadcast S384x128 16#32)) (broadcast S384x128 1#32))
    (divsi lanes (broadcast S384x128 16#32))

/-- The column of the scale slice a lane reads: the tile's first column plus the lane over sixteen. -/
def columns (base : BitVec 32) : IVec S384x128 32 :=
  select (cmpi .slt (addi (broadcast S384x128 base) lanesDiv) (broadcast S384x128 0#32))
    (addi (addi (broadcast S384x128 base) lanesDiv) (broadcast S384x128 128#32))
    (addi (broadcast S384x128 base) lanesDiv)

theorem slices_seg (j : Fin 30) : S384x256.Slices ![0, 128 * (j.val / 16)] S384x128 := by
  revert j; decide

/-- The scales of tile `j`, one to a lane, rounded to bf16. -/
def tileScales (s : FVec F S384x256 .f32) (j : Fin 30) : FVec F S384x128 .bf16 :=
  truncf .bf16 (dynamicGather 1 (extractStridedSlice S384x128 ![0, 128 * (j.val / 16)] s (slices_seg j))
    (shapeCast S384x128 (shapeCast S384x128x1 (columns (BitVec.ofNat 32 (8 * (j.val % 16)))) shapeCasts_S384x128_S384x128x1) shapeCasts_S384x128x1_S384x128)) bitsLt_bf16_f32

/-- The decoded weights of one set of code words. -/
def decode (w : IVec S96x128 32) (sc : FVec F S384x128 .bf16) : FVec F S384x128 .bf16 :=
  mulf (mulf (extf .bf16 (bitcastToFloat .fp8e4m3 (bitcast S384x128 8 w bitcasts_S96x128_w32_S384x128_w8)) bitsLt_fp8e4m3_bf16)
    (broadcast S384x128 (Scalar.ofBits .bf16 0x4280#16))) sc

/-- A tile of 384 rows as pairs of rows. -/
def pairs (v : FVec F S384x128 .bf16) : Vec F S192x2x128 .bf16 :=
  interleaveRows S192x2x128 (shapeCast S192x1x128 (rowsOfParity 0 S192x128 v bitcasts_S384x128_w16_S192x128_w32) shapeCasts_S192x128_S192x1x128)
    (shapeCast S192x1x128 (rowsOfParity 1 S192x128 v bitcasts_S384x128_w16_S192x128_w32) shapeCasts_S192x128_S192x1x128) bitcasts_S192x2x128_w16_S192x1x128_w32

/-- A slab of 256 tokens of the result, from the activation words, the decoded weights and the residual. -/
def product (a : Vec F S3840x256 .i32) (w : Vec F S192x2x7680 .bf16) (r : Vec F S384x256 .f32) : FVec F S256x384 .bf16 :=
  transpose S256x384 [1, 0] (truncf .bf16 (addf (matmul dot_S384x7680_S7680x256_S384x256_1_0_0_1_n_n none
    (interleaveRows S384x7680 (shapeCast S192x7680 (rowsOfParity 0 S192x1x7680 w bitcasts_S192x2x7680_w16_S192x1x7680_w32) shapeCasts_S192x1x7680_S192x7680)
      (shapeCast S192x7680 (rowsOfParity 1 S192x1x7680 w bitcasts_S192x2x7680_w16_S192x1x7680_w32) shapeCasts_S192x1x7680_S192x7680) bitcasts_S384x7680_w16_S192x7680_w32)
    (bitcastToFloat .bf16 (bitcast S7680x256 16 a bitcasts_S3840x256_w32_S7680x256_w16)) (constant S384x256 .f32 0x00000000#32)) r) bitsLt_bf16_f32) transposes_S384x256_p1_0_S256x384

/-- A slab of 128 tokens of the output scales. -/
def scaleSlab (v : Vec F S240x128 .i32) : IVec S128x240 8 :=
  trunci 8 (transpose S128x240 [1, 0] v transposes_S240x128_p1_0_S128x240) natLt_8_32

/-! ## The rectangles -/

theorem inb_gsc (k : Fin 14) : ∀ a, (![0, 128 * k.val] : Fin 2 → Nat) a + S240x128.size a ≤ S240x1792.size a := by
  revert k; decide
theorem inb_out7 (k : Fin 14) : ∀ a, (![128 * k.val, 0] : Fin 2 → Nat) a + S128x240.size a ≤ S1792x240.size a := by
  revert k; decide
theorem packed_out7 (k : Fin 14) : (Rect.unit (s := S1792x240) ![128 * k.val, 0] S128x240.size (inb_out7 k)).PackedRows (EltTy.packing .i8) := by
  revert k; decide
theorem inb_codes (j : Fin 30) : ∀ a, (![0, 128 * j.val] : Fin 2 → Nat) a + S384x128.size a ≤ S384x3840.size a := by
  revert j; decide
theorem inb_low (j : Fin 30) : ∀ a, (![0, 0, 256 * j.val] : Fin 3 → Nat) a + S192x2x128.size a ≤ S192x2x7680.size a := by
  revert j; decide
theorem inb_high (j : Fin 30) : ∀ a, (![0, 0, 256 * j.val + 128] : Fin 3 → Nat) a + S192x2x128.size a ≤ S192x2x7680.size a := by
  revert j; decide
theorem inb_act (t : Fin 7) : ∀ a, (![0, 256 * t.val] : Fin 2 → Nat) a + S3840x256.size a ≤ S3840x1792.size a := by
  revert t; decide
theorem inb_res (t : Fin 7) : ∀ a, (![0, 256 * t.val] : Fin 2 → Nat) a + S384x256.size a ≤ S384x1792.size a := by
  revert t; decide
theorem inb_out6 (t : Fin 7) : ∀ a, (![256 * t.val, 0] : Fin 2 → Nat) a + S256x384.size a ≤ S1792x384.size a := by
  revert t; decide
theorem packed_out6 (t : Fin 7) : (Rect.unit (s := S1792x384) ![256 * t.val, 0] S256x384.size (inb_out6 t)).PackedRows (EltTy.packing .bf16) := by
  revert t; decide

abbrev rGsc (k : Fin 14) : Rect S240x1792 := Rect.unit ![0, 128 * k.val] S240x128.size (inb_gsc k)
abbrev rOut7 (k : Fin 14) : Rect S1792x240 := Rect.unit ![128 * k.val, 0] S128x240.size (inb_out7 k)
abbrev rCodes (j : Fin 30) : Rect S384x3840 := Rect.unit ![0, 128 * j.val] S384x128.size (inb_codes j)
abbrev rLow (j : Fin 30) : Rect S192x2x7680 := Rect.unit ![0, 0, 256 * j.val] S192x2x128.size (inb_low j)
abbrev rHigh (j : Fin 30) : Rect S192x2x7680 := Rect.unit ![0, 0, 256 * j.val + 128] S192x2x128.size (inb_high j)
abbrev rAct (t : Fin 7) : Rect S3840x1792 := Rect.unit ![0, 256 * t.val] S3840x256.size (inb_act t)
abbrev rRes (t : Fin 7) : Rect S384x1792 := Rect.unit ![0, 256 * t.val] S384x256.size (inb_res t)
abbrev rOut6 (t : Fin 7) : Rect S1792x384 := Rect.unit ![256 * t.val, 0] S256x384.size (inb_out6 t)
abbrev rScales : Rect S384x240 := Rect.unit ![0, 0] S384x240.size inb_S384x240_S384x240_0_0
abbrev rWeights : Rect S192x2x7680 := Rect.unit ![0, 0, 0] S192x2x7680.size inb_S192x2x7680_S192x2x7680_0_0_0

/-! ## The loops -/

/-- A program of the core's effects with nothing to answer. -/
abbrev Code (F : FTy → Type) := Prog (TpuEff nD τ sig (Elt F) Λ₀ .tc) PUnit

section

variable (arg1 : Memref sig .tc .vmem S3840x1792 .i32) (arg2 : Memref sig .tc .vmem S240x1792 .i32)
  (arg3 : Memref sig .tc .vmem S384x1792 .f32) (arg4 : Memref sig .tc .vmem S384x3840 .i8)
  (arg5 : Memref sig .tc .vmem S384x240 .i8) (arg6 : Memref sig .tc .vmem S1792x384 .bf16) (harg6 : arg6.IsWhole)
  (arg7 : Memref sig .tc .vmem S1792x240 .i8) (harg7 : arg7.IsWhole)
  (arg8 : Memref sig .tc .vmem S192x2x7680 .bf16) (harg8 : arg8.IsWhole)

/-- One slab of output scales, then `p`. -/
def scaleStep {α : Type} (k : Fin 14) (p : Prog (TpuEff nD τ sig (Elt F) Λ₀ .tc) α) : Prog (TpuEff nD τ sig (Elt F) Λ₀ .tc) α :=
  .op (.load arg2 (rGsc k).toLoadRect (View.loadsAt_vmem h_S240x128)) fun v =>
  .op (.load arg7 (rOut7 k).toLoadRect (View.loadsAt_vmem h_S128x240)) fun _ =>
  .op (.store arg7 (rOut7 k) (scaleSlab v) Finset.univ (View.stores_vmem h_S128x240 (harg7.storeExact_slice rfl _ (packed_out7 k)) (fun _ => rfl)) (.inl rfl)) fun _ => p

/-- One decoded tile of 256 columns, then `p`. -/
def tileStep (s : FVec F S384x256 .f32) (j : Fin 30) (p : Code F) : Code F :=
  .op (.load arg4 (rCodes j).toLoadRect (View.loadsAt_vmem h_S384x128)) fun c =>
  .op (.load arg8 (rLow j).toLoadRect (View.loadsAt_vmem h_S192x2x128)) fun _ =>
  .op (.store arg8 (rLow j) (pairs (decode (lowWords c) (tileScales s j))) Finset.univ (View.stores_vmem h_S192x2x128 ((harg8.pairWhole rank2_S192x2x7680).storeExact_slice rfl _ (Rect.wholeRows_unit rank2_S192x2x7680 rfl rfl) pairs_S192x2x7680_bf16) (fun _ => rfl)) (.inl rfl)) fun _ =>
  .op (.load arg8 (rHigh j).toLoadRect (View.loadsAt_vmem h_S192x2x128)) fun _ =>
  .op (.store arg8 (rHigh j) (pairs (decode (highWords c) (tileScales s j))) Finset.univ (View.stores_vmem h_S192x2x128 ((harg8.pairWhole rank2_S192x2x7680).storeExact_slice rfl _ (Rect.wholeRows_unit rank2_S192x2x7680 rfl rfl) pairs_S192x2x7680_bf16) (fun _ => rfl)) (.inl rfl)) fun _ => p

/-- One slab of 256 tokens of the product, then `p`. -/
def productStep (t : Fin 7) (p : Code F) : Code F :=
  .op (.load arg1 (rAct t).toLoadRect (View.loadsAt_vmem h_S3840x256)) fun a =>
  .op (.load arg8 rWeights.toLoadRect (View.loadsAt_vmem h_S192x2x7680)) fun w =>
  .op (.load arg3 (rRes t).toLoadRect (View.loadsAt_vmem h_S384x256)) fun r =>
  .op (.load arg6 (rOut6 t).toLoadRect (View.loadsAt_vmem h_S256x384)) fun _ =>
  .op (.store arg6 (rOut6 t) (product a w r) Finset.univ (View.stores_vmem h_S256x384 (harg6.storeExact_slice rfl _ (packed_out6 t)) (fun _ => rfl)) (.inl rfl)) fun _ => p

abbrev slabs14 : List (Fin 14) := [0, 1, 2, 3, 4, 5, 6, 7, 8, 9, 10, 11, 12, 13]
abbrev tiles30 : List (Fin 30) := [0, 1, 2, 3, 4, 5, 6, 7, 8, 9, 10, 11, 12, 13, 14, 15, 16, 17, 18, 19, 20, 21, 22, 23, 24, 25, 26, 27, 28, 29]
abbrev slabs7 : List (Fin 7) := [0, 1, 2, 3, 4, 5, 6]

/-- What follows the copy of the output scales. -/
def rest : Code F :=
  .op (.load arg5 rScales.toLoadRect (View.loadsAt_vmem h_S384x240)) fun b =>
    tiles30.foldr (tileStep arg4 arg8 harg8 (scales b)) (slabs7.foldr (productStep arg1 arg3 arg6 harg6 arg8) (.ret ⟨⟩))

/-- The reads at the head of the first tile, and the first values computed from them. -/
def head : Prog (TpuEff nD τ sig (Elt F) Λ₀ .tc) (Σ' (v9 : FVec F S384x256 .f32) (v11 : FVec F S384x128 .f32) (v21 : IVec S96x128 32) (v28 : IVec S96x128 32) (v29 : IVec S384x128 32) (c16_i32 : BitVec 32) (v31 : IVec S384x128 32) (v38 : IVec S384x128 32), BitVec 32)  :=
  .op (.load arg5 rScales.toLoadRect (View.loadsAt_vmem h_S384x240)) fun v3 =>
  .op (.load arg4 (rCodes 0).toLoadRect (View.loadsAt_vmem h_S384x128)) fun v10 =>
  .ret ⟨k0_pay18 v3, k0_pay19 v3, k0_pay21 v10, k0_pay22 v10, iota .tc S384x128 32 [1] iota_S384x128_d1_w32, 16#32, k0_pay23, k0_pay24, 0#32⟩

end

theorem head_pos (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x2x7680 .bf16) (harg8 : arg8.IsWhole) (hc : k0_cond1 i = 1#1) :
    k0_part3 (F := F) i arg1 harg1 arg2 harg2 arg3 harg3 arg4 harg4 arg5 harg5 arg6 harg6 arg7 harg7 arg8 harg8 = slabs14.foldr (scaleStep arg2 arg7 harg7) (head arg4 arg5) := by
  unfold k0_part3
  rw [dif_pos hc]
  rfl

theorem head_neg (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x2x7680 .bf16) (harg8 : arg8.IsWhole) (hc : ¬ k0_cond1 i = 1#1) :
    k0_part3 (F := F) i arg1 harg1 arg2 harg2 arg3 harg3 arg4 harg4 arg5 harg5 arg6 harg6 arg7 harg7 arg8 harg8 = head arg4 arg5 := by
  unfold k0_part3
  rw [dif_neg hc]
  rfl

/-- At the first grid point the printed body is the four loops. -/
theorem body_pos (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x2x7680 .bf16) (harg8 : arg8.IsWhole) (hc : k0_cond1 i = 1#1) :
    cc0_down (F := F) i arg1 harg1 arg2 harg2 arg3 harg3 arg4 harg4 arg5 harg5 arg6 harg6 arg7 harg7 arg8 harg8
      = slabs14.foldr (scaleStep arg2 arg7 harg7) (rest arg1 arg3 arg4 arg5 arg6 harg6 arg8 harg8) := by
  unfold cc0_down k0_part61
  rw [head_pos (hc := hc)]
  rfl

/-- At the others it is the three last of them. -/
theorem body_neg (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x2x7680 .bf16) (harg8 : arg8.IsWhole) (hc : ¬ k0_cond1 i = 1#1) :
    cc0_down (F := F) i arg1 harg1 arg2 harg2 arg3 harg3 arg4 harg4 arg5 harg5 arg6 harg6 arg7 harg7 arg8 harg8
      = rest arg1 arg3 arg4 arg5 arg6 harg6 arg8 harg8 := by
  unfold cc0_down k0_part61
  rw [head_neg (hc := hc)]
  rfl

end Cert.KernelIdeal.Down
-- ==== Proof.Own.lean ====
/- A load and a store through an owned memory reference, told by what is read through it. -/
module

public import Idealize.ShloMosaic.Lib.Tactic
public import Idealize.ShloMosaic.Lib.Memref

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

variable {defs : Defs nD τ sig Val Λ} (𝒱 : Variants) (c : Thread nD τ) (E : Set ℕ)
  {α : Type} {s : Shape} {e : EltTy}

/-- A load reads the owned contents at the rectangle's places. -/
theorem load {cs : CoreSpace} (m : Memref sig c.2.kind cs s e) {r : LoadRect s} {hl : m.view.LoadsAt r}
    {k : (r.shape.Idx → Val e) → Prog (TpuEff nD τ sig Val Λ c.2) α} {q : PosShare TreeShare} {X : s.Idx → Val e} {Q : α → sProp 𝕄} {R : sProp 𝕄}
    (h : iprop(owns c m q X ∗ R) ⊢ wp frame (wpE defs 𝒱 c none) E (k fun x => X (r.idx x)) Q) :
    iprop(owns c m q X ∗ R) ⊢ wp frame (wpE defs 𝒱 c none) E (.op (.load m r hl) k) Q := by
  unfold owns at h ⊢
  iintro ⟨⟨%f, %hf, H⟩, HR⟩
  have hS : m.view.setOn r.set ⊆ m.view.set := View.setOn_subset_set _ _
  iapply (wp_load 𝒱 c none E (m := m) (r := r) (hl := hl) (k := k) (f := f) (q := q) hS) $$ H
  iintro H
  have hv : m.view.readAt Val r f = fun x => X (r.idx x) := by
    funext x; rw [View.readAt_apply, hf]
  rw [hv]
  iapply h
  isplitl [H]
  · iexists f; isplitr; · ipureintro; exact hf
    iexact H
  · iexact HR

/-- A store replaces the owned contents on the rectangle and keeps them elsewhere. -/
theorem store {cs : CoreSpace} (m : Memref sig c.2.kind cs s e) {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} {Q : α → sProp 𝕄} {R : sProp 𝕄}
    (h : ∀ Y : s.Idx → Val e, (∀ x, Y (r.emb x) = w x) → (∀ y, (∀ x, r.emb x ≠ y) → Y y = X y) →
      iprop(owns c m fullShare Y ∗ R) ⊢ wp frame (wpE defs 𝒱 c none) E (k ⟨⟩) Q) :
    iprop(owns c m fullShare X ∗ R) ⊢ wp frame (wpE defs 𝒱 c none) E (.op (.store m r w Finset.univ hx hm) k) Q := by
  unfold owns at h ⊢
  iintro ⟨⟨%f, %hf, H⟩, HR⟩
  have hS : (m.access r).setOn Finset.univ ⊆ m.view.set :=
    (View.setOn_subset_set _ _).trans (View.set_slice_subset _ _)
  iapply (wp_store 𝒱 c none E (m := m) (r := r) (w := w) (Mk := Finset.univ) (hx := hx) (hm := hm) (k := k) (f := f) hS) $$ H
  iintro H
  iapply (h (m.view.read Val ((m.view.slice r).write Val f w Finset.univ))
    (fun x => View.read_slice_write_emb r f w (Finset.mem_univ x))
    (fun y hy => by
      rw [View.read_slice_write_of_not_mem r f w Finset.univ, hf]
      intro hmem
      obtain ⟨x, -, hx⟩ := Finset.mem_map.mp hmem
      exact hy x hx))
  isplitl [H]
  · iexists _; isplitr
    · ipureintro; rfl
    · iexact H
  · iexact HR

/-- The second of three assertions brought to the front. -/
theorem swap {A B R : sProp 𝕄} : iprop(A ∗ B ∗ R) ⊢ iprop(B ∗ A ∗ R) := by
  iintro ⟨HA, HB, HR⟩
  isplitl [HB]; · iexact HB
  isplitl [HA]; · iexact HA
  iexact HR

end Cert.Own
-- ==== Proof.Triple.lean ====
/- What one run of the body at ideal values leaves in its buffers: each loop's invariant, by induction over
   the loop's list of tiles. -/
module

public import proofs.«01_k».proof.Proof.Body
public import proofs.«01_k».proof.Proof.Own

@[expose] public section

noncomputable section

namespace Cert.KernelIdeal.Down

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-! ## The rectangles' places -/

theorem rLow_emb (j : Fin 30) (x : S192x2x128.Idx) (a : Fin 3) :
    ((rLow j).emb x a : ℕ) = (![0, 0, 256 * j.val] : Fin 3 → ℕ) a + x a := by
  rw [Rect.emb_apply]; simp [Rect.unit]
theorem rHigh_emb (j : Fin 30) (x : S192x2x128.Idx) (a : Fin 3) :
    ((rHigh j).emb x a : ℕ) = (![0, 0, 256 * j.val + 128] : Fin 3 → ℕ) a + x a := by
  rw [Rect.emb_apply]; simp [Rect.unit]
theorem rOut6_emb (t : Fin 7) (x : S256x384.Idx) (a : Fin 2) :
    ((rOut6 t).emb x a : ℕ) = (![256 * t.val, 0] : Fin 2 → ℕ) a + x a := by
  rw [Rect.emb_apply]; simp [Rect.unit]
theorem rOut7_emb (k : Fin 14) (x : S128x240.Idx) (a : Fin 2) :
    ((rOut7 k).emb x a : ℕ) = (![128 * k.val, 0] : Fin 2 → ℕ) a + x a := by
  rw [Rect.emb_apply]; simp [Rect.unit]

theorem low_ne_low {j j' : Fin 30} (h : j ≠ j') (x y) : (rLow j).emb x ≠ (rLow j').emb y := by
  intro he
  have := congrArg (fun i : S192x2x7680.Idx => (i 2 : ℕ)) he
  simp only [rLow_emb] at this
  have hx : (x 2 : ℕ) < 128 := (x 2).isLt
  have hy : (y 2 : ℕ) < 128 := (y 2).isLt
  have : ¬ j.val = j'.val := fun e => h (Fin.ext e)
  simp at *
  omega
theorem high_ne_high {j j' : Fin 30} (h : j ≠ j') (x y) : (rHigh j).emb x ≠ (rHigh j').emb y := by
  intro he
  have := congrArg (fun i : S192x2x7680.Idx => (i 2 : ℕ)) he
  simp only [rHigh_emb] at this
  have hx : (x 2 : ℕ) < 128 := (x 2).isLt
  have hy : (y 2 : ℕ) < 128 := (y 2).isLt
  have : ¬ j.val = j'.val := fun e => h (Fin.ext e)
  simp at *
  omega
theorem low_ne_high (j j' : Fin 30) (x y) : (rLow j).emb x ≠ (rHigh j').emb y := by
  intro he
  have := congrArg (fun i : S192x2x7680.Idx => (i 2 : ℕ)) he
  simp only [rLow_emb, rHigh_emb] at this
  have hx : (x 2 : ℕ) < 128 := (x 2).isLt
  have hy : (y 2 : ℕ) < 128 := (y 2).isLt
  simp at *
  omega
theorem out6_ne {t t' : Fin 7} (h : t ≠ t') (x y) : (rOut6 t).emb x ≠ (rOut6 t').emb y := by
  intro he
  have := congrArg (fun i : S1792x384.Idx => (i 0 : ℕ)) he
  simp only [rOut6_emb] at this
  have hx : (x 0 : ℕ) < 256 := (x 0).isLt
  have hy : (y 0 : ℕ) < 256 := (y 0).isLt
  have : ¬ t.val = t'.val := fun e => h (Fin.ext e)
  simp at *
  omega
theorem out7_ne {t t' : Fin 14} (h : t ≠ t') (x y) : (rOut7 t).emb x ≠ (rOut7 t').emb y := by
  intro he
  have := congrArg (fun i : S1792x240.Idx => (i 0 : ℕ)) he
  simp only [rOut7_emb] at this
  have hx : (x 0 : ℕ) < 128 := (x 0).isLt
  have hy : (y 0 : ℕ) < 128 := (y 0).isLt
  have : ¬ t.val = t'.val := fun e => h (Fin.ext e)
  simp at *
  omega

/-! ## The invariants -/

/-- The tiles `D` of the decoded weights are in place. -/
def Decoded (X4 : S384x3840.Idx → Elt F .i8) (s : FVec F S384x256 .f32) (D : Finset (Fin 30)) (Y : S192x2x7680.Idx → Elt F .bf16) : Prop :=
  ∀ j ∈ D, (∀ x, Y ((rLow j).emb x) = pairs (decode (lowWords fun x => X4 ((rCodes j).idx x)) (tileScales s j)) x)
    ∧ (∀ x, Y ((rHigh j).emb x) = pairs (decode (highWords fun x => X4 ((rCodes j).idx x)) (tileScales s j)) x)

/-- The slabs `D` of the product are in place. -/
def Multiplied (X1 : S3840x1792.Idx → Elt F .i32) (X3 : S384x1792.Idx → Elt F .f32) (W : S192x2x7680.Idx → Elt F .bf16)
    (D : Finset (Fin 7)) (Y : S1792x384.Idx → Elt F .bf16) : Prop :=
  ∀ t ∈ D, ∀ x, Y ((rOut6 t).emb x) = product (fun x => X1 ((rAct t).idx x)) (fun x => W (rWeights.idx x)) (fun x => X3 ((rRes t).idx x)) x

/-- The slabs `D` of the output scales are in place. -/
def Copied (X2 : S240x1792.Idx → Elt F .i32) (D : Finset (Fin 14)) (Y : S1792x240.Idx → Elt F .i8) : Prop :=
  ∀ k ∈ D, ∀ x, Y ((rOut7 k).emb x) = scaleSlab (F := F) (fun x => X2 ((rGsc k).idx x)) x

section

variable (c : Dev nD) (arg1 : Memref sig .tc .vmem S3840x1792 .i32) (arg2 : Memref sig .tc .vmem S240x1792 .i32)
  (arg3 : Memref sig .tc .vmem S384x1792 .f32) (arg4 : Memref sig .tc .vmem S384x3840 .i8)
  (arg5 : Memref sig .tc .vmem S384x240 .i8) (arg6 : Memref sig .tc .vmem S1792x384 .bf16) (harg6 : arg6.IsWhole)
  (arg7 : Memref sig .tc .vmem S1792x240 .i8) (harg7 : arg7.IsWhole)
  (arg8 : Memref sig .tc .vmem S192x2x7680 .bf16) (harg8 : arg8.IsWhole)

/-- One tile: the weights of `D` in place before, of `j` and `D` after. -/
theorem tile_step (E : Set ℕ) (s : FVec F S384x256 .f32) (j : Fin 30) (D : Finset (Fin 30)) (X4 : S384x3840.Idx → Elt F .i8)
    (X8 : S192x2x7680.Idx → Elt F .bf16) (hX : Decoded X4 s D X8) (p : Code F) (Q : PUnit → sProp 𝕄) (R : sProp 𝕄)
    (h : ∀ Y, Decoded X4 s (insert j D) Y →
      iprop(owns (c : Thread nD τ) arg4 fullShare X4 ∗ owns (c : Thread nD τ) arg8 fullShare Y ∗ R)
        ⊢ wp frame (wpE (defs₀ (F := F)) 𝒱₀ c none) E p Q) :
    iprop(owns (c : Thread nD τ) arg4 fullShare X4 ∗ owns (c : Thread nD τ) arg8 fullShare X8 ∗ R)
      ⊢ wp frame (wpE (defs₀ (F := F)) 𝒱₀ c none) E (tileStep arg4 arg8 harg8 s j p) Q := by
  unfold tileStep
  refine Own.load 𝒱₀ (c : Thread nD τ) E arg4 ?_
  refine Own.swap.trans ?_
  refine Own.load 𝒱₀ (c : Thread nD τ) E arg8 ?_
  refine Own.store 𝒱₀ (c : Thread nD τ) E arg8 fun Y hY hY' => ?_
  refine Own.load 𝒱₀ (c : Thread nD τ) E arg8 ?_
  refine Own.store 𝒱₀ (c : Thread nD τ) E arg8 fun Z hZ hZ' => ?_
  refine Own.swap.trans (h Z fun j' hj' => ?_)
  by_cases hjj : j' = j
  · subst hjj
    exact ⟨fun x => (hZ' _ fun y => (low_ne_high j' j' x y).symm).trans (hY x), hZ⟩
  · have hD := hX j' (Finset.mem_of_mem_insert_of_ne hj' hjj)
    exact ⟨fun x => (hZ' _ fun y => (low_ne_high j' j x y).symm).trans ((hY' _ fun y => (low_ne_low hjj x y).symm).trans (hD.1 x)),
      fun x => (hZ' _ fun y => (high_ne_high hjj x y).symm).trans ((hY' _ fun y => low_ne_high j j' y x).trans (hD.2 x))⟩

/-- A list of tiles. -/
theorem tiles_run (E : Set ℕ) (s : FVec F S384x256 .f32) (l : List (Fin 30)) (D : Finset (Fin 30)) (X4 : S384x3840.Idx → Elt F .i8)
    (X8 : S192x2x7680.Idx → Elt F .bf16) (hX : Decoded X4 s D X8) (p : Code F) (Q : PUnit → sProp 𝕄) (R : sProp 𝕄)
    (h : ∀ Y, Decoded X4 s (l.toFinset ∪ D) Y →
      iprop(owns (c : Thread nD τ) arg4 fullShare X4 ∗ owns (c : Thread nD τ) arg8 fullShare Y ∗ R)
        ⊢ wp frame (wpE (defs₀ (F := F)) 𝒱₀ c none) E p Q) :
    iprop(owns (c : Thread nD τ) arg4 fullShare X4 ∗ owns (c : Thread nD τ) arg8 fullShare X8 ∗ R)
      ⊢ wp frame (wpE (defs₀ (F := F)) 𝒱₀ c none) E (l.foldr (tileStep arg4 arg8 harg8 s) p) Q := by
  induction l generalizing D X8 with
  | nil => exact h X8 (by simpa using hX)
  | cons j l ih =>
    refine tile_step c arg4 arg8 harg8 E s j D X4 X8 hX _ Q R fun Y hY => ?_
    exact ih (insert j D) Y hY fun Z hZ => h Z (by simpa [Finset.union_insert] using hZ)

/-- One slab of the product. -/
theorem product_step (E : Set ℕ) (t : Fin 7) (D : Finset (Fin 7)) (X1 : S3840x1792.Idx → Elt F .i32) (X3 : S384x1792.Idx → Elt F .f32)
    (W : S192x2x7680.Idx → Elt F .bf16) (X6 : S1792x384.Idx → Elt F .bf16) (hX : Multiplied X1 X3 W D X6) (p : Code F) (Q : PUnit → sProp 𝕄) (R : sProp 𝕄)
    (h : ∀ Y, Multiplied X1 X3 W (insert t D) Y →
      iprop(owns (c : Thread nD τ) arg1 fullShare X1 ∗ owns (c : Thread nD τ) arg3 fullShare X3
          ∗ owns (c : Thread nD τ) arg8 fullShare W ∗ owns (c : Thread nD τ) arg6 fullShare Y ∗ R)
        ⊢ wp frame (wpE (defs₀ (F := F)) 𝒱₀ c none) E p Q) :
    iprop(owns (c : Thread nD τ) arg1 fullShare X1 ∗ owns (c : Thread nD τ) arg3 fullShare X3
          ∗ owns (c : Thread nD τ) arg8 fullShare W ∗ owns (c : Thread nD τ) arg6 fullShare X6 ∗ R)
      ⊢ wp frame (wpE (defs₀ (F := F)) 𝒱₀ c none) E (productStep arg1 arg3 arg6 harg6 arg8 t p) Q := by
  unfold productStep
  refine Own.load 𝒱₀ (c : Thread nD τ) E arg1 ?_
  refine (show _ ⊢ iprop(owns (c : Thread nD τ) arg8 fullShare W ∗ owns (c : Thread nD τ) arg6 fullShare X6
      ∗ owns (c : Thread nD τ) arg1 fullShare X1 ∗ owns (c : Thread nD τ) arg3 fullShare X3 ∗ R) from by
    iintro ⟨H1, H3, H8, H6, HR⟩
    isplitl [H8]; · iexact H8
    isplitl [H6]; · iexact H6
    isplitl [H1]; · iexact H1
    isplitl [H3]; · iexact H3
    iexact HR).trans ?_
  refine Own.load 𝒱₀ (c : Thread nD τ) E arg8 ?_
  refine (show _ ⊢ iprop(owns (c : Thread nD τ) arg3 fullShare X3 ∗ owns (c : Thread nD τ) arg6 fullShare X6
      ∗ owns (c : Thread nD τ) arg1 fullShare X1 ∗ owns (c : Thread nD τ) arg8 fullShare W ∗ R) from by
    iintro ⟨H8, H6, H1, H3, HR⟩
    isplitl [H3]; · iexact H3
    isplitl [H6]; · iexact H6
    isplitl [H1]; · iexact H1
    isplitl [H8]; · iexact H8
    iexact HR).trans ?_
  refine Own.load 𝒱₀ (c : Thread nD τ) E arg3 ?_
  refine Own.swap.trans ?_
  refine Own.load 𝒱₀ (c : Thread nD τ) E arg6 ?_
  refine Own.store 𝒱₀ (c : Thread nD τ) E arg6 fun Y hY hY' => ?_
  refine (show _ ⊢ iprop(owns (c : Thread nD τ) arg1 fullShare X1 ∗ owns (c : Thread nD τ) arg3 fullShare X3
      ∗ owns (c : Thread nD τ) arg8 fullShare W ∗ owns (c : Thread nD τ) arg6 fullShare Y ∗ R) from by
    iintro ⟨H6, H3, H1, H8, HR⟩
    isplitl [H1]; · iexact H1
    isplitl [H3]; · iexact H3
    isplitl [H8]; · iexact H8
    isplitl [H6]; · iexact H6
    iexact HR).trans (h Y fun t' ht' x => ?_)
  by_cases htt : t' = t
  · subst htt; exact hY x
  · exact (hY' _ fun y => (out6_ne htt x y).symm).trans (hX t' (Finset.mem_of_mem_insert_of_ne ht' htt) x)

/-- A list of slabs of the product. -/
theorem products_run (E : Set ℕ) (l : List (Fin 7)) (D : Finset (Fin 7)) (X1 : S3840x1792.Idx → Elt F .i32) (X3 : S384x1792.Idx → Elt F .f32)
    (W : S192x2x7680.Idx → Elt F .bf16) (X6 : S1792x384.Idx → Elt F .bf16) (hX : Multiplied X1 X3 W D X6) (p : Code F) (Q : PUnit → sProp 𝕄) (R : sProp 𝕄)
    (h : ∀ Y, Multiplied X1 X3 W (l.toFinset ∪ D) Y →
      iprop(owns (c : Thread nD τ) arg1 fullShare X1 ∗ owns (c : Thread nD τ) arg3 fullShare X3
          ∗ owns (c : Thread nD τ) arg8 fullShare W ∗ owns (c : Thread nD τ) arg6 fullShare Y ∗ R)
        ⊢ wp frame (wpE (defs₀ (F := F)) 𝒱₀ c none) E p Q) :
    iprop(owns (c : Thread nD τ) arg1 fullShare X1 ∗ owns (c : Thread nD τ) arg3 fullShare X3
          ∗ owns (c : Thread nD τ) arg8 fullShare W ∗ owns (c : Thread nD τ) arg6 fullShare X6 ∗ R)
      ⊢ wp frame (wpE (defs₀ (F := F)) 𝒱₀ c none) E (l.foldr (productStep arg1 arg3 arg6 harg6 arg8) p) Q := by
  induction l generalizing D X6 with
  | nil => exact h X6 (by simpa using hX)
  | cons t l ih =>
    refine product_step c arg1 arg3 arg6 harg6 arg8 E t D X1 X3 W X6 hX _ Q R fun Y hY => ?_
    exact ih (insert t D) Y hY fun Z hZ => h Z (by simpa [Finset.union_insert] using hZ)

/-- A list of slabs of the output scales. -/
theorem copies_run (E : Set ℕ) (l : List (Fin 14)) (D : Finset (Fin 14)) (X2 : S240x1792.Idx → Elt F .i32)
    (X7 : S1792x240.Idx → Elt F .i8) (hX : Copied X2 D X7) (p : Code F) (Q : PUnit → sProp 𝕄) (R : sProp 𝕄)
    (h : ∀ Y, Copied X2 (l.toFinset ∪ D) Y →
      iprop(owns (c : Thread nD τ) arg2 fullShare X2 ∗ owns (c : Thread nD τ) arg7 fullShare Y ∗ R)
        ⊢ wp frame (wpE (defs₀ (F := F)) 𝒱₀ c none) E p Q) :
    iprop(owns (c : Thread nD τ) arg2 fullShare X2 ∗ owns (c : Thread nD τ) arg7 fullShare X7 ∗ R)
      ⊢ wp frame (wpE (defs₀ (F := F)) 𝒱₀ c none) E (l.foldr (scaleStep arg2 arg7 harg7) p) Q := by
  induction l generalizing D X7 with
  | nil => exact h X7 (by simpa using hX)
  | cons k l ih =>
    show _ ⊢ wp frame (wpE (defs₀ (F := F)) 𝒱₀ c none) E (scaleStep arg2 arg7 harg7 k _) Q
    unfold scaleStep
    refine Own.load 𝒱₀ (c : Thread nD τ) E arg2 ?_
    refine Own.swap.trans ?_
    refine Own.load 𝒱₀ (c : Thread nD τ) E arg7 ?_
    refine Own.store 𝒱₀ (c : Thread nD τ) E arg7 fun Y hY hY' => ?_
    refine Own.swap.trans (ih (insert k D) Y (fun k' hk' x => ?_) fun Z hZ => h Z (by simpa [Finset.union_insert] using hZ))
    by_cases hkk : k' = k
    · subst hkk; exact hY x
    · exact (hY' _ fun y => (out7_ne hkk x y).symm).trans (hX k' (Finset.mem_of_mem_insert_of_ne hk' hkk) x)

/-- What follows the copy of the output scales leaves the product of the decoded weights in the result's buffer. -/
theorem rest_run (E : Set ℕ) (X1 : S3840x1792.Idx → Elt F .i32) (X3 : S384x1792.Idx → Elt F .f32)
    (X4 : S384x3840.Idx → Elt F .i8) (X5 : S384x240.Idx → Elt F .i8) (X6 : S1792x384.Idx → Elt F .bf16)
    (X8 : S192x2x7680.Idx → Elt F .bf16) (Q : PUnit → sProp 𝕄) (R : sProp 𝕄)
    (h : ∀ W Y, Decoded X4 (scales fun x => X5 (rScales.idx x)) Finset.univ W → Multiplied X1 X3 W Finset.univ Y →
      iprop(owns (c : Thread nD τ) arg1 fullShare X1 ∗ owns (c : Thread nD τ) arg3 fullShare X3
        ∗ owns (c : Thread nD τ) arg8 fullShare W ∗ owns (c : Thread nD τ) arg6 fullShare Y
        ∗ owns (c : Thread nD τ) arg4 fullShare X4 ∗ owns (c : Thread nD τ) arg5 fullShare X5 ∗ R) ⊢ Q ⟨⟩) :
    iprop(owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5 ∗ R)
      ⊢ wp frame (wpE (defs₀ (F := F)) 𝒱₀ c none) E (rest arg1 arg3 arg4 arg5 arg6 harg6 arg8 harg8) Q := by
  unfold rest
  refine (show _ ⊢ iprop(owns (c : Thread nD τ) arg5 fullShare X5 ∗ owns (c : Thread nD τ) arg4 fullShare X4
      ∗ owns (c : Thread nD τ) arg8 fullShare X8 ∗ owns (c : Thread nD τ) arg1 fullShare X1
      ∗ owns (c : Thread nD τ) arg3 fullShare X3 ∗ owns (c : Thread nD τ) arg6 fullShare X6 ∗ R) from by
    iintro ⟨H1, H3, H8, H6, H4, H5, HR⟩
    isplitl [H5]; · iexact H5
    isplitl [H4]; · iexact H4
    isplitl [H8]; · iexact H8
    isplitl [H1]; · iexact H1
    isplitl [H3]; · iexact H3
    isplitl [H6]; · iexact H6
    iexact HR).trans ?_
  refine Own.load 𝒱₀ (c : Thread nD τ) E arg5 ?_
  refine (show _ ⊢ iprop(owns (c : Thread nD τ) arg4 fullShare X4
      ∗ owns (c : Thread nD τ) arg8 fullShare X8 ∗ owns (c : Thread nD τ) arg5 fullShare X5 ∗ owns (c : Thread nD τ) arg1 fullShare X1
      ∗ owns (c : Thread nD τ) arg3 fullShare X3 ∗ owns (c : Thread nD τ) arg6 fullShare X6 ∗ R) from by
    iintro ⟨H5, H4, H8, H1, H3, H6, HR⟩
    isplitl [H4]; · iexact H4
    isplitl [H8]; · iexact H8
    isplitl [H5]; · iexact H5
    isplitl [H1]; · iexact H1
    isplitl [H3]; · iexact H3
    isplitl [H6]; · iexact H6
    iexact HR).trans ?_
  refine tiles_run c arg4 arg8 harg8 E _ tiles30 ∅ X4 X8 (fun _ hj => absurd hj (Finset.notMem_empty _)) _ Q _ fun W hW => ?_
  refine (show _ ⊢ iprop(owns (c : Thread nD τ) arg1 fullShare X1
      ∗ owns (c : Thread nD τ) arg3 fullShare X3 ∗ owns (c : Thread nD τ) arg8 fullShare W ∗ owns (c : Thread nD τ) arg6 fullShare X6
      ∗ owns (c : Thread nD τ) arg4 fullShare X4 ∗ owns (c : Thread nD τ) arg5 fullShare X5 ∗ R) from by
    iintro ⟨H4, H8, H5, H1, H3, H6, HR⟩
    isplitl [H1]; · iexact H1
    isplitl [H3]; · iexact H3
    isplitl [H8]; · iexact H8
    isplitl [H6]; · iexact H6
    isplitl [H4]; · iexact H4
    isplitl [H5]; · iexact H5
    iexact HR).trans ?_
  refine products_run c arg1 arg3 arg6 harg6 arg8 E slabs7 ∅ X1 X3 W X6 (fun _ hj => absurd hj (Finset.notMem_empty _)) _ Q _ fun Y hY => ?_
  rw [show tiles30.toFinset ∪ ∅ = (Finset.univ : Finset (Fin 30)) by decide] at hW
  rw [show slabs7.toFinset ∪ ∅ = (Finset.univ : Finset (Fin 7)) by decide] at hY
  exact (h W Y hW hY).trans (le_wp_ret _ _ _ _ _)

end

end Cert.KernelIdeal.Down
-- ==== Proof.Run.lean ====
/- The whole body at one grid point, the contents each window's buffer may hold there, and the run of the
   program from them: at every grid point the result's buffer ends at the product of the weights decoded from
   the blocks read there. -/
module

public import proofs.«01_k».proof.Proof.Triple
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody

@[expose] public section

noncomputable section

namespace Cert.KernelIdeal.Down

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA scopedRest)

variable {F : FTy → Type} [FloatOps F]

local notation "𝕄" => MT nD τ sig Unit (Elt F) ℕ (UR sig nD τ) ℕ

/-- What the body leaves in the result's buffer, from what it finds in its inputs': the product of the decoded
    weights, every slab of it. -/
def Result (X1 : S3840x1792.Idx → Elt F .i32) (X3 : S384x1792.Idx → Elt F .f32) (X4 : S384x3840.Idx → Elt F .i8)
    (X5 : S384x240.Idx → Elt F .i8) (Y : S1792x384.Idx → Elt F .bf16) : Prop :=
  ∃ W, Decoded X4 (scales fun x => X5 (rScales.idx x)) Finset.univ W ∧ Multiplied X1 X3 W Finset.univ Y

/-- What the body leaves in the output scales' buffer: at the first point the copy, at the others what it found. -/
def Scales (i : grid0.Coords) (X2 : S240x1792.Idx → Elt F .i32) (Y X : S1792x240.Idx → Elt F .i8) : Prop :=
  (k0_cond1 i = 1#1 → Copied (F := F) X2 Finset.univ X) ∧ (¬ k0_cond1 i = 1#1 → X = Y)

section

variable (c : Dev nD)

/-- The whole body at one grid point. -/
theorem body_run (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x2x7680 .bf16) (harg8 : arg8.IsWhole)
    (E : Set ℕ) (X1 : S3840x1792.Idx → Elt F .i32) (X2 : S240x1792.Idx → Elt F .i32) (X3 : S384x1792.Idx → Elt F .f32)
    (X4 : S384x3840.Idx → Elt F .i8) (X5 : S384x240.Idx → Elt F .i8) (X6 : S1792x384.Idx → Elt F .bf16)
    (X7 : S1792x240.Idx → Elt F .i8) (X8 : S192x2x7680.Idx → Elt F .bf16) (Q : PUnit → sProp 𝕄) (R : sProp 𝕄)
    (h : ∀ Y Z W, Result X1 X3 X4 X5 Y → Scales i X2 X7 Z →
      iprop(owns (c : Thread nD τ) arg1 fullShare X1 ∗ owns (c : Thread nD τ) arg3 fullShare X3
        ∗ owns (c : Thread nD τ) arg8 fullShare W ∗ owns (c : Thread nD τ) arg6 fullShare Y
        ∗ owns (c : Thread nD τ) arg4 fullShare X4 ∗ owns (c : Thread nD τ) arg5 fullShare X5
        ∗ owns (c : Thread nD τ) arg2 fullShare X2 ∗ owns (c : Thread nD τ) arg7 fullShare Z ∗ R) ⊢ Q ⟨⟩) :
    iprop(owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5
        ∗ owns (c : Thread nD τ) arg2 fullShare X2 ∗ owns (c : Thread nD τ) arg7 fullShare X7 ∗ R)
      ⊢ wp frame (wpE (defs₀ (F := F)) 𝒱₀ c none) E
          (cc0_down (F := F) i arg1 harg1 arg2 harg2 arg3 harg3 arg4 harg4 arg5 harg5 arg6 harg6 arg7 harg7 arg8 harg8) Q := by
  by_cases hc : k0_cond1 i = 1#1
  · rw [body_pos (hc := hc)]
    refine (show _ ⊢ iprop(owns (c : Thread nD τ) arg2 fullShare X2 ∗ owns (c : Thread nD τ) arg7 fullShare X7
        ∗ owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5 ∗ R) from by
      iintro ⟨H1, H3, H8, H6, H4, H5, H2, H7, HR⟩
      isplitl [H2]; · iexact H2
      isplitl [H7]; · iexact H7
      isplitl [H1]; · iexact H1
      isplitl [H3]; · iexact H3
      isplitl [H8]; · iexact H8
      isplitl [H6]; · iexact H6
      isplitl [H4]; · iexact H4
      isplitl [H5]; · iexact H5
      iexact HR).trans ?_
    refine copies_run c arg2 arg7 harg7 E slabs14 ∅ X2 X7 (fun _ hj => absurd hj (Finset.notMem_empty _)) _ Q _ fun Z hZ => ?_
    rw [show slabs14.toFinset ∪ ∅ = (Finset.univ : Finset (Fin 14)) by decide] at hZ
    refine (show _ ⊢ iprop(owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5
        ∗ owns (c : Thread nD τ) arg2 fullShare X2 ∗ owns (c : Thread nD τ) arg7 fullShare Z ∗ R) from by
      iintro ⟨H2, H7, H1, H3, H8, H6, H4, H5, HR⟩
      isplitl [H1]; · iexact H1
      isplitl [H3]; · iexact H3
      isplitl [H8]; · iexact H8
      isplitl [H6]; · iexact H6
      isplitl [H4]; · iexact H4
      isplitl [H5]; · iexact H5
      isplitl [H2]; · iexact H2
      isplitl [H7]; · iexact H7
      iexact HR).trans ?_
    exact rest_run c arg1 arg3 arg4 arg5 arg6 harg6 arg8 harg8 E X1 X3 X4 X5 X6 X8 Q _ fun W Y hW hY =>
      h Y Z W ⟨W, hW, hY⟩ ⟨fun _ => hZ, fun hn => absurd hc hn⟩
  · rw [body_neg (hc := hc)]
    exact rest_run c arg1 arg3 arg4 arg5 arg6 harg6 arg8 harg8 E X1 X3 X4 X5 X6 X8 Q _ fun W Y hW hY =>
      h Y X7 W ⟨W, hW, hY⟩ ⟨fun hp => absurd hp hc, fun _ => rfl⟩

end

/-! ## The contents of the windows' buffers -/

section

variable (m : (ℓ : Loc nD τ sig) → Buf (Elt F) ℓ)

/-- What window `w`'s buffer holds once the block of point `t` has been fetched into it, if it held `d`. -/
def fetchedAt (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (V m c (Pipeline.arrRef spec0 w)))

/-- What the body may leave in window `w`'s buffer at point `t`, if it found `Y` there. -/
def after (c : Dev nD) (w : Fin cfg0.W) (t : Fin cfg0.N) (Y X : (cfg0.win w).block.Idx → Elt F (cfg0.win w).elt) : Prop :=
  match w, Y, X with
  | 0, Y, X => X = Y
  | 1, Y, X => X = Y
  | 2, Y, X => X = Y
  | 3, Y, X => X = Y
  | 4, Y, X => X = Y
  | 5, _, X => ∃ d0 d2 d3 d4, Result (F := F) (fetchedAt m c 0 t d0) (fetchedAt m c 2 t d2) (fetchedAt m c 3 t d3) (fetchedAt m c 4 t d4) X
  | 6, Y, X => ∃ d1, Scales (F := F) (grid0.coords t) (fetchedAt m c 1 t d1) Y X

def rdat (c : Dev nD) : RDat τ (Elt F) Unit ℕ (UR sig nD τ) ℕ cfg0 c where
  A w := V m c (Pipeline.arrRef spec0 w)
  after := after m c
  Φ _ := ΦA (Val := Elt F) (U := UR sig nD τ) spec0 c
  q _ := fullShare
  owed _ := 0

theorem finds_in (c : Dev nD) (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, after m c w t Y X → X = Y) (t : Fin cfg0.N) (Y) (h : (rdat m c).Finds w t Y) : ∃ d, Y = fetchedAt m c w t d :=
  (rdat m c).finds_in_eq_fetched w hw hclip hkeep t Y h

theorem defs₀_row (t : Fin cfg0.N) : defs₀ (F := F) .tc cfg0.body (cfg0.bodyArgs t (cfg0.slots t)) = bodyAt0 t := by
  unfold defs₀; rw [Defs.onTc_tc]

theorem finds_0 (c : Dev nD) (t : Fin cfg0.N) (Y) (h : (rdat m c).Finds 0 t Y) : ∃ d, Y = fetchedAt m c 0 t d :=
  finds_in m c 0 rfl (fun _ _ _ => rfl) (fun _ _ _ h => h) t Y h
theorem finds_1 (c : Dev nD) (t : Fin cfg0.N) (Y) (h : (rdat m c).Finds 1 t Y) : ∃ d, Y = fetchedAt m c 1 t d :=
  finds_in m c 1 rfl (fun _ _ _ => rfl) (fun _ _ _ h => h) t Y h
theorem finds_2 (c : Dev nD) (t : Fin cfg0.N) (Y) (h : (rdat m c).Finds 2 t Y) : ∃ d, Y = fetchedAt m c 2 t d :=
  ((rdat m c).finds_of_fetch (fetch0_2 t) Y).mp h
theorem finds_3 (c : Dev nD) (t : Fin cfg0.N) (Y) (h : (rdat m c).Finds 3 t Y) : ∃ d, Y = fetchedAt m c 3 t d :=
  ((rdat m c).finds_of_fetch (fetch0_3 t) Y).mp h
theorem finds_4 (c : Dev nD) (t : Fin cfg0.N) (Y) (h : (rdat m c).Finds 4 t Y) : ∃ d, Y = fetchedAt m c 4 t d :=
  ((rdat m c).finds_of_fetch (fetch0_4 t) Y).mp h

/-- The body meets its obligation at every grid point. -/
theorem body_obligation (c : Dev nD) : (rdat m c).BodyObligation (defs₀ (F := F)) 𝒱₀ () Set.univ := fun t Y hY => by
  rw [bigSep_W0, bigSep_W0, defs₀_row]
  obtain ⟨d0, h0⟩ := finds_0 m c t _ (hY 0)
  obtain ⟨d1, h1⟩ := finds_1 m c t _ (hY 1)
  obtain ⟨d2, h2⟩ := finds_2 m c t _ (hY 2)
  obtain ⟨d3, h3⟩ := finds_3 m c t _ (hY 3)
  obtain ⟨d4, h4⟩ := finds_4 m c t _ (hY 4)
  rw [show (rdat m c).Φ t.castSucc = ΦA (Val := Elt F) (U := UR sig nD τ) spec0 c from rfl,
    show (rdat m c).Φ t.succ = ΦA (Val := Elt F) (U := UR sig nD τ) spec0 c from rfl,
    show (rdat m c).owesAt () t.succ = (rdat m c).owesAt () t.castSucc from rfl]
  unfold ΦA
  rw [scopedRest0_eq]
  iintro ⟨⟨⟨%X8, H8⟩, HP⟩, Ho, H0, H1, H2, H3, H4, H5, H6⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
    Set.univ (Y 0) (Y 1) (Y 2) (Y 3) (Y 4) (Y 5) (Y 6) X8 _
    iprop((rdat m c).owesAt () t.castSucc ∗ ∃ r, prngReg c r) ?_)
  · intro Z Z7 W hZ hZ7
    rw [owns_whole]
    iintro ⟨H0, H2, H8, H5, H3, H4, H1, H6, Ho, HP⟩
    isplitl [H8 HP]
    · isplitl [H8]
      · iexists W; iexact H8
      · iexact HP
    isplitl [Ho]; · iexact Ho
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    isplitl [H3]
    · iexists Y 3; isplitr; · ipureintro; exact rfl
      iexact H3
    isplitl [H4]
    · iexists Y 4; isplitr; · ipureintro; exact rfl
      iexact H4
    isplitl [H5]
    · iexists Z
      isplitr
      · ipureintro
        exact ⟨d0, d2, d3, d4, by rw [← h0, ← h2, ← h3, ← h4]; exact hZ⟩
      iexact H5
    · iexists Z7
      isplitr
      · ipureintro
        exact ⟨d1, by rw [← h1]; exact hZ7⟩
      iexact H6
  · rw [owns_whole]
    isplitl [H0]; · iexact H0
    isplitl [H2]; · iexact H2
    isplitl [H8]; · iexact H8
    isplitl [H5]; · iexact H5
    isplitl [H3]; · iexact H3
    isplitl [H4]; · iexact H4
    isplitl [H1]; · iexact H1
    isplitl [H6]; · iexact H6
    isplitl [Ho]; · iexact Ho
    iexact HP

set_option backward.isDefEq.respectTransparency.types false in
/-- The program runs, and its arrays end as the windows' relations allow. -/
theorem run (g : Dev nD → PrngReg) (Q' : PUnit × MemSt nD τ sig (Elt F) → Prop)
    (hQ' : ∀ r, RDat.FramePost cfg0 (rdat m) (V m) r ∧ r.2.sem = (fun _ => 0) → Q' r) :
    θ_run (defs (F := F)) (onTc (τ := τ) (main (F := F))) ⟨m, fun _ => 0, g⟩ Q' :=
  RDat.θ_run_frame cfgs 0 launch0 defs₀ 𝒱₀ (rdat m) m g main (body_obligation m)
    (fun c w => by unfold RDat.share; split <;> rfl) (fun _ _ => rfl) (V m) (hmain m 𝒱₀) (fun _ _ => rfl) (fun _ _ => rfl) Q' hQ'

end

end Cert.KernelIdeal.Down
-- ==== Proof.Words.Body.lean ====
/- The body of the kernel over the machine's words, told as four short loops.

   The printed body is one long straight line: fourteen copies of a slab of scales, thirty decoded weight
   tiles, seven slabs of the product. Here each loop is a list of one tile, written once. -/
module

public import proofs.«01_k».proof.Proof.Gen.Kernel.Frame
public import proofs.«01_k».proof.Proof.Gen.Kernel.Skeleton

@[expose] public section

noncomputable section

namespace Cert.Kernel.Down

open Idealize.ShloMosaic Idealize.SL Idealize.SL.Sem
open Cert.Kernel Cert.Kernel.Gen

variable {F : FTy → Type} [BitOps F]

/-! ## The values of a tile -/

/-- The weight scales of a block of rows: each scale byte becomes the exponent of an f32, and sixteen
    zero columns are appended. -/
def scales (b : Vec F S384x240 .i8) : FVec F S384x256 .f32 :=
  concatenate S384x256 1 [⟨S384x240, bitcastToFloat .f32 (shli (extui 32 b natLt_8_32) (broadcast S384x240 23#32))⟩,
    ⟨S384x16, broadcast S384x16 (Scalar.ofBits .f32 0x00000000#32)⟩] concatenates_S384x240_S384x16_S384x256_d1

/-- The low nibbles of the code words, moved to the places of an e4m3 byte's sign and magnitude. -/
def lowWords (c : Vec F S384x128 .i8) : IVec S96x128 32 :=
  ori (shli (andi (bitcast S96x128 32 c bitcasts_S384x128_w8_S96x128_w32) (broadcast S96x128 134744072#32)) (broadcast S96x128 4#32))
    (shli (andi (bitcast S96x128 32 c bitcasts_S384x128_w8_S96x128_w32) (broadcast S96x128 117901063#32)) (broadcast S96x128 2#32))

/-- The high nibbles of the code words, likewise. -/
def highWords (c : Vec F S384x128 .i8) : IVec S96x128 32 :=
  ori (andi (bitcast S96x128 32 c bitcasts_S384x128_w8_S96x128_w32) (broadcast S96x128 2155905152#32))
    (shrui (andi (bitcast S96x128 32 c bitcasts_S384x128_w8_S96x128_w32) (broadcast S96x128 1886417008#32)) (broadcast S96x128 2#32))

def lanes : IVec S384x128 32 := iota .tc S384x128 32 [1] iota_S384x128_d1_w32

/-- The lane number divided by sixteen, rounding down, as the division by a signed constant is spelled. -/
def lanesDiv : IVec S384x128 32 :=
  select (andi (cmpi .ne (subi (extui 32 (cmpi .sgt lanes (broadcast S384x128 0#32)) natLt_1_32) (extui 32 (cmpi .slt lanes (broadcast S384x128 0#32)) natLt_1_32))
      (broadcast S384x128 (Scalar.subi (Scalar.extui (Scalar.cmpi .sgt 16#32 0#32)) (Scalar.extui (Scalar.cmpi .slt 16#32 0#32)))))
      (cmpi .ne (remsi lanes (broadcast S384x128 16#32)) (broadcast S384x128 0#32)))
    (subi (divsi lanes (broadcast S384x128 16#32)) (broadcast S384x128 1#32))
    (divsi lanes (broadcast S384x128 16#32))

/-- The column of the scale slice a lane reads: the tile's first column plus the lane over sixteen. -/
def columns (base : BitVec 32) : IVec S384x128 32 :=
  select (cmpi .slt (addi (broadcast S384x128 base) lanesDiv) (broadcast S384x128 0#32))
    (addi (addi (broadcast S384x128 base) lanesDiv) (broadcast S384x128 128#32))
    (addi (broadcast S384x128 base) lanesDiv)

theorem slices_seg (j : Fin 30) : S384x256.Slices ![0, 128 * (j.val / 16)] S384x128 := by
  revert j; decide

/-- The scales of tile `j`, one to a lane, rounded to bf16. -/
def tileScales (s : FVec F S384x256 .f32) (j : Fin 30) : FVec F S384x128 .bf16 :=
  truncf .bf16 (dynamicGather 1 (extractStridedSlice S384x128 ![0, 128 * (j.val / 16)] s (slices_seg j))
    (shapeCast S384x128 (shapeCast S384x128x1 (columns (BitVec.ofNat 32 (8 * (j.val % 16)))) shapeCasts_S384x128_S384x128x1) shapeCasts_S384x128x1_S384x128)) bitsLt_bf16_f32

/-- The decoded weights of one set of code words. -/
def decode (w : IVec S96x128 32) (sc : FVec F S384x128 .bf16) : FVec F S384x128 .bf16 :=
  mulf (mulf (extf .bf16 (bitcastToFloat .fp8e4m3 (bitcast S384x128 8 w bitcasts_S96x128_w32_S384x128_w8)) bitsLt_fp8e4m3_bf16)
    (broadcast S384x128 (Scalar.ofBits .bf16 0x4280#16))) sc

/-- A tile of 384 rows as words of two rows each. -/
def pairs (v : FVec F S384x128 .bf16) : Vec F S192x128 .i32 :=
  shapeCast S192x128 (bitcast S192x128 32 (bitcastToInt v) bitcasts_S384x128_w16_S192x128_w32) shapeCasts_S192x128_S192x128

/-- A slab of 256 tokens of the result, from the activation words, the decoded weights and the residual. -/
def product (a : Vec F S3840x256 .i32) (w : Vec F S192x7680 .i32) (r : Vec F S384x256 .f32) : FVec F S256x384 .bf16 :=
  transpose S256x384 [1, 0] (truncf .bf16 (addf (matmul dot_S384x7680_S7680x256_S384x256_1_0_0_1_n_n none
    (bitcastToFloat .bf16 (bitcast S384x7680 16 w bitcasts_S192x7680_w32_S384x7680_w16))
    (bitcastToFloat .bf16 (bitcast S7680x256 16 a bitcasts_S3840x256_w32_S7680x256_w16)) (constant S384x256 .f32 0x00000000#32)) r) bitsLt_bf16_f32) transposes_S384x256_p1_0_S256x384

/-- A slab of 128 tokens of the output scales. -/
def scaleSlab (v : Vec F S240x128 .i32) : IVec S128x240 8 :=
  trunci 8 (transpose S128x240 [1, 0] v transposes_S240x128_p1_0_S128x240) natLt_8_32

/-! ## The rectangles -/

theorem inb_gsc (k : Fin 14) : ∀ a, (![0, 128 * k.val] : Fin 2 → Nat) a + S240x128.size a ≤ S240x1792.size a := by
  revert k; decide
theorem inb_out7 (k : Fin 14) : ∀ a, (![128 * k.val, 0] : Fin 2 → Nat) a + S128x240.size a ≤ S1792x240.size a := by
  revert k; decide
theorem packed_out7 (k : Fin 14) : (Rect.unit (s := S1792x240) ![128 * k.val, 0] S128x240.size (inb_out7 k)).PackedRows (EltTy.packing .i8) := by
  revert k; decide
theorem inb_codes (j : Fin 30) : ∀ a, (![0, 128 * j.val] : Fin 2 → Nat) a + S384x128.size a ≤ S384x3840.size a := by
  revert j; decide
theorem inb_low (j : Fin 30) : ∀ a, (![0, 256 * j.val] : Fin 2 → Nat) a + S192x128.size a ≤ S192x7680.size a := by
  revert j; decide
theorem inb_high (j : Fin 30) : ∀ a, (![0, 256 * j.val + 128] : Fin 2 → Nat) a + S192x128.size a ≤ S192x7680.size a := by
  revert j; decide
theorem inb_act (t : Fin 7) : ∀ a, (![0, 256 * t.val] : Fin 2 → Nat) a + S3840x256.size a ≤ S3840x1792.size a := by
  revert t; decide
theorem inb_res (t : Fin 7) : ∀ a, (![0, 256 * t.val] : Fin 2 → Nat) a + S384x256.size a ≤ S384x1792.size a := by
  revert t; decide
theorem inb_out6 (t : Fin 7) : ∀ a, (![256 * t.val, 0] : Fin 2 → Nat) a + S256x384.size a ≤ S1792x384.size a := by
  revert t; decide
theorem packed_out6 (t : Fin 7) : (Rect.unit (s := S1792x384) ![256 * t.val, 0] S256x384.size (inb_out6 t)).PackedRows (EltTy.packing .bf16) := by
  revert t; decide

abbrev rGsc (k : Fin 14) : Rect S240x1792 := Rect.unit ![0, 128 * k.val] S240x128.size (inb_gsc k)
abbrev rOut7 (k : Fin 14) : Rect S1792x240 := Rect.unit ![128 * k.val, 0] S128x240.size (inb_out7 k)
abbrev rCodes (j : Fin 30) : Rect S384x3840 := Rect.unit ![0, 128 * j.val] S384x128.size (inb_codes j)
abbrev rLow (j : Fin 30) : Rect S192x7680 := Rect.unit ![0, 256 * j.val] S192x128.size (inb_low j)
abbrev rHigh (j : Fin 30) : Rect S192x7680 := Rect.unit ![0, 256 * j.val + 128] S192x128.size (inb_high j)
abbrev rAct (t : Fin 7) : Rect S3840x1792 := Rect.unit ![0, 256 * t.val] S3840x256.size (inb_act t)
abbrev rRes (t : Fin 7) : Rect S384x1792 := Rect.unit ![0, 256 * t.val] S384x256.size (inb_res t)
abbrev rOut6 (t : Fin 7) : Rect S1792x384 := Rect.unit ![256 * t.val, 0] S256x384.size (inb_out6 t)
abbrev rScales : Rect S384x240 := Rect.unit ![0, 0] S384x240.size inb_S384x240_S384x240_0_0
abbrev rWeights : Rect S192x7680 := Rect.unit ![0, 0] S192x7680.size inb_S192x7680_S192x7680_0_0

/-! ## The loops -/

/-- A program of the core's effects with nothing to answer. -/
abbrev Code (F : FTy → Type) := Prog (TpuEff nD τ sig (Elt F) Λ₀ .tc) PUnit

section

variable (arg1 : Memref sig .tc .vmem S3840x1792 .i32) (arg2 : Memref sig .tc .vmem S240x1792 .i32)
  (arg3 : Memref sig .tc .vmem S384x1792 .f32) (arg4 : Memref sig .tc .vmem S384x3840 .i8)
  (arg5 : Memref sig .tc .vmem S384x240 .i8) (arg6 : Memref sig .tc .vmem S1792x384 .bf16) (harg6 : arg6.IsWhole)
  (arg7 : Memref sig .tc .vmem S1792x240 .i8) (harg7 : arg7.IsWhole)
  (arg8 : Memref sig .tc .vmem S192x7680 .i32)

/-- One slab of output scales, then `p`. -/
def scaleStep {α : Type} (k : Fin 14) (p : Prog (TpuEff nD τ sig (Elt F) Λ₀ .tc) α) : Prog (TpuEff nD τ sig (Elt F) Λ₀ .tc) α :=
  .op (.load arg2 (rGsc k).toLoadRect (View.loadsAt_vmem h_S240x128)) fun v =>
  .op (.load arg7 (rOut7 k).toLoadRect (View.loadsAt_vmem h_S128x240)) fun _ =>
  .op (.store arg7 (rOut7 k) (scaleSlab v) Finset.univ (View.stores_vmem h_S128x240 (harg7.storeExact_slice rfl _ (packed_out7 k)) (fun _ => rfl)) (.inl rfl)) fun _ => p

/-- One decoded tile of 256 columns, then `p`. -/
def tileStep (s : FVec F S384x256 .f32) (j : Fin 30) (p : Code F) : Code F :=
  .op (.load arg4 (rCodes j).toLoadRect (View.loadsAt_vmem h_S384x128)) fun c =>
  .op (.load arg8 (rLow j).toLoadRect (View.loadsAt_vmem h_S192x128)) fun _ =>
  .op (.store arg8 (rLow j) (pairs (decode (lowWords c) (tileScales s j))) Finset.univ (View.stores_vmem_bits_univ h_S192x128 rfl) (.inl rfl)) fun _ =>
  .op (.load arg8 (rHigh j).toLoadRect (View.loadsAt_vmem h_S192x128)) fun _ =>
  .op (.store arg8 (rHigh j) (pairs (decode (highWords c) (tileScales s j))) Finset.univ (View.stores_vmem_bits_univ h_S192x128 rfl) (.inl rfl)) fun _ => p

/-- One slab of 256 tokens of the product, then `p`. -/
def productStep (t : Fin 7) (p : Code F) : Code F :=
  .op (.load arg1 (rAct t).toLoadRect (View.loadsAt_vmem h_S3840x256)) fun a =>
  .op (.load arg8 rWeights.toLoadRect (View.loadsAt_vmem h_S192x7680)) fun w =>
  .op (.load arg3 (rRes t).toLoadRect (View.loadsAt_vmem h_S384x256)) fun r =>
  .op (.load arg6 (rOut6 t).toLoadRect (View.loadsAt_vmem h_S256x384)) fun _ =>
  .op (.store arg6 (rOut6 t) (product a w r) Finset.univ (View.stores_vmem h_S256x384 (harg6.storeExact_slice rfl _ (packed_out6 t)) (fun _ => rfl)) (.inl rfl)) fun _ => p

abbrev slabs14 : List (Fin 14) := [0, 1, 2, 3, 4, 5, 6, 7, 8, 9, 10, 11, 12, 13]
abbrev tiles30 : List (Fin 30) := [0, 1, 2, 3, 4, 5, 6, 7, 8, 9, 10, 11, 12, 13, 14, 15, 16, 17, 18, 19, 20, 21, 22, 23, 24, 25, 26, 27, 28, 29]
abbrev slabs7 : List (Fin 7) := [0, 1, 2, 3, 4, 5, 6]

/-- What follows the copy of the output scales. -/
def rest : Code F :=
  .op (.load arg5 rScales.toLoadRect (View.loadsAt_vmem h_S384x240)) fun b =>
    tiles30.foldr (tileStep arg4 arg8 (scales b)) (slabs7.foldr (productStep arg1 arg3 arg6 harg6 arg8) (.ret ⟨⟩))

/-- The reads at the head of the first tile, and the first values computed from them. -/
def head : Prog (TpuEff nD τ sig (Elt F) Λ₀ .tc) (Σ' (v9 : FVec F S384x256 .f32) (v11 : FVec F S384x128 .f32) (v21 : IVec S96x128 32) (v28 : IVec S96x128 32) (v29 : IVec S384x128 32) (c16_i32 : BitVec 32) (v31 : IVec S384x128 32) (v38 : IVec S384x128 32), BitVec 32)  :=
  .op (.load arg5 rScales.toLoadRect (View.loadsAt_vmem h_S384x240)) fun v3 =>
  .op (.load arg4 (rCodes 0).toLoadRect (View.loadsAt_vmem h_S384x128)) fun v10 =>
  .ret ⟨k0_pay17 v3, k0_pay18 v3, k0_pay20 v10, k0_pay21 v10, iota .tc S384x128 32 [1] iota_S384x128_d1_w32, 16#32, k0_pay22, k0_pay23, 0#32⟩

end

theorem head_pos (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x7680 .i32) (harg8 : arg8.IsWhole) (hc : k0_cond1 i = 1#1) :
    k0_part3 (F := F) i arg1 harg1 arg2 harg2 arg3 harg3 arg4 harg4 arg5 harg5 arg6 harg6 arg7 harg7 arg8 harg8 = slabs14.foldr (scaleStep arg2 arg7 harg7) (head arg4 arg5) := by
  unfold k0_part3
  rw [dif_pos hc]
  rfl

theorem head_neg (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x7680 .i32) (harg8 : arg8.IsWhole) (hc : ¬ k0_cond1 i = 1#1) :
    k0_part3 (F := F) i arg1 harg1 arg2 harg2 arg3 harg3 arg4 harg4 arg5 harg5 arg6 harg6 arg7 harg7 arg8 harg8 = head arg4 arg5 := by
  unfold k0_part3
  rw [dif_neg hc]
  rfl

/-- At the first grid point the printed body is the four loops. -/
theorem body_pos (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x7680 .i32) (harg8 : arg8.IsWhole) (hc : k0_cond1 i = 1#1) :
    cc0_down (F := F) i arg1 harg1 arg2 harg2 arg3 harg3 arg4 harg4 arg5 harg5 arg6 harg6 arg7 harg7 arg8 harg8
      = slabs14.foldr (scaleStep arg2 arg7 harg7) (rest arg1 arg3 arg4 arg5 arg6 harg6 arg8) := by
  unfold cc0_down k0_part55
  rw [head_pos (hc := hc)]
  rfl

/-- At the others it is the three last of them. -/
theorem body_neg (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x7680 .i32) (harg8 : arg8.IsWhole) (hc : ¬ k0_cond1 i = 1#1) :
    cc0_down (F := F) i arg1 harg1 arg2 harg2 arg3 harg3 arg4 harg4 arg5 harg5 arg6 harg6 arg7 harg7 arg8 harg8
      = rest arg1 arg3 arg4 arg5 arg6 harg6 arg8 := by
  unfold cc0_down k0_part55
  rw [head_neg (hc := hc)]
  rfl

end Cert.Kernel.Down
-- ==== Proof.Words.Run.lean ====
/- The kernel over the machine's words runs, and leaves its input arrays as they were. Nothing is said here
   of what it computes: each buffer it writes is owned at some contents throughout. -/
module

public import proofs.«01_k».proof.Proof.Words.Body
public import proofs.«01_k».proof.Proof.Own
public import proofs.«01_k».proof.Proof.Gen.Kernel.Launch
public import proofs.«01_k».proof.Proof.Gen.Kernel.Points
public import proofs.«01_k».proof.Proof.Gen.Kernel.Frame
public import Idealize.ShloMosaic.Lib.Pipeline.FrameBody

@[expose] public section

noncomputable section

namespace Cert.Kernel.Down

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA scopedRest)

variable {F : FTy → Type} [BitOps F]

local notation "𝕄" => MT nD τ sig Unit (Elt F) ℕ (UR sig nD τ) ℕ

/-- The kernel's variants: none. -/
abbrev 𝒱₀ : Variants := Variants.none

section

variable (c : Dev nD) (arg1 : Memref sig .tc .vmem S3840x1792 .i32) (arg2 : Memref sig .tc .vmem S240x1792 .i32)
  (arg3 : Memref sig .tc .vmem S384x1792 .f32) (arg4 : Memref sig .tc .vmem S384x3840 .i8)
  (arg5 : Memref sig .tc .vmem S384x240 .i8) (arg6 : Memref sig .tc .vmem S1792x384 .bf16) (harg6 : arg6.IsWhole)
  (arg7 : Memref sig .tc .vmem S1792x240 .i8) (harg7 : arg7.IsWhole)
  (arg8 : Memref sig .tc .vmem S192x7680 .i32)

theorem copies_run (E : Set ℕ) (l : List (Fin 14)) (X2 : S240x1792.Idx → Elt F .i32) (X7 : S1792x240.Idx → Elt F .i8)
    (p : Code F) (Q : PUnit → sProp 𝕄) (R : sProp 𝕄)
    (h : ∀ Y, iprop(owns (c : Thread nD τ) arg2 fullShare X2 ∗ owns (c : Thread nD τ) arg7 fullShare Y ∗ R)
        ⊢ wp frame (wpE (defs₀ (F := F)) 𝒱₀ c none) E p Q) :
    iprop(owns (c : Thread nD τ) arg2 fullShare X2 ∗ owns (c : Thread nD τ) arg7 fullShare X7 ∗ R)
      ⊢ wp frame (wpE (defs₀ (F := F)) 𝒱₀ c none) E (l.foldr (scaleStep arg2 arg7 harg7) p) Q := by
  induction l generalizing X7 with
  | nil => exact h X7
  | cons k l ih =>
    show _ ⊢ wp frame (wpE (defs₀ (F := F)) 𝒱₀ c none) E (scaleStep arg2 arg7 harg7 k _) Q
    unfold scaleStep
    refine Own.load 𝒱₀ (c : Thread nD τ) E arg2 ?_
    refine Own.swap.trans ?_
    refine Own.load 𝒱₀ (c : Thread nD τ) E arg7 ?_
    refine Own.store 𝒱₀ (c : Thread nD τ) E arg7 fun Y _ _ => ?_
    exact Own.swap.trans (ih Y)

theorem tiles_run (E : Set ℕ) (s : FVec F S384x256 .f32) (l : List (Fin 30)) (X4 : S384x3840.Idx → Elt F .i8)
    (X8 : S192x7680.Idx → Elt F .i32) (p : Code F) (Q : PUnit → sProp 𝕄) (R : sProp 𝕄)
    (h : ∀ Y, iprop(owns (c : Thread nD τ) arg4 fullShare X4 ∗ owns (c : Thread nD τ) arg8 fullShare Y ∗ R)
        ⊢ wp frame (wpE (defs₀ (F := F)) 𝒱₀ c none) E p Q) :
    iprop(owns (c : Thread nD τ) arg4 fullShare X4 ∗ owns (c : Thread nD τ) arg8 fullShare X8 ∗ R)
      ⊢ wp frame (wpE (defs₀ (F := F)) 𝒱₀ c none) E (l.foldr (tileStep arg4 arg8 s) p) Q := by
  induction l generalizing X8 with
  | nil => exact h X8
  | cons j l ih =>
    show _ ⊢ wp frame (wpE (defs₀ (F := F)) 𝒱₀ c none) E (tileStep arg4 arg8 s j _) Q
    unfold tileStep
    refine Own.load 𝒱₀ (c : Thread nD τ) E arg4 ?_
    refine Own.swap.trans ?_
    refine Own.load 𝒱₀ (c : Thread nD τ) E arg8 ?_
    refine Own.store 𝒱₀ (c : Thread nD τ) E arg8 fun Y _ _ => ?_
    refine Own.load 𝒱₀ (c : Thread nD τ) E arg8 ?_
    refine Own.store 𝒱₀ (c : Thread nD τ) E arg8 fun Z _ _ => ?_
    exact Own.swap.trans (ih Z)

theorem products_run (E : Set ℕ) (l : List (Fin 7)) (X1 : S3840x1792.Idx → Elt F .i32) (X3 : S384x1792.Idx → Elt F .f32)
    (W : S192x7680.Idx → Elt F .i32) (X6 : S1792x384.Idx → Elt F .bf16) (p : Code F) (Q : PUnit → sProp 𝕄) (R : sProp 𝕄)
    (h : ∀ Y, iprop(owns (c : Thread nD τ) arg1 fullShare X1 ∗ owns (c : Thread nD τ) arg3 fullShare X3
        ∗ owns (c : Thread nD τ) arg8 fullShare W ∗ owns (c : Thread nD τ) arg6 fullShare Y ∗ R)
        ⊢ wp frame (wpE (defs₀ (F := F)) 𝒱₀ c none) E p Q) :
    iprop(owns (c : Thread nD τ) arg1 fullShare X1 ∗ owns (c : Thread nD τ) arg3 fullShare X3
        ∗ owns (c : Thread nD τ) arg8 fullShare W ∗ owns (c : Thread nD τ) arg6 fullShare X6 ∗ R)
      ⊢ wp frame (wpE (defs₀ (F := F)) 𝒱₀ c none) E (l.foldr (productStep arg1 arg3 arg6 harg6 arg8) p) Q := by
  induction l generalizing X6 with
  | nil => exact h X6
  | cons t l ih =>
    show _ ⊢ wp frame (wpE (defs₀ (F := F)) 𝒱₀ c none) E (productStep arg1 arg3 arg6 harg6 arg8 t _) Q
    unfold productStep
    refine Own.load 𝒱₀ (c : Thread nD τ) E arg1 ?_
    refine (show _ ⊢ iprop(owns (c : Thread nD τ) arg8 fullShare W ∗ owns (c : Thread nD τ) arg3 fullShare X3
        ∗ owns (c : Thread nD τ) arg6 fullShare X6 ∗ owns (c : Thread nD τ) arg1 fullShare X1 ∗ R) from by
      iintro ⟨H1, H3, H8, H6, HR⟩
      isplitl [H8]; · iexact H8
      isplitl [H3]; · iexact H3
      isplitl [H6]; · iexact H6
      isplitl [H1]; · iexact H1
      iexact HR).trans ?_
    refine Own.load 𝒱₀ (c : Thread nD τ) E arg8 ?_
    refine Own.swap.trans ?_
    refine Own.load 𝒱₀ (c : Thread nD τ) E arg3 ?_
    refine (show _ ⊢ iprop(owns (c : Thread nD τ) arg6 fullShare X6 ∗ owns (c : Thread nD τ) arg1 fullShare X1
        ∗ owns (c : Thread nD τ) arg3 fullShare X3 ∗ owns (c : Thread nD τ) arg8 fullShare W ∗ R) from by
      iintro ⟨H3, H8, H6, H1, HR⟩
      isplitl [H6]; · iexact H6
      isplitl [H1]; · iexact H1
      isplitl [H3]; · iexact H3
      isplitl [H8]; · iexact H8
      iexact HR).trans ?_
    refine Own.load 𝒱₀ (c : Thread nD τ) E arg6 ?_
    refine Own.store 𝒱₀ (c : Thread nD τ) E arg6 fun Y _ _ => ?_
    refine (show _ ⊢ iprop(owns (c : Thread nD τ) arg1 fullShare X1 ∗ owns (c : Thread nD τ) arg3 fullShare X3
        ∗ owns (c : Thread nD τ) arg8 fullShare W ∗ owns (c : Thread nD τ) arg6 fullShare Y ∗ R) from by
      iintro ⟨H6, H1, H3, H8, HR⟩
      isplitl [H1]; · iexact H1
      isplitl [H3]; · iexact H3
      isplitl [H8]; · iexact H8
      isplitl [H6]; · iexact H6
      iexact HR).trans (ih Y)

/-- What follows the copy of the output scales. -/
theorem rest_run (E : Set ℕ) (X1 : S3840x1792.Idx → Elt F .i32) (X3 : S384x1792.Idx → Elt F .f32)
    (X4 : S384x3840.Idx → Elt F .i8) (X5 : S384x240.Idx → Elt F .i8) (X6 : S1792x384.Idx → Elt F .bf16)
    (X8 : S192x7680.Idx → Elt F .i32) (Q : PUnit → sProp 𝕄) (R : sProp 𝕄)
    (h : ∀ W Y,
      iprop(owns (c : Thread nD τ) arg1 fullShare X1 ∗ owns (c : Thread nD τ) arg3 fullShare X3
        ∗ owns (c : Thread nD τ) arg8 fullShare W ∗ owns (c : Thread nD τ) arg6 fullShare Y
        ∗ owns (c : Thread nD τ) arg4 fullShare X4 ∗ owns (c : Thread nD τ) arg5 fullShare X5 ∗ R) ⊢ Q ⟨⟩) :
    iprop(owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5 ∗ R)
      ⊢ wp frame (wpE (defs₀ (F := F)) 𝒱₀ c none) E (rest arg1 arg3 arg4 arg5 arg6 harg6 arg8) Q := by
  unfold rest
  refine (show _ ⊢ iprop(owns (c : Thread nD τ) arg5 fullShare X5 ∗ owns (c : Thread nD τ) arg4 fullShare X4
      ∗ owns (c : Thread nD τ) arg8 fullShare X8 ∗ owns (c : Thread nD τ) arg1 fullShare X1
      ∗ owns (c : Thread nD τ) arg3 fullShare X3 ∗ owns (c : Thread nD τ) arg6 fullShare X6 ∗ R) from by
    iintro ⟨H1, H3, H8, H6, H4, H5, HR⟩
    isplitl [H5]; · iexact H5
    isplitl [H4]; · iexact H4
    isplitl [H8]; · iexact H8
    isplitl [H1]; · iexact H1
    isplitl [H3]; · iexact H3
    isplitl [H6]; · iexact H6
    iexact HR).trans ?_
  refine Own.load 𝒱₀ (c : Thread nD τ) E arg5 ?_
  refine (show _ ⊢ iprop(owns (c : Thread nD τ) arg4 fullShare X4
      ∗ owns (c : Thread nD τ) arg8 fullShare X8 ∗ owns (c : Thread nD τ) arg5 fullShare X5 ∗ owns (c : Thread nD τ) arg1 fullShare X1
      ∗ owns (c : Thread nD τ) arg3 fullShare X3 ∗ owns (c : Thread nD τ) arg6 fullShare X6 ∗ R) from by
    iintro ⟨H5, H4, H8, H1, H3, H6, HR⟩
    isplitl [H4]; · iexact H4
    isplitl [H8]; · iexact H8
    isplitl [H5]; · iexact H5
    isplitl [H1]; · iexact H1
    isplitl [H3]; · iexact H3
    isplitl [H6]; · iexact H6
    iexact HR).trans ?_
  refine tiles_run c arg4 arg8 E _ tiles30 X4 X8 _ Q _ fun W => ?_
  refine (show _ ⊢ iprop(owns (c : Thread nD τ) arg1 fullShare X1
      ∗ owns (c : Thread nD τ) arg3 fullShare X3 ∗ owns (c : Thread nD τ) arg8 fullShare W ∗ owns (c : Thread nD τ) arg6 fullShare X6
      ∗ owns (c : Thread nD τ) arg4 fullShare X4 ∗ owns (c : Thread nD τ) arg5 fullShare X5 ∗ R) from by
    iintro ⟨H4, H8, H5, H1, H3, H6, HR⟩
    isplitl [H1]; · iexact H1
    isplitl [H3]; · iexact H3
    isplitl [H8]; · iexact H8
    isplitl [H6]; · iexact H6
    isplitl [H4]; · iexact H4
    isplitl [H5]; · iexact H5
    iexact HR).trans ?_
  refine products_run c arg1 arg3 arg6 harg6 arg8 E slabs7 X1 X3 W X6 _ Q _ fun Y => ?_
  exact (h W Y).trans (le_wp_ret _ _ _ _ _)

/-- The whole body at one grid point. -/
theorem body_run (i : grid0.Coords) (arg1 : Memref sig .tc .vmem S3840x1792 .i32) (harg1 : arg1.IsWhole) (arg2 : Memref sig .tc .vmem S240x1792 .i32) (harg2 : arg2.IsWhole)
    (arg3 : Memref sig .tc .vmem S384x1792 .f32) (harg3 : arg3.IsWhole) (arg4 : Memref sig .tc .vmem S384x3840 .i8) (harg4 : arg4.IsWhole)
    (arg5 : Memref sig .tc .vmem S384x240 .i8) (harg5 : arg5.IsWhole) (arg6 : Memref sig .tc .vmem S1792x384 .bf16) (harg6 : arg6.IsWhole)
    (arg7 : Memref sig .tc .vmem S1792x240 .i8) (harg7 : arg7.IsWhole) (arg8 : Memref sig .tc .vmem S192x7680 .i32) (harg8 : arg8.IsWhole)
    (E : Set ℕ) (X1 : S3840x1792.Idx → Elt F .i32) (X2 : S240x1792.Idx → Elt F .i32) (X3 : S384x1792.Idx → Elt F .f32)
    (X4 : S384x3840.Idx → Elt F .i8) (X5 : S384x240.Idx → Elt F .i8) (X6 : S1792x384.Idx → Elt F .bf16)
    (X7 : S1792x240.Idx → Elt F .i8) (X8 : S192x7680.Idx → Elt F .i32) (Q : PUnit → sProp 𝕄) (R : sProp 𝕄)
    (h : ∀ Y Z W,
      iprop(owns (c : Thread nD τ) arg1 fullShare X1 ∗ owns (c : Thread nD τ) arg3 fullShare X3
        ∗ owns (c : Thread nD τ) arg8 fullShare W ∗ owns (c : Thread nD τ) arg6 fullShare Y
        ∗ owns (c : Thread nD τ) arg4 fullShare X4 ∗ owns (c : Thread nD τ) arg5 fullShare X5
        ∗ owns (c : Thread nD τ) arg2 fullShare X2 ∗ owns (c : Thread nD τ) arg7 fullShare Z ∗ R) ⊢ Q ⟨⟩) :
    iprop(owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5
        ∗ owns (c : Thread nD τ) arg2 fullShare X2 ∗ owns (c : Thread nD τ) arg7 fullShare X7 ∗ R)
      ⊢ wp frame (wpE (defs₀ (F := F)) 𝒱₀ c none) E
          (cc0_down (F := F) i arg1 harg1 arg2 harg2 arg3 harg3 arg4 harg4 arg5 harg5 arg6 harg6 arg7 harg7 arg8 harg8) Q := by
  by_cases hc : k0_cond1 i = 1#1
  · rw [body_pos (hc := hc)]
    refine (show _ ⊢ iprop(owns (c : Thread nD τ) arg2 fullShare X2 ∗ owns (c : Thread nD τ) arg7 fullShare X7
        ∗ owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5 ∗ R) from by
      iintro ⟨H1, H3, H8, H6, H4, H5, H2, H7, HR⟩
      isplitl [H2]; · iexact H2
      isplitl [H7]; · iexact H7
      isplitl [H1]; · iexact H1
      isplitl [H3]; · iexact H3
      isplitl [H8]; · iexact H8
      isplitl [H6]; · iexact H6
      isplitl [H4]; · iexact H4
      isplitl [H5]; · iexact H5
      iexact HR).trans ?_
    refine copies_run c arg2 arg7 harg7 E slabs14 X2 X7 _ Q _ fun Z => ?_
    refine (show _ ⊢ iprop(owns (c : Thread nD τ) arg1 fullShare X1 ∗ owns (c : Thread nD τ) arg3 fullShare X3
        ∗ owns (c : Thread nD τ) arg8 fullShare X8 ∗ owns (c : Thread nD τ) arg6 fullShare X6
        ∗ owns (c : Thread nD τ) arg4 fullShare X4 ∗ owns (c : Thread nD τ) arg5 fullShare X5
        ∗ owns (c : Thread nD τ) arg2 fullShare X2 ∗ owns (c : Thread nD τ) arg7 fullShare Z ∗ R) from by
      iintro ⟨H2, H7, H1, H3, H8, H6, H4, H5, HR⟩
      isplitl [H1]; · iexact H1
      isplitl [H3]; · iexact H3
      isplitl [H8]; · iexact H8
      isplitl [H6]; · iexact H6
      isplitl [H4]; · iexact H4
      isplitl [H5]; · iexact H5
      isplitl [H2]; · iexact H2
      isplitl [H7]; · iexact H7
      iexact HR).trans ?_
    exact rest_run c arg1 arg3 arg4 arg5 arg6 harg6 arg8 E X1 X3 X4 X5 X6 X8 Q _ fun W Y =>
      h Y Z W
  · rw [body_neg (hc := hc)]
    exact rest_run c arg1 arg3 arg4 arg5 arg6 harg6 arg8 E X1 X3 X4 X5 X6 X8 Q _ fun W Y =>
      h Y X7 W

end

/-! ## The contents of the windows' buffers -/

section

variable (m : (ℓ : Loc nD τ sig) → Buf (Elt F) ℓ)

/-- What the body may leave in window `w`'s buffer: an input's contents as it found them, anything in an output's. -/
def after (w : Fin cfg0.W) (Y X : (cfg0.win w).block.Idx → Elt F (cfg0.win w).elt) : Prop :=
  (cfg0.win w).isOut = false → X = Y

def rdat (c : Dev nD) : RDat τ (Elt F) Unit ℕ (UR sig nD τ) ℕ cfg0 c where
  A w := V m c (Pipeline.arrRef spec0 w)
  after w _ := after w
  Φ _ := ΦA (Val := Elt F) (U := UR sig nD τ) spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- The body meets its obligation at every grid point. -/
theorem body_obligation (c : Dev nD) : (rdat m c).BodyObligation (defs₀ (F := F)) 𝒱₀ () Set.univ := fun t Y _ => by
  rw [bigSep_W0, bigSep_W0, defs₀_row]
  rw [show (rdat m c).Φ t.castSucc = ΦA (Val := Elt F) (U := UR sig nD τ) spec0 c from rfl,
    show (rdat m c).Φ t.succ = ΦA (Val := Elt F) (U := UR sig nD τ) spec0 c from rfl,
    show (rdat m c).owesAt () t.succ = (rdat m c).owesAt () t.castSucc from rfl]
  unfold ΦA
  rw [scopedRest0_eq]
  iintro ⟨⟨⟨%X8, H8⟩, HP⟩, Ho, H0, H1, H2, H3, H4, H5, H6⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
    Set.univ (Y 0) (Y 1) (Y 2) (Y 3) (Y 4) (Y 5) (Y 6) X8 _
    iprop((rdat m c).owesAt () t.castSucc ∗ ∃ r, prngReg c r) ?_)
  · intro Z Z7 W
    rw [owns_whole]
    iintro ⟨H0, H2, H8, H5, H3, H4, H1, H6, Ho, HP⟩
    isplitl [H8 HP]
    · isplitl [H8]
      · iexists W; iexact H8
      · iexact HP
    isplitl [Ho]; · iexact Ho
    isplitl [H0]
    · iexists Y 0; isplitr; · ipureintro; exact fun _ => rfl
      iexact H0
    isplitl [H1]
    · iexists Y 1; isplitr; · ipureintro; exact fun _ => rfl
      iexact H1
    isplitl [H2]
    · iexists Y 2; isplitr; · ipureintro; exact fun _ => rfl
      iexact H2
    isplitl [H3]
    · iexists Y 3; isplitr; · ipureintro; exact fun _ => rfl
      iexact H3
    isplitl [H4]
    · iexists Y 4; isplitr; · ipureintro; exact fun _ => rfl
      iexact H4
    isplitl [H5]
    · iexists Z
      isplitr
      · ipureintro
        exact fun h => absurd h (by decide)
      iexact H5
    · iexists Z7
      isplitr
      · ipureintro
        exact fun h => absurd h (by decide)
      iexact H6
  · rw [owns_whole]
    isplitl [H0]; · iexact H0
    isplitl [H2]; · iexact H2
    isplitl [H8]; · iexact H8
    isplitl [H5]; · iexact H5
    isplitl [H3]; · iexact H3
    isplitl [H4]; · iexact H4
    isplitl [H1]; · iexact H1
    isplitl [H6]; · iexact H6
    isplitl [Ho]; · iexact Ho
    iexact HP

set_option backward.isDefEq.respectTransparency.types false in
/-- The program runs, and its arrays end as the windows' relations allow. -/
theorem run (g : Dev nD → PrngReg) (Q' : PUnit × MemSt nD τ sig (Elt F) → Prop)
    (hQ' : ∀ r, RDat.FramePost cfg0 (rdat m) (V m) r ∧ r.2.sem = (fun _ => 0) → Q' r) :
    θ_run (defs (F := F)) (onTc (τ := τ) (main (F := F))) ⟨m, fun _ => 0, g⟩ Q' :=
  RDat.θ_run_frame cfgs 0 launch0 defs₀ 𝒱₀ (rdat m) m g main (body_obligation m)
    (fun c w => by unfold RDat.share; split <;> rfl) (fun _ _ => rfl) (V m) (hmain m 𝒱₀) (fun _ _ => rfl) (fun _ _ => rfl) Q' hQ'

end

end Cert.Kernel.Down
-- ==== Proof.Frames.lean ====
/- The frames of the three programs, and the statements the idealization rests on. -/
module

public import proofs.«01_k».proof.Defs
public import proofs.«01_k».proof.Proof.Run
public import proofs.«01_k».proof.Proof.Words.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Bf16PairInverse

@[expose] public section

noncomputable section

namespace Cert.Frames

open Idealize.ShloMosaic Idealize.SL.Sem
open Idealize.ShloMosaic.Pipeline (RDat)

/-- The kernel over the machine's words ends, with its arguments unchanged and every counter at zero. -/
theorem kernel : Cert.quiescent_Kernel (hKernel := Cert.Kernel.Gen.facts) := fun m g _ =>
  Cert.Kernel.Down.run m g _ fun _ h => ⟨fun c => ⟨h.1.arr_in c 0 rfl, h.1.arr_in c 1 rfl, h.1.arr_in c 2 rfl, h.1.arr_in c 3 rfl, h.1.arr_in c 4 rfl⟩, h.2⟩

/-- The kernel at ideal values likewise. -/
theorem kernelIdeal : Cert.quiescent_KernelIdeal (hKernelIdeal := Cert.KernelIdeal.Gen.facts) := fun m g _ =>
  Cert.KernelIdeal.Down.run m g _ fun _ h => ⟨fun c => ⟨h.1.arr_in c 0 rfl, h.1.arr_in c 1 rfl, h.1.arr_in c 2 rfl, h.1.arr_in c 3 rfl, h.1.arr_in c 4 rfl⟩, h.2⟩

/-- The reference likewise. -/
theorem referenceIdeal : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The rewrites of the idealization hold: words of two bf16 values are those values, in registers and in the scratch. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

end Cert.Frames
-- ==== Proof.Codes.lean ====
/- What a four-bit code and a scale byte denote at ideal values, and that the kernel's and the reference's two
   ways of decoding them agree with it. -/
module

public import Idealize.ShloMosaic.PureOps.Ideal
public import Idealize.ShloMosaic.PureOps.Ideal.Laws

@[expose] public section

noncomputable section

namespace Cert.Codes

open Idealize.ShloMosaic

/-- The magnitude of a four-bit code: 0, 1/2, 1, 3/2, 2, 3, 4, 6. -/
def magnitude : Bool → Bool → Bool → ℝ
  | false, false, false => 0
  | false, false, true => 1 / 2
  | false, true, false => 1
  | false, true, true => 3 / 2
  | true, false, false => 2
  | true, false, true => 3
  | true, true, false => 4
  | true, true, true => 6

/-- The value of a four-bit code, from its sign and its three lower bits. -/
def fp4 (n b2 b1 b0 : Bool) : EReal := ((if n then -magnitude b2 b1 b0 else magnitude b2 b1 b0 : ℝ) : EReal)

/-- The code in a byte's low half. -/
def codeLow (b : BitVec 8) : EReal := fp4 (b.getLsbD 3) (b.getLsbD 2) (b.getLsbD 1) (b.getLsbD 0)
/-- The code in a byte's high half. -/
def codeHigh (b : BitVec 8) : EReal := fp4 (b.getLsbD 7) (b.getLsbD 6) (b.getLsbD 5) (b.getLsbD 4)

/-- The value of a scale byte: two to the byte less 127; zero at 0, which a float cannot hold as a normal
    number, and infinite at 255. -/
def scaleOf (s : BitVec 8) : EReal :=
  if s = 0#8 then 0 else if s = 255#8 then ⊤ else (((2 : ℝ) ^ ((s.toNat : ℤ) - 127) : ℝ) : EReal)

/-! ## The kernel's decoding -/

/-- The e4m3 byte with the given sign, low exponent bits and top significand bit. -/
def byteOf : Bool → Bool → Bool → Bool → BitVec 8
  | n, b2, b1, b0 => (if n then 128#8 else 0#8) ||| (if b2 then 16#8 else 0#8) ||| (if b1 then 8#8 else 0#8) ||| (if b0 then 4#8 else 0#8)

/-- The kernel's byte for the low half of a code byte. -/
def lowByte (b : BitVec 8) : BitVec 8 := ((b &&& 8#8) <<< 4) ||| ((b &&& 7#8) <<< 2)
/-- The kernel's byte for the high half. -/
def highByte (b : BitVec 8) : BitVec 8 := (b &&& 128#8) ||| ((b &&& 112#8) >>> 2)

theorem lowByte_eq : ∀ b : BitVec 8, lowByte b = byteOf (b.getLsbD 3) (b.getLsbD 2) (b.getLsbD 1) (b.getLsbD 0) := by decide
theorem highByte_eq : ∀ b : BitVec 8, highByte b = byteOf (b.getLsbD 7) (b.getLsbD 6) (b.getLsbD 5) (b.getLsbD 4) := by decide

/-- Sixty-four times the e4m3 value of such a byte is the code's value. -/
theorem byteOf_mul (n b2 b1 b0 : Bool) :
    Ideal.ofBits .fp8e4m3 (byteOf n b2 b1 b0) * Ideal.ofBits .bf16 0x4280#16 = fp4 n b2 b1 b0 := by
  have h64 : Ideal.ofBits .bf16 0x4280#16 = ((64 : ℝ) : EReal) := by
    simp [Ideal.ofBits, Ideal.ieee, -EReal.coe_mul]; norm_num
  rw [h64]
  cases n <;> cases b2 <;> cases b1 <;> cases b0 <;>
    (simp only [byteOf, fp4, magnitude, Ideal.ofBits, Ideal.e4m3fn]
     simp [-EReal.coe_mul, -EReal.coe_neg, ← EReal.coe_mul]
     try norm_num)

theorem lowByte_mul (b : BitVec 8) : Ideal.ofBits .fp8e4m3 (lowByte b) * Ideal.ofBits .bf16 0x4280#16 = codeLow b := by
  rw [lowByte_eq, byteOf_mul]; rfl
theorem highByte_mul (b : BitVec 8) : Ideal.ofBits .fp8e4m3 (highByte b) * Ideal.ofBits .bf16 0x4280#16 = codeHigh b := by
  rw [highByte_eq, byteOf_mul]; rfl

theorem scale_fields : ∀ s : BitVec 8, ((s.setWidth 32 <<< 23).extractLsb' 31 1 == 1#1) = false
    ∧ ((s.setWidth 32 <<< 23).extractLsb' 23 8) = s ∧ ((s.setWidth 32 <<< 23).extractLsb' 0 23) = 0#23 := by decide

/-- A scale byte moved to an f32's exponent is the scale. -/
theorem scale_bits (s : BitVec 8) : Ideal.ofBits .f32 (s.setWidth 32 <<< 23) = scaleOf s := by
  obtain ⟨h1, h2, h3⟩ := scale_fields s
  simp only [Ideal.ofBits, Ideal.ieee, h1, h2, h3, scaleOf]
  have hs : s = 0#8 ↔ s.toNat = 0 := by rw [← BitVec.toNat_inj]; rfl
  have hs' : s = 255#8 ↔ s.toNat = 255 := by rw [← BitVec.toNat_inj]; rfl
  rw [if_congr hs rfl rfl, if_congr hs' rfl rfl]
  by_cases h0 : s.toNat = 0
  · simp [h0]
  by_cases h255 : s.toNat = 255
  · simp [h255]
  simp only [h0, h255, if_false]
  norm_num
  simp only [h0, h255, if_false]
  rw [← EReal.coe_mul, zpow_sub₀ (by norm_num : (2 : ℝ) ≠ 0) (_ - 127) 23]
  congr 1
  field_simp
  norm_num

/-! ## The reference's decoding -/

/-- The reference's choice of a code's value by the four bits of it. -/
def tree (c3 c2 c1 c0 : BitVec 1) : EReal :=
  let mag : EReal := Scalar.select c2
    (Scalar.select c1 (Scalar.select c0 (Ideal.ofBits .bf16 0x40C0#16) (Ideal.ofBits .bf16 0x4080#16)) (Scalar.select c0 (Ideal.ofBits .bf16 0x4040#16) (Ideal.ofBits .bf16 0x4000#16)))
    (Scalar.select c1 (Scalar.select c0 (Ideal.ofBits .bf16 0x3FC0#16) (Ideal.ofBits .bf16 0x3F80#16)) (Scalar.select c0 (Ideal.ofBits .bf16 0x3F00#16) (Ideal.ofBits .bf16 0x0000#16)))
  Scalar.select c3 (-mag) mag

theorem tree_eq (n b2 b1 b0 : Bool) :
    tree (BitVec.ofBool n) (BitVec.ofBool b2) (BitVec.ofBool b1) (BitVec.ofBool b0) = fp4 n b2 b1 b0 := by
  cases n <;> cases b2 <;> cases b1 <;> cases b0 <;>
    (simp only [tree, Scalar.select, fp4, magnitude, Ideal.ofBits, Ideal.ieee]
     simp [-EReal.coe_mul, ← EReal.coe_mul]
     try norm_num)

/-- Bit `k` of the low half, tested as the reference tests it. -/
theorem low_bits : ∀ b : BitVec 8,
    IntOp.cmpi .ne (IntOp.andi (IntOp.andi (b.setWidth 32) 15#32) 1#32) 0#32 = BitVec.ofBool (b.getLsbD 0)
    ∧ IntOp.cmpi .ne (IntOp.andi (IntOp.andi (b.setWidth 32) 15#32) 2#32) 0#32 = BitVec.ofBool (b.getLsbD 1)
    ∧ IntOp.cmpi .ne (IntOp.andi (IntOp.andi (b.setWidth 32) 15#32) 4#32) 0#32 = BitVec.ofBool (b.getLsbD 2)
    ∧ IntOp.cmpi .ne (IntOp.andi (IntOp.andi (b.setWidth 32) 15#32) 8#32) 0#32 = BitVec.ofBool (b.getLsbD 3) := by decide

/-- Bit `k` of the high half, likewise. -/
theorem high_bits : ∀ b : BitVec 8,
    IntOp.cmpi .ne (IntOp.andi (IntOp.shrsi .host (b.setWidth 32) 4#32) 1#32) 0#32 = BitVec.ofBool (b.getLsbD 4)
    ∧ IntOp.cmpi .ne (IntOp.andi (IntOp.shrsi .host (b.setWidth 32) 4#32) 2#32) 0#32 = BitVec.ofBool (b.getLsbD 5)
    ∧ IntOp.cmpi .ne (IntOp.andi (IntOp.shrsi .host (b.setWidth 32) 4#32) 4#32) 0#32 = BitVec.ofBool (b.getLsbD 6)
    ∧ IntOp.cmpi .ne (IntOp.andi (IntOp.shrsi .host (b.setWidth 32) 4#32) 8#32) 0#32 = BitVec.ofBool (b.getLsbD 7) := by decide

theorem scale_tests : ∀ s : BitVec 8, IntOp.cmpi .eq (s.setWidth 32) 0#32 = BitVec.ofBool (s == 0#8)
    ∧ IntOp.cmpi .eq (s.setWidth 32) 255#32 = BitVec.ofBool (s == 255#8)
    ∧ (IntOp.subi (s.setWidth 32) 127#32).toInt = (s.toNat : ℤ) - 127 := by decide

/-- The reference's scale: two to the byte less 127, with the two special bytes apart. -/
theorem scale_power (s : BitVec 8) :
    Scalar.select (IntOp.cmpi .eq (s.setWidth 32) 0#32) (Ideal.ofBits .f32 0x00000000#32)
      (Scalar.select (IntOp.cmpi .eq (s.setWidth 32) 255#32) (Ideal.ofBits .f32 0x7F800000#32)
        (Ideal.pow (Ideal.ofBits .f32 0x40000000#32) (((IntOp.subi (s.setWidth 32) 127#32).toInt : ℝ) : EReal))) = scaleOf s := by
  obtain ⟨h0, h255, hi⟩ := scale_tests s
  have z : Ideal.ofBits .f32 0x00000000#32 = 0 := by simp [Ideal.ofBits, Ideal.ieee]
  have t : Ideal.ofBits .f32 0x7F800000#32 = ⊤ := by simp [Ideal.ofBits, Ideal.ieee]
  have two : Ideal.ofBits .f32 0x40000000#32 = ((2 : ℝ) : EReal) := by
    simp [Ideal.ofBits, Ideal.ieee, -EReal.coe_mul]; norm_num
  have hp : Ideal.pow ((2 : ℝ) : EReal) (((((s.toNat : ℤ) - 127 : ℤ)) : ℝ) : EReal) = (((2 : ℝ) ^ ((s.toNat : ℤ) - 127) : ℝ) : EReal) := by
    show ((Real.rpow 2 (((s.toNat : ℤ) - 127 : ℤ) : ℝ) : ℝ) : EReal) = _
    exact congrArg _ (Real.rpow_intCast 2 _)
  rw [h0, h255, hi, z, t, two, hp]
  unfold scaleOf Scalar.select
  by_cases e0 : s = 0#8
  · simp [e0]
  by_cases e255 : s = 255#8
  · simp [e255]
  simp [e0, e255, beq_eq_false_iff_ne.2 e0, beq_eq_false_iff_ne.2 e255]

end Cert.Codes
-- ==== Proof.Tile.lean ====
/- One decoded weight tile at ideal values, element by element: the code's value times its scale. -/
module

public import proofs.«01_k».proof.Proof.Body
public import proofs.«01_k».proof.Proof.Codes
public import Idealize.ShloMosaic.Lib.BitcastFour
public import Idealize.ShloMosaic.Lib.BitcastPair
public import Idealize.ShloMosaic.Lib.ValueIdx
public import Idealize.ShloMosaic.Lib.Pipeline.Value

@[expose] public section

noncomputable section

namespace Cert.KernelIdeal.Down

open Idealize.ShloMosaic Idealize.ShloMosaic.ValueIdx Cert.Codes
open Cert.KernelIdeal Cert.KernelIdeal.Gen

/-! ## The words and their bytes -/

/-- A word's byte: row `p` of the bytes is byte `p % 4` of word row `p / 4`. -/
theorem bitcast_32_8 (x : S96x128.Idx → BitVec 32) (p : Fin 384) (l : Fin 128) :
    bitcast S384x128 8 x bitcasts_S96x128_w32_S384x128_w8 (ix2 p l)
      = (x (ix2 ⟨p.val / 4, by omega⟩ l)).extractLsb' (8 * (p.val % 4)) 8 := by
  apply BitVec.eq_of_getLsbD_eq
  intro i hi
  have hr : S384x128.row (ix2 p l) = p.val := rfl
  have ep : (S384x128.row (ix2 p l) * 8 + i) / 32 = p.val / 4 := by rw [hr]; omega
  have eq : (S384x128.row (ix2 p l) * 8 + i) % 32 = 8 * (p.val % 4) + i := by rw [hr]; omega
  rw [bitcast_getLsbD x _ _ i hi (by decide), BitVec.getLsbD_extractLsb', eq]
  simp only [hi, decide_true, Bool.true_and]
  congr 2
  funext c
  match c with
  | ⟨0, _⟩ => exact Fin.ext ((Shape.Bitcasts.srcIdx_row _ _ _ _ ⟨0, Nat.zero_lt_two⟩ rfl).trans ep)
  | ⟨1, _⟩ => exact Fin.ext (Shape.Bitcasts.srcIdx_other _ _ _ _ ⟨1, Nat.one_lt_two⟩ (by show ¬ 1 + 2 = 2; omega))

/-- The same byte of the word that a column of bytes was packed into is the byte. -/
theorem byte_of_word (c : S384x128.Idx → BitVec 8) (p : Fin 384) (l : Fin 128) :
    (bitcast S96x128 32 c bitcasts_S384x128_w8_S96x128_w32 (ix2 (⟨p.val / 4, by omega⟩ : Fin 96) l)).extractLsb' (8 * (p.val % 4)) 8 = c (ix2 p l) := by
  apply BitVec.eq_of_getLsbD_eq
  intro i hi
  rw [BitVec.getLsbD_extractLsb', bitcast_8_32_getLsbD_ix2 c _ _ l (8 * (p.val % 4) + i) (by omega) p (by show p.val = 4 * (p.val / 4) + _; omega),
    show (8 * (p.val % 4) + i) % 8 = i by omega]
  simp [hi]

/-- The kernel's masks and shifts act on each byte of a word. -/
theorem low_word (w : BitVec 32) (k : Nat) (hk : k < 4) :
    (IntOp.ori (IntOp.shli .vector (IntOp.andi w 134744072#32) 4#32) (IntOp.shli .vector (IntOp.andi w 117901063#32) 2#32)).extractLsb' (8 * k) 8
      = lowByte (w.extractLsb' (8 * k) 8) := by
  apply BitVec.eq_of_getLsbD_eq
  intro i hi
  interval_cases k <;> interval_cases i <;> simp [IntOp.ori, IntOp.shli, IntOp.andi, lowByte]

theorem high_word (w : BitVec 32) (k : Nat) (hk : k < 4) :
    (IntOp.ori (IntOp.andi w 2155905152#32) (IntOp.shrui .vector (IntOp.andi w 1886417008#32) 2#32)).extractLsb' (8 * k) 8
      = highByte (w.extractLsb' (8 * k) 8) := by
  apply BitVec.eq_of_getLsbD_eq
  intro i hi
  interval_cases k <;> interval_cases i <;> simp [IntOp.ori, IntOp.shrui, IntOp.andi, highByte]

theorem lowWords_byte (c : S384x128.Idx → BitVec 8) (p : Fin 384) (l : Fin 128) :
    bitcast S384x128 8 (lowWords (F := Ideal) c) bitcasts_S96x128_w32_S384x128_w8 (ix2 p l) = lowByte (c (ix2 p l)) := by
  rw [bitcast_32_8, ← byte_of_word c p l]
  exact low_word _ _ (by omega)

theorem highWords_byte (c : S384x128.Idx → BitVec 8) (p : Fin 384) (l : Fin 128) :
    bitcast S384x128 8 (highWords (F := Ideal) c) bitcasts_S96x128_w32_S384x128_w8 (ix2 p l) = highByte (c (ix2 p l)) := by
  rw [bitcast_32_8, ← byte_of_word c p l]
  exact high_word _ _ (by omega)

/-! ## The scales -/

theorem scales_apply (b : S384x240.Idx → BitVec 8) (r : Fin 384) (g : Fin 240) :
    scales (F := Ideal) b (ix2 r (⟨g.val, by omega⟩ : Fin 256)) = scaleOf (b (ix2 r g)) := by
  unfold scales
  refine Eq.trans (concatenate_pair_apply_left (t := S384x256) (s₁ := S384x240) (s₂ := S384x16) 1 _ _ _ _ rfl (ix2 r g) (fun a => ?_)) ?_
  · match a with
    | ⟨0, _⟩ => rfl
    | ⟨1, _⟩ => rfl
  · exact scale_bits (b (ix2 r g))

theorem lanesDiv_first : ∀ l : Fin 128, lanesDiv (ix2 0 l) = BitVec.ofNat 32 (l.val / 16) := by decide

theorem lanesDiv_apply (r : Fin 384) (l : Fin 128) : lanesDiv (ix2 r l) = BitVec.ofNat 32 (l.val / 16) := lanesDiv_first l

/-- The column from the tile's first column and the lane's group: the sum, where no wrap is needed. -/
theorem column_sum : ∀ (m : Fin 16) (q : Fin 8),
    (Scalar.select (IntOp.cmpi .slt (IntOp.addi (BitVec.ofNat 32 (8 * m.val)) (BitVec.ofNat 32 q.val)) 0#32)
      (IntOp.addi (IntOp.addi (BitVec.ofNat 32 (8 * m.val)) (BitVec.ofNat 32 q.val)) 128#32)
      (IntOp.addi (BitVec.ofNat 32 (8 * m.val)) (BitVec.ofNat 32 q.val))).toNat % 128 = 8 * m.val + q.val := by decide

/-- The column a lane reads: the tile's first column plus the lane over sixteen. -/
theorem columns_apply (m : Fin 16) (r : Fin 384) (l : Fin 128) :
    (columns (BitVec.ofNat 32 (8 * m.val)) (ix2 r l)).toNat % 128 = 8 * m.val + l.val / 16 := by
  have h := column_sum m ⟨l.val / 16, by omega⟩
  simp only [← lanesDiv_apply r l] at h
  exact h

theorem recast (x : S384x128.Idx → BitVec 32) (r : Fin 384) (l : Fin 128) :
    shapeCast S384x128 (shapeCast S384x128x1 x shapeCasts_S384x128_S384x128x1) shapeCasts_S384x128x1_S384x128 (ix2 r l) = x (ix2 r l) := by
  have e : (S384x128.rowMajor (ix2 r l)).val = (S384x128x1.rowMajor (ix3 r l (0 : Fin 1))).val := by
    rw [Shape.rowMajor_val_two, Shape.rowMajor_val_three]
    show r.val * 128 + l.val = (r.val * 128 + l.val) * 1 + 0
    omega
  exact (shapeCast_apply _ _ _ (ix3 r l (0 : Fin 1)) e.symm).trans (shapeCast_apply _ _ _ (ix2 r l) e)

theorem tileScales_apply (s : S384x256.Idx → EReal) (j : Fin 30) (r : Fin 384) (l : Fin 128) :
    tileScales (F := Ideal) s j (ix2 r l) = s (ix2 r (⟨8 * j.val + l.val / 16, by omega⟩ : Fin 256)) := by
  have h := columns_apply ⟨j.val % 16, by omega⟩ r l
  rw [← recast (columns _)] at h
  have e : tileScales (F := Ideal) s j (ix2 r l) = dynamicGather (s := S384x128) 1 (extractStridedSlice S384x128 ![0, 128 * (j.val / 16)] s (slices_seg j))
      (shapeCast S384x128 (shapeCast S384x128x1 (columns (BitVec.ofNat 32 (8 * (j.val % 16)))) shapeCasts_S384x128_S384x128x1) shapeCasts_S384x128x1_S384x128)
      (ix2 r l) := rfl
  rw [e]
  unfold dynamicGather
  refine extractStridedSlice_apply _ _ _ _ _ (fun a => ?_)
  match a with
  | ⟨0, _⟩ => exact (Nat.zero_add _).symm
  | ⟨1, _⟩ =>
    refine Eq.trans ?_ (congrArg (128 * (j.val / 16) + ·) h.symm)
    show 8 * j.val + l.val / 16 = 128 * (j.val / 16) + (8 * (j.val % 16) + l.val / 16)
    omega

/-! ## The tile -/

theorem decode_low (c : S384x128.Idx → BitVec 8) (sc : S384x128.Idx → EReal) (p : Fin 384) (l : Fin 128) :
    decode (F := Ideal) (lowWords (F := Ideal) c) sc (ix2 p l) = codeLow (c (ix2 p l)) * sc (ix2 p l) := by
  rw [← lowByte_mul, ← lowWords_byte]; rfl

theorem decode_high (c : S384x128.Idx → BitVec 8) (sc : S384x128.Idx → EReal) (p : Fin 384) (l : Fin 128) :
    decode (F := Ideal) (highWords (F := Ideal) c) sc (ix2 p l) = codeHigh (c (ix2 p l)) * sc (ix2 p l) := by
  rw [← highByte_mul, ← highWords_byte]; rfl

/-- Row `2 a + h` of a tile is half `h` of its pair `a`. -/
theorem pairs_apply (v : S384x128.Idx → EReal) (a : Fin 192) (h : Fin 2) (l : Fin 128) :
    pairs (F := Ideal) v (ix3 a h l) = v (ix2 (⟨2 * a.val + h.val, by omega⟩ : Fin 384) l) := by
  unfold pairs interleaveRows
  have hr : S192x2x128.row (ix3 a h l) = h.val := rfl
  rw [hr]
  have hm : ∀ i : S192x1x128.Idx, i = ix3 a (0 : Fin 1) l → (S192x128.rowMajor (ix2 a l)).val = (S192x1x128.rowMajor i).val := fun i hi => by
    rw [hi, Shape.rowMajor_val_two, Shape.rowMajor_val_three]
    show a.val * 128 + l.val = (a.val * 1 + 0) * 128 + l.val
    omega
  have hi : ∀ i : S192x1x128.Idx, (i 0).val = a.val → (i 2).val = l.val → i = ix3 a (0 : Fin 1) l := fun i h0 h2 => by
    funext b
    match b with
    | ⟨0, _⟩ => exact Fin.ext h0
    | ⟨1, _⟩ => exact Fin.ext (Nat.lt_one_iff.1 (i 1).isLt)
    | ⟨2, _⟩ => exact Fin.ext h2
  rcases Nat.mod_two_eq_zero_or_one h.val with e | e
  · rw [if_pos e, shapeCast_apply _ _ _ (ix2 a l) (hm _ (hi _ rfl rfl))]
    unfold rowsOfParity
    congr 1
    funext b
    match b with
    | ⟨0, _⟩ => exact Fin.ext (by show 2 * a.val + 0 = 2 * a.val + h.val; omega)
    | ⟨1, _⟩ => rfl
  · rw [if_neg (by omega), shapeCast_apply _ _ _ (ix2 a l) (hm _ (hi _ rfl rfl))]
    unfold rowsOfParity
    congr 1
    funext b
    match b with
    | ⟨0, _⟩ => exact Fin.ext (by show 2 * a.val + 1 = 2 * a.val + h.val; omega)
    | ⟨1, _⟩ => rfl

end Cert.KernelIdeal.Down
-- ==== Proof.Product.lean ====
/- One slab of the product at ideal values, element by element. -/
module

public import proofs.«01_k».proof.Proof.Body
public import Idealize.ShloMosaic.Lib.BitcastPair
public import Idealize.ShloMosaic.Lib.MatmulPlain
public import Idealize.ShloMosaic.Lib.ValueIdx
public import Idealize.ShloMosaic.Lib.Pipeline.Value

@[expose] public section

noncomputable section

namespace Cert.KernelIdeal.Down

open Idealize.ShloMosaic Idealize.ShloMosaic.ValueIdx
open Cert.KernelIdeal Cert.KernelIdeal.Gen

/-- Row `p` of the weights the product reads is half `p % 2` of pair `p / 2`. -/
theorem rows_apply (w : S192x2x7680.Idx → EReal) (p : Fin 384) (k : Fin 7680) :
    interleaveRows S384x7680 (shapeCast S192x7680 (rowsOfParity 0 S192x1x7680 w bitcasts_S192x2x7680_w16_S192x1x7680_w32) shapeCasts_S192x1x7680_S192x7680)
      (shapeCast S192x7680 (rowsOfParity 1 S192x1x7680 w bitcasts_S192x2x7680_w16_S192x1x7680_w32) shapeCasts_S192x1x7680_S192x7680) bitcasts_S384x7680_w16_S192x7680_w32 (ix2 p k)
      = w (ix3 (⟨p.val / 2, by omega⟩ : Fin 192) (⟨p.val % 2, by omega⟩ : Fin 2) k) := by
  unfold interleaveRows
  have hr : S384x7680.row (ix2 p k) = p.val := rfl
  rw [hr]
  have hm : ∀ i : S192x7680.Idx, i = ix2 (⟨p.val / 2, by omega⟩ : Fin 192) k →
      (S192x1x7680.rowMajor (ix3 (⟨p.val / 2, by omega⟩ : Fin 192) (0 : Fin 1) k)).val = (S192x7680.rowMajor i).val := fun i hi => by
    rw [hi, Shape.rowMajor_val_two, Shape.rowMajor_val_three]
    show (p.val / 2 * 1 + 0) * 7680 + k.val = p.val / 2 * 7680 + k.val
    omega
  rcases Nat.mod_two_eq_zero_or_one p.val with e | e
  · rw [if_pos e, shapeCast_apply _ _ _ (ix3 (⟨p.val / 2, by omega⟩ : Fin 192) (0 : Fin 1) k) (hm _ (by
      funext b
      match b with
      | ⟨0, _⟩ => rfl
      | ⟨1, _⟩ => rfl))]
    unfold rowsOfParity
    congr 1
    funext b
    match b with
    | ⟨0, _⟩ => rfl
    | ⟨1, _⟩ => exact Fin.ext e.symm
    | ⟨2, _⟩ => rfl
  · rw [if_neg (by omega), shapeCast_apply _ _ _ (ix3 (⟨p.val / 2, by omega⟩ : Fin 192) (0 : Fin 1) k) (hm _ (by
      funext b
      match b with
      | ⟨0, _⟩ => rfl
      | ⟨1, _⟩ => rfl))]
    unfold rowsOfParity
    congr 1
    funext b
    match b with
    | ⟨0, _⟩ => rfl
    | ⟨1, _⟩ => exact Fin.ext e.symm
    | ⟨2, _⟩ => rfl

/-- Row `k` of the activations the product reads is a half of word row `k / 2`. -/
theorem acts_apply (a : S3840x256.Idx → BitVec 32) (k : Fin 7680) (t : Fin 256) :
    bitcastToFloat (F := Ideal) .bf16 (bitcast S7680x256 16 a bitcasts_S3840x256_w32_S7680x256_w16) (ix2 k t)
      = Ideal.ofBits .bf16 ((a (ix2 (⟨k.val / 2, by omega⟩ : Fin 3840) t)).extractLsb' (16 * (k.val % 2)) 16) := by
  unfold bitcastToFloat
  rw [bitcast_32_16]
  have hr : S7680x256.row (ix2 k t) = k.val := rfl
  show Ideal.ofBits .bf16 _ = _
  congr 2
  · congr 1
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))

/-- A slab of the result: the product of a row of weights and a column of activations, plus the residual. -/
theorem product_apply (a : S3840x256.Idx → BitVec 32) (w : S192x2x7680.Idx → EReal) (r : S384x256.Idx → EReal) (t : Fin 256) (p : Fin 384) :
    product (F := Ideal) a w r (ix2 t p)
      = (∑ k : Fin 7680, w (ix3 (⟨p.val / 2, by omega⟩ : Fin 192) (⟨p.val % 2, by omega⟩ : Fin 2) k)
          * Ideal.ofBits .bf16 ((a (ix2 (⟨k.val / 2, by omega⟩ : Fin 3840) t)).extractLsb' (16 * (k.val % 2)) 16)) + r (ix2 p t) := by
  unfold product
  rw [transpose_apply _ _ _ _ (ix2 p t) (fun b => by
    match b with
    | ⟨0, _⟩ => rfl
    | ⟨1, _⟩ => rfl)]
  refine congrArg (· + r (ix2 p t)) ?_
  refine (Ideal.matmul_plain_apply (M := 384) (K := 7680) (N := 256) none _ _ _ p t).trans ?_
  have z : constant (F := Ideal) S384x256 .f32 0x00000000#32 (ix2 p t) = 0 := Ideal.ofBits_zero_f32
  rw [z, zero_add]
  refine Finset.sum_congr rfl fun k _ => ?_
  rw [rows_apply, acts_apply]

end Cert.KernelIdeal.Down
-- ==== Proof.Closed.lean ====
/- The down projection at ideal values, in closed form: what both programs compute. -/
module

public import proofs.«01_k».proof.Proof.Codes
public import Idealize.ShloMosaic.Lib.ValueIdx

@[expose] public section

noncomputable section

namespace Cert.Closed

open Idealize.ShloMosaic Idealize.ShloMosaic.ValueIdx Cert.Codes

/-- The activation words' indices, the residual's, the codes', the scales'. -/
abbrev ActIdx := (⟨2, ![3840, 1792]⟩ : Shape).Idx
abbrev ResIdx := (⟨2, ![2880, 1792]⟩ : Shape).Idx
abbrev CodeIdx := (⟨2, ![2880, 3840]⟩ : Shape).Idx
abbrev ScaleIdx := (⟨2, ![2880, 240]⟩ : Shape).Idx

/-- Row `r` of the activations, at token `t`: a half of word row `r / 2`. -/
def act (x0 : ActIdx → BitVec 32) (r : Fin 7680) (t : Fin 1792) : EReal :=
  Ideal.ofBits .bf16 ((x0 (ix2 ⟨r.val / 2, by omega⟩ t)).extractLsb' (16 * (r.val % 2)) 16)

/-- The scale of code column `p` in row `d`: one byte for sixteen columns. -/
def scaleAt (x4 : ScaleIdx → BitVec 8) (d : Fin 2880) (p : Fin 3840) : EReal :=
  scaleOf (x4 (ix2 d ⟨p.val / 16, by omega⟩))

/-- The two weights of code column `p`. -/
def weightLow (x3 : CodeIdx → BitVec 8) (x4 : ScaleIdx → BitVec 8) (d : Fin 2880) (p : Fin 3840) : EReal :=
  codeLow (x3 (ix2 d p)) * scaleAt x4 d p
def weightHigh (x3 : CodeIdx → BitVec 8) (x4 : ScaleIdx → BitVec 8) (d : Fin 2880) (p : Fin 3840) : EReal :=
  codeHigh (x3 (ix2 d p)) * scaleAt x4 d p

/-- The activation rows that meet them: in blocks of 256, the first 128 and the last 128. -/
def rowLow (p : Fin 3840) : Fin 7680 := ⟨256 * (p.val / 128) + p.val % 128, by omega⟩
def rowHigh (p : Fin 3840) : Fin 7680 := ⟨256 * (p.val / 128) + 128 + p.val % 128, by omega⟩

/-- Token `t`, feature `d` of the block's output. -/
def out (x0 : ActIdx → BitVec 32) (x2 : ResIdx → EReal) (x3 : CodeIdx → BitVec 8) (x4 : ScaleIdx → BitVec 8) (t : Fin 1792) (d : Fin 2880) : EReal :=
  x2 (ix2 d t) + (∑ p, act x0 (rowLow p) t * weightLow x3 x4 d p + ∑ p, act x0 (rowHigh p) t * weightHigh x3 x4 d p)

end Cert.Closed
-- ==== Proof.Sum.lean ====
/- The activation rows fall into those that meet a low nibble and those that meet a high one. -/
module

public import proofs.«01_k».proof.Proof.Closed

@[expose] public section

noncomputable section

namespace Cert.Closed

/-- The nibble a row meets. -/
def nibble (k : Fin 7680) : Fin 3840 ⊕ Fin 3840 :=
  if h : k.val % 256 < 128 then .inl ⟨128 * (k.val / 256) + k.val % 256, by omega⟩
  else .inr ⟨128 * (k.val / 256) + (k.val % 256 - 128), by omega⟩

theorem nibble_rowLow (p : Fin 3840) : nibble (rowLow p) = .inl p := by
  have e : (rowLow p).val = 256 * (p.val / 128) + p.val % 128 := rfl
  unfold nibble
  rw [dif_pos (by omega)]
  exact congrArg Sum.inl (Fin.ext (by show 128 * ((rowLow p).val / 256) + (rowLow p).val % 256 = p.val; omega))

theorem nibble_rowHigh (p : Fin 3840) : nibble (rowHigh p) = .inr p := by
  have e : (rowHigh p).val = 256 * (p.val / 128) + 128 + p.val % 128 := rfl
  unfold nibble
  rw [dif_neg (by omega)]
  exact congrArg Sum.inr (Fin.ext (by show 128 * ((rowHigh p).val / 256) + ((rowHigh p).val % 256 - 128) = p.val; omega))

theorem row_nibble (k : Fin 7680) : Sum.elim rowLow rowHigh (nibble k) = k := by
  unfold nibble
  by_cases h : k.val % 256 < 128
  · rw [dif_pos h]
    exact Fin.ext (by
      show 256 * ((128 * (k.val / 256) + k.val % 256) / 128) + (128 * (k.val / 256) + k.val % 256) % 128 = k.val
      omega)
  · rw [dif_neg h]
    exact Fin.ext (by
      show 256 * ((128 * (k.val / 256) + (k.val % 256 - 128)) / 128) + 128 + (128 * (k.val / 256) + (k.val % 256 - 128)) % 128 = k.val
      omega)

/-- Every activation row, once: as the row of a low nibble or of a high one. -/
def rows : Fin 3840 ⊕ Fin 3840 ≃ Fin 7680 where
  toFun := Sum.elim rowLow rowHigh
  invFun := nibble
  left_inv x := by
    match x with
    | .inl p => exact nibble_rowLow p
    | .inr p => exact nibble_rowHigh p
  right_inv := row_nibble

/-- A sum over the activation rows, by nibbles. -/
theorem sum_rows (f : Fin 7680 → EReal) : ∑ k, f k = ∑ p, f (rowLow p) + ∑ p, f (rowHigh p) := by
  rw [← Equiv.sum_comp rows, Fintype.sum_sum_type]
  rfl

end Cert.Closed
-- ==== Proof.Block.lean ====
/- The block of the result at one grid point, element by element, from the blocks the point reads. -/
module

public import proofs.«01_k».proof.Proof.Run
public import proofs.«01_k».proof.Proof.Tile
public import proofs.«01_k».proof.Proof.Product
public import proofs.«01_k».proof.Proof.Sum

@[expose] public section

noncomputable section

namespace Cert.KernelIdeal.Down

open Idealize.ShloMosaic Idealize.ShloMosaic.ValueIdx Cert.Codes Cert.Closed
open Cert.KernelIdeal Cert.KernelIdeal.Gen

section

variable (X4 : S384x3840.Idx → BitVec 8) (X5 : S384x240.Idx → BitVec 8)

theorem codes_idx (q : Fin 384) (p : Fin 3840) :
    (rCodes ⟨p.val / 128, by omega⟩).idx (ix2 q (⟨p.val % 128, by omega⟩ : Fin 128)) = ix2 q p := by
  funext a
  match a with
  | ⟨0, _⟩ => exact Fin.ext (by show 0 + 1 * q.val = q.val; omega)
  | ⟨1, _⟩ => exact Fin.ext (by show 128 * (p.val / 128) + 1 * (p.val % 128) = p.val; omega)

theorem scales_idx (q : Fin 384) (g : Fin 240) : rScales.idx (ix2 q g) = ix2 q g := by
  funext a
  match a with
  | ⟨0, _⟩ => exact Fin.ext (by show 0 + 1 * q.val = q.val; omega)
  | ⟨1, _⟩ => exact Fin.ext (by show 0 + 1 * g.val = g.val; omega)

/-- The scale of code column `p`, where a tile finds it. -/
theorem tile_scale (q : Fin 384) (p : Fin 3840) :
    tileScales (F := Ideal) (scales fun x => X5 (rScales.idx x)) ⟨p.val / 128, by omega⟩ (ix2 q (⟨p.val % 128, by omega⟩ : Fin 128))
      = scaleOf (X5 (ix2 q (⟨p.val / 16, by omega⟩ : Fin 240))) := by
  have h := scales_apply (fun x => X5 (rScales.idx x)) q ⟨p.val / 16, by omega⟩
  rw [tileScales_apply]
  refine Eq.trans (congrArg _ (?_ : _ = ix2 q (⟨p.val / 16, by omega⟩ : Fin 256))) (h.trans (by rw [scales_idx]))
  congr 1
  exact Fin.ext (by show 8 * (p.val / 128) + p.val % 128 / 16 = p.val / 16; omega)

variable (W : S192x2x7680.Idx → EReal) (hW : Decoded (F := Ideal) X4 (scales fun x => X5 (rScales.idx x)) Finset.univ W)

include hW

theorem weights_low (q : Fin 384) (p : Fin 3840) :
    W (ix3 (⟨q.val / 2, by omega⟩ : Fin 192) (⟨q.val % 2, by omega⟩ : Fin 2) (rowLow p))
      = codeLow (X4 (ix2 q p)) * scaleOf (X5 (ix2 q (⟨p.val / 16, by omega⟩ : Fin 240))) := by
  have h := (hW ⟨p.val / 128, by omega⟩ (Finset.mem_univ _)).1
    (ix3 (⟨q.val / 2, by omega⟩ : Fin 192) (⟨q.val % 2, by omega⟩ : Fin 2) (⟨p.val % 128, by omega⟩ : Fin 128))
  rw [pairs_apply, show (⟨2 * (q.val / 2) + q.val % 2, by omega⟩ : Fin 384) = q from Fin.ext (by show 2 * (q.val / 2) + q.val % 2 = q.val; omega),
    decode_low, tile_scale, codes_idx] at h
  refine Eq.trans (congrArg W ?_) h
  funext a
  match a with
  | ⟨0, _⟩ => exact Fin.ext (by rw [rLow_emb]; exact (Nat.zero_add _).symm)
  | ⟨1, _⟩ => exact Fin.ext (by rw [rLow_emb]; exact (Nat.zero_add _).symm)
  | ⟨2, _⟩ => exact Fin.ext (by rw [rLow_emb]; rfl)

theorem weights_high (q : Fin 384) (p : Fin 3840) :
    W (ix3 (⟨q.val / 2, by omega⟩ : Fin 192) (⟨q.val % 2, by omega⟩ : Fin 2) (rowHigh p))
      = codeHigh (X4 (ix2 q p)) * scaleOf (X5 (ix2 q (⟨p.val / 16, by omega⟩ : Fin 240))) := by
  have h := (hW ⟨p.val / 128, by omega⟩ (Finset.mem_univ _)).2
    (ix3 (⟨q.val / 2, by omega⟩ : Fin 192) (⟨q.val % 2, by omega⟩ : Fin 2) (⟨p.val % 128, by omega⟩ : Fin 128))
  rw [pairs_apply, show (⟨2 * (q.val / 2) + q.val % 2, by omega⟩ : Fin 384) = q from Fin.ext (by show 2 * (q.val / 2) + q.val % 2 = q.val; omega),
    decode_high, tile_scale, codes_idx] at h
  refine Eq.trans (congrArg W ?_) h
  funext a
  match a with
  | ⟨0, _⟩ => exact Fin.ext (by rw [rHigh_emb]; exact (Nat.zero_add _).symm)
  | ⟨1, _⟩ => exact Fin.ext (by rw [rHigh_emb]; exact (Nat.zero_add _).symm)
  | ⟨2, _⟩ => exact Fin.ext (by rw [rHigh_emb]; rfl)

end

/-! ## The slabs' indices -/

theorem out_emb (t : Fin 1792) (q : Fin 384) :
    (rOut6 ⟨t.val / 256, by omega⟩).emb (ix2 (⟨t.val % 256, by omega⟩ : Fin 256) q) = ix2 t q := by
  funext a
  match a with
  | ⟨0, _⟩ => exact Fin.ext (by rw [rOut6_emb]; show 256 * (t.val / 256) + t.val % 256 = t.val; omega)
  | ⟨1, _⟩ => exact Fin.ext (by rw [rOut6_emb]; exact Nat.zero_add _)

theorem act_idx (a : Fin 3840) (t : Fin 1792) :
    (rAct ⟨t.val / 256, by omega⟩).idx (ix2 a (⟨t.val % 256, by omega⟩ : Fin 256)) = ix2 a t := by
  funext c
  match c with
  | ⟨0, _⟩ => exact Fin.ext (by show 0 + 1 * a.val = a.val; omega)
  | ⟨1, _⟩ => exact Fin.ext (by show 256 * (t.val / 256) + 1 * (t.val % 256) = t.val; omega)

theorem res_idx (q : Fin 384) (t : Fin 1792) :
    (rRes ⟨t.val / 256, by omega⟩).idx (ix2 q (⟨t.val % 256, by omega⟩ : Fin 256)) = ix2 q t := by
  funext c
  match c with
  | ⟨0, _⟩ => exact Fin.ext (by show 0 + 1 * q.val = q.val; omega)
  | ⟨1, _⟩ => exact Fin.ext (by show 256 * (t.val / 256) + 1 * (t.val % 256) = t.val; omega)

theorem weights_idx (a : Fin 192) (h : Fin 2) (k : Fin 7680) : rWeights.idx (ix3 a h k) = ix3 a h k := by
  funext c
  match c with
  | ⟨0, _⟩ => exact Fin.ext (by show 0 + 1 * a.val = a.val; omega)
  | ⟨1, _⟩ => exact Fin.ext (by show 0 + 1 * h.val = h.val; omega)
  | ⟨2, _⟩ => exact Fin.ext (by show 0 + 1 * k.val = k.val; omega)

/-- Token `t` of row `q` of the block: the residual, the low nibbles' sum and the high nibbles'. -/
theorem result_apply (X1 : ActIdx → BitVec 32) (X3 : S384x1792.Idx → EReal) (X4 : S384x3840.Idx → BitVec 8) (X5 : S384x240.Idx → BitVec 8)
    (Y : S1792x384.Idx → EReal) (h : Result (F := Ideal) X1 X3 X4 X5 Y) (t : Fin 1792) (q : Fin 384) :
    Y (ix2 t q) = X3 (ix2 q t)
      + (∑ p, act X1 (rowLow p) t * (codeLow (X4 (ix2 q p)) * scaleOf (X5 (ix2 q (⟨p.val / 16, by omega⟩ : Fin 240))))
        + ∑ p, act X1 (rowHigh p) t * (codeHigh (X4 (ix2 q p)) * scaleOf (X5 (ix2 q (⟨p.val / 16, by omega⟩ : Fin 240))))) := by
  obtain ⟨W, hW, hY⟩ := h
  have e := hY ⟨t.val / 256, by omega⟩ (Finset.mem_univ _) (ix2 (⟨t.val % 256, by omega⟩ : Fin 256) q)
  rw [out_emb, product_apply] at e
  rw [e, res_idx, add_comm]
  refine congrArg (X3 (ix2 q t) + ·) ?_
  have step : ∀ k : Fin 7680, W (rWeights.idx (ix3 (⟨q.val / 2, by omega⟩ : Fin 192) (⟨q.val % 2, by omega⟩ : Fin 2) k))
        * Ideal.ofBits .bf16 ((X1 ((rAct ⟨t.val / 256, by omega⟩).idx (ix2 (⟨k.val / 2, by omega⟩ : Fin 3840) (⟨t.val % 256, by omega⟩ : Fin 256)))).extractLsb' (16 * (k.val % 2)) 16)
      = act X1 k t * W (ix3 (⟨q.val / 2, by omega⟩ : Fin 192) (⟨q.val % 2, by omega⟩ : Fin 2) k) := fun k => by
    rw [weights_idx, act_idx, mul_comm, act]
  rw [Finset.sum_congr rfl fun k _ => step k, sum_rows]
  refine congrArg₂ (· + ·) (Finset.sum_congr rfl fun p _ => ?_) (Finset.sum_congr rfl fun p _ => ?_)
  · rw [weights_low X4 X5 W hW]
  · rw [weights_high X4 X5 W hW]

/-- A slab of the output scales, element by element. -/
theorem copied_apply (X2 : S240x1792.Idx → BitVec 32) (Y : S1792x240.Idx → BitVec 8) (h : Copied (F := Ideal) X2 Finset.univ Y)
    (t : Fin 1792) (g : Fin 240) : Y (ix2 t g) = (X2 (ix2 g t)).setWidth 8 := by
  have e := h ⟨t.val / 128, by omega⟩ (Finset.mem_univ _) (ix2 (⟨t.val % 128, by omega⟩ : Fin 128) g)
  have he : (rOut7 ⟨t.val / 128, by omega⟩).emb (ix2 (⟨t.val % 128, by omega⟩ : Fin 128) g) = ix2 t g := by
    funext a
    match a with
    | ⟨0, _⟩ => exact Fin.ext (by rw [rOut7_emb]; show 128 * (t.val / 128) + t.val % 128 = t.val; omega)
    | ⟨1, _⟩ => exact Fin.ext (by rw [rOut7_emb]; exact Nat.zero_add _)
  rw [he] at e
  rw [e]
  unfold scaleSlab
  refine congrArg (BitVec.setWidth 8) ?_
  refine (transpose_apply _ _ _ _ (ix2 g (⟨t.val % 128, by omega⟩ : Fin 128)) (fun b => ?_)).trans (congrArg X2 ?_)
  · match b with
    | ⟨0, _⟩ => rfl
    | ⟨1, _⟩ => rfl
  · funext c
    match c with
    | ⟨0, _⟩ => exact Fin.ext (by show 0 + 1 * g.val = g.val; omega)
    | ⟨1, _⟩ => exact Fin.ext (by show 128 * (t.val / 128) + 1 * (t.val % 128) = t.val; omega)

end Cert.KernelIdeal.Down
-- ==== Proof.Fetched.lean ====
/- What a point's fetches put in the staging buffers: the activation words and the scale words whole, and the rows
   of the residual, the codes and the scales that the point's block has. -/
module

public import proofs.«01_k».proof.Proof.Run
public import proofs.«01_k».proof.Proof.Tile

@[expose] public section

noncomputable section

namespace Cert.KernelIdeal.Down

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD)

/-! ## Where the blocks lie -/

theorem index_2 (t : Fin cfg0.N) : (cfg0.win 2).index t = ![t.val, 0] := by
  rcases fin_N0 t with h | h | h | h | h | h | h | h <;> subst h <;> decide
theorem index_3 (t : Fin cfg0.N) : (cfg0.win 3).index t = ![t.val, 0] := by
  rcases fin_N0 t with h | h | h | h | h | h | h | h <;> subst h <;> decide
theorem index_4 (t : Fin cfg0.N) : (cfg0.win 4).index t = ![t.val, 0] := by
  rcases fin_N0 t with h | h | h | h | h | h | h | h <;> subst h <;> decide
theorem index_5 (t : Fin cfg0.N) : (cfg0.win 5).index t = ![0, t.val] := by
  rcases fin_N0 t with h | h | h | h | h | h | h | h <;> subst h <;> decide

theorem xsize_2 (t : Fin cfg0.N) : (cfg0.win 2).xsize (cfg0.grid.coords t) = ![min 384 (2880 - 384 * t.val), 1792] := by
  rcases fin_N0 t with h | h | h | h | h | h | h | h <;> subst h <;> decide
theorem xsize_3 (t : Fin cfg0.N) : (cfg0.win 3).xsize (cfg0.grid.coords t) = ![min 384 (2880 - 384 * t.val), 3840] := by
  rcases fin_N0 t with h | h | h | h | h | h | h | h <;> subst h <;> decide
theorem xsize_4 (t : Fin cfg0.N) : (cfg0.win 4).xsize (cfg0.grid.coords t) = ![min 384 (2880 - 384 * t.val), 240] := by
  rcases fin_N0 t with h | h | h | h | h | h | h | h <;> subst h <;> decide
theorem xsize_5 (t : Fin cfg0.N) : (cfg0.win 5).xsize (cfg0.grid.coords t) = ![1792, min 384 (2880 - 384 * t.val)] := by
  rcases fin_N0 t with h | h | h | h | h | h | h | h <;> subst h <;> decide

/-! ## The fetched contents -/

theorem fetched_0 (t : Fin cfg0.N) (d) (a : Fin 3840) (k : Fin 1792) :
    fetchedAt m c 0 t d (ix2 a k) = m ((c : Thread nD τ).loc main_arg0) (ix2 a k) := by
  have hm : (cfg0.win 0).moved (cfg0.grid.coords t) (ix2 a k) = true := rfl
  unfold fetchedAt Pipeline.Window.fill
  rw [dif_pos hm, View.read_apply]
  refine congrArg (m ((c : Thread nD τ).loc main_arg0)) (?_ : ((cfg0.win 0).rect t).emb _ = _)
  funext b
  match b with
  | ⟨0, _⟩ => exact Fin.ext (Pipeline.Window.rect_emb_val_of_index_zero _ _ _ rfl _)
  | ⟨1, _⟩ => exact Fin.ext (Pipeline.Window.rect_emb_val_of_index_zero _ _ _ rfl _)

theorem fetched_1 (t : Fin cfg0.N) (d) (a : Fin 240) (k : Fin 1792) :
    fetchedAt m c 1 t d (ix2 a k) = m ((c : Thread nD τ).loc main_arg1) (ix2 a k) := by
  have hm : (cfg0.win 1).moved (cfg0.grid.coords t) (ix2 a k) = true := rfl
  unfold fetchedAt Pipeline.Window.fill
  rw [dif_pos hm, View.read_apply]
  refine congrArg (m ((c : Thread nD τ).loc main_arg1)) (?_ : ((cfg0.win 1).rect t).emb _ = _)
  funext b
  match b with
  | ⟨0, _⟩ => exact Fin.ext (Pipeline.Window.rect_emb_val_of_index_zero _ _ _ rfl _)
  | ⟨1, _⟩ => exact Fin.ext (Pipeline.Window.rect_emb_val_of_index_zero _ _ _ rfl _)

variable (t : Fin cfg0.N) (q : Fin 384) (r : Fin 2880) (hr : r.val = 384 * t.val + q.val)

include hr

theorem fetched_2 (d) (k : Fin 1792) :
    fetchedAt m c 2 t d (ix2 q k) = m ((c : Thread nD τ).loc main_arg2) (ix2 r k) := by
  have hm : (cfg0.win 2).moved (cfg0.grid.coords t) (ix2 q k) = true := ((cfg0.win 2).moved_iff _ _).mpr fun b => by
    rw [xsize_2]
    match b with
    | ⟨0, _⟩ => show q.val < min 384 (2880 - 384 * t.val); omega
    | ⟨1, _⟩ => exact k.isLt
  unfold fetchedAt Pipeline.Window.fill
  rw [dif_pos hm, View.read_apply]
  refine congrArg (m ((c : Thread nD τ).loc main_arg2)) (?_ : ((cfg0.win 2).rect t).emb _ = _)
  funext b
  match b with
  | ⟨0, _⟩ => exact Fin.ext (((cfg0.win 2).rect_emb_val t _ _).trans (by rw [index_2]; show t.val * 384 + q.val = r.val; omega))
  | ⟨1, _⟩ => exact Fin.ext (((cfg0.win 2).rect_emb_val t _ _).trans (by rw [index_2]; show 0 * 1792 + k.val = k.val; omega))

theorem fetched_3 (d) (k : Fin 3840) :
    fetchedAt m c 3 t d (ix2 q k) = m ((c : Thread nD τ).loc main_arg3) (ix2 r k) := by
  have hm : (cfg0.win 3).moved (cfg0.grid.coords t) (ix2 q k) = true := ((cfg0.win 3).moved_iff _ _).mpr fun b => by
    rw [xsize_3]
    match b with
    | ⟨0, _⟩ => show q.val < min 384 (2880 - 384 * t.val); omega
    | ⟨1, _⟩ => exact k.isLt
  unfold fetchedAt Pipeline.Window.fill
  rw [dif_pos hm, View.read_apply]
  refine congrArg (m ((c : Thread nD τ).loc main_arg3)) (?_ : ((cfg0.win 3).rect t).emb _ = _)
  funext b
  match b with
  | ⟨0, _⟩ => exact Fin.ext (((cfg0.win 3).rect_emb_val t _ _).trans (by rw [index_3]; show t.val * 384 + q.val = r.val; omega))
  | ⟨1, _⟩ => exact Fin.ext (((cfg0.win 3).rect_emb_val t _ _).trans (by rw [index_3]; show 0 * 3840 + k.val = k.val; omega))

theorem fetched_4 (d) (k : Fin 240) :
    fetchedAt m c 4 t d (ix2 q k) = m ((c : Thread nD τ).loc main_arg4) (ix2 r k) := by
  have hm : (cfg0.win 4).moved (cfg0.grid.coords t) (ix2 q k) = true := ((cfg0.win 4).moved_iff _ _).mpr fun b => by
    rw [xsize_4]
    match b with
    | ⟨0, _⟩ => show q.val < min 384 (2880 - 384 * t.val); omega
    | ⟨1, _⟩ => exact k.isLt
  unfold fetchedAt Pipeline.Window.fill
  rw [dif_pos hm, View.read_apply]
  refine congrArg (m ((c : Thread nD τ).loc main_arg4)) (?_ : ((cfg0.win 4).rect t).emb _ = _)
  funext b
  match b with
  | ⟨0, _⟩ => exact Fin.ext (((cfg0.win 4).rect_emb_val t _ _).trans (by rw [index_4]; show t.val * 384 + q.val = r.val; omega))
  | ⟨1, _⟩ => exact Fin.ext (((cfg0.win 4).rect_emb_val t _ _).trans (by rw [index_4]; show 0 * 240 + k.val = k.val; omega))

end Cert.KernelIdeal.Down
-- ==== Proof.Arrays.lean ====
/- What the run leaves in the two result arrays. -/
module

public import proofs.«01_k».proof.Proof.Block
public import proofs.«01_k».proof.Proof.Fetched
public import Idealize.ShloMosaic.Lib.Pipeline.ArrRel

@[expose] public section

noncomputable section

namespace Cert.KernelIdeal.Down

open Idealize.ShloMosaic Idealize.ShloMosaic.ValueIdx Idealize.ShloMosaic.TcCoe
open Idealize.ShloMosaic.Pipeline (Dat RDat)
open Cert.Codes Cert.Closed
open Cert.KernelIdeal Cert.KernelIdeal.Gen

variable (m : (ℓ : Loc nD τ sig) → Buf (Elt Ideal) ℓ) (c : Dev nD)

/-- The result array, from the arguments. -/
def out0 : S1792x2880.Idx → EReal := fun i =>
  out (m ((c : Thread nD τ).loc main_arg0)) (m ((c : Thread nD τ).loc main_arg2)) (m ((c : Thread nD τ).loc main_arg3))
    (m ((c : Thread nD τ).loc main_arg4)) (i 0) (i 1)

/-- The scales' array, from the arguments. -/
def out1 : S1792x240.Idx → BitVec 8 := fun i => BitVec.setWidth 8 (m ((c : Thread nD τ).loc main_arg1) (ix2 (i 1) (i 0)))

/-- The columns of a point's block that lie inside the array. -/
theorem left_5 (t : Fin cfg0.N) (X : S1792x384.Idx → EReal) (h : (rdat m c).Leaves 5 t X) (k : Fin 1792) (q : Fin 384) (r : Fin 2880)
    (hr : r.val = 384 * t.val + q.val) : X (ix2 k q) = out0 m c (ix2 k r) := by
  obtain ⟨_, _, d0, d2, d3, d4, hX⟩ := h
  rw [result_apply _ _ _ _ X hX k q, fetched_2 m c t q r hr]
  show _ = out _ _ _ _ k r
  unfold out
  refine congrArg₂ (· + ·) rfl (congrArg₂ (· + ·) (Finset.sum_congr rfl fun p _ => ?_) (Finset.sum_congr rfl fun p _ => ?_))
  · rw [fetched_3 m c t q r hr, fetched_4 m c t q r hr]
    unfold act
    rw [fetched_0]
    rfl
  · rw [fetched_3 m c t q r hr, fetched_4 m c t q r hr]
    unfold act
    rw [fetched_0]
    rfl

/-- The scales' buffer holds every slab's copy after the first point, and keeps it. -/
theorem left_6 (n : Nat) : ∀ (h : n < cfg0.N) (X : S1792x240.Idx → BitVec 8), (rdat m c).Leaves 6 ⟨n, h⟩ X →
    ∀ (k : Fin 1792) (g : Fin 240), X (ix2 k g) = out1 m c (ix2 k g) := by
  induction n with
  | zero =>
    intro h X ⟨Y, _, d1, hX⟩ k g
    have e := copied_apply _ X (hX.1 (show k0_cond1 (grid0.coords t0_0) = 1#1 by decide)) k g
    rw [e, fetched_1]
    rfl
  | succ n ih =>
    intro h X ⟨Y, hY, d1, hX⟩ k g
    have hc : ¬ k0_cond1 (grid0.coords (⟨n + 1, h⟩ : Fin grid0.N)) = 1#1 := by
      rcases fin_N0 ⟨n + 1, h⟩ with e | e | e | e | e | e | e | e
      · exact absurd (congrArg Fin.val e) (Nat.succ_ne_zero n)
      all_goals rw [e]; decide
    rw [hX.2 hc]
    have hN : cfg0.N = 8 := N_0
    rcases ((rdat m c).finds_of_pos rfl (Nat.succ_ne_zero n) Y).mp hY with hf | hl
    · have := (flush0_6 _).mp hf
      simp only [Nat.add_sub_cancel] at this
      omega
    · exact ih (by omega) Y hl k g

theorem covers_5 : (cfg0.win 5).Covers := by decide +kernel

theorem whole_6 : (cfg0.win 6).WholeAt t0_7 := by decide +kernel

variable {m} (r : PUnit × MemSt nD τ sig (Elt Ideal)) (h : RDat.FramePost cfg0 (rdat m) (V m) r)

include h

/-- The result array at the end. -/
theorem result_array : r.2.mem ((c : Thread nD τ).loc main_v0_0) = out0 m c := by
  obtain ⟨after, hL, hA⟩ := h.exists_exact c
  refine (hA 5).trans (Dat.arrAt_eq_of_cover ((rdat m c).withAfter after) 5 (out0 m c) (fun t ht => ?_) fun i => ?_)
  · have hl := hL 5 t ht
    funext y
    rw [View.read_apply]
    have h0 : (y 0).val < 1792 := Nat.lt_of_lt_of_eq (y 0).isLt (congrFun (xsize_5 t) 0)
    have h1 : (y 1).val < min 384 (2880 - 384 * t.val) := Nat.lt_of_lt_of_eq (y 1).isLt (congrFun (xsize_5 t) 1)
    refine Eq.trans (b := after 5 t (ix2 (⟨(y 0).val, h0⟩ : Fin 1792) (⟨(y 1).val, by omega⟩ : Fin 384))) ?_
      ((left_5 m c t _ hl _ _ (⟨384 * t.val + (y 1).val, by omega⟩ : Fin 2880) rfl).trans
        (congrArg (out0 m c) (?_ : _ = ((cfg0.win 5).rect t).emb y)))
    · refine congrArg (after 5 t) ?_
      funext b
      match b with
      | ⟨0, _⟩ => rfl
      | ⟨1, _⟩ => rfl
    · funext b
      match b with
      | ⟨0, _⟩ => exact Fin.ext (((cfg0.win 5).rect_emb_val t _ _).trans (by rw [index_5]; show 0 * 1792 + (y 0).val = (y 0).val; omega)).symm
      | ⟨1, _⟩ => exact Fin.ext (((cfg0.win 5).rect_emb_val t _ _).trans (by rw [index_5]; show t.val * 384 + (y 1).val = 384 * t.val + (y 1).val; omega)).symm
  · exact covers_5.cover _ (Memref.isWhole_whole _) i

/-- The scales' array at the end. -/
theorem scales_array : r.2.mem ((c : Thread nD τ).loc main_v0_1) = out1 m c := by
  obtain ⟨X, hX, hG⟩ := RDat.ArrAt.emb_eq_of_wholeAt ((h c).1 6) whole_6
  funext i
  have e := hG i
  have hl := left_6 m c 7 t0_7.isLt X hX (i 0) (i 1)
  refine e.trans (Eq.trans (congrArg X ?_) hl)
  funext b
  match b with
  | ⟨0, _⟩ => rfl
  | ⟨1, _⟩ => rfl

end Cert.KernelIdeal.Down
-- ==== Proof.Reference.lean ====
/- The reference's results, in closed form. -/
module

public import proofs.«01_k».proof.Proof.Closed
public import proofs.«01_k».proof.Proof.Gen.ReferenceIdeal.Read
public import Idealize.ShloMosaic.Lib.BitcastConvert

@[expose] public section

noncomputable section

namespace Cert.ReferenceIdeal.Down

open Idealize.ShloMosaic Idealize.ShloMosaic.ValueIdx Cert.Codes Cert.Closed
open Cert.ReferenceIdeal Cert.ReferenceIdeal.Gen Cert.ReferenceIdeal.Read

variable (x0 : ActIdx → BitVec 32) (x2 : ResIdx → EReal) (x3 : CodeIdx → BitVec 8) (x4 : ScaleIdx → BitVec 8)

/-! ## The weights -/

theorem code_low (i : CodeIdx) : val_main_v40 (F := Ideal) x3 i = codeLow (x3 i) := by
  obtain ⟨h0, h1, h2, h3⟩ := low_bits (x3 i)
  rw [codeLow, ← tree_eq, ← h0, ← h1, ← h2, ← h3]
  simp only [val_main_v40_apply, val_main_v39_apply, val_main_v38_apply, val_main_v37_apply, val_main_v36_apply, val_main_v35_apply,
    val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, val_main_v14_apply,
    val_main_v13_apply]
  rfl

theorem code_high (i : CodeIdx) : val_main_v72 (F := Ideal) x3 i = codeHigh (x3 i) := by
  obtain ⟨h0, h1, h2, h3⟩ := high_bits (x3 i)
  rw [codeHigh, ← tree_eq, ← h0, ← h1, ← h2, ← h3]
  rfl

theorem scale (i : ScaleIdx) : val_main_v12 (F := Ideal) x4 i = scaleOf (x4 i) := by
  rw [← scale_power]
  rfl

/-- A code column's group of sixteen. -/
theorem idx_group (d : Fin 2880) (p : Fin 3840) :
    idx_main_v45 (ix2 d p) = ix3 d (⟨p.val / 16, by omega⟩ : Fin 240) (⟨p.val % 16, by omega⟩ : Fin 16) := by
  funext a
  match a with
  | ⟨0, _⟩ => exact Fin.ext (by show (d.val * 3840 + p.val) / 3840 = d.val; omega)
  | ⟨1, _⟩ => exact Fin.ext (by show (d.val * 3840 + p.val) / 16 % 240 = p.val / 16; omega)
  | ⟨2, _⟩ => exact Fin.ext (by show (d.val * 3840 + p.val) % 16 = p.val % 16; omega)

theorem idx_code (d : Fin 2880) (p : Fin 3840) :
    idx_main_v41 (ix3 d (⟨p.val / 16, by omega⟩ : Fin 240) (⟨p.val % 16, by omega⟩ : Fin 16)) = ix2 d p := by
  funext a
  match a with
  | ⟨0, _⟩ => exact Fin.ext (by show ((d.val * 240 + p.val / 16) * 16 + p.val % 16) / 3840 = d.val; omega)
  | ⟨1, _⟩ => exact Fin.ext (by show ((d.val * 240 + p.val / 16) * 16 + p.val % 16) % 3840 = p.val; omega)

theorem idx_scale (d : Fin 2880) (g : Fin 240) (l : Fin 16) : idx_main_v42 (idx_main_v43 (ix3 d g l)) = ix2 d g := by
  funext a
  match a with
  | ⟨0, _⟩ => rfl
  | ⟨1, _⟩ => rfl

theorem low (d : Fin 2880) (p : Fin 3840) : val_main_v45 (F := Ideal) x3 x4 (ix2 d p) = weightLow x3 x4 d p := by
  rw [val_main_v45_apply, idx_group, val_main_v44_apply, val_main_v41_apply, idx_code, val_main_v43_apply, val_main_v42_apply, idx_scale,
    code_low, scale]
  rfl

theorem high (d : Fin 2880) (p : Fin 3840) : val_main_v77 (F := Ideal) x3 x4 (ix2 d p) = weightHigh x3 x4 d p := by
  rw [val_main_v77_apply]
  show val_main_v76 (F := Ideal) x3 x4 (idx_main_v45 (ix2 d p)) = _
  rw [idx_group, val_main_v76_apply, val_main_v73_apply]
  show FloatOps.mulf (F := Ideal) (φ := .bf16) (val_main_v72 (F := Ideal) x3 (idx_main_v41 _)) _ = _
  rw [idx_code, val_main_v75_apply, val_main_v74_apply]
  show FloatOps.mulf (F := Ideal) (φ := .bf16) _ (val_main_v12 (F := Ideal) x4 (idx_main_v42 (idx_main_v43 _))) = _
  rw [idx_scale, code_high, scale]
  rfl

/-! ## The activations -/

/-- Half `h` of word row `a`. -/
theorem half (a : Fin 3840) (t : Fin 1792) (h : Fin 2) :
    val_main_v79 (F := Ideal) x0 (ix3 a h t) = Ideal.ofBits .bf16 ((x0 (ix2 a t)).extractLsb' (h.val * 16) 16) := by
  rw [val_main_v79_apply]
  unfold val_main_v78 bitcastToFloat
  rw [Host.bitcastConvertNarrow_apply]
  rw [show ∀ j : S3840x1792x2.Idx, (splits_S3840x1792_w32_S3840x1792x2_w16.drop j) = ix2 (j 0) (j 1) from fun j => by
    funext b
    match b with
    | ⟨0, _⟩ => rfl
    | ⟨1, _⟩ => rfl]
  rfl

/-- Row `256 a + 128 h + b` of the activations, out of the reshape into blocks. -/
theorem block (a : Fin 30) (h : Fin 2) (b : Fin 128) (t : Fin 1792) (r : Fin 7680) (hr : r.val = 256 * a.val + 128 * h.val + b.val) :
    val_main_v80 (F := Ideal) x0 (ix4 a h b t) = act x0 r t := by
  have e : idx_main_v80 (ix4 a h b t) = ix3 (⟨r.val / 2, by omega⟩ : Fin 3840) (⟨r.val % 2, by omega⟩ : Fin 2) t := by
    funext c
    match c with
    | ⟨0, _⟩ => exact Fin.ext (by show (((a.val * 2 + h.val) * 128 + b.val) * 1792 + t.val) / 3584 = r.val / 2; omega)
    | ⟨1, _⟩ => exact Fin.ext (by show (((a.val * 2 + h.val) * 128 + b.val) * 1792 + t.val) / 1792 % 2 = r.val % 2; omega)
    | ⟨2, _⟩ => exact Fin.ext (by show (((a.val * 2 + h.val) * 128 + b.val) * 1792 + t.val) % 1792 = t.val; omega)
  rw [val_main_v80_apply, e, half, act]
  rw [Nat.mul_comm]

theorem idx_rows (p : Fin 3840) (t : Fin 1792) :
    idx_main_v83 (ix2 p t) = ix3 (⟨p.val / 128, by omega⟩ : Fin 30) (⟨p.val % 128, by omega⟩ : Fin 128) t := by
  funext a
  match a with
  | ⟨0, _⟩ => exact Fin.ext (by show (p.val * 1792 + t.val) / 229376 = p.val / 128; omega)
  | ⟨1, _⟩ => exact Fin.ext (by show (p.val * 1792 + t.val) / 1792 % 128 = p.val % 128; omega)
  | ⟨2, _⟩ => exact Fin.ext (by show (p.val * 1792 + t.val) % 1792 = t.val; omega)

theorem idx_block (a : Fin 30) (b : Fin 128) (t : Fin 1792) : idx_main_v82 (ix3 a b t) = ix4 a (0 : Fin 1) b t := by
  funext c
  match c with
  | ⟨0, _⟩ => exact Fin.ext (by show ((a.val * 128 + b.val) * 1792 + t.val) / 229376 = a.val; omega)
  | ⟨1, _⟩ => rfl
  | ⟨2, _⟩ => exact Fin.ext (by show ((a.val * 128 + b.val) * 1792 + t.val) / 1792 % 128 = b.val; omega)
  | ⟨3, _⟩ => exact Fin.ext (by show ((a.val * 128 + b.val) * 1792 + t.val) % 1792 = t.val; omega)

theorem idx_swap (t : Fin 1792) (p : Fin 3840) : idx_main_v84 (ix2 t p) = ix2 p t := by
  funext a
  match a with
  | ⟨0, _⟩ => rfl
  | ⟨1, _⟩ => rfl

theorem even (t : Fin 1792) (p : Fin 3840) : val_main_v84 (F := Ideal) x0 (ix2 t p) = act x0 (rowLow p) t := by
  rw [val_main_v84_apply, idx_swap, val_main_v83_apply, idx_rows, val_main_v82_apply, idx_block, val_main_v81_apply]
  refine Eq.trans (congrArg _ (?_ : _ = ix4 (⟨p.val / 128, by omega⟩ : Fin 30) (0 : Fin 2) (⟨p.val % 128, by omega⟩ : Fin 128) t))
    (block x0 _ _ _ _ _ (by show 256 * (p.val / 128) + p.val % 128 = 256 * (p.val / 128) + 128 * 0 + p.val % 128; omega))
  funext c
  match c with
  | ⟨0, _⟩ => rfl
  | ⟨1, _⟩ => rfl
  | ⟨2, _⟩ => rfl
  | ⟨3, _⟩ => rfl

theorem odd (t : Fin 1792) (p : Fin 3840) : val_main_v88 (F := Ideal) x0 (ix2 t p) = act x0 (rowHigh p) t := by
  rw [val_main_v88_apply]
  show val_main_v87 (F := Ideal) x0 (idx_main_v84 (ix2 t p)) = _
  rw [idx_swap, val_main_v87_apply]
  show val_main_v86 (F := Ideal) x0 (idx_main_v83 (ix2 p t)) = _
  rw [idx_rows, val_main_v86_apply]
  show val_main_v85 (F := Ideal) x0 (idx_main_v82 _) = _
  rw [idx_block, val_main_v85_apply]
  refine Eq.trans (congrArg _ (?_ : _ = ix4 (⟨p.val / 128, by omega⟩ : Fin 30) (1 : Fin 2) (⟨p.val % 128, by omega⟩ : Fin 128) t))
    (block x0 _ _ _ _ _ (by show 256 * (p.val / 128) + 128 + p.val % 128 = 256 * (p.val / 128) + 128 * 1 + p.val % 128; omega))
  funext c
  match c with
  | ⟨0, _⟩ => rfl
  | ⟨1, _⟩ => rfl
  | ⟨2, _⟩ => rfl
  | ⟨3, _⟩ => rfl

/-! ## The results -/

theorem idx_lhs (t : Fin 1792) (d : Fin 2880) (p : Fin 3840) : lidx_main_v89 (ix2 t d) p = ix2 t p := by
  funext a
  match a with
  | ⟨0, _⟩ => rfl
  | ⟨1, _⟩ => rfl
theorem idx_rhs (t : Fin 1792) (d : Fin 2880) (p : Fin 3840) : ridx_main_v89 (ix2 t d) p = ix2 d p := by
  funext a
  match a with
  | ⟨0, _⟩ => rfl
  | ⟨1, _⟩ => rfl

/-- The reference's output is the closed form. -/
theorem result (t : Fin 1792) (d : Fin 2880) : val_main_v94 (F := Ideal) x0 x2 x3 x4 (ix2 t d) = out x0 x2 x3 x4 t d := by
  rw [val_main_v94_apply, val_main_v93_apply, val_main_v92_apply, val_main_v91_apply, val_main_v89_apply, val_main_v90_apply]
  have e1 : ∀ p, val_main_v84 (F := Ideal) x0 (lidx_main_v89 (ix2 t d) p) * val_main_v45 (F := Ideal) x3 x4 (ridx_main_v89 (ix2 t d) p)
      = act x0 (rowLow p) t * weightLow x3 x4 d p := fun p => by rw [idx_lhs, idx_rhs, even, low]
  have e2 : ∀ p, val_main_v88 (F := Ideal) x0 (lidx_main_v90 (ix2 t d) p) * val_main_v77 (F := Ideal) x3 x4 (ridx_main_v90 (ix2 t d) p)
      = act x0 (rowHigh p) t * weightHigh x3 x4 d p := fun p => by
    show val_main_v88 (F := Ideal) x0 (lidx_main_v89 (ix2 t d) p) * val_main_v77 (F := Ideal) x3 x4 (ridx_main_v89 (ix2 t d) p) = _
    rw [idx_lhs, idx_rhs, odd, high]
  simp only [e1, e2]
  have e3 : idx_main_v92 (ix2 t d) = ix2 d t := by
    funext a
    match a with
    | ⟨0, _⟩ => rfl
    | ⟨1, _⟩ => rfl
  rw [e3]
  rfl

/-- The reference's scales are the argument's low bytes, the axes exchanged. -/
theorem scales (x1 : (⟨2, ![240, 1792]⟩ : Shape).Idx → BitVec 32) (t : Fin 1792) (g : Fin 240) :
    val_main_v96 (F := Ideal) x1 (ix2 t g) = (x1 (ix2 g t)).setWidth 8 := by
  rw [val_main_v96_apply, val_main_v95_apply]
  congr 2
  funext a
  match a with
  | ⟨0, _⟩ => rfl
  | ⟨1, _⟩ => rfl

end Cert.ReferenceIdeal.Down
-- ==== Proof.Algebraic.lean ====
/- At ideal values the kernel and the reference end with the same results. -/
module

public import proofs.«01_k».proof.Defs
public import proofs.«01_k».proof.Proof.Arrays
public import proofs.«01_k».proof.Proof.Reference
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Algebraic

open Idealize.ShloMosaic Idealize.ShloMosaic.ValueIdx Idealize.SL.Sem
open Idealize.ShloMosaic.Pipeline (RDat)

/-- The kernel's results are the reference's, element by element, from any arguments. -/
theorem kernel_reference : Cert.algebraic_KernelIdeal_ReferenceIdeal (hKernelIdeal := Cert.KernelIdeal.Gen.facts)
    (hReferenceIdeal := Cert.ReferenceIdeal.Gen.facts) := fun m g m' g' _ hargs =>
  ⟨Cert.KernelIdeal.Down.out0 m, Cert.KernelIdeal.Down.out1 m,
    Cert.KernelIdeal.Down.run m g _ fun r h c => ⟨Cert.KernelIdeal.Down.result_array c r h.1, Cert.KernelIdeal.Down.scales_array c r h.1,
      h.1.arr_in c 0 rfl, h.1.arr_in c 1 rfl, h.1.arr_in c 2 rfl, h.1.arr_in c 3 rfl, h.1.arr_in c 4 rfl⟩,
    (θ_run Cert.ReferenceIdeal.defs _ _).mono (fun r h c => by
      obtain ⟨h0, h1, hrest⟩ := h c
      obtain ⟨a0, a1, a2, a3, a4⟩ := hargs c
      refine ⟨h0.trans ?_, h1.trans ?_, hrest⟩
      · rw [Cert.ReferenceIdeal.Read.val_main_v94_eq, a0, a2, a3, a4]
        funext i
        exact (congrArg _ (eq_ix2 i)).trans (Cert.ReferenceIdeal.Down.result _ _ _ _ (i 0) (i 1))
      · rw [a1, Cert.ReferenceIdeal.Read.val_main_v96_eq]
        funext i
        exact (congrArg _ (eq_ix2 i)).trans (Cert.ReferenceIdeal.Down.scales _ (i 0) (i 1))) (Cert.ReferenceIdeal.Value.run (F := Ideal) m' g')⟩

end Cert.Algebraic
-- ==== Proof.Gateup.Body.lean ====
/- The body of the gate and up projections at ideal values, told as short loops.

   The printed body is one long straight line: at the first grid point, the weights of one block of features are
   decoded into the first weight buffer; at every later one, the weights of another block into the second, then
   seven slabs of tokens from the first, the weights of the next block into the first, and seven slabs from the
   second. Each loop is here a list of one step, written once. -/
module

public import proofs.«01_k».proof.Proof.Gen.GateupIdeal.Frame

@[expose] public section

noncomputable section

namespace Cert.GateupIdeal.Proj

open Idealize.ShloMosaic Idealize.SL Idealize.SL.Sem
open Cert.GateupIdeal Cert.GateupIdeal.Gen

variable {F : FTy → Type} [FloatOps F]

/-! ## The decoded weights of a tile -/

/-- The weight scales of a block of rows: each scale byte becomes the exponent of an f32, and thirty-eight
    zero columns are appended. -/
def scales (b : Vec F S256x90 .i8) : FVec F S256x128 .f32 :=
  concatenate S256x128 1 [⟨S256x90, bitcastToFloat .f32 (shli (extui 32 b natLt_8_32) (broadcast S256x90 23#32))⟩,
    ⟨S256x38, broadcast S256x38 (Scalar.ofBits .f32 0x00000000#32)⟩] concatenates_S256x90_S256x38_S256x128_d1

/-- The low nibbles of the code words, moved to the places of an e4m3 byte's sign and magnitude. -/
def lowWords (c : Vec F S256x128 .i8) : IVec S64x128 32 :=
  ori (shli (andi (bitcast S64x128 32 c bitcasts_S256x128_w8_S64x128_w32) (broadcast S64x128 134744072#32)) (broadcast S64x128 4#32))
    (shli (andi (bitcast S64x128 32 c bitcasts_S256x128_w8_S64x128_w32) (broadcast S64x128 117901063#32)) (broadcast S64x128 2#32))

/-- The high nibbles of the code words, likewise. -/
def highWords (c : Vec F S256x128 .i8) : IVec S64x128 32 :=
  ori (andi (bitcast S64x128 32 c bitcasts_S256x128_w8_S64x128_w32) (broadcast S64x128 2155905152#32))
    (shrui (andi (bitcast S64x128 32 c bitcasts_S256x128_w8_S64x128_w32) (broadcast S64x128 1886417008#32)) (broadcast S64x128 2#32))

def lanes : IVec S256x128 32 := iota .tc S256x128 32 [1] iota_S256x128_d1_w32

/-- The lane number modulo thirty-two, as the remainder by a signed constant is spelled. -/
def lanesMod : IVec S256x128 32 :=
  select (andi (xori (cmpi .slt (remsi lanes (broadcast S256x128 (Scalar.select (Scalar.cmpi .eq 32#32 0#32) 1#32 32#32))) (broadcast S256x128 0#32))
      (broadcastTo S256x128 (broadcast S256x128 (Scalar.cmpi .slt (Scalar.select (Scalar.cmpi .eq 32#32 0#32) 1#32 32#32) 0#32)) broadcasts_S256x128_S256x128))
      (cmpi .ne (remsi lanes (broadcast S256x128 (Scalar.select (Scalar.cmpi .eq 32#32 0#32) 1#32 32#32))) (broadcast S256x128 0#32)))
    (addi (remsi lanes (broadcast S256x128 (Scalar.select (Scalar.cmpi .eq 32#32 0#32) 1#32 32#32))) (broadcast S256x128 (Scalar.select (Scalar.cmpi .eq 32#32 0#32) 1#32 32#32)))
    (remsi lanes (broadcast S256x128 (Scalar.select (Scalar.cmpi .eq 32#32 0#32) 1#32 32#32)))

/-- A lane number divided by sixteen, rounding down, as the division by a signed constant is spelled. -/
def lanesDiv (n : IVec S256x128 32) : IVec S256x128 32 :=
  select (andi (cmpi .ne (subi (extui 32 (cmpi .sgt n (broadcast S256x128 0#32)) natLt_1_32) (extui 32 (cmpi .slt n (broadcast S256x128 0#32)) natLt_1_32))
      (broadcast S256x128 (Scalar.subi (Scalar.extui (Scalar.cmpi .sgt 16#32 0#32)) (Scalar.extui (Scalar.cmpi .slt 16#32 0#32)))))
      (cmpi .ne (remsi n (broadcast S256x128 16#32)) (broadcast S256x128 0#32)))
    (subi (divsi n (broadcast S256x128 16#32)) (broadcast S256x128 1#32))
    (divsi n (broadcast S256x128 16#32))

/-- The column of the scales a lane reads: the tile's first column plus the lane over sixteen. -/
def columns (n : IVec S256x128 32) (base : BitVec 32) : IVec S256x128 32 :=
  select (cmpi .slt (addi (broadcast S256x128 base) (lanesDiv n)) (broadcast S256x128 0#32))
    (addi (addi (broadcast S256x128 base) (lanesDiv n)) (broadcast S256x128 128#32))
    (addi (broadcast S256x128 base) (lanesDiv n))

/-- The scales that the columns name, one to a lane, rounded to bf16. -/
def tileScales (s : FVec F S256x128 .f32) (n : IVec S256x128 32) (base : BitVec 32) : FVec F S256x128 .bf16 :=
  truncf .bf16 (dynamicGather 1 s
    (shapeCast S256x128 (shapeCast S256x128x1 (columns n base) shapeCasts_S256x128_S256x128x1) shapeCasts_S256x128x1_S256x128)) bitsLt_bf16_f32

/-- The decoded weights of one set of code words. -/
def decode (w : IVec S64x128 32) (sc : FVec F S256x128 .bf16) : FVec F S256x128 .bf16 :=
  mulf (mulf (extf .bf16 (bitcastToFloat .fp8e4m3 (bitcast S256x128 8 w bitcasts_S64x128_w32_S256x128_w8)) bitsLt_fp8e4m3_bf16)
    (broadcast S256x128 (Scalar.ofBits .bf16 0x4280#16))) sc

/-- A tile of 256 rows as pairs of rows. -/
def pairs (v : FVec F S256x128 .bf16) : Vec F S128x2x128 .bf16 :=
  interleaveRows S128x2x128 (shapeCast S128x1x128 (rowsOfParity 0 S128x128 v bitcasts_S256x128_w16_S128x128_w32) shapeCasts_S128x128_S128x1x128)
    (shapeCast S128x1x128 (rowsOfParity 1 S128x128 v bitcasts_S256x128_w16_S128x128_w32) shapeCasts_S128x128_S128x1x128) bitcasts_S128x2x128_w16_S128x1x128_w32

/-- The last thirty-two columns of codes, four times over. -/
def tailCodes (c : Vec F S256x32 .i8) : Vec F S256x128 .i8 :=
  concatenate S256x128 1 [⟨S256x32, c⟩, ⟨S256x32, c⟩, ⟨S256x32, c⟩, ⟨S256x32, c⟩] concatenates_S256x32_S256x32_S256x32_S256x32_S256x128_d1

/-- Thirty-two lanes of the low weights, then thirty-two of the high ones, of the rows of one parity. -/
def tailRows (lo hi : FVec F S128x128 .bf16) : FVec F S128x64 .bf16 :=
  concatenate S128x64 1 [⟨S128x32, extractStridedSlice S128x32 ![0, 0] lo slices_S128x128_o0_0_S128x32⟩,
    ⟨S128x32, extractStridedSlice S128x32 ![0, 32] hi slices_S128x128_o0_32_S128x32⟩] concatenates_S128x32_S128x32_S128x64_d1

/-- The last sixty-four columns as pairs of rows. -/
def tailPairs (lo hi : FVec F S256x128 .bf16) : Vec F S128x2x64 .bf16 :=
  interleaveRows S128x2x64
    (shapeCast S128x1x64 (tailRows (rowsOfParity 0 S128x128 lo bitcasts_S256x128_w16_S128x128_w32) (rowsOfParity 0 S128x128 hi bitcasts_S256x128_w16_S128x128_w32)) shapeCasts_S128x64_S128x1x64)
    (shapeCast S128x1x64 (tailRows (rowsOfParity 1 S128x128 lo bitcasts_S256x128_w16_S128x128_w32) (rowsOfParity 1 S128x128 hi bitcasts_S256x128_w16_S128x128_w32)) shapeCasts_S128x64_S128x1x64) bitcasts_S128x2x64_w16_S128x1x64_w32

/-! ## A slab of tokens -/

/-- The products of a slab of 256 tokens with the 512 decoded rows: the gate's 256 rows, then the up projection's. -/
def product (a : Vec F S1440x256 .i32) (w : Vec F S256x2x2880 .bf16) : FVec F S512x256 .f32 :=
  matmul dot_S512x2880_S2880x256_S512x256_1_0_0_1_n_n none
    (interleaveRows S512x2880 (shapeCast S256x2880 (rowsOfParity 0 S256x1x2880 w bitcasts_S256x2x2880_w16_S256x1x2880_w32) shapeCasts_S256x1x2880_S256x2880)
      (shapeCast S256x2880 (rowsOfParity 1 S256x1x2880 w bitcasts_S256x2x2880_w16_S256x1x2880_w32) shapeCasts_S256x1x2880_S256x2880) bitcasts_S512x2880_w16_S256x2880_w32)
    (bitcastToFloat .bf16 (bitcast S2880x256 16 a bitcasts_S1440x256_w32_S2880x256_w16)) (constant S512x256 .f32 0x00000000#32)

/-- gate · sigmoid(gate) · up, in blocks of thirty-two features. -/
def gated (acc : FVec F S512x256 .f32) : FVec F S8x32x256 .f32 :=
  shapeCast S8x32x256 (mulf (mulf (extractStridedSlice S256x256 ![0, 0] acc slices_S512x256_o0_0_S256x256)
      (logistic (extractStridedSlice S256x256 ![0, 0] acc slices_S512x256_o0_0_S256x256)))
    (extractStridedSlice S256x256 ![256, 0] acc slices_S512x256_o256_0_S256x256)) shapeCasts_S256x256_S8x32x256

/-- The greatest magnitude of each block. -/
def greatest (g : FVec F S8x32x256 .f32) : FVec F S8x1x256 .f32 :=
  shapeCast S8x1x256 (multiReduction .maximumf [1] S8x256 (absf g) 0xFF800000#32 reduces_S8x32x256_S8x256 (.inl rfl) rfl) shapeCasts_S8x256_S8x1x256

/-- One step of the search for the exponent: `b` is added where the power of two it gives is still reached. -/
def searchStep (m : FVec F S8x1x256 .f32) (e : IVec S8x1x256 32) (b : BitVec 32) : IVec S8x1x256 32 :=
  select (cmpf .olt m (bitcastToFloat .f32 (shli (addi e (broadcast S8x1x256 b)) (broadcast S8x1x256 23#32)))) e (addi e (broadcast S8x1x256 b))

/-- The exponent of a magnitude, found bit by bit. -/
def exponent (m : FVec F S8x1x256 .f32) : IVec S8x1x256 32 :=
  searchStep m (searchStep m (searchStep m (searchStep m (searchStep m (searchStep m (searchStep m (searchStep m
    (broadcast S8x1x256 0#32) 128#32) 64#32) 32#32) 16#32) 8#32) 4#32) 2#32) 1#32

/-- The scale byte of each block. -/
def scaleBytes (m : FVec F S8x1x256 .f32) : IVec S8x1x256 32 :=
  select (cmpf .oeq m (broadcast S8x1x256 (Scalar.ofBits .f32 0x00000000#32))) (broadcast S8x1x256 127#32)
    (minsi (broadcast S8x1x256 254#32) (maxsi (broadcast S8x1x256 0#32) (subi (exponent m) (broadcast S8x1x256 8#32))))

/-- The e4m3 codes of the blocks, as bf16 values. -/
def codes (g : FVec F S8x32x256 .f32) (b : IVec S8x1x256 32) : FVec F S256x256 .bf16 :=
  extf .bf16 (truncf .fp8e4m3 (shapeCast S256x256 (minimumf (broadcast S8x32x256 (Scalar.ofBits .f32 0x43E00000#32)) (maximumf (broadcast S8x32x256 (Scalar.ofBits .f32 0xC3E00000#32))
    (mulf g (broadcastTo S8x32x256 (bitcastToFloat .f32 (shli (subi (broadcast S8x1x256 254#32) b) (broadcast S8x1x256 23#32))) broadcasts_S8x1x256_S8x32x256)))) shapeCasts_S8x32x256_S256x256) bitsLt_fp8e4m3_f32) bitsLt_fp8e4m3_bf16

/-- The codes as they are stored: one row to a token. -/
def codeSlab (g : FVec F S8x32x256 .f32) : FVec F S256x256 .fp8e4m3 :=
  truncf .fp8e4m3 (transpose S256x256 [1, 0] (codes g (scaleBytes (greatest g))) transposes_S256x256_p1_0_S256x256) bitsLt_fp8e4m3_bf16

/-- The scale bytes as they are stored. -/
def scaleSlab (g : FVec F S8x32x256 .f32) : IVec S8x256 32 :=
  shapeCast S8x256 (scaleBytes (greatest g)) shapeCasts_S8x1x256_S8x256

/-- The dequantised features, in bf16. -/
def dequantised (g : FVec F S8x32x256 .f32) : FVec F S256x256 .bf16 :=
  mulf (codes g (scaleBytes (greatest g)))
    (truncf .bf16 (shapeCast S256x256 (broadcastTo S8x32x256 (shapeCast S8x1x256 (bitcastToFloat .f32 (shli (scaleBytes (greatest g)) (broadcast S8x1x256 23#32))) shapeCasts_S8x1x256_S8x1x256) broadcasts_S8x1x256_S8x32x256) shapeCasts_S8x32x256_S256x256) bitsLt_bf16_f32)

theorem slices_half (n : Fin 2) : S128x256.Slices ![0, 128 * n.val] S128x128 := by revert n; decide

/-- Half of the tokens of a slab, for the temporary buffer. -/
def tokens (q : FVec F S256x256 .bf16) (n : Fin 2) : Vec F S1x256x128 .bf16 :=
  interleaveRows S1x256x128
    (shapeCast S1x128x128 (extractStridedSlice S128x128 ![0, 128 * n.val] (rowsOfParity 0 S128x256 q bitcasts_S256x256_w16_S128x256_w32) (slices_half n)) shapeCasts_S128x128_S1x128x128)
    (shapeCast S1x128x128 (extractStridedSlice S128x128 ![0, 128 * n.val] (rowsOfParity 1 S128x256 q bitcasts_S256x256_w16_S128x256_w32) (slices_half n)) shapeCasts_S128x128_S1x128x128) bitcasts_S1x256x128_w16_S1x128x128_w32

/-- The rows of one parity of what was read from the temporary buffer. -/
def parity0 (v : Vec F S1x64x2x128 .bf16) : FVec F S64x128 .bf16 :=
  shapeCast S64x128 (rowsOfParity 0 S1x64x1x128 v bitcasts_S1x64x2x128_w16_S1x64x1x128_w32) shapeCasts_S1x64x1x128_S64x128
def parity1 (v : Vec F S1x64x2x128 .bf16) : FVec F S64x128 .bf16 :=
  shapeCast S64x128 (rowsOfParity 1 S1x64x1x128 v bitcasts_S1x64x2x128_w16_S1x64x1x128_w32) shapeCasts_S1x64x1x128_S64x128

/-- Rows of the features' words. -/
def joined (a b c d : FVec F S64x128 .bf16) : Vec F S128x256 .bf16 :=
  interleaveRows S128x256 (concatenate S64x256 1 [⟨S64x128, a⟩, ⟨S64x128, b⟩] concatenates_S64x128_S64x128_S64x256_d1)
    (concatenate S64x256 1 [⟨S64x128, c⟩, ⟨S64x128, d⟩] concatenates_S64x128_S64x128_S64x256_d1) bitcasts_S128x256_w16_S64x256_w32

/-! ## The rectangles -/

theorem inb_codes (j : Fin 11) : ∀ a, (![0, 128 * j.val] : Fin 2 → Nat) a + S256x128.size a ≤ S256x1440.size a := by
  revert j; decide
theorem inb_low (h : Fin 2) (j : Fin 11) : ∀ a, (![128 * h.val, 0, 256 * j.val] : Fin 3 → Nat) a + S128x2x128.size a ≤ S256x2x2880.size a := by
  revert h j; decide
theorem inb_high (h : Fin 2) (j : Fin 11) : ∀ a, (![128 * h.val, 0, 256 * j.val + 128] : Fin 3 → Nat) a + S128x2x128.size a ≤ S256x2x2880.size a := by
  revert h j; decide
theorem inb_tail (h : Fin 2) : ∀ a, (![128 * h.val, 0, 2816] : Fin 3 → Nat) a + S128x2x64.size a ≤ S256x2x2880.size a := by
  revert h; decide
theorem inb_act (t : Fin 7) : ∀ a, (![0, 256 * t.val] : Fin 2 → Nat) a + S1440x256.size a ≤ S1440x1792.size a := by
  revert t; decide
theorem inb_tmp (n : Fin 28) : ∀ a, (![n.val, 0, 0] : Fin 3 → Nat) a + S1x256x128.size a ≤ S28x256x128.size a := by
  revert n; decide
theorem packed_tmp (n : Fin 28) : (Rect.unit (s := S28x256x128) ![n.val, 0, 0] S1x256x128.size (inb_tmp n)).PackedRows (EltTy.packing .bf16) := by
  revert n; decide
theorem inb_strided (n : Fin 28) (p : Fin 2) : ∀ a, S1x64x2x128.size a = 0 ∨ (![n.val, p.val, 0, 0] : Fin 4 → Nat) a + (![1, 2, 1, 1] : Fin 4 → Nat) a * (S1x64x2x128.size a - 1) < S28x128x2x128.size a := by
  revert n p; decide
theorem inb_g (k : Fin 4) (t : Fin 7) : ∀ a, (![128 * k.val, 256 * t.val] : Fin 2 → Nat) a + S128x256.size a ≤ S512x1792.size a := by
  revert k t; decide
theorem packed_g (k : Fin 4) (t : Fin 7) : (Rect.unit (s := S512x1792) ![128 * k.val, 256 * t.val] S128x256.size (inb_g k t)).PackedRows (EltTy.packing .bf16) := by
  revert k t; decide
theorem inb_code (k : Fin 2) (t : Fin 7) : ∀ a, (![256 * t.val, 256 * k.val] : Fin 2 → Nat) a + S256x256.size a ≤ S1792x512.size a := by
  revert k t; decide
theorem packed_code (k : Fin 2) (t : Fin 7) : (Rect.unit (s := S1792x512) ![256 * t.val, 256 * k.val] S256x256.size (inb_code k t)).PackedRows (EltTy.packing .fp8e4m3) := by
  revert k t; decide
theorem inb_scale (k : Fin 2) (t : Fin 7) : ∀ a, (![8 * k.val, 256 * t.val] : Fin 2 → Nat) a + S8x256.size a ≤ S16x1792.size a := by
  revert k t; decide

abbrev rScales : Rect S256x90 := Rect.unit ![0, 0] S256x90.size inb_S256x90_S256x90_0_0
abbrev rCodes (j : Fin 11) : Rect S256x1440 := Rect.unit ![0, 128 * j.val] S256x128.size (inb_codes j)
abbrev rTailCodes : Rect S256x1440 := Rect.unit ![0, 1408] S256x32.size inb_S256x1440_S256x32_0_1408
abbrev rLow (h : Fin 2) (j : Fin 11) : Rect S256x2x2880 := Rect.unit ![128 * h.val, 0, 256 * j.val] S128x2x128.size (inb_low h j)
abbrev rHigh (h : Fin 2) (j : Fin 11) : Rect S256x2x2880 := Rect.unit ![128 * h.val, 0, 256 * j.val + 128] S128x2x128.size (inb_high h j)
abbrev rTail (h : Fin 2) : Rect S256x2x2880 := Rect.unit ![128 * h.val, 0, 2816] S128x2x64.size (inb_tail h)
abbrev rWeights : Rect S256x2x2880 := Rect.unit ![0, 0, 0] S256x2x2880.size inb_S256x2x2880_S256x2x2880_0_0_0
abbrev rAct (t : Fin 7) : Rect S1440x1792 := Rect.unit ![0, 256 * t.val] S1440x256.size (inb_act t)
abbrev rTmp (n : Fin 28) : Rect S28x256x128 := Rect.unit ![n.val, 0, 0] S1x256x128.size (inb_tmp n)
abbrev rStrided (n : Fin 28) (p : Fin 2) : LoadRect S28x128x2x128 := ⟨![n.val, p.val, 0, 0], S1x64x2x128.size, ![1, 2, 1, 1], inb_strided n p⟩
abbrev rG (k : Fin 4) (t : Fin 7) : Rect S512x1792 := Rect.unit ![128 * k.val, 256 * t.val] S128x256.size (inb_g k t)
abbrev rCode (k : Fin 2) (t : Fin 7) : Rect S1792x512 := Rect.unit ![256 * t.val, 256 * k.val] S256x256.size (inb_code k t)
abbrev rScale (k : Fin 2) (t : Fin 7) : Rect S16x1792 := Rect.unit ![8 * k.val, 256 * t.val] S8x256.size (inb_scale k t)

/-- The place in the temporary buffer of half `n` of slab `t` of chunk `k`. -/
abbrev slot (k : Fin 2) (t : Fin 7) (n : Fin 2) : Fin 28 := ⟨14 * k.val + 2 * t.val + n.val, by omega⟩
/-- The rows of the words of parity `p` of chunk `k`. -/
abbrev quarter (k p : Fin 2) : Fin 4 := ⟨2 * k.val + p.val, by omega⟩

/-! ## The loops -/

/-- A program of the core's effects with nothing to answer. -/
abbrev Code (F : FTy → Type) := Prog (TpuEff nD τ sig (Elt F) Λ₀ .tc) PUnit

section decoding

variable (gc : Memref sig .tc .vmem S256x1440 .i8) (gs : Memref sig .tc .vmem S256x90 .i8)
  (w : Memref sig .tc .vmem S256x2x2880 .bf16) (hw : w.IsWhole)

/-- One decoded tile of 256 columns of half `h`, then `p`. -/
def tileStep (s : FVec F S256x128 .f32) (h : Fin 2) (j : Fin 11) (p : Code F) : Code F :=
  .op (.load gc (rCodes j).toLoadRect (View.loadsAt_vmem h_S256x128)) fun c =>
  .op (.load w (rLow h j).toLoadRect (View.loadsAt_vmem h_S128x2x128)) fun _ =>
  .op (.store w (rLow h j) (pairs (decode (lowWords c) (tileScales s lanes (BitVec.ofNat 32 (8 * j.val))))) Finset.univ (View.stores_vmem h_S128x2x128 ((hw.pairWhole rank2_S256x2x2880).storeExact_slice rfl _ (Rect.wholeRows_unit rank2_S256x2x2880 rfl rfl) pairs_S256x2x2880_bf16) (fun _ => rfl)) (.inl rfl)) fun _ =>
  .op (.load w (rHigh h j).toLoadRect (View.loadsAt_vmem h_S128x2x128)) fun _ =>
  .op (.store w (rHigh h j) (pairs (decode (highWords c) (tileScales s lanes (BitVec.ofNat 32 (8 * j.val))))) Finset.univ (View.stores_vmem h_S128x2x128 ((hw.pairWhole rank2_S256x2x2880).storeExact_slice rfl _ (Rect.wholeRows_unit rank2_S256x2x2880 rfl rfl) pairs_S256x2x2880_bf16) (fun _ => rfl)) (.inl rfl)) fun _ => p

/-- The last 64 columns of half `h`, then `p`. -/
def tailStep (s : FVec F S256x128 .f32) (h : Fin 2) (p : Code F) : Code F :=
  .op (.load gc rTailCodes.toLoadRect (View.loadsAt_vmem h_S256x32)) fun c =>
  .op (.load w (rTail h).toLoadRect (View.loadsAt_vmem h_S128x2x64)) fun _ =>
  .op (.store w (rTail h) (tailPairs (decode (lowWords (tailCodes c)) (tileScales s lanesMod 88#32)) (decode (highWords (tailCodes c)) (tileScales s lanesMod 88#32))) Finset.univ (View.stores_vmem h_S128x2x64 ((hw.pairWhole rank2_S256x2x2880).storeExact_slice rfl _ (Rect.wholeRows_unit rank2_S256x2x2880 rfl rfl) pairs_S256x2x2880_bf16) (fun _ => rfl)) (.inl rfl)) fun _ => p

abbrev tiles11 : List (Fin 11) := [0, 1, 2, 3, 4, 5, 6, 7, 8, 9, 10]

/-- The decoded weights of half `h` of a buffer, then `p`. -/
def halfStep (h : Fin 2) (p : Code F) : Code F :=
  .op (.load gs rScales.toLoadRect (View.loadsAt_vmem h_S256x90)) fun b =>
    tiles11.foldr (tileStep gc w hw (scales b) h) (tailStep gc w hw (scales b) h p)

end decoding

section slabs

variable (arg1 : Memref sig .tc .vmem S1440x1792 .i32) (w : Memref sig .tc .vmem S256x2x2880 .bf16)
  (arg10 : Memref sig .tc .vmem S512x1792 .bf16) (harg10 : arg10.IsWhole)
  (arg11 : Memref sig .tc .vmem S1792x512 .fp8e4m3) (harg11 : arg11.IsWhole)
  (arg12 : Memref sig .tc .vmem S16x1792 .i32) (arg15 : Memref sig .tc .vmem S28x256x128 .bf16) (harg15 : arg15.IsWhole)

/-- Half of the tokens of a slab through the temporary buffer, then what is made of the two reads. -/
def splitStep (n : Fin 28) (v : Vec F S1x256x128 .bf16) (k : Vec F S1x64x2x128 .bf16 → Vec F S1x64x2x128 .bf16 → Code F) : Code F :=
  .op (.load arg15 (rTmp n).toLoadRect (View.loadsAt_vmem h_S1x256x128)) fun _ =>
  .op (.store arg15 (rTmp n) v Finset.univ (View.stores_vmem h_S1x256x128 (harg15.storeExact_slice rfl _ (packed_tmp n)) (fun _ => rfl)) (.inl rfl)) fun _ =>
  .op (.load (arg15.reshape S28x128x2x128 reshapes_S28x256x128_S28x128x2x128.1 reshapes_S28x256x128_S28x128x2x128.2 harg15.contiguous) (rStrided n 0) (View.loadsAt_vmem h_S1x64x2x128)) fun x =>
  .op (.load (arg15.reshape S28x128x2x128 reshapes_S28x256x128_S28x128x2x128.1 reshapes_S28x256x128_S28x128x2x128.2 harg15.contiguous) (rStrided n 1) (View.loadsAt_vmem h_S1x64x2x128)) fun y => k x y

/-- The stores of a slab, then `p`. -/
def storeStep (k : Fin 2) (t : Fin 7) (ev od : Vec F S128x256 .bf16) (g : FVec F S8x32x256 .f32) (p : Code F) : Code F :=
  .op (.load arg10 (rG (quarter k 0) t).toLoadRect (View.loadsAt_vmem h_S128x256)) fun _ =>
  .op (.store arg10 (rG (quarter k 0) t) ev Finset.univ (View.stores_vmem h_S128x256 (harg10.storeExact_slice rfl _ (packed_g (quarter k 0) t)) (fun _ => rfl)) (.inl rfl)) fun _ =>
  .op (.load arg10 (rG (quarter k 1) t).toLoadRect (View.loadsAt_vmem h_S128x256)) fun _ =>
  .op (.store arg10 (rG (quarter k 1) t) od Finset.univ (View.stores_vmem h_S128x256 (harg10.storeExact_slice rfl _ (packed_g (quarter k 1) t)) (fun _ => rfl)) (.inl rfl)) fun _ =>
  .op (.load arg11 (rCode k t).toLoadRect (View.loadsAt_vmem h_S256x256)) fun _ =>
  .op (.store arg11 (rCode k t) (codeSlab g) Finset.univ (View.stores_vmem h_S256x256 (harg11.storeExact_slice rfl _ (packed_code k t)) (fun _ => rfl)) (.inl rfl)) fun _ =>
  .op (.load arg12 (rScale k t).toLoadRect (View.loadsAt_vmem h_S8x256)) fun _ =>
  .op (.store arg12 (rScale k t) (scaleSlab g) Finset.univ (View.stores_vmem_bits_univ h_S8x256 rfl) (.inl rfl)) fun _ => p

/-- One slab of 256 tokens of chunk `k`, then `p`. -/
def slabStep (k : Fin 2) (t : Fin 7) (p : Code F) : Code F :=
  .op (.load arg1 (rAct t).toLoadRect (View.loadsAt_vmem h_S1440x256)) fun a =>
  .op (.load w rWeights.toLoadRect (View.loadsAt_vmem h_S256x2x2880)) fun b =>
  splitStep arg15 harg15 (slot k t 0) (tokens (dequantised (gated (product a b))) 0) fun x0 x1 =>
  splitStep arg15 harg15 (slot k t 1) (tokens (dequantised (gated (product a b))) 1) fun y0 y1 =>
  storeStep arg10 harg10 arg11 harg11 arg12 k t (joined (parity0 x0) (parity0 y0) (parity0 x1) (parity0 y1)) (joined (parity1 x0) (parity1 y0) (parity1 x1) (parity1 y1)) (gated (product a b)) p

abbrev slabs7 : List (Fin 7) := [0, 1, 2, 3, 4, 5, 6]

end slabs

/-- Whether a grid point is the first. -/
def cond1 (i : grid0.Coords) : BitVec 1 :=
  Scalar.cmpi .ne (Scalar.extui (Scalar.cmpi .eq (BitVec.ofNat 32 (i 0).val) 0#32)) 0#32

set_option maxHeartbeats 4000000 in
/-- At the first grid point the printed body decodes the weights of its block. -/
theorem body_first (i : grid0.Coords) (arg1 : Memref sig .tc .vmem S1440x1792 .i32) (harg1 : arg1.IsWhole) (arg2 : Memref sig .tc .vmem S256x1440 .i8) (harg2 : arg2.IsWhole) (arg3 : Memref sig .tc .vmem S256x90 .i8) (harg3 : arg3.IsWhole) (arg4 : Memref sig .tc .vmem S256x1440 .i8) (harg4 : arg4.IsWhole) (arg5 : Memref sig .tc .vmem S256x90 .i8) (harg5 : arg5.IsWhole) (arg6 : Memref sig .tc .vmem S256x1440 .i8) (harg6 : arg6.IsWhole) (arg7 : Memref sig .tc .vmem S256x90 .i8) (harg7 : arg7.IsWhole) (arg8 : Memref sig .tc .vmem S256x1440 .i8) (harg8 : arg8.IsWhole) (arg9 : Memref sig .tc .vmem S256x90 .i8) (harg9 : arg9.IsWhole) (arg10 : Memref sig .tc .vmem S512x1792 .bf16) (harg10 : arg10.IsWhole) (arg11 : Memref sig .tc .vmem S1792x512 .fp8e4m3) (harg11 : arg11.IsWhole) (arg12 : Memref sig .tc .vmem S16x1792 .i32) (harg12 : arg12.IsWhole) (arg13 : Memref sig .tc .vmem S256x2x2880 .bf16) (harg13 : arg13.IsWhole) (arg14 : Memref sig .tc .vmem S256x2x2880 .bf16) (harg14 : arg14.IsWhole) (arg15 : Memref sig .tc .vmem S28x256x128 .bf16) (harg15 : arg15.IsWhole) (h1 : cond1 i = 1#1) (h2 : ¬ k0_cond2 i = 1#1) :
    cc0_gateup (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = halfStep arg2 arg3 arg13 harg13 0 (halfStep arg4 arg5 arg13 harg13 1 (.ret ⟨⟩)) := by
  unfold cc0_gateup k0_part46
  dsimp only
  rw [dif_pos (show Scalar.cmpi .ne (Scalar.extui (Scalar.cmpi .eq (BitVec.ofNat 32 (i 0).val) 0#32)) 0#32 = 1#1 from h1), dif_neg h2]
  rfl

set_option maxRecDepth 1000000 in
set_option maxHeartbeats 40000000 in
/-- At the later ones it decodes another block, multiplies, decodes the next block and multiplies. -/
theorem body_later (i : grid0.Coords) (arg1 : Memref sig .tc .vmem S1440x1792 .i32) (harg1 : arg1.IsWhole) (arg2 : Memref sig .tc .vmem S256x1440 .i8) (harg2 : arg2.IsWhole) (arg3 : Memref sig .tc .vmem S256x90 .i8) (harg3 : arg3.IsWhole) (arg4 : Memref sig .tc .vmem S256x1440 .i8) (harg4 : arg4.IsWhole) (arg5 : Memref sig .tc .vmem S256x90 .i8) (harg5 : arg5.IsWhole) (arg6 : Memref sig .tc .vmem S256x1440 .i8) (harg6 : arg6.IsWhole) (arg7 : Memref sig .tc .vmem S256x90 .i8) (harg7 : arg7.IsWhole) (arg8 : Memref sig .tc .vmem S256x1440 .i8) (harg8 : arg8.IsWhole) (arg9 : Memref sig .tc .vmem S256x90 .i8) (harg9 : arg9.IsWhole) (arg10 : Memref sig .tc .vmem S512x1792 .bf16) (harg10 : arg10.IsWhole) (arg11 : Memref sig .tc .vmem S1792x512 .fp8e4m3) (harg11 : arg11.IsWhole) (arg12 : Memref sig .tc .vmem S16x1792 .i32) (harg12 : arg12.IsWhole) (arg13 : Memref sig .tc .vmem S256x2x2880 .bf16) (harg13 : arg13.IsWhole) (arg14 : Memref sig .tc .vmem S256x2x2880 .bf16) (harg14 : arg14.IsWhole) (arg15 : Memref sig .tc .vmem S28x256x128 .bf16) (harg15 : arg15.IsWhole) (h1 : ¬ cond1 i = 1#1) (h2 : k0_cond2 i = 1#1) :
    cc0_gateup (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = halfStep arg6 arg7 arg14 harg14 0 (halfStep arg8 arg9 arg14 harg14 1
          (slabs7.foldr (slabStep arg1 arg13 arg10 harg10 arg11 harg11 arg12 arg15 harg15 0)
          (halfStep arg2 arg3 arg13 harg13 0 (halfStep arg4 arg5 arg13 harg13 1
          (slabs7.foldr (slabStep arg1 arg14 arg10 harg10 arg11 harg11 arg12 arg15 harg15 1) (.ret ⟨⟩)))))) := by
  unfold cc0_gateup k0_part201 k0_part202 k0_part203
  dsimp only
  rw [dif_neg (show ¬ Scalar.cmpi .ne (Scalar.extui (Scalar.cmpi .eq (BitVec.ofNat 32 (i 0).val) 0#32)) 0#32 = 1#1 from h1), dif_pos h2]
  rfl

end Cert.GateupIdeal.Proj
-- ==== Proof.Gateup.Split.lean ====
/- How the dequantised features of a slab reach their rows: each half of the tokens is written to the temporary buffer
   feature by feature and read back in two strided loads, one of the pairs of features of even number and one of the
   others; the rows of one parity of both are then joined. Row `j` of what is joined is feature `2 j` or `2 j + 1`. -/
module

public import proofs.«01_k».proof.Proof.Gateup.Body
public import Idealize.ShloMosaic.Lib.ValueIdx
public import Idealize.ShloMosaic.Lib.Pipeline.Value

@[expose] public section

noncomputable section

namespace Cert.GateupIdeal.Proj

open Idealize.ShloMosaic Idealize.ShloMosaic.ValueIdx
open Cert.GateupIdeal Cert.GateupIdeal.Gen

variable {F : FTy → Type} [FloatOps F]

/-- Row `f` of half `n` of the tokens is feature `f`. -/
theorem tokens_apply (q : FVec F S256x256 .bf16) (n : Fin 2) (z : Fin 1) (f : Fin 256) (l : Fin 128) :
    tokens q n (ix3 z f l) = q (ix2 f (⟨128 * n.val + l.val, by omega⟩ : Fin 256)) := by
  unfold tokens interleaveRows
  have hr : S1x256x128.row (ix3 z f l) = f.val := rfl
  rw [hr]
  have hz : z.val = 0 := by omega
  have hm : ∀ i : S1x128x128.Idx, i = ix3 z (⟨f.val / 2, by omega⟩ : Fin 128) l →
      (S128x128.rowMajor (ix2 (⟨f.val / 2, by omega⟩ : Fin 128) l)).val = (S1x128x128.rowMajor i).val := fun i hi => by
    rw [hi, Shape.rowMajor_val_two, Shape.rowMajor_val_three]
    show f.val / 2 * 128 + l.val = (z.val * 128 + f.val / 2) * 128 + l.val
    omega
  have hi' : ∀ i : S1x128x128.Idx, (i 0).val = z.val → (i 1).val = f.val / 2 → (i 2).val = l.val → i = ix3 z (⟨f.val / 2, by omega⟩ : Fin 128) l :=
    fun i h0 h1 h2 => by
      funext b
      match b with
      | ⟨0, _⟩ => exact Fin.ext h0
      | ⟨1, _⟩ => exact Fin.ext h1
      | ⟨2, _⟩ => exact Fin.ext h2
  rcases Nat.mod_two_eq_zero_or_one f.val with e | e
  · rw [if_pos e, shapeCast_apply _ _ _ (ix2 (⟨f.val / 2, by omega⟩ : Fin 128) l) (hm _ (hi' _ rfl rfl rfl))]
    unfold extractStridedSlice rowsOfParity
    congr 1
    funext b
    match b with
    | ⟨0, _⟩ => exact Fin.ext (by show 2 * (0 + f.val / 2) + 0 = f.val; omega)
    | ⟨1, _⟩ => rfl
  · rw [if_neg (by omega), shapeCast_apply _ _ _ (ix2 (⟨f.val / 2, by omega⟩ : Fin 128) l) (hm _ (hi' _ rfl rfl rfl))]
    unfold extractStridedSlice rowsOfParity
    congr 1
    funext b
    match b with
    | ⟨0, _⟩ => exact Fin.ext (by show 2 * (0 + f.val / 2) + 1 = f.val; omega)
    | ⟨1, _⟩ => rfl

/-- What a strided load of half `n` reads: of pair `r`, the features `4 r + 2 e` and the next. -/
def ReadBack (q : FVec F S256x256 .bf16) (n e : Fin 2) (x : Vec F S1x64x2x128 .bf16) : Prop :=
  ∀ (r : Fin 64) (p : Fin 2) (l : Fin 128), x (ix4 (0 : Fin 1) r p l)
    = q (ix2 (⟨4 * r.val + 2 * e.val + p.val, by omega⟩ : Fin 256) (⟨128 * n.val + l.val, by omega⟩ : Fin 256))

/-- A strided load reads so from a buffer whose place of the half holds the half. -/
theorem readBack_of {q : FVec F S256x256 .bf16} {n e : Fin 2} {s : Fin 28} {Y : S28x256x128.Idx → Elt F .bf16} {x : Vec F S1x64x2x128 .bf16}
    (hY : ∀ i, Y ((rTmp s).emb i) = tokens q n i)
    (hx : ∀ i j, (S28x256x128.rowMajor j : ℕ) = S28x128x2x128.rowMajor ((rStrided s e).idx i) → x i = Y j) : ReadBack q n e x := fun r p l => by
  refine (hx _ ((rTmp s).emb (ix3 (0 : Fin 1) (⟨4 * r.val + 2 * e.val + p.val, by omega⟩ : Fin 256) l)) ?_).trans ((hY _).trans (tokens_apply q n _ _ _))
  rw [Shape.rowMajor_val_three, Shape.rowMajor_val_four]
  simp only [Rect.emb_apply, LoadRect.idx_apply]
  show ((s.val + 1 * 0) * 256 + (0 + 1 * (4 * r.val + 2 * e.val + p.val))) * 128 + (0 + 1 * l.val)
    = (((s.val + 1 * 0) * 128 + (e.val + 2 * r.val)) * 2 + (0 + 1 * p.val)) * 128 + (0 + 1 * l.val)
  omega

theorem parity0_apply (x : Vec F S1x64x2x128 .bf16) (r : Fin 64) (l : Fin 128) : parity0 x (ix2 r l) = x (ix4 (0 : Fin 1) r (0 : Fin 2) l) := by
  unfold parity0
  rw [shapeCast_apply _ _ _ (ix4 (0 : Fin 1) r (0 : Fin 1) l) (by
    rw [Shape.rowMajor_val_two, Shape.rowMajor_val_four]
    show ((0 * 64 + r.val) * 1 + 0) * 128 + l.val = r.val * 128 + l.val
    omega)]
  unfold rowsOfParity
  congr 1
  funext b
  match b with
  | ⟨0, _⟩ => rfl
  | ⟨1, _⟩ => rfl
  | ⟨2, _⟩ => rfl
  | ⟨3, _⟩ => rfl

theorem parity1_apply (x : Vec F S1x64x2x128 .bf16) (r : Fin 64) (l : Fin 128) : parity1 x (ix2 r l) = x (ix4 (0 : Fin 1) r (1 : Fin 2) l) := by
  unfold parity1
  rw [shapeCast_apply _ _ _ (ix4 (0 : Fin 1) r (0 : Fin 1) l) (by
    rw [Shape.rowMajor_val_two, Shape.rowMajor_val_four]
    show ((0 * 64 + r.val) * 1 + 0) * 128 + l.val = r.val * 128 + l.val
    omega)]
  unfold rowsOfParity
  congr 1
  funext b
  match b with
  | ⟨0, _⟩ => rfl
  | ⟨1, _⟩ => rfl
  | ⟨2, _⟩ => rfl
  | ⟨3, _⟩ => rfl

/-- Two halves of the tokens side by side. -/
theorem halves_apply (a b : FVec F S64x128 .bf16) (r : Fin 64) (l : Fin 256) (v : Elt F .bf16)
    (ha : ∀ h : l.val < 128, a (ix2 r (⟨l.val, h⟩ : Fin 128)) = v) (hb : ∀ h : 128 ≤ l.val, b (ix2 r (⟨l.val - 128, by omega⟩ : Fin 128)) = v) :
    concatenate S64x256 1 [⟨S64x128, a⟩, ⟨S64x128, b⟩] concatenates_S64x128_S64x128_S64x256_d1 (ix2 r l) = v := by
  by_cases h : l.val < 128
  · refine (concatenate_pair_apply_left (t := S64x256) (s₁ := S64x128) (s₂ := S64x128) 1 _ _ _ _ rfl (ix2 r (⟨l.val, h⟩ : Fin 128)) (fun b => ?_)).trans (ha h)
    match b with
    | ⟨0, _⟩ => rfl
    | ⟨1, _⟩ => rfl
  · refine (concatenate_pair_apply_right (t := S64x256) (s₁ := S64x128) (s₂ := S64x128) 1 _ _ _ _ rfl rfl (ix2 r (⟨l.val - 128, by omega⟩ : Fin 128)) (fun b hb => ?_)
      (by show l.val - 128 + 128 = l.val; omega)).trans (hb (by omega))
    match b with
    | ⟨0, _⟩ => rfl
    | ⟨1, _⟩ => exact absurd rfl hb

/-- A row of what is joined: of the first two for an even row, of the others for an odd one. -/
theorem joined_apply (a b c d : FVec F S64x128 .bf16) (j : Fin 128) (l : Fin 256) (v : Elt F .bf16)
    (ha : j.val % 2 = 0 → ∀ h : l.val < 128, a (ix2 (⟨j.val / 2, by omega⟩ : Fin 64) (⟨l.val, h⟩ : Fin 128)) = v)
    (hb : j.val % 2 = 0 → ∀ h : 128 ≤ l.val, b (ix2 (⟨j.val / 2, by omega⟩ : Fin 64) (⟨l.val - 128, by omega⟩ : Fin 128)) = v)
    (hc : j.val % 2 = 1 → ∀ h : l.val < 128, c (ix2 (⟨j.val / 2, by omega⟩ : Fin 64) (⟨l.val, h⟩ : Fin 128)) = v)
    (hd : j.val % 2 = 1 → ∀ h : 128 ≤ l.val, d (ix2 (⟨j.val / 2, by omega⟩ : Fin 64) (⟨l.val - 128, by omega⟩ : Fin 128)) = v) :
    joined a b c d (ix2 j l) = v := by
  unfold joined interleaveRows
  have hr : S128x256.row (ix2 j l) = j.val := rfl
  rw [hr]
  have hi' : ∀ i : S64x256.Idx, (i 0).val = j.val / 2 → (i 1).val = l.val → i = ix2 (⟨j.val / 2, by omega⟩ : Fin 64) l := fun i h0 h1 => by
    funext b
    match b with
    | ⟨0, _⟩ => exact Fin.ext h0
    | ⟨1, _⟩ => exact Fin.ext h1
  rcases Nat.mod_two_eq_zero_or_one j.val with e | e
  · rw [if_pos e]
    exact (congrArg _ (hi' _ rfl rfl)).trans (halves_apply a b _ l v (ha e) (hb e))
  · rw [if_neg (by omega)]
    exact (congrArg _ (hi' _ rfl rfl)).trans (halves_apply c d _ l v (hc e) (hd e))

section split

variable {q : FVec F S256x256 .bf16} {x0 x1 y0 y1 : Vec F S1x64x2x128 .bf16} (h0 : ReadBack q 0 0 x0) (h1 : ReadBack q 0 1 x1)
  (g0 : ReadBack q 1 0 y0) (g1 : ReadBack q 1 1 y1)

include h0 h1 g0 g1

/-- The even features. -/
theorem even_apply (j : Fin 128) (l : Fin 256) :
    joined (parity0 x0) (parity0 y0) (parity0 x1) (parity0 y1) (ix2 j l) = q (ix2 (⟨2 * j.val, by omega⟩ : Fin 256) l) := by
  refine joined_apply _ _ _ _ j l _ (fun e h => ?_) (fun e h => ?_) (fun e h => ?_) (fun e h => ?_)
  · rw [parity0_apply, h0]
    exact congrArg₂ (fun a b => q (ix2 a b)) (Fin.ext (by show 4 * (j.val / 2) + 2 * 0 + 0 = 2 * j.val; omega)) (Fin.ext (by show 128 * 0 + l.val = l.val; omega))
  · rw [parity0_apply, g0]
    exact congrArg₂ (fun a b => q (ix2 a b)) (Fin.ext (by show 4 * (j.val / 2) + 2 * 0 + 0 = 2 * j.val; omega)) (Fin.ext (by show 128 * 1 + (l.val - 128) = l.val; omega))
  · rw [parity0_apply, h1]
    exact congrArg₂ (fun a b => q (ix2 a b)) (Fin.ext (by show 4 * (j.val / 2) + 2 * 1 + 0 = 2 * j.val; omega)) (Fin.ext (by show 128 * 0 + l.val = l.val; omega))
  · rw [parity0_apply, g1]
    exact congrArg₂ (fun a b => q (ix2 a b)) (Fin.ext (by show 4 * (j.val / 2) + 2 * 1 + 0 = 2 * j.val; omega)) (Fin.ext (by show 128 * 1 + (l.val - 128) = l.val; omega))

/-- The odd features. -/
theorem odd_apply (j : Fin 128) (l : Fin 256) :
    joined (parity1 x0) (parity1 y0) (parity1 x1) (parity1 y1) (ix2 j l) = q (ix2 (⟨2 * j.val + 1, by omega⟩ : Fin 256) l) := by
  refine joined_apply _ _ _ _ j l _ (fun e h => ?_) (fun e h => ?_) (fun e h => ?_) (fun e h => ?_)
  · rw [parity1_apply, h0]
    exact congrArg₂ (fun a b => q (ix2 a b)) (Fin.ext (by show 4 * (j.val / 2) + 2 * 0 + 1 = 2 * j.val + 1; omega)) (Fin.ext (by show 128 * 0 + l.val = l.val; omega))
  · rw [parity1_apply, g0]
    exact congrArg₂ (fun a b => q (ix2 a b)) (Fin.ext (by show 4 * (j.val / 2) + 2 * 0 + 1 = 2 * j.val + 1; omega)) (Fin.ext (by show 128 * 1 + (l.val - 128) = l.val; omega))
  · rw [parity1_apply, h1]
    exact congrArg₂ (fun a b => q (ix2 a b)) (Fin.ext (by show 4 * (j.val / 2) + 2 * 1 + 1 = 2 * j.val + 1; omega)) (Fin.ext (by show 128 * 0 + l.val = l.val; omega))
  · rw [parity1_apply, g1]
    exact congrArg₂ (fun a b => q (ix2 a b)) (Fin.ext (by show 4 * (j.val / 2) + 2 * 1 + 1 = 2 * j.val + 1; omega)) (Fin.ext (by show 128 * 1 + (l.val - 128) = l.val; omega))

end split

end Cert.GateupIdeal.Proj
-- ==== Proof.Gateup.Fronts.lean ====
/- Bringing one of several owned buffers to the front, and a load through another shape of an owned buffer. -/
module

public import proofs.«01_k».proof.Proof.Own

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

variable {defs : Defs nD τ sig Val Λ} (𝒱 : Variants) (c : Thread nD τ) (E : Set ℕ)
  {α : Type} {s s' : Shape} {e : EltTy}

/-- A load through another shape of the same buffer reads something and leaves the buffer as it is. -/
theorem loadReshaped {cs : CoreSpace} (m : Memref sig c.2.kind cs s e) {h1 : s'.numel = s.numel} {h2 : 2 ≤ s.rank ∧ 2 ≤ s'.rank} {h3 : m.view.Contiguous}
    {r : LoadRect s'} {hl : (m.reshape s' h1 h2 h3).view.LoadsAt r}
    {k : (r.shape.Idx → Val e) → Prog (TpuEff nD τ sig Val Λ c.2) α} {q : PosShare TreeShare} {X : s.Idx → Val e} {Q : α → sProp 𝕄} {R : sProp 𝕄}
    (h : ∀ x, iprop(owns c m q X ∗ R) ⊢ wp frame (wpE defs 𝒱 c none) E (k x) Q) :
    iprop(owns c m q X ∗ R) ⊢ wp frame (wpE defs 𝒱 c none) E (.op (.load (m.reshape s' h1 h2 h3) r hl) k) Q := by
  unfold owns at h ⊢
  iintro ⟨⟨%f, %hf, H⟩, HR⟩
  have hS : (m.reshape s' h1 h2 h3).view.setOn r.set ⊆ m.view.set :=
    (View.setOn_subset_set _ _).trans (View.set_reshape m.view h1).subset
  iapply (wp_load 𝒱 c none E (m := m.reshape s' h1 h2 h3) (r := r) (hl := hl) (k := k) (f := f) (q := q) hS) $$ H
  iintro H
  iapply h
  isplitl [H]
  · iexists f; isplitr; · ipureintro; exact hf
    iexact H
  · iexact HR

/-- The same, with what is read: at each place, the contents at the place of the same row-major position. -/
theorem loadReshapedAt {cs : CoreSpace} (m : Memref sig c.2.kind cs s e) {h1 : s'.numel = s.numel} {h2 : 2 ≤ s.rank ∧ 2 ≤ s'.rank} {h3 : m.view.Contiguous}
    {r : LoadRect s'} {hl : (m.reshape s' h1 h2 h3).view.LoadsAt r}
    {k : (r.shape.Idx → Val e) → Prog (TpuEff nD τ sig Val Λ c.2) α} {q : PosShare TreeShare} {X : s.Idx → Val e} {Q : α → sProp 𝕄} {R : sProp 𝕄}
    (h : ∀ x, (∀ i j, (s.rowMajor j : ℕ) = s'.rowMajor (r.idx i) → x i = X j) → iprop(owns c m q X ∗ R) ⊢ wp frame (wpE defs 𝒱 c none) E (k x) Q) :
    iprop(owns c m q X ∗ R) ⊢ wp frame (wpE defs 𝒱 c none) E (.op (.load (m.reshape s' h1 h2 h3) r hl) k) Q := by
  unfold owns at h ⊢
  iintro ⟨⟨%f, %hf, H⟩, HR⟩
  have hS : (m.reshape s' h1 h2 h3).view.setOn r.set ⊆ m.view.set :=
    (View.setOn_subset_set _ _).trans (View.set_reshape m.view h1).subset
  iapply (wp_load 𝒱 c none E (m := m.reshape s' h1 h2 h3) (r := r) (hl := hl) (k := k) (f := f) (q := q) hS) $$ H
  iintro H
  iapply h _ (fun i j hij => by
    rw [View.readAt_apply, ← hf, ← Shape.reshapeEquiv_eq_of_rowMajor h1 hij]
    rfl)
  isplitl [H]
  · iexists f; isplitr; · ipureintro; exact hf
    iexact H
  · iexact HR

theorem front2 {A1 A2 R : sProp 𝕄} : iprop(A1 ∗ A2 ∗ R) ⊢ iprop(A2 ∗ A1 ∗ R) := by
  iintro ⟨H1, H2, HR⟩
  isplitl [H2]; · iexact H2
  isplitl [H1]; · iexact H1
  iexact HR

theorem front3 {A1 A2 A3 R : sProp 𝕄} : iprop(A1 ∗ A2 ∗ A3 ∗ R) ⊢ iprop(A3 ∗ A1 ∗ A2 ∗ R) := by
  iintro ⟨H1, H2, H3, HR⟩
  isplitl [H3]; · iexact H3
  isplitl [H1]; · iexact H1
  isplitl [H2]; · iexact H2
  iexact HR

theorem front4 {A1 A2 A3 A4 R : sProp 𝕄} : iprop(A1 ∗ A2 ∗ A3 ∗ A4 ∗ R) ⊢ iprop(A4 ∗ A1 ∗ A2 ∗ A3 ∗ R) := by
  iintro ⟨H1, H2, H3, H4, HR⟩
  isplitl [H4]; · iexact H4
  isplitl [H1]; · iexact H1
  isplitl [H2]; · iexact H2
  isplitl [H3]; · iexact H3
  iexact HR

theorem front5 {A1 A2 A3 A4 A5 R : sProp 𝕄} : iprop(A1 ∗ A2 ∗ A3 ∗ A4 ∗ A5 ∗ R) ⊢ iprop(A5 ∗ A1 ∗ A2 ∗ A3 ∗ A4 ∗ R) := by
  iintro ⟨H1, H2, H3, H4, H5, HR⟩
  isplitl [H5]; · iexact H5
  isplitl [H1]; · iexact H1
  isplitl [H2]; · iexact H2
  isplitl [H3]; · iexact H3
  isplitl [H4]; · iexact H4
  iexact HR

theorem front6 {A1 A2 A3 A4 A5 A6 R : sProp 𝕄} : iprop(A1 ∗ A2 ∗ A3 ∗ A4 ∗ A5 ∗ A6 ∗ R) ⊢ iprop(A6 ∗ A1 ∗ A2 ∗ A3 ∗ A4 ∗ A5 ∗ R) := by
  iintro ⟨H1, H2, H3, H4, H5, H6, HR⟩
  isplitl [H6]; · iexact H6
  isplitl [H1]; · iexact H1
  isplitl [H2]; · iexact H2
  isplitl [H3]; · iexact H3
  isplitl [H4]; · iexact H4
  isplitl [H5]; · iexact H5
  iexact HR

theorem front7 {A1 A2 A3 A4 A5 A6 A7 R : sProp 𝕄} : iprop(A1 ∗ A2 ∗ A3 ∗ A4 ∗ A5 ∗ A6 ∗ A7 ∗ R) ⊢ iprop(A7 ∗ A1 ∗ A2 ∗ A3 ∗ A4 ∗ A5 ∗ A6 ∗ R) := by
  iintro ⟨H1, H2, H3, H4, H5, H6, H7, HR⟩
  isplitl [H7]; · iexact H7
  isplitl [H1]; · iexact H1
  isplitl [H2]; · iexact H2
  isplitl [H3]; · iexact H3
  isplitl [H4]; · iexact H4
  isplitl [H5]; · iexact H5
  isplitl [H6]; · iexact H6
  iexact HR

theorem front8 {A1 A2 A3 A4 A5 A6 A7 A8 R : sProp 𝕄} : iprop(A1 ∗ A2 ∗ A3 ∗ A4 ∗ A5 ∗ A6 ∗ A7 ∗ A8 ∗ R) ⊢ iprop(A8 ∗ A1 ∗ A2 ∗ A3 ∗ A4 ∗ A5 ∗ A6 ∗ A7 ∗ R) := by
  iintro ⟨H1, H2, H3, H4, H5, H6, H7, H8, HR⟩
  isplitl [H8]; · iexact H8
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HR

theorem front9 {A1 A2 A3 A4 A5 A6 A7 A8 A9 R : sProp 𝕄} : iprop(A1 ∗ A2 ∗ A3 ∗ A4 ∗ A5 ∗ A6 ∗ A7 ∗ A8 ∗ A9 ∗ R) ⊢ iprop(A9 ∗ A1 ∗ A2 ∗ A3 ∗ A4 ∗ A5 ∗ A6 ∗ A7 ∗ A8 ∗ R) := by
  iintro ⟨H1, H2, H3, H4, H5, H6, H7, H8, H9, HR⟩
  isplitl [H9]; · iexact H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HR

theorem front10 {A1 A2 A3 A4 A5 A6 A7 A8 A9 A10 R : sProp 𝕄} : iprop(A1 ∗ A2 ∗ A3 ∗ A4 ∗ A5 ∗ A6 ∗ A7 ∗ A8 ∗ A9 ∗ A10 ∗ R) ⊢ iprop(A10 ∗ A1 ∗ A2 ∗ A3 ∗ A4 ∗ A5 ∗ A6 ∗ A7 ∗ A8 ∗ A9 ∗ R) := by
  iintro ⟨H1, H2, H3, H4, H5, H6, H7, H8, H9, H10, HR⟩
  isplitl [H10]; · iexact H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HR

theorem front11 {A1 A2 A3 A4 A5 A6 A7 A8 A9 A10 A11 R : sProp 𝕄} : iprop(A1 ∗ A2 ∗ A3 ∗ A4 ∗ A5 ∗ A6 ∗ A7 ∗ A8 ∗ A9 ∗ A10 ∗ A11 ∗ R) ⊢ iprop(A11 ∗ A1 ∗ A2 ∗ A3 ∗ A4 ∗ A5 ∗ A6 ∗ A7 ∗ A8 ∗ A9 ∗ A10 ∗ R) := by
  iintro ⟨H1, H2, H3, H4, H5, H6, H7, H8, H9, H10, H11, HR⟩
  isplitl [H11]; · iexact H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR

theorem front12 {A1 A2 A3 A4 A5 A6 A7 A8 A9 A10 A11 A12 R : sProp 𝕄} : iprop(A1 ∗ A2 ∗ A3 ∗ A4 ∗ A5 ∗ A6 ∗ A7 ∗ A8 ∗ A9 ∗ A10 ∗ A11 ∗ A12 ∗ R) ⊢ iprop(A12 ∗ A1 ∗ A2 ∗ A3 ∗ A4 ∗ A5 ∗ A6 ∗ A7 ∗ A8 ∗ A9 ∗ A10 ∗ A11 ∗ R) := by
  iintro ⟨H1, H2, H3, H4, H5, H6, H7, H8, H9, H10, H11, H12, HR⟩
  isplitl [H12]; · iexact H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem front13 {A1 A2 A3 A4 A5 A6 A7 A8 A9 A10 A11 A12 A13 R : sProp 𝕄} : iprop(A1 ∗ A2 ∗ A3 ∗ A4 ∗ A5 ∗ A6 ∗ A7 ∗ A8 ∗ A9 ∗ A10 ∗ A11 ∗ A12 ∗ A13 ∗ R) ⊢ iprop(A13 ∗ A1 ∗ A2 ∗ A3 ∗ A4 ∗ A5 ∗ A6 ∗ A7 ∗ A8 ∗ A9 ∗ A10 ∗ A11 ∗ A12 ∗ R) := by
  iintro ⟨H1, H2, H3, H4, H5, H6, H7, H8, H9, H10, H11, H12, H13, HR⟩
  isplitl [H13]; · iexact H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HR

theorem front14 {A1 A2 A3 A4 A5 A6 A7 A8 A9 A10 A11 A12 A13 A14 R : sProp 𝕄} : iprop(A1 ∗ A2 ∗ A3 ∗ A4 ∗ A5 ∗ A6 ∗ A7 ∗ A8 ∗ A9 ∗ A10 ∗ A11 ∗ A12 ∗ A13 ∗ A14 ∗ R) ⊢ iprop(A14 ∗ A1 ∗ A2 ∗ A3 ∗ A4 ∗ A5 ∗ A6 ∗ A7 ∗ A8 ∗ A9 ∗ A10 ∗ A11 ∗ A12 ∗ A13 ∗ R) := by
  iintro ⟨H1, H2, H3, H4, H5, H6, H7, H8, H9, H10, H11, H12, H13, H14, HR⟩
  isplitl [H14]; · iexact H14
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HR

theorem front15 {A1 A2 A3 A4 A5 A6 A7 A8 A9 A10 A11 A12 A13 A14 A15 R : sProp 𝕄} : iprop(A1 ∗ A2 ∗ A3 ∗ A4 ∗ A5 ∗ A6 ∗ A7 ∗ A8 ∗ A9 ∗ A10 ∗ A11 ∗ A12 ∗ A13 ∗ A14 ∗ A15 ∗ R) ⊢ iprop(A15 ∗ A1 ∗ A2 ∗ A3 ∗ A4 ∗ A5 ∗ A6 ∗ A7 ∗ A8 ∗ A9 ∗ A10 ∗ A11 ∗ A12 ∗ A13 ∗ A14 ∗ R) := by
  iintro ⟨H1, H2, H3, H4, H5, H6, H7, H8, H9, H10, H11, H12, H13, H14, H15, HR⟩
  isplitl [H15]; · iexact H15
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HR

end Cert.Own
-- ==== Proof.Gateup.Triple.lean ====
/- What one run of the body at ideal values leaves in its buffers: each loop's invariant, by induction over
   the loop's list of tiles. -/
module

public import proofs.«01_k».proof.Proof.Gateup.Split
public import proofs.«01_k».proof.Proof.Gateup.Fronts

@[expose] public section

noncomputable section

namespace Cert.GateupIdeal.Proj

open Cert.GateupIdeal Cert.GateupIdeal.Gen
open Idealize.ShloMosaic
open Idealize.ShloMosaic.ValueIdx (ix2)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-! ## The rectangles' places -/

theorem rLow_emb (h : Fin 2) (j : Fin 11) (x : S128x2x128.Idx) (a : Fin 3) :
    ((rLow h j).emb x a : ℕ) = (![128 * h.val, 0, 256 * j.val] : Fin 3 → ℕ) a + x a := by
  rw [Rect.emb_apply]; simp [Rect.unit]
theorem rHigh_emb (h : Fin 2) (j : Fin 11) (x : S128x2x128.Idx) (a : Fin 3) :
    ((rHigh h j).emb x a : ℕ) = (![128 * h.val, 0, 256 * j.val + 128] : Fin 3 → ℕ) a + x a := by
  rw [Rect.emb_apply]; simp [Rect.unit]
theorem rTail_emb (h : Fin 2) (x : S128x2x64.Idx) (a : Fin 3) :
    ((rTail h).emb x a : ℕ) = (![128 * h.val, 0, 2816] : Fin 3 → ℕ) a + x a := by
  rw [Rect.emb_apply]; simp [Rect.unit]
theorem rG_emb (k : Fin 4) (t : Fin 7) (x : S128x256.Idx) (a : Fin 2) :
    ((rG k t).emb x a : ℕ) = (![128 * k.val, 256 * t.val] : Fin 2 → ℕ) a + x a := by
  rw [Rect.emb_apply]; simp [Rect.unit]
theorem rCode_emb (k : Fin 2) (t : Fin 7) (x : S256x256.Idx) (a : Fin 2) :
    ((rCode k t).emb x a : ℕ) = (![256 * t.val, 256 * k.val] : Fin 2 → ℕ) a + x a := by
  rw [Rect.emb_apply]; simp [Rect.unit]
theorem rScale_emb (k : Fin 2) (t : Fin 7) (x : S8x256.Idx) (a : Fin 2) :
    ((rScale k t).emb x a : ℕ) = (![8 * k.val, 256 * t.val] : Fin 2 → ℕ) a + x a := by
  rw [Rect.emb_apply]; simp [Rect.unit]

/-- A place of the decoded weights outside half `h`. -/
def Outside (h : Fin 2) (y : S256x2x2880.Idx) : Prop := (y 0 : ℕ) / 128 ≠ h.val

theorem low_ne_low {h : Fin 2} {j j' : Fin 11} (hj : j ≠ j') (x y) : (rLow h j).emb x ≠ (rLow h j').emb y := by
  intro he
  have := congrArg (fun i : S256x2x2880.Idx => (i 2 : ℕ)) he
  simp only [rLow_emb] at this
  have hx : (x 2 : ℕ) < 128 := (x 2).isLt
  have hy : (y 2 : ℕ) < 128 := (y 2).isLt
  have : ¬ j.val = j'.val := fun e => hj (Fin.ext e)
  simp at *
  omega
theorem high_ne_high {h : Fin 2} {j j' : Fin 11} (hj : j ≠ j') (x y) : (rHigh h j).emb x ≠ (rHigh h j').emb y := by
  intro he
  have := congrArg (fun i : S256x2x2880.Idx => (i 2 : ℕ)) he
  simp only [rHigh_emb] at this
  have hx : (x 2 : ℕ) < 128 := (x 2).isLt
  have hy : (y 2 : ℕ) < 128 := (y 2).isLt
  have : ¬ j.val = j'.val := fun e => hj (Fin.ext e)
  simp at *
  omega
theorem low_ne_high {h : Fin 2} (j j' : Fin 11) (x y) : (rLow h j).emb x ≠ (rHigh h j').emb y := by
  intro he
  have := congrArg (fun i : S256x2x2880.Idx => (i 2 : ℕ)) he
  simp only [rLow_emb, rHigh_emb] at this
  have hx : (x 2 : ℕ) < 128 := (x 2).isLt
  have hy : (y 2 : ℕ) < 128 := (y 2).isLt
  simp at *
  omega
theorem low_ne_tail {h : Fin 2} (j : Fin 11) (x y) : (rLow h j).emb x ≠ (rTail h).emb y := by
  intro he
  have := congrArg (fun i : S256x2x2880.Idx => (i 2 : ℕ)) he
  simp only [rLow_emb, rTail_emb] at this
  have hx : (x 2 : ℕ) < 128 := (x 2).isLt
  have hj := j.isLt
  simp at *
  omega
theorem high_ne_tail {h : Fin 2} (j : Fin 11) (x y) : (rHigh h j).emb x ≠ (rTail h).emb y := by
  intro he
  have := congrArg (fun i : S256x2x2880.Idx => (i 2 : ℕ)) he
  simp only [rHigh_emb, rTail_emb] at this
  have hx : (x 2 : ℕ) < 128 := (x 2).isLt
  have hj := j.isLt
  simp at *
  omega
theorem low_inside {h : Fin 2} {j : Fin 11} {y} (hy : Outside h y) (x) : (rLow h j).emb x ≠ y := by
  rintro rfl
  have e := rLow_emb h j x 0
  have hx : (x 0 : ℕ) < 128 := (x 0).isLt
  unfold Outside at hy
  simp at *
  omega
theorem high_inside {h : Fin 2} {j : Fin 11} {y} (hy : Outside h y) (x) : (rHigh h j).emb x ≠ y := by
  rintro rfl
  have e := rHigh_emb h j x 0
  have hx : (x 0 : ℕ) < 128 := (x 0).isLt
  unfold Outside at hy
  simp at *
  omega
theorem tail_inside {h : Fin 2} {y} (hy : Outside h y) (x) : (rTail h).emb x ≠ y := by
  rintro rfl
  have e := rTail_emb h x 0
  have hx : (x 0 : ℕ) < 128 := (x 0).isLt
  unfold Outside at hy
  simp at *
  omega
theorem low_outside {h h' : Fin 2} (hh : h ≠ h') (j : Fin 11) (x) : Outside h' ((rLow h j).emb x) := by
  have e := rLow_emb h j x 0
  have hx : (x 0 : ℕ) < 128 := (x 0).isLt
  have : ¬ h.val = h'.val := fun e => hh (Fin.ext e)
  unfold Outside
  simp at *
  omega
theorem high_outside {h h' : Fin 2} (hh : h ≠ h') (j : Fin 11) (x) : Outside h' ((rHigh h j).emb x) := by
  have e := rHigh_emb h j x 0
  have hx : (x 0 : ℕ) < 128 := (x 0).isLt
  have : ¬ h.val = h'.val := fun e => hh (Fin.ext e)
  unfold Outside
  simp at *
  omega
theorem tail_outside {h h' : Fin 2} (hh : h ≠ h') (x) : Outside h' ((rTail h).emb x) := by
  have e := rTail_emb h x 0
  have hx : (x 0 : ℕ) < 128 := (x 0).isLt
  have : ¬ h.val = h'.val := fun e => hh (Fin.ext e)
  unfold Outside
  simp at *
  omega
theorem g_ne {k k' : Fin 4} {t t' : Fin 7} (h : ¬ (k = k' ∧ t = t')) (x y) : (rG k t).emb x ≠ (rG k' t').emb y := by
  intro he
  have e0 := congrArg (fun i : S512x1792.Idx => (i 0 : ℕ)) he
  have e1 := congrArg (fun i : S512x1792.Idx => (i 1 : ℕ)) he
  simp only [rG_emb] at e0 e1
  have hx : (x 0 : ℕ) < 128 := (x 0).isLt
  have hy : (y 0 : ℕ) < 128 := (y 0).isLt
  have hx1 : (x 1 : ℕ) < 256 := (x 1).isLt
  have hy1 : (y 1 : ℕ) < 256 := (y 1).isLt
  have : ¬ (k.val = k'.val ∧ t.val = t'.val) := fun e => h ⟨Fin.ext e.1, Fin.ext e.2⟩
  simp only [Matrix.cons_val_zero, Matrix.cons_val_one] at e0 e1
  omega
theorem quarter_ne {k k' p p' : Fin 2} (h : ¬ (k = k' ∧ p = p')) : quarter k p ≠ quarter k' p' := fun e => by
  have e' : 2 * k.val + p.val = 2 * k'.val + p'.val := congrArg Fin.val e
  exact h ⟨Fin.ext (by omega), Fin.ext (by omega)⟩
theorem code_ne {k k' : Fin 2} {t t' : Fin 7} (h : ¬ (k = k' ∧ t = t')) (x y) : (rCode k t).emb x ≠ (rCode k' t').emb y := by
  intro he
  have e0 := congrArg (fun i : S1792x512.Idx => (i 0 : ℕ)) he
  have e1 := congrArg (fun i : S1792x512.Idx => (i 1 : ℕ)) he
  simp only [rCode_emb] at e0 e1
  have hx : (x 0 : ℕ) < 256 := (x 0).isLt
  have hy : (y 0 : ℕ) < 256 := (y 0).isLt
  have hx1 : (x 1 : ℕ) < 256 := (x 1).isLt
  have hy1 : (y 1 : ℕ) < 256 := (y 1).isLt
  have : ¬ (k.val = k'.val ∧ t.val = t'.val) := fun e => h ⟨Fin.ext e.1, Fin.ext e.2⟩
  simp only [Matrix.cons_val_zero, Matrix.cons_val_one] at e0 e1
  omega
theorem scale_ne {k k' : Fin 2} {t t' : Fin 7} (h : ¬ (k = k' ∧ t = t')) (x y) : (rScale k t).emb x ≠ (rScale k' t').emb y := by
  intro he
  have e0 := congrArg (fun i : S16x1792.Idx => (i 0 : ℕ)) he
  have e1 := congrArg (fun i : S16x1792.Idx => (i 1 : ℕ)) he
  simp only [rScale_emb] at e0 e1
  have hx : (x 0 : ℕ) < 8 := (x 0).isLt
  have hy : (y 0 : ℕ) < 8 := (y 0).isLt
  have hx1 : (x 1 : ℕ) < 256 := (x 1).isLt
  have hy1 : (y 1 : ℕ) < 256 := (y 1).isLt
  have : ¬ (k.val = k'.val ∧ t.val = t'.val) := fun e => h ⟨Fin.ext e.1, Fin.ext e.2⟩
  simp only [Matrix.cons_val_zero, Matrix.cons_val_one] at e0 e1
  omega

/-! ## The invariants -/

/-- The tiles `D` of half `h` of the decoded weights are in place. -/
def Tiles (C : S256x1440.Idx → Elt F .i8) (s : FVec F S256x128 .f32) (h : Fin 2) (D : Finset (Fin 11)) (Y : S256x2x2880.Idx → Elt F .bf16) : Prop :=
  ∀ j ∈ D, (∀ x, Y ((rLow h j).emb x) = pairs (decode (lowWords (F := F) fun x => C ((rCodes j).idx x)) (tileScales s lanes (BitVec.ofNat 32 (8 * j.val)))) x)
    ∧ (∀ x, Y ((rHigh h j).emb x) = pairs (decode (highWords (F := F) fun x => C ((rCodes j).idx x)) (tileScales s lanes (BitVec.ofNat 32 (8 * j.val)))) x)

/-- The last 64 columns of half `h` are in place. -/
def Tail (C : S256x1440.Idx → Elt F .i8) (s : FVec F S256x128 .f32) (h : Fin 2) (Y : S256x2x2880.Idx → Elt F .bf16) : Prop :=
  ∀ x, Y ((rTail h).emb x) = tailPairs (decode (lowWords (tailCodes (F := F) fun x => C (rTailCodes.idx x))) (tileScales s lanesMod 88#32))
    (decode (highWords (tailCodes (F := F) fun x => C (rTailCodes.idx x))) (tileScales s lanesMod 88#32)) x

/-- Half `h` of the decoded weights is in place. -/
def Half (C : S256x1440.Idx → Elt F .i8) (S : S256x90.Idx → Elt F .i8) (h : Fin 2) (Y : S256x2x2880.Idx → Elt F .bf16) : Prop :=
  Tiles C (scales (F := F) fun x => S (rScales.idx x)) h Finset.univ Y ∧ Tail C (scales (F := F) fun x => S (rScales.idx x)) h Y

/-- The decoded weights are in place: the gate's half, then the up projection's. -/
def Weights (C0 : S256x1440.Idx → Elt F .i8) (S0 : S256x90.Idx → Elt F .i8) (C1 : S256x1440.Idx → Elt F .i8) (S1 : S256x90.Idx → Elt F .i8)
    (Y : S256x2x2880.Idx → Elt F .bf16) : Prop :=
  Half C0 S0 0 Y ∧ Half C1 S1 1 Y

/-- A half stays in place when only the other one is written. -/
theorem Half.keep {C : S256x1440.Idx → Elt F .i8} {S : S256x90.Idx → Elt F .i8} {h h' : Fin 2} (hh : h ≠ h') {X Y : S256x2x2880.Idx → Elt F .bf16}
    (hX : Half C S h X) (hY : ∀ y, Outside h' y → Y y = X y) : Half C S h Y :=
  ⟨fun j hj => ⟨fun x => (hY _ (low_outside hh j x)).trans ((hX.1 j hj).1 x), fun x => (hY _ (high_outside hh j x)).trans ((hX.1 j hj).2 x)⟩,
    fun x => (hY _ (tail_outside hh x)).trans (hX.2 x)⟩

/-- The features of a slab, from the activations and the decoded weights. -/
def features (A : S1440x1792.Idx → Elt F .i32) (W : S256x2x2880.Idx → Elt F .bf16) (t : Fin 7) : FVec F S8x32x256 .f32 :=
  gated (product (F := F) (fun x => A ((rAct t).idx x)) fun x => W (rWeights.idx x))

/-- The codes of the slabs `D` of chunk `k` are in place. -/
def Coded (A : S1440x1792.Idx → Elt F .i32) (W : S256x2x2880.Idx → Elt F .bf16) (k : Fin 2) (D : Finset (Fin 7)) (Y : S1792x512.Idx → Elt F .fp8e4m3) : Prop :=
  ∀ t ∈ D, ∀ x, Y ((rCode k t).emb x) = codeSlab (features A W t) x

/-- The scale bytes of the slabs `D` of chunk `k` are in place. -/
def Scaled (A : S1440x1792.Idx → Elt F .i32) (W : S256x2x2880.Idx → Elt F .bf16) (k : Fin 2) (D : Finset (Fin 7)) (Y : S16x1792.Idx → Elt F .i32) : Prop :=
  ∀ t ∈ D, ∀ x, Y ((rScale k t).emb x) = scaleSlab (features A W t) x

/-- The dequantised rows of the slabs `D` of chunk `k` are in place: the even features, then the odd ones. -/
def Rowed (A : S1440x1792.Idx → Elt F .i32) (W : S256x2x2880.Idx → Elt F .bf16) (k : Fin 2) (D : Finset (Fin 7)) (Y : S512x1792.Idx → Elt F .bf16) : Prop :=
  ∀ t ∈ D, ∀ (p : Fin 2) (j : Fin 128) (l : Fin 256),
    Y ((rG (quarter k p) t).emb (ix2 j l)) = dequantised (features A W t) (ix2 (⟨2 * j.val + p.val, by omega⟩ : Fin 256) l)

/-- The dequantised rows of the other chunk are kept. -/
def KeepsRows (k : Fin 2) (X Y : S512x1792.Idx → Elt F .bf16) : Prop :=
  ∀ k' : Fin 2, k' ≠ k → ∀ p t x, Y ((rG (quarter k' p) t).emb x) = X ((rG (quarter k' p) t).emb x)

/-- The codes of the other chunk are kept. -/
def KeepsCodes (k : Fin 2) (X Y : S1792x512.Idx → Elt F .fp8e4m3) : Prop :=
  ∀ k' : Fin 2, k' ≠ k → ∀ t x, Y ((rCode k' t).emb x) = X ((rCode k' t).emb x)

/-- The scale bytes of the other chunk are kept. -/
def KeepsScales (k : Fin 2) (X Y : S16x1792.Idx → Elt F .i32) : Prop :=
  ∀ k' : Fin 2, k' ≠ k → ∀ t x, Y ((rScale k' t).emb x) = X ((rScale k' t).emb x)

section decoding

variable (c : Dev nD) (gc : Memref sig .tc .vmem S256x1440 .i8) (gs : Memref sig .tc .vmem S256x90 .i8)
  (w : Memref sig .tc .vmem S256x2x2880 .bf16) (hw : w.IsWhole)

/-- One tile of half `h`: the tiles `D` in place before, `j` and `D` after. -/
theorem tile_step (E : Set ℕ) (s : FVec F S256x128 .f32) (h : Fin 2) (j : Fin 11) (D : Finset (Fin 11)) (C : S256x1440.Idx → Elt F .i8)
    (X : S256x2x2880.Idx → Elt F .bf16) (hX : Tiles C s h D X) (p : Code F) (Q : PUnit → sProp 𝕄) (R : sProp 𝕄)
    (hp : ∀ Y, Tiles C s h (insert j D) Y → (∀ y, Outside h y → Y y = X y) →
      iprop(owns (c : Thread nD τ) gc fullShare C ∗ owns (c : Thread nD τ) w fullShare Y ∗ R) ⊢ wp frame (wpE (defs₀ (F := F)) 𝒱₀ c none) E (p) Q) :
    iprop(owns (c : Thread nD τ) gc fullShare C ∗ owns (c : Thread nD τ) w fullShare X ∗ R) ⊢ wp frame (wpE (defs₀ (F := F)) 𝒱₀ c none) E (tileStep gc w hw s h j p) Q := by
  unfold tileStep
  refine Own.load 𝒱₀ (c : Thread nD τ) E gc ?_
  refine Own.front2.trans ?_
  refine Own.load 𝒱₀ (c : Thread nD τ) E w ?_
  refine Own.store 𝒱₀ (c : Thread nD τ) E w fun Y hY hY' => ?_
  refine Own.load 𝒱₀ (c : Thread nD τ) E w ?_
  refine Own.store 𝒱₀ (c : Thread nD τ) E w fun Z hZ hZ' => ?_
  refine Own.front2.trans ?_
  refine hp Z (fun j' hj' => ?_) fun y hy => (hZ' y (high_inside hy)).trans (hY' y (low_inside hy))
  by_cases hjj : j' = j
  · subst hjj
    exact ⟨fun x => (hZ' _ fun y => (low_ne_high j' j' x y).symm).trans (hY x), hZ⟩
  · have hD := hX j' (Finset.mem_of_mem_insert_of_ne hj' hjj)
    exact ⟨fun x => (hZ' _ fun y => (low_ne_high j' j x y).symm).trans ((hY' _ fun y => (low_ne_low hjj x y).symm).trans (hD.1 x)),
      fun x => (hZ' _ fun y => (high_ne_high hjj x y).symm).trans ((hY' _ fun y => low_ne_high j j' y x).trans (hD.2 x))⟩

/-- A list of tiles. -/
theorem tiles_run (E : Set ℕ) (s : FVec F S256x128 .f32) (h : Fin 2) (l : List (Fin 11)) (D : Finset (Fin 11)) (C : S256x1440.Idx → Elt F .i8)
    (X : S256x2x2880.Idx → Elt F .bf16) (hX : Tiles C s h D X) (p : Code F) (Q : PUnit → sProp 𝕄) (R : sProp 𝕄)
    (hp : ∀ Y, Tiles C s h (l.toFinset ∪ D) Y → (∀ y, Outside h y → Y y = X y) →
      iprop(owns (c : Thread nD τ) gc fullShare C ∗ owns (c : Thread nD τ) w fullShare Y ∗ R) ⊢ wp frame (wpE (defs₀ (F := F)) 𝒱₀ c none) E (p) Q) :
    iprop(owns (c : Thread nD τ) gc fullShare C ∗ owns (c : Thread nD τ) w fullShare X ∗ R) ⊢ wp frame (wpE (defs₀ (F := F)) 𝒱₀ c none) E (l.foldr (tileStep gc w hw s h) p) Q := by
  induction l generalizing D X with
  | nil => exact hp X (by simpa using hX) fun _ _ => rfl
  | cons j l ih =>
    refine tile_step c gc w hw E s h j D C X hX _ Q R fun Y hY hO => ?_
    exact ih (insert j D) Y hY fun Z hZ hO' => hp Z (by simpa [Finset.union_insert] using hZ) fun y hy => (hO' y hy).trans (hO y hy)

/-- Half `h` of the weights decoded, the other half left as it was. -/
theorem half_run (E : Set ℕ) (h : Fin 2) (C : S256x1440.Idx → Elt F .i8) (S : S256x90.Idx → Elt F .i8)
    (X : S256x2x2880.Idx → Elt F .bf16) (p : Code F) (Q : PUnit → sProp 𝕄) (R : sProp 𝕄)
    (hp : ∀ Y, Half C S h Y → (∀ y, Outside h y → Y y = X y) →
      iprop(owns (c : Thread nD τ) gs fullShare S ∗ owns (c : Thread nD τ) gc fullShare C ∗ owns (c : Thread nD τ) w fullShare Y ∗ R) ⊢ wp frame (wpE (defs₀ (F := F)) 𝒱₀ c none) E (p) Q) :
    iprop(owns (c : Thread nD τ) gs fullShare S ∗ owns (c : Thread nD τ) gc fullShare C ∗ owns (c : Thread nD τ) w fullShare X ∗ R) ⊢ wp frame (wpE (defs₀ (F := F)) 𝒱₀ c none) E (halfStep gc gs w hw h p) Q := by
  unfold halfStep
  refine Own.load 𝒱₀ (c : Thread nD τ) E gs ?_
  refine Own.front3.trans ?_
  refine Own.front3.trans ?_
  refine tiles_run c gc w hw E _ h tiles11 ∅ C X (fun _ hj => absurd hj (Finset.notMem_empty _)) _ Q _ fun Y hY hO => ?_
  rw [show tiles11.toFinset ∪ ∅ = (Finset.univ : Finset (Fin 11)) by decide] at hY
  unfold tailStep
  refine Own.load 𝒱₀ (c : Thread nD τ) E gc ?_
  refine Own.front2.trans ?_
  refine Own.load 𝒱₀ (c : Thread nD τ) E w ?_
  refine Own.store 𝒱₀ (c : Thread nD τ) E w fun Z hZ hZ' => ?_
  refine Own.front2.trans ?_
  refine Own.front3.trans ?_
  exact hp Z ⟨fun j hj => ⟨fun x => (hZ' _ fun y => (low_ne_tail j x y).symm).trans ((hY j hj).1 x),
      fun x => (hZ' _ fun y => (high_ne_tail j x y).symm).trans ((hY j hj).2 x)⟩, hZ⟩
    fun y hy => (hZ' y (tail_inside hy)).trans (hO y hy)

end decoding

section slabs

variable (c : Dev nD) (arg1 : Memref sig .tc .vmem S1440x1792 .i32) (w : Memref sig .tc .vmem S256x2x2880 .bf16)
  (arg10 : Memref sig .tc .vmem S512x1792 .bf16) (harg10 : arg10.IsWhole)
  (arg11 : Memref sig .tc .vmem S1792x512 .fp8e4m3) (harg11 : arg11.IsWhole)
  (arg12 : Memref sig .tc .vmem S16x1792 .i32) (arg15 : Memref sig .tc .vmem S28x256x128 .bf16) (harg15 : arg15.IsWhole)

/-- One slab of chunk `k`. -/
theorem slab_step (E : Set ℕ) (k : Fin 2) (t : Fin 7) (D : Finset (Fin 7)) (A : S1440x1792.Idx → Elt F .i32) (W : S256x2x2880.Idx → Elt F .bf16)
    (X15 : S28x256x128.Idx → Elt F .bf16) (X10 : S512x1792.Idx → Elt F .bf16) (X11 : S1792x512.Idx → Elt F .fp8e4m3) (X12 : S16x1792.Idx → Elt F .i32)
    (h10X : Rowed A W k D X10) (h11X : Coded A W k D X11) (h12X : Scaled A W k D X12) (p : Code F) (Q : PUnit → sProp 𝕄) (R : sProp 𝕄)
    (hp : ∀ Y15 Y10 Y11 Y12, Rowed A W k (insert t D) Y10 → Coded A W k (insert t D) Y11 → Scaled A W k (insert t D) Y12 → KeepsRows (F := F) k X10 Y10 → KeepsCodes (F := F) k X11 Y11 → KeepsScales (F := F) k X12 Y12 →
      iprop(owns (c : Thread nD τ) arg1 fullShare A ∗ owns (c : Thread nD τ) w fullShare W ∗ owns (c : Thread nD τ) arg15 fullShare Y15 ∗ owns (c : Thread nD τ) arg10 fullShare Y10 ∗ owns (c : Thread nD τ) arg11 fullShare Y11 ∗ owns (c : Thread nD τ) arg12 fullShare Y12 ∗ R)
        ⊢ wp frame (wpE (defs₀ (F := F)) 𝒱₀ c none) E (p) Q) :
    iprop(owns (c : Thread nD τ) arg1 fullShare A ∗ owns (c : Thread nD τ) w fullShare W ∗ owns (c : Thread nD τ) arg15 fullShare X15 ∗ owns (c : Thread nD τ) arg10 fullShare X10 ∗ owns (c : Thread nD τ) arg11 fullShare X11 ∗ owns (c : Thread nD τ) arg12 fullShare X12 ∗ R)
      ⊢ wp frame (wpE (defs₀ (F := F)) 𝒱₀ c none) E (slabStep arg1 w arg10 harg10 arg11 harg11 arg12 arg15 harg15 k t p) Q := by
  unfold slabStep splitStep storeStep
  refine Own.load 𝒱₀ (c : Thread nD τ) E arg1 ?_
  refine Own.front2.trans ?_
  refine Own.load 𝒱₀ (c : Thread nD τ) E w ?_
  refine Own.front3.trans ?_
  refine Own.load 𝒱₀ (c : Thread nD τ) E arg15 ?_
  refine Own.store 𝒱₀ (c : Thread nD τ) E arg15 fun Y15x hx _ => ?_
  refine Own.loadReshapedAt 𝒱₀ (c : Thread nD τ) E arg15 fun x0 rx0 => ?_
  refine Own.loadReshapedAt 𝒱₀ (c : Thread nD τ) E arg15 fun x1 rx1 => ?_
  refine Own.load 𝒱₀ (c : Thread nD τ) E arg15 ?_
  refine Own.store 𝒱₀ (c : Thread nD τ) E arg15 fun Y15y hy _ => ?_
  refine Own.loadReshapedAt 𝒱₀ (c : Thread nD τ) E arg15 fun y0 ry0 => ?_
  refine Own.loadReshapedAt 𝒱₀ (c : Thread nD τ) E arg15 fun y1 ry1 => ?_
  refine Own.front4.trans ?_
  refine Own.load 𝒱₀ (c : Thread nD τ) E arg10 ?_
  refine Own.store 𝒱₀ (c : Thread nD τ) E arg10 fun Y10a h10a h10a' => ?_
  refine Own.load 𝒱₀ (c : Thread nD τ) E arg10 ?_
  refine Own.store 𝒱₀ (c : Thread nD τ) E arg10 fun Y10b h10b h10b' => ?_
  refine Own.front5.trans ?_
  refine Own.load 𝒱₀ (c : Thread nD τ) E arg11 ?_
  refine Own.store 𝒱₀ (c : Thread nD τ) E arg11 fun Y11 h11 h11' => ?_
  refine Own.front6.trans ?_
  refine Own.load 𝒱₀ (c : Thread nD τ) E arg12 ?_
  refine Own.store 𝒱₀ (c : Thread nD τ) E arg12 fun Y12 h12 h12' => ?_
  refine Own.front2.trans ?_
  refine Own.front3.trans ?_
  refine Own.front4.trans ?_
  refine Own.front5.trans ?_
  refine Own.front6.trans ?_
  have b0 := readBack_of hx rx0
  have b1 := readBack_of hx rx1
  have c0 := readBack_of hy ry0
  have c1 := readBack_of hy ry1
  refine hp _ _ _ _ (fun t' ht' p j l => ?_) (fun t' ht' x => ?_) (fun t' ht' x => ?_)
    (fun k' hk' p t' x => (h10b' _ fun y => g_ne (fun e => quarter_ne (fun e => hk' e.1.symm) e.1) y x).trans
      (h10a' _ fun y => g_ne (fun e => quarter_ne (fun e => hk' e.1.symm) e.1) y x)) (fun k' hk' t' x => h11' _ fun y => code_ne (fun e => hk' e.1.symm) y x)
    (fun k' hk' t' x => h12' _ fun y => scale_ne (fun e => hk' e.1.symm) y x)
  · by_cases htt : t' = t
    · subst htt
      rcases (by omega : p = 0 ∨ p = 1) with e | e
      · subst e
        exact (h10b' _ fun y => g_ne (fun e => quarter_ne (fun e => absurd e.2 (by decide)) e.1) y _).trans ((h10a _).trans (even_apply b0 b1 c0 c1 j l))
      · subst e
        exact (h10b _).trans (odd_apply b0 b1 c0 c1 j l)
    · exact (h10b' _ fun y => g_ne (fun e => htt e.2.symm) y _).trans ((h10a' _ fun y => g_ne (fun e => htt e.2.symm) y _).trans
        (h10X t' (Finset.mem_of_mem_insert_of_ne ht' htt) p j l))
  · by_cases htt : t' = t
    · subst htt; exact h11 x
    · exact (h11' _ fun y => code_ne (fun e => htt e.2.symm) y x).trans (h11X t' (Finset.mem_of_mem_insert_of_ne ht' htt) x)
  · by_cases htt : t' = t
    · subst htt; exact h12 x
    · exact (h12' _ fun y => scale_ne (fun e => htt e.2.symm) y x).trans (h12X t' (Finset.mem_of_mem_insert_of_ne ht' htt) x)

/-- A list of slabs of chunk `k`. -/
theorem slabs_run (E : Set ℕ) (k : Fin 2) (l : List (Fin 7)) (D : Finset (Fin 7)) (A : S1440x1792.Idx → Elt F .i32) (W : S256x2x2880.Idx → Elt F .bf16)
    (X15 : S28x256x128.Idx → Elt F .bf16) (X10 : S512x1792.Idx → Elt F .bf16) (X11 : S1792x512.Idx → Elt F .fp8e4m3) (X12 : S16x1792.Idx → Elt F .i32)
    (h10X : Rowed A W k D X10) (h11X : Coded A W k D X11) (h12X : Scaled A W k D X12) (p : Code F) (Q : PUnit → sProp 𝕄) (R : sProp 𝕄)
    (hp : ∀ Y15 Y10 Y11 Y12, Rowed A W k (l.toFinset ∪ D) Y10 → Coded A W k (l.toFinset ∪ D) Y11 → Scaled A W k (l.toFinset ∪ D) Y12 → KeepsRows (F := F) k X10 Y10 → KeepsCodes (F := F) k X11 Y11 → KeepsScales (F := F) k X12 Y12 →
      iprop(owns (c : Thread nD τ) arg1 fullShare A ∗ owns (c : Thread nD τ) w fullShare W ∗ owns (c : Thread nD τ) arg15 fullShare Y15 ∗ owns (c : Thread nD τ) arg10 fullShare Y10 ∗ owns (c : Thread nD τ) arg11 fullShare Y11 ∗ owns (c : Thread nD τ) arg12 fullShare Y12 ∗ R)
        ⊢ wp frame (wpE (defs₀ (F := F)) 𝒱₀ c none) E (p) Q) :
    iprop(owns (c : Thread nD τ) arg1 fullShare A ∗ owns (c : Thread nD τ) w fullShare W ∗ owns (c : Thread nD τ) arg15 fullShare X15 ∗ owns (c : Thread nD τ) arg10 fullShare X10 ∗ owns (c : Thread nD τ) arg11 fullShare X11 ∗ owns (c : Thread nD τ) arg12 fullShare X12 ∗ R)
      ⊢ wp frame (wpE (defs₀ (F := F)) 𝒱₀ c none) E (l.foldr (slabStep arg1 w arg10 harg10 arg11 harg11 arg12 arg15 harg15 k) p) Q := by
  induction l generalizing D X15 X10 X11 X12 with
  | nil => exact hp X15 X10 X11 X12 (by simpa using h10X) (by simpa using h11X) (by simpa using h12X) (fun _ _ _ _ _ => rfl) (fun _ _ _ _ => rfl) fun _ _ _ _ => rfl
  | cons t l ih =>
    refine slab_step c arg1 w arg10 harg10 arg11 harg11 arg12 arg15 harg15 E k t D A W X15 X10 X11 X12 h10X h11X h12X _ Q R fun Y15 Y10 Y11 Y12 h10 h11 h12 k10 k11 k12 => ?_
    exact ih (insert t D) Y15 Y10 Y11 Y12 h10 h11 h12 fun Z15 Z10 Z11 Z12 h10 h11 h12 k10' k11' k12' =>
      hp Z15 Z10 Z11 Z12 (by simpa [Finset.union_insert] using h10) (by simpa [Finset.union_insert] using h11) (by simpa [Finset.union_insert] using h12)
        (fun k' hk' p t x => (k10' k' hk' p t x).trans (k10 k' hk' p t x)) (fun k' hk' t x => (k11' k' hk' t x).trans (k11 k' hk' t x)) fun k' hk' t x => (k12' k' hk' t x).trans (k12 k' hk' t x)

/-- All slabs of chunk `k`. -/
theorem chunk_run (E : Set ℕ) (k : Fin 2) (A : S1440x1792.Idx → Elt F .i32) (W : S256x2x2880.Idx → Elt F .bf16)
    (X15 : S28x256x128.Idx → Elt F .bf16) (X10 : S512x1792.Idx → Elt F .bf16) (X11 : S1792x512.Idx → Elt F .fp8e4m3) (X12 : S16x1792.Idx → Elt F .i32)
    (p : Code F) (Q : PUnit → sProp 𝕄) (R : sProp 𝕄)
    (hp : ∀ Y15 Y10 Y11 Y12, Rowed A W k Finset.univ Y10 → Coded A W k Finset.univ Y11 → Scaled A W k Finset.univ Y12 → KeepsRows (F := F) k X10 Y10 → KeepsCodes (F := F) k X11 Y11 → KeepsScales (F := F) k X12 Y12 →
      iprop(owns (c : Thread nD τ) arg1 fullShare A ∗ owns (c : Thread nD τ) w fullShare W ∗ owns (c : Thread nD τ) arg15 fullShare Y15 ∗ owns (c : Thread nD τ) arg10 fullShare Y10 ∗ owns (c : Thread nD τ) arg11 fullShare Y11 ∗ owns (c : Thread nD τ) arg12 fullShare Y12 ∗ R)
        ⊢ wp frame (wpE (defs₀ (F := F)) 𝒱₀ c none) E (p) Q) :
    iprop(owns (c : Thread nD τ) arg1 fullShare A ∗ owns (c : Thread nD τ) w fullShare W ∗ owns (c : Thread nD τ) arg15 fullShare X15 ∗ owns (c : Thread nD τ) arg10 fullShare X10 ∗ owns (c : Thread nD τ) arg11 fullShare X11 ∗ owns (c : Thread nD τ) arg12 fullShare X12 ∗ R)
      ⊢ wp frame (wpE (defs₀ (F := F)) 𝒱₀ c none) E (slabs7.foldr (slabStep arg1 w arg10 harg10 arg11 harg11 arg12 arg15 harg15 k) p) Q := by
  refine slabs_run c arg1 w arg10 harg10 arg11 harg11 arg12 arg15 harg15 E k slabs7 ∅ A W X15 X10 X11 X12 (fun _ hj => absurd hj (Finset.notMem_empty _))
    (fun _ hj => absurd hj (Finset.notMem_empty _)) (fun _ hj => absurd hj (Finset.notMem_empty _)) p Q R fun Y15 Y10 Y11 Y12 h10 h11 h12 => ?_
  rw [show slabs7.toFinset ∪ ∅ = (Finset.univ : Finset (Fin 7)) by decide] at h10 h11 h12
  exact hp Y15 Y10 Y11 Y12 h10 h11 h12

end slabs

end Cert.GateupIdeal.Proj
-- ==== Proof.Gateup.Run.lean ====
/- The whole body at one grid point, the contents each window's buffer may hold there, and the run of the
   program from them. Between two points the first weight buffer holds the weights decoded from the blocks of
   the earlier point; at every point but the first the dequantised rows, the codes and the
   scale bytes of two chunks are written. -/
module

public import proofs.«01_k».proof.Proof.Gateup.Triple
public import proofs.«01_k».proof.Proof.Gen.GateupIdeal.Launch
public import proofs.«01_k».proof.Proof.Gen.GateupIdeal.Points
public import proofs.«01_k».proof.Proof.Gen.GateupIdeal.Frame
public import Idealize.ShloMosaic.Lib.Pipeline.FrameBody

@[expose] public section

noncomputable section

namespace Cert.GateupIdeal.Proj

open Cert.GateupIdeal Cert.GateupIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA scopedRest)

variable {F : FTy → Type} [FloatOps F]

local notation "𝕄" => MT nD τ sig Unit (Elt F) ℕ (UR sig nD τ) ℕ

/-- The dequantised rows, the codes and the scale bytes of both chunks are in place: chunk 0 from the weights `W0`, chunk 1 from `W1`. -/
def Quantised (A : S1440x1792.Idx → Elt F .i32) (W0 W1 : S256x2x2880.Idx → Elt F .bf16) (Y10 : S512x1792.Idx → Elt F .bf16) (Y11 : S1792x512.Idx → Elt F .fp8e4m3) (Y12 : S16x1792.Idx → Elt F .i32) : Prop :=
  (Rowed A W0 0 Finset.univ Y10 ∧ Rowed A W1 1 Finset.univ Y10) ∧ (Coded A W0 0 Finset.univ Y11 ∧ Coded A W1 1 Finset.univ Y11) ∧ Scaled A W0 0 Finset.univ Y12 ∧ Scaled A W1 1 Finset.univ Y12

section

variable (c : Dev nD)

/-- The whole body at one grid point. -/
theorem body_run (i : grid0.Coords) (arg1 : Memref sig .tc .vmem S1440x1792 .i32) (harg1 : arg1.IsWhole) (arg2 : Memref sig .tc .vmem S256x1440 .i8) (harg2 : arg2.IsWhole) (arg3 : Memref sig .tc .vmem S256x90 .i8) (harg3 : arg3.IsWhole) (arg4 : Memref sig .tc .vmem S256x1440 .i8) (harg4 : arg4.IsWhole) (arg5 : Memref sig .tc .vmem S256x90 .i8) (harg5 : arg5.IsWhole) (arg6 : Memref sig .tc .vmem S256x1440 .i8) (harg6 : arg6.IsWhole) (arg7 : Memref sig .tc .vmem S256x90 .i8) (harg7 : arg7.IsWhole) (arg8 : Memref sig .tc .vmem S256x1440 .i8) (harg8 : arg8.IsWhole) (arg9 : Memref sig .tc .vmem S256x90 .i8) (harg9 : arg9.IsWhole) (arg10 : Memref sig .tc .vmem S512x1792 .bf16) (harg10 : arg10.IsWhole) (arg11 : Memref sig .tc .vmem S1792x512 .fp8e4m3) (harg11 : arg11.IsWhole) (arg12 : Memref sig .tc .vmem S16x1792 .i32) (harg12 : arg12.IsWhole) (arg13 : Memref sig .tc .vmem S256x2x2880 .bf16) (harg13 : arg13.IsWhole) (arg14 : Memref sig .tc .vmem S256x2x2880 .bf16) (harg14 : arg14.IsWhole) (arg15 : Memref sig .tc .vmem S28x256x128 .bf16) (harg15 : arg15.IsWhole)
    (E : Set ℕ) (X1 : S1440x1792.Idx → Elt F .i32) (X2 : S256x1440.Idx → Elt F .i8) (X3 : S256x90.Idx → Elt F .i8) (X4 : S256x1440.Idx → Elt F .i8) (X5 : S256x90.Idx → Elt F .i8) (X6 : S256x1440.Idx → Elt F .i8) (X7 : S256x90.Idx → Elt F .i8) (X8 : S256x1440.Idx → Elt F .i8) (X9 : S256x90.Idx → Elt F .i8) (X10 : S512x1792.Idx → Elt F .bf16) (X11 : S1792x512.Idx → Elt F .fp8e4m3) (X12 : S16x1792.Idx → Elt F .i32) (X13 : S256x2x2880.Idx → Elt F .bf16) (X14 : S256x2x2880.Idx → Elt F .bf16) (X15 : S28x256x128.Idx → Elt F .bf16) (Q : PUnit → sProp 𝕄) (R : sProp 𝕄) (hi : cond1 i = 1#1 ↔ ¬ k0_cond2 i = 1#1)
    (h : ∀ Y10 Y11 Y12 Y13 Y14 Y15, Weights X2 X3 X4 X5 Y13 → (¬ cond1 i = 1#1 → Weights X6 X7 X8 X9 Y14 ∧ Quantised X1 X13 Y14 Y10 Y11 Y12) →
      iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15 ∗ R) ⊢ Q ⟨⟩) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ R)
      ⊢ wp frame (wpE (defs₀ (F := F)) 𝒱₀ c none) E (cc0_gateup (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  by_cases hc : cond1 i = 1#1
  · rw [body_first (h1 := hc) (h2 := hi.mp hc)]
    refine Own.front13.trans ?_
    refine Own.front3.trans ?_
    refine Own.front4.trans ?_
    refine half_run c arg2 arg3 arg13 harg13 E 0 X2 X3 X13 _ Q _ fun W hW _ => ?_
    refine Own.front3.trans ?_
    refine Own.front5.trans ?_
    refine Own.front6.trans ?_
    refine half_run c arg4 arg5 arg13 harg13 E 1 X4 X5 W _ Q _ fun Y13 hY hO => ?_
    refine Own.front3.trans ?_
    refine Own.front13.trans ?_
    refine Own.front13.trans ?_
    refine Own.front13.trans ?_
    refine Own.front13.trans ?_
    refine Own.front13.trans ?_
    refine Own.front13.trans ?_
    refine Own.front13.trans ?_
    refine Own.front9.trans ?_
    refine Own.front10.trans ?_
    refine Own.front11.trans ?_
    refine Own.front12.trans ?_
    refine Own.front13.trans ?_
    exact (h X10 X11 X12 Y13 X14 X15 ⟨hW.keep (by decide) hO, hY⟩ fun hn => absurd hc hn).trans (le_wp_ret _ _ _ _ _)
  · rw [body_later (h1 := hc) (h2 := by by_contra hn; exact hc (hi.mpr hn))]
    refine Own.front14.trans ?_
    refine Own.front7.trans ?_
    refine Own.front8.trans ?_
    refine half_run c arg6 arg7 arg14 harg14 E 0 X6 X7 X14 _ Q _ fun W4 hW4 _ => ?_
    refine Own.front3.trans ?_
    refine Own.front9.trans ?_
    refine Own.front10.trans ?_
    refine half_run c arg8 arg9 arg14 harg14 E 1 X8 X9 W4 _ Q _ fun Y14 hY14 hO4 => ?_
    refine Own.front13.trans ?_
    refine Own.front13.trans ?_
    refine Own.front13.trans ?_
    refine Own.front15.trans ?_
    refine Own.front15.trans ?_
    refine Own.front11.trans ?_
    refine chunk_run c arg1 arg13 arg10 harg10 arg11 harg11 arg12 arg15 harg15 E 0 X1 X13 X15 X10 X11 X12 _ Q _ fun Z15 Z10 Z11 Z12 g0 c0 s0 _ _ _ => ?_
    refine Own.front2.trans ?_
    refine Own.front12.trans ?_
    refine Own.front13.trans ?_
    refine half_run c arg2 arg3 arg13 harg13 E 0 X2 X3 X13 _ Q _ fun W hW _ => ?_
    refine Own.front3.trans ?_
    refine Own.front14.trans ?_
    refine Own.front15.trans ?_
    refine half_run c arg4 arg5 arg13 harg13 E 1 X4 X5 W _ Q _ fun Y13 hY hO => ?_
    refine Own.front10.trans ?_
    refine Own.front10.trans ?_
    refine Own.front10.trans ?_
    refine Own.front10.trans ?_
    refine Own.front13.trans ?_
    refine Own.front11.trans ?_
    refine chunk_run c arg1 arg14 arg10 harg10 arg11 harg11 arg12 arg15 harg15 E 1 X1 Y14 Z15 Z10 Z11 Z12 _ Q _ fun Y15 Y10 Y11 Y12 g1 c1 s1 kg kc ks => ?_
    refine Own.front3.trans ?_
    refine Own.front3.trans ?_
    refine Own.front9.trans ?_
    refine Own.front7.trans ?_
    refine Own.front7.trans ?_
    refine Own.front7.trans ?_
    refine Own.front12.trans ?_
    refine Own.front13.trans ?_
    refine Own.front14.trans ?_
    refine Own.front15.trans ?_
    refine Own.front12.trans ?_
    refine Own.front13.trans ?_
    refine Own.front14.trans ?_
    refine Own.front15.trans ?_
    refine Own.front15.trans ?_
    exact (h Y10 Y11 Y12 Y13 Y14 Y15 ⟨hW.keep (by decide) hO, hY⟩ fun _ => ⟨⟨hW4.keep (by decide) hO4, hY14⟩,
      ⟨fun t ht p j l => (kg 0 (by decide) p t _).trans (g0 t ht p j l), g1⟩, ⟨fun t ht x => (kc 0 (by decide) t x).trans (c0 t ht x), c1⟩, fun t ht x => (ks 0 (by decide) t x).trans (s0 t ht x), s1⟩).trans (le_wp_ret _ _ _ _ _)

end

/-! ## The contents of the windows' buffers -/

section

variable (m : (ℓ : Loc nD τ sig) → Buf (Elt F) ℓ)

/-- What window `w`'s buffer holds once the block of point `t` has been fetched into it, if it held `d`. -/
def fetchedAt (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (V m c (Pipeline.arrRef spec0 w)))

/-- The weights decoded from the blocks that windows 1 to 4 fetch at point `t`. -/
def WeightsA (c : Dev nD) (t : Fin cfg0.N) (W : S256x2x2880.Idx → Elt F .bf16) : Prop :=
  ∃ d1 d2 d3 d4, Weights (F := F) (fetchedAt m c 1 t d1) (fetchedAt m c 2 t d2) (fetchedAt m c 3 t d3) (fetchedAt m c 4 t d4) W

/-- The weights decoded from the blocks that windows 5 to 8 fetch at point `t`. -/
def WeightsB (c : Dev nD) (t : Fin cfg0.N) (W : S256x2x2880.Idx → Elt F .bf16) : Prop :=
  ∃ d5 d6 d7 d8, Weights (F := F) (fetchedAt m c 5 t d5) (fetchedAt m c 6 t d6) (fetchedAt m c 7 t d7) (fetchedAt m c 8 t d8) W

/-- What the first weight buffer holds when point `n` begins: after the first point, the weights of the point before. -/
def Carried (c : Dev nD) (n : ℕ) (W : S256x2x2880.Idx → Elt F .bf16) : Prop :=
  n ≠ 0 → ∃ t : Fin cfg0.N, t.val + 1 = n ∧ WeightsA m c t W

/-- What point `t` leaves in the three output buffers, after the first point. -/
def Stored (c : Dev nD) (t : Fin cfg0.N) (Y10 : S512x1792.Idx → Elt F .bf16) (Y11 : S1792x512.Idx → Elt F .fp8e4m3) (Y12 : S16x1792.Idx → Elt F .i32) : Prop :=
  t.val ≠ 0 → ∃ d0 W0 W1, Carried m c t.val W0 ∧ WeightsB m c t W1 ∧ Quantised (F := F) (fetchedAt m c 0 t d0) W0 W1 Y10 Y11 Y12

/-- What the body may leave in window `w`'s buffer at point `t`, if it found `Y` there. -/
def after (c : Dev nD) (w : Fin cfg0.W) (t : Fin cfg0.N) (Y X : (cfg0.win w).block.Idx → Elt F (cfg0.win w).elt) : Prop :=
  match w, Y, X with
  | 0, Y, X => X = Y
  | 1, Y, X => X = Y
  | 2, Y, X => X = Y
  | 3, Y, X => X = Y
  | 4, Y, X => X = Y
  | 5, Y, X => X = Y
  | 6, Y, X => X = Y
  | 7, Y, X => X = Y
  | 8, Y, X => X = Y
  | 9, _, X => ∃ Y11 Y12, Stored m c t X Y11 Y12
  | 10, _, X => ∃ Y10 Y12, Stored m c t Y10 X Y12
  | 11, _, X => ∃ Y10 Y11, Stored m c t Y10 Y11 X

def rdat (c : Dev nD) : RDat τ (Elt F) Unit ℕ (UR sig nD τ) ℕ cfg0 c where
  A w := V m c (Pipeline.arrRef spec0 w)
  after := after m c
  Φ t := iprop(((∃ f : Buf (Elt F) ((c : Thread nD τ).loc cc0_scratch0), ⌜Carried m c t.val f⌝ ∗ ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ∗ ∃ r, prngReg c r)
  q := Pipeline.shareOf spec0
  owed _ := 0

theorem defs₀_row (t : Fin cfg0.N) : defs₀ (F := F) .tc cfg0.body (cfg0.bodyArgs t (cfg0.slots t)) = bodyAt0 t := by
  unfold defs₀; rw [Defs.onTc_tc]

theorem finds_0 (c : Dev nD) (t : Fin cfg0.N) (Y) (h : (rdat m c).Finds 0 t Y) : ∃ d, Y = fetchedAt m c 0 t d :=
  (rdat m c).finds_in_eq_fetched 0 rfl (fun _ _ _ => rfl) (fun _ _ _ h => h) t Y h
theorem finds_1 (c : Dev nD) (t : Fin cfg0.N) (Y) (h : (rdat m c).Finds 1 t Y) : ∃ d, Y = fetchedAt m c 1 t d :=
  ((rdat m c).finds_of_fetch (fetch0_1 t) Y).mp h
theorem finds_2 (c : Dev nD) (t : Fin cfg0.N) (Y) (h : (rdat m c).Finds 2 t Y) : ∃ d, Y = fetchedAt m c 2 t d :=
  ((rdat m c).finds_of_fetch (fetch0_2 t) Y).mp h
theorem finds_3 (c : Dev nD) (t : Fin cfg0.N) (Y) (h : (rdat m c).Finds 3 t Y) : ∃ d, Y = fetchedAt m c 3 t d :=
  ((rdat m c).finds_of_fetch (fetch0_3 t) Y).mp h
theorem finds_4 (c : Dev nD) (t : Fin cfg0.N) (Y) (h : (rdat m c).Finds 4 t Y) : ∃ d, Y = fetchedAt m c 4 t d :=
  ((rdat m c).finds_of_fetch (fetch0_4 t) Y).mp h
theorem finds_5 (c : Dev nD) (t : Fin cfg0.N) (Y) (h : (rdat m c).Finds 5 t Y) : ∃ d, Y = fetchedAt m c 5 t d :=
  ((rdat m c).finds_of_fetch (fetch0_5 t) Y).mp h
theorem finds_6 (c : Dev nD) (t : Fin cfg0.N) (Y) (h : (rdat m c).Finds 6 t Y) : ∃ d, Y = fetchedAt m c 6 t d :=
  ((rdat m c).finds_of_fetch (fetch0_6 t) Y).mp h
theorem finds_7 (c : Dev nD) (t : Fin cfg0.N) (Y) (h : (rdat m c).Finds 7 t Y) : ∃ d, Y = fetchedAt m c 7 t d :=
  ((rdat m c).finds_of_fetch (fetch0_7 t) Y).mp h
theorem finds_8 (c : Dev nD) (t : Fin cfg0.N) (Y) (h : (rdat m c).Finds 8 t Y) : ∃ d, Y = fetchedAt m c 8 t d :=
  ((rdat m c).finds_of_fetch (fetch0_8 t) Y).mp h

/-- The body's first branch is taken at the first point alone, its second at the others. -/
theorem branch (t : Fin cfg0.N) : (cond1 (grid0.coords t) = 1#1 ↔ ¬ k0_cond2 (grid0.coords t) = 1#1) ∧ (cond1 (grid0.coords t) = 1#1 ↔ t.val = 0) := by
  rcases fin_N0 t with e | e | e | e | e | e | e | e | e | e | e | e | e | e | e | e <;> (rw [e]; decide)

/-- The body meets its obligation at every grid point. -/
theorem body_obligation (c : Dev nD) : (rdat m c).BodyObligation (defs₀ (F := F)) 𝒱₀ () Set.univ := fun t Y hY => by
  rw [bigSep_W0, bigSep_W0, defs₀_row]
  obtain ⟨d0, h0⟩ := finds_0 m c t _ (hY 0)
  obtain ⟨d1, h1⟩ := finds_1 m c t _ (hY 1)
  obtain ⟨d2, h2⟩ := finds_2 m c t _ (hY 2)
  obtain ⟨d3, h3⟩ := finds_3 m c t _ (hY 3)
  obtain ⟨d4, h4⟩ := finds_4 m c t _ (hY 4)
  obtain ⟨d5, h5⟩ := finds_5 m c t _ (hY 5)
  obtain ⟨d6, h6⟩ := finds_6 m c t _ (hY 6)
  obtain ⟨d7, h7⟩ := finds_7 m c t _ (hY 7)
  obtain ⟨d8, h8⟩ := finds_8 m c t _ (hY 8)
  rw [show (rdat m c).owesAt () t.succ = (rdat m c).owesAt () t.castSucc from rfl]
  dsimp only [rdat]
  iintro ⟨⟨⟨⟨%X13, %hX, H13⟩, ⟨%X14, H14⟩, ⟨%X15, H15⟩⟩, HP⟩, Ho, H0, H1, H2, H3, H4, H5, H6, H7, H8, H9, H10, H11⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _)
    Set.univ (Y 0) (Y 1) (Y 2) (Y 3) (Y 4) (Y 5) (Y 6) (Y 7) (Y 8) (Y 9) (Y 10) (Y 11) X13 X14 X15 _
    iprop((rdat m c).owesAt () t.castSucc ∗ ∃ r, prngReg c r) (branch t).1 ?_)
  · intro Y10 Y11 Y12 Y13 Y14 Y15 hW hQ
    have hA : Carried m c t.succ.val Y13 := fun _ => ⟨t, rfl, d1, d2, d3, d4, by rw [← h1, ← h2, ← h3, ← h4]; exact hW⟩
    have hS : Stored m c t Y10 Y11 Y12 := fun ht => by
      obtain ⟨hB, hQ⟩ := hQ fun e => ht ((branch t).2.mp e)
      exact ⟨d0, X13, Y14, hX, ⟨d5, d6, d7, d8, by rw [← h5, ← h6, ← h7, ← h8]; exact hB⟩, by rw [← h0]; exact hQ⟩
    rw [owns_whole, owns_whole, owns_whole]
    iintro ⟨H0, H1, H2, H3, H4, H5, H6, H7, H8, H9, H10, H11, H13, H14, H15, Ho, HP⟩
    isplitl [H13 H14 H15 HP]
    · isplitl [H13 H14 H15]
      · isplitl [H13]
        · iexists Y13; isplitr; · ipureintro; exact hA
          iexact H13
        isplitl [H14]
        · iexists Y14; iexact H14
        · iexists Y15; iexact H15
      · iexact HP
    isplitl [Ho]; · iexact Ho
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    isplitl [H3]
    · iexists Y 3; isplitr; · ipureintro; exact rfl
      iexact H3
    isplitl [H4]
    · iexists Y 4; isplitr; · ipureintro; exact rfl
      iexact H4
    isplitl [H5]
    · iexists Y 5; isplitr; · ipureintro; exact rfl
      iexact H5
    isplitl [H6]
    · iexists Y 6; isplitr; · ipureintro; exact rfl
      iexact H6
    isplitl [H7]
    · iexists Y 7; isplitr; · ipureintro; exact rfl
      iexact H7
    isplitl [H8]
    · iexists Y 8; isplitr; · ipureintro; exact rfl
      iexact H8
    isplitl [H9]
    · iexists Y10; isplitr; · ipureintro; exact ⟨Y11, Y12, hS⟩
      iexact H9
    isplitl [H10]
    · iexists Y11; isplitr; · ipureintro; exact ⟨Y10, Y12, hS⟩
      iexact H10
    · iexists Y12; isplitr; · ipureintro; exact ⟨Y10, Y11, hS⟩
      iexact H11
  · rw [owns_whole, owns_whole, owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [Ho]; · iexact Ho
    iexact HP

/-- The invariant holds of any contents before the first point. -/
theorem inv_first (c : Dev nD) : ΦA (Val := Elt F) (U := UR sig nD τ) spec0 c ⊢ (rdat m c).Φ 0 := by
  unfold ΦA
  rw [scopedRest0_eq]
  dsimp only [rdat]
  iintro ⟨⟨⟨%f, H13⟩, H14, H15⟩, HP⟩
  isplitl [H13 H14 H15]
  · isplitl [H13]
    · iexists f; isplitr; · ipureintro; exact fun h => absurd rfl h
      iexact H13
    isplitl [H14]; · iexact H14
    iexact H15
  · iexact HP

/-- After the last point the invariant is forgotten. -/
theorem inv_last (c : Dev nD) : (rdat m c).Φ (Fin.last cfg0.N) ⊢ ΦA (Val := Elt F) (U := UR sig nD τ) spec0 c := by
  unfold ΦA
  rw [scopedRest0_eq]
  dsimp only [rdat]
  iintro ⟨⟨⟨%f, -, H13⟩, H14, H15⟩, HP⟩
  isplitl [H13 H14 H15]
  · isplitl [H13]
    · iexists f; iexact H13
    isplitl [H14]; · iexact H14
    iexact H15
  · iexact HP

set_option backward.isDefEq.respectTransparency.types false in
/-- The program runs, and its arrays end as the windows' relations allow. -/
theorem run (g : Dev nD → PrngReg) (Q' : PUnit × MemSt nD τ sig (Elt F) → Prop)
    (hQ' : ∀ r, RDat.FramePost cfg0 (rdat m) (V m) r ∧ r.2.sem = (fun _ => 0) → Q' r) :
    θ_run (defs (F := F)) (onTc (τ := τ) (main (F := F))) ⟨m, fun _ => 0, g⟩ Q' :=
  RDat.θ_run_frame_track_shared cfgs 0 launch₀0 defs₀ 𝒱₀ (rdat m) m g main (body_obligation m)
    (fun _ _ _ => rfl) (fun _ _ => rfl) (V m) (hmain m 𝒱₀) (fun _ _ => rfl) (inv_first m) (inv_last m) Q' hQ'

end

end Cert.GateupIdeal.Proj
-- ==== Proof.Gateup.Words.Body.lean ====
/- The body of the gate and up projections over the machine's words, told as short loops.

   The printed body is one long straight line: at the first grid point, the weights of one block of features are
   decoded into the first weight buffer; at every later one, the weights of another block into the second, then
   seven slabs of tokens from the first, the weights of the next block into the first, and seven slabs from the
   second. Each loop is here a list of one step, written once. -/
module

public import proofs.«01_k».proof.Proof.Gen.Gateup.Frame

@[expose] public section

noncomputable section

namespace Cert.Gateup.Proj

open Idealize.ShloMosaic Idealize.SL Idealize.SL.Sem
open Cert.Gateup Cert.Gateup.Gen

variable {F : FTy → Type} [BitOps F]

/-! ## The decoded weights of a tile -/

/-- The weight scales of a block of rows: each scale byte becomes the exponent of an f32, and thirty-eight
    zero columns are appended. -/
def scales (b : Vec F S256x90 .i8) : FVec F S256x128 .f32 :=
  concatenate S256x128 1 [⟨S256x90, bitcastToFloat .f32 (shli (extui 32 b natLt_8_32) (broadcast S256x90 23#32))⟩,
    ⟨S256x38, broadcast S256x38 (Scalar.ofBits .f32 0x00000000#32)⟩] concatenates_S256x90_S256x38_S256x128_d1

/-- The low nibbles of the code words, moved to the places of an e4m3 byte's sign and magnitude. -/
def lowWords (c : Vec F S256x128 .i8) : IVec S64x128 32 :=
  ori (shli (andi (bitcast S64x128 32 c bitcasts_S256x128_w8_S64x128_w32) (broadcast S64x128 134744072#32)) (broadcast S64x128 4#32))
    (shli (andi (bitcast S64x128 32 c bitcasts_S256x128_w8_S64x128_w32) (broadcast S64x128 117901063#32)) (broadcast S64x128 2#32))

/-- The high nibbles of the code words, likewise. -/
def highWords (c : Vec F S256x128 .i8) : IVec S64x128 32 :=
  ori (andi (bitcast S64x128 32 c bitcasts_S256x128_w8_S64x128_w32) (broadcast S64x128 2155905152#32))
    (shrui (andi (bitcast S64x128 32 c bitcasts_S256x128_w8_S64x128_w32) (broadcast S64x128 1886417008#32)) (broadcast S64x128 2#32))

def lanes : IVec S256x128 32 := iota .tc S256x128 32 [1] iota_S256x128_d1_w32

/-- The lane number modulo thirty-two, as the remainder by a signed constant is spelled. -/
def lanesMod : IVec S256x128 32 :=
  select (andi (xori (cmpi .slt (remsi lanes (broadcast S256x128 (Scalar.select (Scalar.cmpi .eq 32#32 0#32) 1#32 32#32))) (broadcast S256x128 0#32))
      (broadcastTo S256x128 (broadcast S256x128 (Scalar.cmpi .slt (Scalar.select (Scalar.cmpi .eq 32#32 0#32) 1#32 32#32) 0#32)) broadcasts_S256x128_S256x128))
      (cmpi .ne (remsi lanes (broadcast S256x128 (Scalar.select (Scalar.cmpi .eq 32#32 0#32) 1#32 32#32))) (broadcast S256x128 0#32)))
    (addi (remsi lanes (broadcast S256x128 (Scalar.select (Scalar.cmpi .eq 32#32 0#32) 1#32 32#32))) (broadcast S256x128 (Scalar.select (Scalar.cmpi .eq 32#32 0#32) 1#32 32#32)))
    (remsi lanes (broadcast S256x128 (Scalar.select (Scalar.cmpi .eq 32#32 0#32) 1#32 32#32)))

/-- A lane number divided by sixteen, rounding down, as the division by a signed constant is spelled. -/
def lanesDiv (n : IVec S256x128 32) : IVec S256x128 32 :=
  select (andi (cmpi .ne (subi (extui 32 (cmpi .sgt n (broadcast S256x128 0#32)) natLt_1_32) (extui 32 (cmpi .slt n (broadcast S256x128 0#32)) natLt_1_32))
      (broadcast S256x128 (Scalar.subi (Scalar.extui (Scalar.cmpi .sgt 16#32 0#32)) (Scalar.extui (Scalar.cmpi .slt 16#32 0#32)))))
      (cmpi .ne (remsi n (broadcast S256x128 16#32)) (broadcast S256x128 0#32)))
    (subi (divsi n (broadcast S256x128 16#32)) (broadcast S256x128 1#32))
    (divsi n (broadcast S256x128 16#32))

/-- The column of the scales a lane reads: the tile's first column plus the lane over sixteen. -/
def columns (n : IVec S256x128 32) (base : BitVec 32) : IVec S256x128 32 :=
  select (cmpi .slt (addi (broadcast S256x128 base) (lanesDiv n)) (broadcast S256x128 0#32))
    (addi (addi (broadcast S256x128 base) (lanesDiv n)) (broadcast S256x128 128#32))
    (addi (broadcast S256x128 base) (lanesDiv n))

/-- The scales that the columns name, one to a lane, rounded to bf16. -/
def tileScales (s : FVec F S256x128 .f32) (n : IVec S256x128 32) (base : BitVec 32) : FVec F S256x128 .bf16 :=
  truncf .bf16 (dynamicGather 1 s
    (shapeCast S256x128 (shapeCast S256x128x1 (columns n base) shapeCasts_S256x128_S256x128x1) shapeCasts_S256x128x1_S256x128)) bitsLt_bf16_f32

/-- The decoded weights of one set of code words. -/
def decode (w : IVec S64x128 32) (sc : FVec F S256x128 .bf16) : FVec F S256x128 .bf16 :=
  mulf (mulf (extf .bf16 (bitcastToFloat .fp8e4m3 (bitcast S256x128 8 w bitcasts_S64x128_w32_S256x128_w8)) bitsLt_fp8e4m3_bf16)
    (broadcast S256x128 (Scalar.ofBits .bf16 0x4280#16))) sc

/-- A tile of 256 rows as pairs of rows. -/
def pairs (v : FVec F S256x128 .bf16) : Vec F S128x128 .i32 :=
  shapeCast S128x128 (bitcast S128x128 32 (bitcastToInt v) bitcasts_S256x128_w16_S128x128_w32) shapeCasts_S128x128_S128x128

/-- The last thirty-two columns of codes, four times over. -/
def tailCodes (c : Vec F S256x32 .i8) : Vec F S256x128 .i8 :=
  concatenate S256x128 1 [⟨S256x32, c⟩, ⟨S256x32, c⟩, ⟨S256x32, c⟩, ⟨S256x32, c⟩] concatenates_S256x32_S256x32_S256x32_S256x32_S256x128_d1

/-- Thirty-two lanes of the low weights, then thirty-two of the high ones, of the rows of one parity. -/
def tailRows (lo hi : IVec S128x128 32) : IVec S128x64 32 :=
  concatenate S128x64 1 [⟨S128x32, extractStridedSlice S128x32 ![0, 0] lo slices_S128x128_o0_0_S128x32⟩,
    ⟨S128x32, extractStridedSlice S128x32 ![0, 32] hi slices_S128x128_o0_32_S128x32⟩] concatenates_S128x32_S128x32_S128x64_d1

/-- The last sixty-four columns as pairs of rows. -/
def tailPairs (lo hi : FVec F S256x128 .bf16) : Vec F S128x64 .i32 :=
  shapeCast S128x64 (tailRows (bitcast S128x128 32 (bitcastToInt lo) bitcasts_S256x128_w16_S128x128_w32)
    (bitcast S128x128 32 (bitcastToInt hi) bitcasts_S256x128_w16_S128x128_w32)) shapeCasts_S128x64_S128x64

/-! ## A slab of tokens -/

/-- The products of a slab of 256 tokens with the 512 decoded rows: the gate's 256 rows, then the up projection's. -/
def product (a : Vec F S1440x256 .i32) (w : Vec F S256x2880 .i32) : FVec F S512x256 .f32 :=
  matmul dot_S512x2880_S2880x256_S512x256_1_0_0_1_n_n none
    (bitcastToFloat .bf16 (bitcast S512x2880 16 w bitcasts_S256x2880_w32_S512x2880_w16))
    (bitcastToFloat .bf16 (bitcast S2880x256 16 a bitcasts_S1440x256_w32_S2880x256_w16)) (constant S512x256 .f32 0x00000000#32)

/-- gate · sigmoid(gate) · up, in blocks of thirty-two features. -/
def gated (acc : FVec F S512x256 .f32) : FVec F S8x32x256 .f32 :=
  shapeCast S8x32x256 (mulf (mulf (extractStridedSlice S256x256 ![0, 0] acc slices_S512x256_o0_0_S256x256)
      (logistic (extractStridedSlice S256x256 ![0, 0] acc slices_S512x256_o0_0_S256x256)))
    (extractStridedSlice S256x256 ![256, 0] acc slices_S512x256_o256_0_S256x256)) shapeCasts_S256x256_S8x32x256

/-- The greatest magnitude of each block. -/
def greatest (g : FVec F S8x32x256 .f32) : FVec F S8x1x256 .f32 :=
  shapeCast S8x1x256 (multiReduction .maximumf [1] S8x256 (absf g) 0xFF800000#32 reduces_S8x32x256_S8x256 (.inl rfl) rfl) shapeCasts_S8x256_S8x1x256

/-- One step of the search for the exponent: `b` is added where the power of two it gives is still reached. -/
def searchStep (m : FVec F S8x1x256 .f32) (e : IVec S8x1x256 32) (b : BitVec 32) : IVec S8x1x256 32 :=
  select (cmpf .olt m (bitcastToFloat .f32 (shli (addi e (broadcast S8x1x256 b)) (broadcast S8x1x256 23#32)))) e (addi e (broadcast S8x1x256 b))

/-- The exponent of a magnitude, found bit by bit. -/
def exponent (m : FVec F S8x1x256 .f32) : IVec S8x1x256 32 :=
  searchStep m (searchStep m (searchStep m (searchStep m (searchStep m (searchStep m (searchStep m (searchStep m
    (broadcast S8x1x256 0#32) 128#32) 64#32) 32#32) 16#32) 8#32) 4#32) 2#32) 1#32

/-- The scale byte of each block. -/
def scaleBytes (m : FVec F S8x1x256 .f32) : IVec S8x1x256 32 :=
  select (cmpf .oeq m (broadcast S8x1x256 (Scalar.ofBits .f32 0x00000000#32))) (broadcast S8x1x256 127#32)
    (minsi (broadcast S8x1x256 254#32) (maxsi (broadcast S8x1x256 0#32) (subi (exponent m) (broadcast S8x1x256 8#32))))

/-- The e4m3 codes of the blocks, as bf16 values. -/
def codes (g : FVec F S8x32x256 .f32) (b : IVec S8x1x256 32) : FVec F S256x256 .bf16 :=
  extf .bf16 (truncf .fp8e4m3 (shapeCast S256x256 (minimumf (broadcast S8x32x256 (Scalar.ofBits .f32 0x43E00000#32)) (maximumf (broadcast S8x32x256 (Scalar.ofBits .f32 0xC3E00000#32))
    (mulf g (broadcastTo S8x32x256 (bitcastToFloat .f32 (shli (subi (broadcast S8x1x256 254#32) b) (broadcast S8x1x256 23#32))) broadcasts_S8x1x256_S8x32x256)))) shapeCasts_S8x32x256_S256x256) bitsLt_fp8e4m3_f32) bitsLt_fp8e4m3_bf16

/-- The codes as they are stored: one row to a token. -/
def codeSlab (g : FVec F S8x32x256 .f32) : FVec F S256x256 .fp8e4m3 :=
  truncf .fp8e4m3 (transpose S256x256 [1, 0] (codes g (scaleBytes (greatest g))) transposes_S256x256_p1_0_S256x256) bitsLt_fp8e4m3_bf16

/-- The scale bytes as they are stored. -/
def scaleSlab (g : FVec F S8x32x256 .f32) : IVec S8x256 32 :=
  shapeCast S8x256 (scaleBytes (greatest g)) shapeCasts_S8x1x256_S8x256

/-- The dequantised features, in bf16. -/
def dequantised (g : FVec F S8x32x256 .f32) : FVec F S256x256 .bf16 :=
  mulf (codes g (scaleBytes (greatest g)))
    (truncf .bf16 (shapeCast S256x256 (broadcastTo S8x32x256 (shapeCast S8x1x256 (bitcastToFloat .f32 (shli (scaleBytes (greatest g)) (broadcast S8x1x256 23#32))) shapeCasts_S8x1x256_S8x1x256) broadcasts_S8x1x256_S8x32x256) shapeCasts_S8x32x256_S256x256) bitsLt_bf16_f32)

theorem slices_half (n : Fin 2) : S128x256.Slices ![0, 128 * n.val] S128x128 := by revert n; decide

/-- Half of the tokens of a slab, for the temporary buffer. -/
def tokens (q : FVec F S256x256 .bf16) (n : Fin 2) : Vec F S1x256x128 .bf16 :=
  bitcastToFloat .bf16 (bitcast S1x256x128 16 (shapeCast S1x128x128 (shapeCast S128x128
    (extractStridedSlice S128x128 ![0, 128 * n.val] (bitcast S128x256 32 (bitcastToInt q) bitcasts_S256x256_w16_S128x256_w32) (slices_half n))
    shapeCasts_S128x128_S128x128) shapeCasts_S128x128_S1x128x128) bitcasts_S1x128x128_w32_S1x256x128_w16)

/-- The words that were read from the temporary buffer. -/
def read (v : Vec F S1x64x2x128 .bf16) : IVec S64x128 32 :=
  shapeCast S64x128 (bitcast S1x64x1x128 32 (bitcastToInt v) bitcasts_S1x64x2x128_w16_S1x64x1x128_w32) shapeCasts_S1x64x1x128_S64x128

/-- Two reads' low halves as words, and their high halves. -/
def lows (x y : Vec F S1x64x2x128 .bf16) : IVec S64x128 32 :=
  ori (andi (read x) (broadcast S64x128 65535#32)) (shli (read y) (broadcast S64x128 16#32))
def highs (x y : Vec F S1x64x2x128 .bf16) : IVec S64x128 32 :=
  ori (shrui (read x) (broadcast S64x128 16#32)) (andi (read y) (broadcast S64x128 4294901760#32))

/-- Rows of the features' words. -/
def joined (a b : IVec S64x128 32) : Vec F S128x256 .bf16 :=
  bitcastToFloat .bf16 (bitcast S128x256 16 (concatenate S64x256 1 [⟨S64x128, a⟩, ⟨S64x128, b⟩] concatenates_S64x128_S64x128_S64x256_d1) bitcasts_S64x256_w32_S128x256_w16)

/-! ## The rectangles -/

theorem inb_codes (j : Fin 11) : ∀ a, (![0, 128 * j.val] : Fin 2 → Nat) a + S256x128.size a ≤ S256x1440.size a := by
  revert j; decide
theorem inb_low (h : Fin 2) (j : Fin 11) : ∀ a, (![128 * h.val, 256 * j.val] : Fin 2 → Nat) a + S128x128.size a ≤ S256x2880.size a := by
  revert h j; decide
theorem inb_high (h : Fin 2) (j : Fin 11) : ∀ a, (![128 * h.val, 256 * j.val + 128] : Fin 2 → Nat) a + S128x128.size a ≤ S256x2880.size a := by
  revert h j; decide
theorem inb_tail (h : Fin 2) : ∀ a, (![128 * h.val, 2816] : Fin 2 → Nat) a + S128x64.size a ≤ S256x2880.size a := by
  revert h; decide
theorem inb_act (t : Fin 7) : ∀ a, (![0, 256 * t.val] : Fin 2 → Nat) a + S1440x256.size a ≤ S1440x1792.size a := by
  revert t; decide
theorem inb_tmp (n : Fin 28) : ∀ a, (![n.val, 0, 0] : Fin 3 → Nat) a + S1x256x128.size a ≤ S28x256x128.size a := by
  revert n; decide
theorem packed_tmp (n : Fin 28) : (Rect.unit (s := S28x256x128) ![n.val, 0, 0] S1x256x128.size (inb_tmp n)).PackedRows (EltTy.packing .bf16) := by
  revert n; decide
theorem inb_strided (n : Fin 28) (p : Fin 2) : ∀ a, S1x64x2x128.size a = 0 ∨ (![n.val, p.val, 0, 0] : Fin 4 → Nat) a + (![1, 2, 1, 1] : Fin 4 → Nat) a * (S1x64x2x128.size a - 1) < S28x128x2x128.size a := by
  revert n p; decide
theorem inb_g (k : Fin 4) (t : Fin 7) : ∀ a, (![128 * k.val, 256 * t.val] : Fin 2 → Nat) a + S128x256.size a ≤ S512x1792.size a := by
  revert k t; decide
theorem packed_g (k : Fin 4) (t : Fin 7) : (Rect.unit (s := S512x1792) ![128 * k.val, 256 * t.val] S128x256.size (inb_g k t)).PackedRows (EltTy.packing .bf16) := by
  revert k t; decide
theorem inb_code (k : Fin 2) (t : Fin 7) : ∀ a, (![256 * t.val, 256 * k.val] : Fin 2 → Nat) a + S256x256.size a ≤ S1792x512.size a := by
  revert k t; decide
theorem packed_code (k : Fin 2) (t : Fin 7) : (Rect.unit (s := S1792x512) ![256 * t.val, 256 * k.val] S256x256.size (inb_code k t)).PackedRows (EltTy.packing .fp8e4m3) := by
  revert k t; decide
theorem inb_scale (k : Fin 2) (t : Fin 7) : ∀ a, (![8 * k.val, 256 * t.val] : Fin 2 → Nat) a + S8x256.size a ≤ S16x1792.size a := by
  revert k t; decide

abbrev rScales : Rect S256x90 := Rect.unit ![0, 0] S256x90.size inb_S256x90_S256x90_0_0
abbrev rCodes (j : Fin 11) : Rect S256x1440 := Rect.unit ![0, 128 * j.val] S256x128.size (inb_codes j)
abbrev rTailCodes : Rect S256x1440 := Rect.unit ![0, 1408] S256x32.size inb_S256x1440_S256x32_0_1408
abbrev rLow (h : Fin 2) (j : Fin 11) : Rect S256x2880 := Rect.unit ![128 * h.val, 256 * j.val] S128x128.size (inb_low h j)
abbrev rHigh (h : Fin 2) (j : Fin 11) : Rect S256x2880 := Rect.unit ![128 * h.val, 256 * j.val + 128] S128x128.size (inb_high h j)
abbrev rTail (h : Fin 2) : Rect S256x2880 := Rect.unit ![128 * h.val, 2816] S128x64.size (inb_tail h)
abbrev rWeights : Rect S256x2880 := Rect.unit ![0, 0] S256x2880.size inb_S256x2880_S256x2880_0_0
abbrev rAct (t : Fin 7) : Rect S1440x1792 := Rect.unit ![0, 256 * t.val] S1440x256.size (inb_act t)
abbrev rTmp (n : Fin 28) : Rect S28x256x128 := Rect.unit ![n.val, 0, 0] S1x256x128.size (inb_tmp n)
abbrev rStrided (n : Fin 28) (p : Fin 2) : LoadRect S28x128x2x128 := ⟨![n.val, p.val, 0, 0], S1x64x2x128.size, ![1, 2, 1, 1], inb_strided n p⟩
abbrev rG (k : Fin 4) (t : Fin 7) : Rect S512x1792 := Rect.unit ![128 * k.val, 256 * t.val] S128x256.size (inb_g k t)
abbrev rCode (k : Fin 2) (t : Fin 7) : Rect S1792x512 := Rect.unit ![256 * t.val, 256 * k.val] S256x256.size (inb_code k t)
abbrev rScale (k : Fin 2) (t : Fin 7) : Rect S16x1792 := Rect.unit ![8 * k.val, 256 * t.val] S8x256.size (inb_scale k t)

/-- The place in the temporary buffer of half `n` of slab `t` of chunk `k`. -/
abbrev slot (k : Fin 2) (t : Fin 7) (n : Fin 2) : Fin 28 := ⟨14 * k.val + 2 * t.val + n.val, by omega⟩
/-- The rows of the words of parity `p` of chunk `k`. -/
abbrev quarter (k p : Fin 2) : Fin 4 := ⟨2 * k.val + p.val, by omega⟩

/-! ## The loops -/

/-- A program of the core's effects with nothing to answer. -/
abbrev Code (F : FTy → Type) := Prog (TpuEff nD τ sig (Elt F) Λ₀ .tc) PUnit

section decoding

variable (gc : Memref sig .tc .vmem S256x1440 .i8) (gs : Memref sig .tc .vmem S256x90 .i8)
  (w : Memref sig .tc .vmem S256x2880 .i32)

/-- One decoded tile of 256 columns of half `h`, then `p`. -/
def tileStep (s : FVec F S256x128 .f32) (h : Fin 2) (j : Fin 11) (p : Code F) : Code F :=
  .op (.load gc (rCodes j).toLoadRect (View.loadsAt_vmem h_S256x128)) fun c =>
  .op (.load w (rLow h j).toLoadRect (View.loadsAt_vmem h_S128x128)) fun _ =>
  .op (.store w (rLow h j) (pairs (decode (lowWords c) (tileScales s lanes (BitVec.ofNat 32 (8 * j.val))))) Finset.univ (View.stores_vmem_bits_univ h_S128x128 rfl) (.inl rfl)) fun _ =>
  .op (.load w (rHigh h j).toLoadRect (View.loadsAt_vmem h_S128x128)) fun _ =>
  .op (.store w (rHigh h j) (pairs (decode (highWords c) (tileScales s lanes (BitVec.ofNat 32 (8 * j.val))))) Finset.univ (View.stores_vmem_bits_univ h_S128x128 rfl) (.inl rfl)) fun _ => p

/-- The last 64 columns of half `h`, then `p`. -/
def tailStep (s : FVec F S256x128 .f32) (h : Fin 2) (p : Code F) : Code F :=
  .op (.load gc rTailCodes.toLoadRect (View.loadsAt_vmem h_S256x32)) fun c =>
  .op (.load w (rTail h).toLoadRect (View.loadsAt_vmem h_S128x64)) fun _ =>
  .op (.store w (rTail h) (tailPairs (decode (lowWords (tailCodes c)) (tileScales s lanesMod 88#32)) (decode (highWords (tailCodes c)) (tileScales s lanesMod 88#32))) Finset.univ (View.stores_vmem_bits_univ h_S128x64 rfl) (.inl rfl)) fun _ => p

abbrev tiles11 : List (Fin 11) := [0, 1, 2, 3, 4, 5, 6, 7, 8, 9, 10]

/-- The decoded weights of half `h` of a buffer, then `p`. -/
def halfStep (h : Fin 2) (p : Code F) : Code F :=
  .op (.load gs rScales.toLoadRect (View.loadsAt_vmem h_S256x90)) fun b =>
    tiles11.foldr (tileStep gc w (scales b) h) (tailStep gc w (scales b) h p)

end decoding

section slabs

variable (arg1 : Memref sig .tc .vmem S1440x1792 .i32) (w : Memref sig .tc .vmem S256x2880 .i32)
  (arg10 : Memref sig .tc .vmem S512x1792 .bf16) (harg10 : arg10.IsWhole)
  (arg11 : Memref sig .tc .vmem S1792x512 .fp8e4m3) (harg11 : arg11.IsWhole)
  (arg12 : Memref sig .tc .vmem S16x1792 .i32) (arg15 : Memref sig .tc .vmem S28x256x128 .bf16) (harg15 : arg15.IsWhole)

/-- Half of the tokens of a slab through the temporary buffer, then what is made of the two reads. -/
def splitStep (n : Fin 28) (v : Vec F S1x256x128 .bf16) (k : Vec F S1x64x2x128 .bf16 → Vec F S1x64x2x128 .bf16 → Code F) : Code F :=
  .op (.load arg15 (rTmp n).toLoadRect (View.loadsAt_vmem h_S1x256x128)) fun _ =>
  .op (.store arg15 (rTmp n) v Finset.univ (View.stores_vmem h_S1x256x128 (harg15.storeExact_slice rfl _ (packed_tmp n)) (fun _ => rfl)) (.inl rfl)) fun _ =>
  .op (.load (arg15.reshape S28x128x2x128 reshapes_S28x256x128_S28x128x2x128.1 reshapes_S28x256x128_S28x128x2x128.2 harg15.contiguous) (rStrided n 0) (View.loadsAt_vmem h_S1x64x2x128)) fun x =>
  .op (.load (arg15.reshape S28x128x2x128 reshapes_S28x256x128_S28x128x2x128.1 reshapes_S28x256x128_S28x128x2x128.2 harg15.contiguous) (rStrided n 1) (View.loadsAt_vmem h_S1x64x2x128)) fun y => k x y

/-- The stores of a slab, then `p`. -/
def storeStep (k : Fin 2) (t : Fin 7) (ev od : Vec F S128x256 .bf16) (g : FVec F S8x32x256 .f32) (p : Code F) : Code F :=
  .op (.load arg10 (rG (quarter k 0) t).toLoadRect (View.loadsAt_vmem h_S128x256)) fun _ =>
  .op (.store arg10 (rG (quarter k 0) t) ev Finset.univ (View.stores_vmem h_S128x256 (harg10.storeExact_slice rfl _ (packed_g (quarter k 0) t)) (fun _ => rfl)) (.inl rfl)) fun _ =>
  .op (.load arg10 (rG (quarter k 1) t).toLoadRect (View.loadsAt_vmem h_S128x256)) fun _ =>
  .op (.store arg10 (rG (quarter k 1) t) od Finset.univ (View.stores_vmem h_S128x256 (harg10.storeExact_slice rfl _ (packed_g (quarter k 1) t)) (fun _ => rfl)) (.inl rfl)) fun _ =>
  .op (.load arg11 (rCode k t).toLoadRect (View.loadsAt_vmem h_S256x256)) fun _ =>
  .op (.store arg11 (rCode k t) (codeSlab g) Finset.univ (View.stores_vmem h_S256x256 (harg11.storeExact_slice rfl _ (packed_code k t)) (fun _ => rfl)) (.inl rfl)) fun _ =>
  .op (.load arg12 (rScale k t).toLoadRect (View.loadsAt_vmem h_S8x256)) fun _ =>
  .op (.store arg12 (rScale k t) (scaleSlab g) Finset.univ (View.stores_vmem_bits_univ h_S8x256 rfl) (.inl rfl)) fun _ => p

/-- One slab of 256 tokens of chunk `k`, then `p`. -/
def slabStep (k : Fin 2) (t : Fin 7) (p : Code F) : Code F :=
  .op (.load arg1 (rAct t).toLoadRect (View.loadsAt_vmem h_S1440x256)) fun a =>
  .op (.load w rWeights.toLoadRect (View.loadsAt_vmem h_S256x2880)) fun b =>
  splitStep arg15 harg15 (slot k t 0) (tokens (dequantised (gated (product a b))) 0) fun x0 x1 =>
  splitStep arg15 harg15 (slot k t 1) (tokens (dequantised (gated (product a b))) 1) fun y0 y1 =>
  storeStep arg10 harg10 arg11 harg11 arg12 k t (joined (lows x0 x1) (lows y0 y1)) (joined (highs x0 x1) (highs y0 y1)) (gated (product a b)) p

abbrev slabs7 : List (Fin 7) := [0, 1, 2, 3, 4, 5, 6]

end slabs

/-- Whether a grid point is the first. -/
def cond1 (i : grid0.Coords) : BitVec 1 :=
  Scalar.cmpi .ne (Scalar.extui (Scalar.cmpi .eq (BitVec.ofNat 32 (i 0).val) 0#32)) 0#32

set_option maxHeartbeats 4000000 in
/-- At the first grid point the printed body decodes the weights of its block. -/
theorem body_first (i : grid0.Coords) (arg1 : Memref sig .tc .vmem S1440x1792 .i32) (harg1 : arg1.IsWhole) (arg2 : Memref sig .tc .vmem S256x1440 .i8) (harg2 : arg2.IsWhole) (arg3 : Memref sig .tc .vmem S256x90 .i8) (harg3 : arg3.IsWhole) (arg4 : Memref sig .tc .vmem S256x1440 .i8) (harg4 : arg4.IsWhole) (arg5 : Memref sig .tc .vmem S256x90 .i8) (harg5 : arg5.IsWhole) (arg6 : Memref sig .tc .vmem S256x1440 .i8) (harg6 : arg6.IsWhole) (arg7 : Memref sig .tc .vmem S256x90 .i8) (harg7 : arg7.IsWhole) (arg8 : Memref sig .tc .vmem S256x1440 .i8) (harg8 : arg8.IsWhole) (arg9 : Memref sig .tc .vmem S256x90 .i8) (harg9 : arg9.IsWhole) (arg10 : Memref sig .tc .vmem S512x1792 .bf16) (harg10 : arg10.IsWhole) (arg11 : Memref sig .tc .vmem S1792x512 .fp8e4m3) (harg11 : arg11.IsWhole) (arg12 : Memref sig .tc .vmem S16x1792 .i32) (harg12 : arg12.IsWhole) (arg13 : Memref sig .tc .vmem S256x2880 .i32) (harg13 : arg13.IsWhole) (arg14 : Memref sig .tc .vmem S256x2880 .i32) (harg14 : arg14.IsWhole) (arg15 : Memref sig .tc .vmem S28x256x128 .bf16) (harg15 : arg15.IsWhole) (h1 : cond1 i = 1#1) (h2 : ¬ k0_cond2 i = 1#1) :
    cc0_gateup (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = halfStep arg2 arg3 arg13 0 (halfStep arg4 arg5 arg13 1 (.ret ⟨⟩)) := by
  unfold cc0_gateup k0_part41
  dsimp only
  rw [dif_pos (show Scalar.cmpi .ne (Scalar.extui (Scalar.cmpi .eq (BitVec.ofNat 32 (i 0).val) 0#32)) 0#32 = 1#1 from h1), dif_neg h2]
  rfl

set_option maxRecDepth 1000000 in
set_option maxHeartbeats 40000000 in
/-- At the later ones it decodes another block, multiplies, decodes the next block and multiplies. -/
theorem body_later (i : grid0.Coords) (arg1 : Memref sig .tc .vmem S1440x1792 .i32) (harg1 : arg1.IsWhole) (arg2 : Memref sig .tc .vmem S256x1440 .i8) (harg2 : arg2.IsWhole) (arg3 : Memref sig .tc .vmem S256x90 .i8) (harg3 : arg3.IsWhole) (arg4 : Memref sig .tc .vmem S256x1440 .i8) (harg4 : arg4.IsWhole) (arg5 : Memref sig .tc .vmem S256x90 .i8) (harg5 : arg5.IsWhole) (arg6 : Memref sig .tc .vmem S256x1440 .i8) (harg6 : arg6.IsWhole) (arg7 : Memref sig .tc .vmem S256x90 .i8) (harg7 : arg7.IsWhole) (arg8 : Memref sig .tc .vmem S256x1440 .i8) (harg8 : arg8.IsWhole) (arg9 : Memref sig .tc .vmem S256x90 .i8) (harg9 : arg9.IsWhole) (arg10 : Memref sig .tc .vmem S512x1792 .bf16) (harg10 : arg10.IsWhole) (arg11 : Memref sig .tc .vmem S1792x512 .fp8e4m3) (harg11 : arg11.IsWhole) (arg12 : Memref sig .tc .vmem S16x1792 .i32) (harg12 : arg12.IsWhole) (arg13 : Memref sig .tc .vmem S256x2880 .i32) (harg13 : arg13.IsWhole) (arg14 : Memref sig .tc .vmem S256x2880 .i32) (harg14 : arg14.IsWhole) (arg15 : Memref sig .tc .vmem S28x256x128 .bf16) (harg15 : arg15.IsWhole) (h1 : ¬ cond1 i = 1#1) (h2 : k0_cond2 i = 1#1) :
    cc0_gateup (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = halfStep arg6 arg7 arg14 0 (halfStep arg8 arg9 arg14 1
          (slabs7.foldr (slabStep arg1 arg13 arg10 harg10 arg11 harg11 arg12 arg15 harg15 0)
          (halfStep arg2 arg3 arg13 0 (halfStep arg4 arg5 arg13 1
          (slabs7.foldr (slabStep arg1 arg14 arg10 harg10 arg11 harg11 arg12 arg15 harg15 1) (.ret ⟨⟩)))))) := by
  unfold cc0_gateup k0_part185 k0_part186
  dsimp only
  rw [dif_neg (show ¬ Scalar.cmpi .ne (Scalar.extui (Scalar.cmpi .eq (BitVec.ofNat 32 (i 0).val) 0#32)) 0#32 = 1#1 from h1), dif_pos h2]
  rfl

end Cert.Gateup.Proj
-- ==== Proof.Gateup.Words.Run.lean ====
/- The run of the gate and up projections over the machine's words: the program ends, its arguments unchanged
   and every counter at zero. What the body leaves in the buffers it writes is left open. -/
module

public import proofs.«01_k».proof.Proof.Gateup.Words.Body
public import proofs.«01_k».proof.Proof.Gateup.Fronts
public import proofs.«01_k».proof.Proof.Gen.Gateup.Launch
public import proofs.«01_k».proof.Proof.Gen.Gateup.Frame
public import Idealize.ShloMosaic.Lib.Pipeline.FrameBody

@[expose] public section

noncomputable section

namespace Cert.Gateup.Proj

open Cert.Gateup Cert.Gateup.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA scopedRest)

variable {F : FTy → Type} [BitOps F]

local notation "𝕄" => MT nD τ sig Unit (Elt F) ℕ (UR sig nD τ) ℕ

/-- The kernel's variants: none. -/
abbrev 𝒱₀ : Variants := Variants.none

section decoding

variable (c : Dev nD) (gc : Memref sig .tc .vmem S256x1440 .i8) (gs : Memref sig .tc .vmem S256x90 .i8)
  (w : Memref sig .tc .vmem S256x2880 .i32)

/-- A list of tiles of half `h`. -/
theorem tiles_run (E : Set ℕ) (s : FVec F S256x128 .f32) (h : Fin 2) (l : List (Fin 11)) (C : S256x1440.Idx → Elt F .i8)
    (X : S256x2880.Idx → Elt F .i32) (p : Code F) (Q : PUnit → sProp 𝕄) (R : sProp 𝕄)
    (hp : ∀ Y, iprop(owns (c : Thread nD τ) gc fullShare C ∗ owns (c : Thread nD τ) w fullShare Y ∗ R) ⊢ wp frame (wpE (defs₀ (F := F)) 𝒱₀ c none) E (p) Q) :
    iprop(owns (c : Thread nD τ) gc fullShare C ∗ owns (c : Thread nD τ) w fullShare X ∗ R) ⊢ wp frame (wpE (defs₀ (F := F)) 𝒱₀ c none) E (l.foldr (tileStep gc w s h) p) Q := by
  induction l generalizing X with
  | nil => exact hp X
  | cons j l ih =>
    show _ ⊢ wp frame (wpE (defs₀ (F := F)) 𝒱₀ c none) E (tileStep gc w s h j _) Q
    unfold tileStep
    refine Own.load 𝒱₀ (c : Thread nD τ) E gc ?_
    refine Own.front2.trans ?_
    refine Own.load 𝒱₀ (c : Thread nD τ) E w ?_
    refine Own.store 𝒱₀ (c : Thread nD τ) E w fun Y _ _ => ?_
    refine Own.load 𝒱₀ (c : Thread nD τ) E w ?_
    refine Own.store 𝒱₀ (c : Thread nD τ) E w fun Z _ _ => ?_
    refine Own.front2.trans ?_
    exact ih Z

/-- Half `h` of the weights decoded. -/
theorem half_run (E : Set ℕ) (h : Fin 2) (C : S256x1440.Idx → Elt F .i8) (S : S256x90.Idx → Elt F .i8)
    (X : S256x2880.Idx → Elt F .i32) (p : Code F) (Q : PUnit → sProp 𝕄) (R : sProp 𝕄)
    (hp : ∀ Y, iprop(owns (c : Thread nD τ) gs fullShare S ∗ owns (c : Thread nD τ) gc fullShare C ∗ owns (c : Thread nD τ) w fullShare Y ∗ R) ⊢ wp frame (wpE (defs₀ (F := F)) 𝒱₀ c none) E (p) Q) :
    iprop(owns (c : Thread nD τ) gs fullShare S ∗ owns (c : Thread nD τ) gc fullShare C ∗ owns (c : Thread nD τ) w fullShare X ∗ R) ⊢ wp frame (wpE (defs₀ (F := F)) 𝒱₀ c none) E (halfStep gc gs w h p) Q := by
  unfold halfStep
  refine Own.load 𝒱₀ (c : Thread nD τ) E gs ?_
  refine Own.front3.trans ?_
  refine Own.front3.trans ?_
  refine tiles_run c gc w E _ h tiles11 C X _ Q _ fun Y => ?_
  unfold tailStep
  refine Own.load 𝒱₀ (c : Thread nD τ) E gc ?_
  refine Own.front2.trans ?_
  refine Own.load 𝒱₀ (c : Thread nD τ) E w ?_
  refine Own.store 𝒱₀ (c : Thread nD τ) E w fun Z _ _ => ?_
  refine Own.front2.trans ?_
  refine Own.front3.trans ?_
  exact hp Z

end decoding

section slabs

variable (c : Dev nD) (arg1 : Memref sig .tc .vmem S1440x1792 .i32) (w : Memref sig .tc .vmem S256x2880 .i32)
  (arg10 : Memref sig .tc .vmem S512x1792 .bf16) (harg10 : arg10.IsWhole)
  (arg11 : Memref sig .tc .vmem S1792x512 .fp8e4m3) (harg11 : arg11.IsWhole)
  (arg12 : Memref sig .tc .vmem S16x1792 .i32) (arg15 : Memref sig .tc .vmem S28x256x128 .bf16) (harg15 : arg15.IsWhole)

/-- A list of slabs of chunk `k`. -/
theorem slabs_run (E : Set ℕ) (k : Fin 2) (l : List (Fin 7)) (A : S1440x1792.Idx → Elt F .i32) (W : S256x2880.Idx → Elt F .i32)
    (X15 : S28x256x128.Idx → Elt F .bf16) (X10 : S512x1792.Idx → Elt F .bf16) (X11 : S1792x512.Idx → Elt F .fp8e4m3) (X12 : S16x1792.Idx → Elt F .i32)
    (p : Code F) (Q : PUnit → sProp 𝕄) (R : sProp 𝕄)
    (hp : ∀ Y15 Y10 Y11 Y12,
      iprop(owns (c : Thread nD τ) arg1 fullShare A ∗ owns (c : Thread nD τ) w fullShare W ∗ owns (c : Thread nD τ) arg15 fullShare Y15 ∗ owns (c : Thread nD τ) arg10 fullShare Y10 ∗ owns (c : Thread nD τ) arg11 fullShare Y11 ∗ owns (c : Thread nD τ) arg12 fullShare Y12 ∗ R)
        ⊢ wp frame (wpE (defs₀ (F := F)) 𝒱₀ c none) E (p) Q) :
    iprop(owns (c : Thread nD τ) arg1 fullShare A ∗ owns (c : Thread nD τ) w fullShare W ∗ owns (c : Thread nD τ) arg15 fullShare X15 ∗ owns (c : Thread nD τ) arg10 fullShare X10 ∗ owns (c : Thread nD τ) arg11 fullShare X11 ∗ owns (c : Thread nD τ) arg12 fullShare X12 ∗ R)
      ⊢ wp frame (wpE (defs₀ (F := F)) 𝒱₀ c none) E (l.foldr (slabStep arg1 w arg10 harg10 arg11 harg11 arg12 arg15 harg15 k) p) Q := by
  induction l generalizing X15 X10 X11 X12 with
  | nil => exact hp X15 X10 X11 X12
  | cons t l ih =>
    show _ ⊢ wp frame (wpE (defs₀ (F := F)) 𝒱₀ c none) E (slabStep arg1 w arg10 harg10 arg11 harg11 arg12 arg15 harg15 k t _) Q
    unfold slabStep splitStep storeStep
    refine Own.load 𝒱₀ (c : Thread nD τ) E arg1 ?_
    refine Own.front2.trans ?_
    refine Own.load 𝒱₀ (c : Thread nD τ) E w ?_
    refine Own.front3.trans ?_
    refine Own.load 𝒱₀ (c : Thread nD τ) E arg15 ?_
    refine Own.store 𝒱₀ (c : Thread nD τ) E arg15 fun Y15x _ _ => ?_
    refine Own.loadReshaped 𝒱₀ (c : Thread nD τ) E arg15 fun x0 => ?_
    refine Own.loadReshaped 𝒱₀ (c : Thread nD τ) E arg15 fun x1 => ?_
    refine Own.load 𝒱₀ (c : Thread nD τ) E arg15 ?_
    refine Own.store 𝒱₀ (c : Thread nD τ) E arg15 fun Y15y _ _ => ?_
    refine Own.loadReshaped 𝒱₀ (c : Thread nD τ) E arg15 fun y0 => ?_
    refine Own.loadReshaped 𝒱₀ (c : Thread nD τ) E arg15 fun y1 => ?_
    refine Own.front4.trans ?_
    refine Own.load 𝒱₀ (c : Thread nD τ) E arg10 ?_
    refine Own.store 𝒱₀ (c : Thread nD τ) E arg10 fun Y10a _ _ => ?_
    refine Own.load 𝒱₀ (c : Thread nD τ) E arg10 ?_
    refine Own.store 𝒱₀ (c : Thread nD τ) E arg10 fun Y10b _ _ => ?_
    refine Own.front5.trans ?_
    refine Own.load 𝒱₀ (c : Thread nD τ) E arg11 ?_
    refine Own.store 𝒱₀ (c : Thread nD τ) E arg11 fun Y11 _ _ => ?_
    refine Own.front6.trans ?_
    refine Own.load 𝒱₀ (c : Thread nD τ) E arg12 ?_
    refine Own.store 𝒱₀ (c : Thread nD τ) E arg12 fun Y12 _ _ => ?_
    refine Own.front2.trans ?_
    refine Own.front3.trans ?_
    refine Own.front4.trans ?_
    refine Own.front5.trans ?_
    refine Own.front6.trans ?_
    exact ih _ _ _ _

end slabs

section

variable (c : Dev nD)

/-- The whole body at one grid point. -/
theorem body_run (i : grid0.Coords) (arg1 : Memref sig .tc .vmem S1440x1792 .i32) (harg1 : arg1.IsWhole) (arg2 : Memref sig .tc .vmem S256x1440 .i8) (harg2 : arg2.IsWhole) (arg3 : Memref sig .tc .vmem S256x90 .i8) (harg3 : arg3.IsWhole) (arg4 : Memref sig .tc .vmem S256x1440 .i8) (harg4 : arg4.IsWhole) (arg5 : Memref sig .tc .vmem S256x90 .i8) (harg5 : arg5.IsWhole) (arg6 : Memref sig .tc .vmem S256x1440 .i8) (harg6 : arg6.IsWhole) (arg7 : Memref sig .tc .vmem S256x90 .i8) (harg7 : arg7.IsWhole) (arg8 : Memref sig .tc .vmem S256x1440 .i8) (harg8 : arg8.IsWhole) (arg9 : Memref sig .tc .vmem S256x90 .i8) (harg9 : arg9.IsWhole) (arg10 : Memref sig .tc .vmem S512x1792 .bf16) (harg10 : arg10.IsWhole) (arg11 : Memref sig .tc .vmem S1792x512 .fp8e4m3) (harg11 : arg11.IsWhole) (arg12 : Memref sig .tc .vmem S16x1792 .i32) (harg12 : arg12.IsWhole) (arg13 : Memref sig .tc .vmem S256x2880 .i32) (harg13 : arg13.IsWhole) (arg14 : Memref sig .tc .vmem S256x2880 .i32) (harg14 : arg14.IsWhole) (arg15 : Memref sig .tc .vmem S28x256x128 .bf16) (harg15 : arg15.IsWhole)
    (E : Set ℕ) (X1 : S1440x1792.Idx → Elt F .i32) (X2 : S256x1440.Idx → Elt F .i8) (X3 : S256x90.Idx → Elt F .i8) (X4 : S256x1440.Idx → Elt F .i8) (X5 : S256x90.Idx → Elt F .i8) (X6 : S256x1440.Idx → Elt F .i8) (X7 : S256x90.Idx → Elt F .i8) (X8 : S256x1440.Idx → Elt F .i8) (X9 : S256x90.Idx → Elt F .i8) (X10 : S512x1792.Idx → Elt F .bf16) (X11 : S1792x512.Idx → Elt F .fp8e4m3) (X12 : S16x1792.Idx → Elt F .i32) (X13 : S256x2880.Idx → Elt F .i32) (X14 : S256x2880.Idx → Elt F .i32) (X15 : S28x256x128.Idx → Elt F .bf16) (Q : PUnit → sProp 𝕄) (R : sProp 𝕄) (hi : cond1 i = 1#1 ↔ ¬ k0_cond2 i = 1#1)
    (h : ∀ Y10 Y11 Y12 Y13 Y14 Y15,
      iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15 ∗ R) ⊢ Q ⟨⟩) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ R)
      ⊢ wp frame (wpE (defs₀ (F := F)) 𝒱₀ c none) E (cc0_gateup (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  by_cases hc : cond1 i = 1#1
  · rw [body_first (h1 := hc) (h2 := hi.mp hc)]
    refine Own.front13.trans ?_
    refine Own.front3.trans ?_
    refine Own.front4.trans ?_
    refine half_run c arg2 arg3 arg13 E 0 X2 X3 X13 _ Q _ fun W => ?_
    refine Own.front3.trans ?_
    refine Own.front5.trans ?_
    refine Own.front6.trans ?_
    refine half_run c arg4 arg5 arg13 E 1 X4 X5 W _ Q _ fun Y13 => ?_
    refine Own.front3.trans ?_
    refine Own.front13.trans ?_
    refine Own.front13.trans ?_
    refine Own.front13.trans ?_
    refine Own.front13.trans ?_
    refine Own.front13.trans ?_
    refine Own.front13.trans ?_
    refine Own.front13.trans ?_
    refine Own.front9.trans ?_
    refine Own.front10.trans ?_
    refine Own.front11.trans ?_
    refine Own.front12.trans ?_
    refine Own.front13.trans ?_
    exact (h X10 X11 X12 Y13 X14 X15).trans (le_wp_ret _ _ _ _ _)
  · rw [body_later (h1 := hc) (h2 := by by_contra hn; exact hc (hi.mpr hn))]
    refine Own.front14.trans ?_
    refine Own.front7.trans ?_
    refine Own.front8.trans ?_
    refine half_run c arg6 arg7 arg14 E 0 X6 X7 X14 _ Q _ fun W4 => ?_
    refine Own.front3.trans ?_
    refine Own.front9.trans ?_
    refine Own.front10.trans ?_
    refine half_run c arg8 arg9 arg14 E 1 X8 X9 W4 _ Q _ fun Y14 => ?_
    refine Own.front13.trans ?_
    refine Own.front13.trans ?_
    refine Own.front13.trans ?_
    refine Own.front15.trans ?_
    refine Own.front15.trans ?_
    refine Own.front11.trans ?_
    refine slabs_run c arg1 arg13 arg10 harg10 arg11 harg11 arg12 arg15 harg15 E 0 slabs7 X1 X13 X15 X10 X11 X12 _ Q _ fun Z15 Z10 Z11 Z12 => ?_
    refine Own.front2.trans ?_
    refine Own.front12.trans ?_
    refine Own.front13.trans ?_
    refine half_run c arg2 arg3 arg13 E 0 X2 X3 X13 _ Q _ fun W => ?_
    refine Own.front3.trans ?_
    refine Own.front14.trans ?_
    refine Own.front15.trans ?_
    refine half_run c arg4 arg5 arg13 E 1 X4 X5 W _ Q _ fun Y13 => ?_
    refine Own.front10.trans ?_
    refine Own.front10.trans ?_
    refine Own.front10.trans ?_
    refine Own.front10.trans ?_
    refine Own.front13.trans ?_
    refine Own.front11.trans ?_
    refine slabs_run c arg1 arg14 arg10 harg10 arg11 harg11 arg12 arg15 harg15 E 1 slabs7 X1 Y14 Z15 Z10 Z11 Z12 _ Q _ fun Y15 Y10 Y11 Y12 => ?_
    refine Own.front3.trans ?_
    refine Own.front3.trans ?_
    refine Own.front9.trans ?_
    refine Own.front7.trans ?_
    refine Own.front7.trans ?_
    refine Own.front7.trans ?_
    refine Own.front12.trans ?_
    refine Own.front13.trans ?_
    refine Own.front14.trans ?_
    refine Own.front15.trans ?_
    refine Own.front12.trans ?_
    refine Own.front13.trans ?_
    refine Own.front14.trans ?_
    refine Own.front15.trans ?_
    refine Own.front15.trans ?_
    exact (h Y10 Y11 Y12 Y13 Y14 Y15).trans (le_wp_ret _ _ _ _ _)

end

/-! ## The contents of the windows' buffers -/

section

variable (m : (ℓ : Loc nD τ sig) → Buf (Elt F) ℓ)

/-- What the body may leave in window `w`'s buffer: an input's contents as it found them, anything in an output's. -/
def after (w : Fin cfg0.W) (Y X : (cfg0.win w).block.Idx → Elt F (cfg0.win w).elt) : Prop :=
  (cfg0.win w).isOut = false → X = Y

def rdat (c : Dev nD) : RDat τ (Elt F) Unit ℕ (UR sig nD τ) ℕ cfg0 c where
  A w := V m c (Pipeline.arrRef spec0 w)
  after w _ := after w
  Φ _ := ΦA (Val := Elt F) (U := UR sig nD τ) spec0 c
  q := Pipeline.shareOf spec0
  owed _ := 0

theorem defs₀_row (t : Fin cfg0.N) : defs₀ (F := F) .tc cfg0.body (cfg0.bodyArgs t (cfg0.slots t)) = bodyAt0 t := by
  unfold defs₀; rw [Defs.onTc_tc]

/-- The body's first branch is taken where its second is not. -/
theorem branch (t : Fin cfg0.N) : cond1 (grid0.coords t) = 1#1 ↔ ¬ k0_cond2 (grid0.coords t) = 1#1 := by
  rcases fin_N0 t with e | e | e | e | e | e | e | e | e | e | e | e | e | e | e | e <;> (rw [e]; decide)

/-- The body meets its obligation at every grid point. -/
theorem body_obligation (c : Dev nD) : (rdat m c).BodyObligation (defs₀ (F := F)) 𝒱₀ () Set.univ := fun t Y _ => by
  rw [bigSep_W0, bigSep_W0, defs₀_row]
  rw [show (rdat m c).Φ t.castSucc = ΦA (Val := Elt F) (U := UR sig nD τ) spec0 c from rfl,
    show (rdat m c).Φ t.succ = ΦA (Val := Elt F) (U := UR sig nD τ) spec0 c from rfl,
    show (rdat m c).owesAt () t.succ = (rdat m c).owesAt () t.castSucc from rfl]
  unfold ΦA
  rw [scopedRest0_eq]
  iintro ⟨⟨⟨⟨%X13, H13⟩, ⟨%X14, H14⟩, ⟨%X15, H15⟩⟩, HP⟩, Ho, H0, H1, H2, H3, H4, H5, H6, H7, H8, H9, H10, H11⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _)
    Set.univ (Y 0) (Y 1) (Y 2) (Y 3) (Y 4) (Y 5) (Y 6) (Y 7) (Y 8) (Y 9) (Y 10) (Y 11) X13 X14 X15 _
    iprop((rdat m c).owesAt () t.castSucc ∗ ∃ r, prngReg c r) (branch t) ?_)
  · intro Y10 Y11 Y12 Y13 Y14 Y15
    rw [owns_whole, owns_whole, owns_whole]
    iintro ⟨H0, H1, H2, H3, H4, H5, H6, H7, H8, H9, H10, H11, H13, H14, H15, Ho, HP⟩
    isplitl [H13 H14 H15 HP]
    · isplitl [H13 H14 H15]
      · isplitl [H13]
        · iexists Y13; iexact H13
        isplitl [H14]
        · iexists Y14; iexact H14
        · iexists Y15; iexact H15
      · iexact HP
    isplitl [Ho]; · iexact Ho
    isplitl [H0]
    · iexists Y 0; isplitr; · ipureintro; exact fun _ => rfl
      iexact H0
    isplitl [H1]
    · iexists Y 1; isplitr; · ipureintro; exact fun _ => rfl
      iexact H1
    isplitl [H2]
    · iexists Y 2; isplitr; · ipureintro; exact fun _ => rfl
      iexact H2
    isplitl [H3]
    · iexists Y 3; isplitr; · ipureintro; exact fun _ => rfl
      iexact H3
    isplitl [H4]
    · iexists Y 4; isplitr; · ipureintro; exact fun _ => rfl
      iexact H4
    isplitl [H5]
    · iexists Y 5; isplitr; · ipureintro; exact fun _ => rfl
      iexact H5
    isplitl [H6]
    · iexists Y 6; isplitr; · ipureintro; exact fun _ => rfl
      iexact H6
    isplitl [H7]
    · iexists Y 7; isplitr; · ipureintro; exact fun _ => rfl
      iexact H7
    isplitl [H8]
    · iexists Y 8; isplitr; · ipureintro; exact fun _ => rfl
      iexact H8
    isplitl [H9]
    · iexists Y10; isplitr; · ipureintro; exact fun h => absurd h (by decide)
      iexact H9
    isplitl [H10]
    · iexists Y11; isplitr; · ipureintro; exact fun h => absurd h (by decide)
      iexact H10
    · iexists Y12; isplitr; · ipureintro; exact fun h => absurd h (by decide)
      iexact H11
  · rw [owns_whole, owns_whole, owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [Ho]; · iexact Ho
    iexact HP

set_option backward.isDefEq.respectTransparency.types false in
/-- The program runs, and its arrays end as the windows' relations allow. -/
theorem run (g : Dev nD → PrngReg) (Q' : PUnit × MemSt nD τ sig (Elt F) → Prop)
    (hQ' : ∀ r, RDat.FramePost cfg0 (rdat m) (V m) r ∧ r.2.sem = (fun _ => 0) → Q' r) :
    θ_run (defs (F := F)) (onTc (τ := τ) (main (F := F))) ⟨m, fun _ => 0, g⟩ Q' :=
  RDat.θ_run_frame_track_shared cfgs 0 launch₀0 defs₀ 𝒱₀ (rdat m) m g main (body_obligation m)
    (fun _ _ _ => rfl) (fun _ _ => rfl) (V m) (hmain m 𝒱₀) (fun _ _ => rfl) (fun _ => .rfl) (fun _ => .rfl) Q' hQ'

end

end Cert.Gateup.Proj
-- ==== Proof.Gateup.Frames.lean ====
/- The frames of the projections' three programs, and the statements the idealization rests on. -/
module

public import proofs.«01_k».proof.Defs
public import proofs.«01_k».proof.Proof.Gateup.Run
public import proofs.«01_k».proof.Proof.Gateup.Words.Run
public import proofs.«01_k».proof.Proof.Gen.Gateup
public import proofs.«01_k».proof.Proof.Gen.GateupIdeal
public import proofs.«01_k».proof.Proof.Gen.GateupReferenceIdeal
public import proofs.«01_k».proof.Proof.Gen.GateupReferenceIdeal.Run
public import Idealize.ShloMosaic.Lib.Bf16PairInverse

@[expose] public section

noncomputable section

namespace Cert.GateupFrames

open Idealize.ShloMosaic Idealize.SL.Sem
open Idealize.ShloMosaic.Pipeline (RDat)

/-- The kernel over the machine's words ends, with its arguments unchanged and every counter at zero. -/
theorem kernel : Cert.quiescent_Gateup (hGateup := Cert.Gateup.Gen.facts) := fun m g _ =>
  Cert.Gateup.Proj.run m g _ fun _ h => ⟨fun c => ⟨h.1.arr_in c 0 rfl, h.1.arr_in c 1 rfl, h.1.arr_in c 2 rfl, h.1.arr_in c 3 rfl, h.1.arr_in c 4 rfl⟩, h.2⟩

/-- The kernel at ideal values likewise. -/
theorem kernelIdeal : Cert.quiescent_GateupIdeal (hGateupIdeal := Cert.GateupIdeal.Gen.facts) := fun m g _ =>
  Cert.GateupIdeal.Proj.run m g _ fun _ h => ⟨fun c => ⟨h.1.arr_in c 0 rfl, h.1.arr_in c 1 rfl, h.1.arr_in c 2 rfl, h.1.arr_in c 3 rfl, h.1.arr_in c 4 rfl⟩, h.2⟩

/-- The reference likewise. -/
theorem referenceIdeal : Cert.quiescent_GateupReferenceIdeal (hGateupReferenceIdeal := Cert.GateupReferenceIdeal.Gen.facts) := fun m g _ =>
  (θ_run Cert.GateupReferenceIdeal.defs _ _).mono (fun r h => ⟨fun c => (h c).2.2.2, sem_eq_zero_of_no_sems (by decide) r.2⟩)
    (Cert.GateupReferenceIdeal.Value.run (F := Ideal) m g)

/-- The rewrites of the idealization hold: words of two bf16 values are those values, in registers and in the buffers. -/
theorem preserves : Cert.preserves_Gateup_GateupIdeal :=
  ⟨IdealRules.bf16_pair.bufferStatement _ _, IdealRules.bf16_pair.statement _ _, IdealRules.bf16_pair.statement _ _,
    IdealRules.bf16_pair.statement _ _, IdealRules.bf16_pair.statement _ _, IdealRules.bf16_pair.statement _ _, IdealRules.bf16_pair.statement _ _,
    IdealRules.bf16_pair.statement _ _, IdealRules.bf16_pair.statement _ _, IdealRules.bf16_pair.statement _ _⟩

end Cert.GateupFrames
-- ==== Proof.Gateup.Tile.lean ====
/- One decoded weight tile at ideal values, element by element: the code's value times its scale. -/
module

public import proofs.«01_k».proof.Proof.Gateup.Body
public import proofs.«01_k».proof.Proof.Tile
public import proofs.«01_k».proof.Proof.Codes
public import Idealize.ShloMosaic.Lib.BitcastFour
public import Idealize.ShloMosaic.Lib.BitcastPair
public import Idealize.ShloMosaic.Lib.ValueIdx
public import Idealize.ShloMosaic.Lib.Pipeline.Value

@[expose] public section

noncomputable section

namespace Cert.GateupIdeal.Proj

open Idealize.ShloMosaic Idealize.ShloMosaic.ValueIdx Cert.Codes
open Cert.GateupIdeal Cert.GateupIdeal.Gen

/-! ## The words and their bytes -/

/-- A word's byte: row `p` of the bytes is byte `p % 4` of word row `p / 4`. -/
theorem bitcast_32_8 (x : S64x128.Idx → BitVec 32) (p : Fin 256) (l : Fin 128) :
    bitcast S256x128 8 x bitcasts_S64x128_w32_S256x128_w8 (ix2 p l)
      = (x (ix2 ⟨p.val / 4, by omega⟩ l)).extractLsb' (8 * (p.val % 4)) 8 := by
  apply BitVec.eq_of_getLsbD_eq
  intro i hi
  have hr : S256x128.row (ix2 p l) = p.val := rfl
  have ep : (S256x128.row (ix2 p l) * 8 + i) / 32 = p.val / 4 := by rw [hr]; omega
  have eq : (S256x128.row (ix2 p l) * 8 + i) % 32 = 8 * (p.val % 4) + i := by rw [hr]; omega
  rw [bitcast_getLsbD x _ _ i hi (by decide), BitVec.getLsbD_extractLsb', eq]
  simp only [hi, decide_true, Bool.true_and]
  congr 2
  funext c
  match c with
  | ⟨0, _⟩ => exact Fin.ext ((Shape.Bitcasts.srcIdx_row _ _ _ _ ⟨0, Nat.zero_lt_two⟩ rfl).trans ep)
  | ⟨1, _⟩ => exact Fin.ext (Shape.Bitcasts.srcIdx_other _ _ _ _ ⟨1, Nat.one_lt_two⟩ (by show ¬ 1 + 2 = 2; omega))

/-- The same byte of the word that a column of bytes was packed into is the byte. -/
theorem byte_of_word (c : S256x128.Idx → BitVec 8) (p : Fin 256) (l : Fin 128) :
    (bitcast S64x128 32 c bitcasts_S256x128_w8_S64x128_w32 (ix2 (⟨p.val / 4, by omega⟩ : Fin 64) l)).extractLsb' (8 * (p.val % 4)) 8 = c (ix2 p l) := by
  apply BitVec.eq_of_getLsbD_eq
  intro i hi
  rw [BitVec.getLsbD_extractLsb', bitcast_8_32_getLsbD_ix2 c _ _ l (8 * (p.val % 4) + i) (by omega) p (by show p.val = 4 * (p.val / 4) + _; omega),
    show (8 * (p.val % 4) + i) % 8 = i by omega]
  simp [hi]

theorem lowWords_byte (c : S256x128.Idx → BitVec 8) (p : Fin 256) (l : Fin 128) :
    bitcast S256x128 8 (lowWords (F := Ideal) c) bitcasts_S64x128_w32_S256x128_w8 (ix2 p l) = lowByte (c (ix2 p l)) := by
  rw [bitcast_32_8, ← byte_of_word c p l]
  exact Cert.KernelIdeal.Down.low_word _ _ (by omega)

theorem highWords_byte (c : S256x128.Idx → BitVec 8) (p : Fin 256) (l : Fin 128) :
    bitcast S256x128 8 (highWords (F := Ideal) c) bitcasts_S64x128_w32_S256x128_w8 (ix2 p l) = highByte (c (ix2 p l)) := by
  rw [bitcast_32_8, ← byte_of_word c p l]
  exact Cert.KernelIdeal.Down.high_word _ _ (by omega)

/-! ## The scales -/

theorem scales_apply (b : S256x90.Idx → BitVec 8) (r : Fin 256) (g : Fin 90) :
    scales (F := Ideal) b (ix2 r (⟨g.val, by omega⟩ : Fin 128)) = scaleOf (b (ix2 r g)) := by
  unfold scales
  refine Eq.trans (concatenate_pair_apply_left (t := S256x128) (s₁ := S256x90) (s₂ := S256x38) 1 _ _ _ _ rfl (ix2 r g) (fun a => ?_)) ?_
  · match a with
    | ⟨0, _⟩ => rfl
    | ⟨1, _⟩ => rfl
  · exact scale_bits (b (ix2 r g))

/-- The group of sixteen a lane lies in, over all lanes and over each thirty-two. -/
theorem lanesDiv_first : ∀ l : Fin 128, lanesDiv lanes (ix2 0 l) = BitVec.ofNat 32 (l.val / 16) := by decide
theorem lanesDiv_mod_first : ∀ l : Fin 128, lanesDiv lanesMod (ix2 0 l) = BitVec.ofNat 32 (l.val % 32 / 16) := by decide

theorem lanesDiv_apply (r : Fin 256) (l : Fin 128) : lanesDiv lanes (ix2 r l) = BitVec.ofNat 32 (l.val / 16) := lanesDiv_first l
theorem lanesDiv_mod_apply (r : Fin 256) (l : Fin 128) : lanesDiv lanesMod (ix2 r l) = BitVec.ofNat 32 (l.val % 32 / 16) := lanesDiv_mod_first l

/-- The column from the tile's first column and the lane's group: the sum, where no wrap is needed. -/
theorem column_sum : ∀ (m : Fin 12) (q : Fin 8),
    (Scalar.select (IntOp.cmpi .slt (IntOp.addi (BitVec.ofNat 32 (8 * m.val)) (BitVec.ofNat 32 q.val)) 0#32)
      (IntOp.addi (IntOp.addi (BitVec.ofNat 32 (8 * m.val)) (BitVec.ofNat 32 q.val)) 128#32)
      (IntOp.addi (BitVec.ofNat 32 (8 * m.val)) (BitVec.ofNat 32 q.val))).toNat % 128 = 8 * m.val + q.val := by decide

/-- The column a lane reads: the tile's first column plus the lane's group. -/
theorem columns_apply (n : IVec S256x128 32) (m : Fin 12) (r : Fin 256) (l : Fin 128) (q : Fin 8) (hq : lanesDiv n (ix2 r l) = BitVec.ofNat 32 q.val) :
    (columns n (BitVec.ofNat 32 (8 * m.val)) (ix2 r l)).toNat % 128 = 8 * m.val + q.val := by
  have h := column_sum m q
  simp only [← hq] at h
  exact h

theorem recast (x : S256x128.Idx → BitVec 32) (r : Fin 256) (l : Fin 128) :
    shapeCast S256x128 (shapeCast S256x128x1 x shapeCasts_S256x128_S256x128x1) shapeCasts_S256x128x1_S256x128 (ix2 r l) = x (ix2 r l) := by
  have e : (S256x128.rowMajor (ix2 r l)).val = (S256x128x1.rowMajor (ix3 r l (0 : Fin 1))).val := by
    rw [Shape.rowMajor_val_two, Shape.rowMajor_val_three]
    show r.val * 128 + l.val = (r.val * 128 + l.val) * 1 + 0
    omega
  exact (shapeCast_apply _ _ _ (ix3 r l (0 : Fin 1)) e.symm).trans (shapeCast_apply _ _ _ (ix2 r l) e)

theorem tileScales_apply (s : S256x128.Idx → EReal) (n : IVec S256x128 32) (m : Fin 12) (r : Fin 256) (l : Fin 128) (q : Fin 8)
    (hq : lanesDiv n (ix2 r l) = BitVec.ofNat 32 q.val) :
    tileScales (F := Ideal) s n (BitVec.ofNat 32 (8 * m.val)) (ix2 r l) = s (ix2 r (⟨8 * m.val + q.val, by omega⟩ : Fin 128)) := by
  have h := columns_apply n m r l q hq
  rw [← recast (columns _ _)] at h
  have e : tileScales (F := Ideal) s n (BitVec.ofNat 32 (8 * m.val)) (ix2 r l) = dynamicGather (s := S256x128) 1 s
      (shapeCast S256x128 (shapeCast S256x128x1 (columns n (BitVec.ofNat 32 (8 * m.val))) shapeCasts_S256x128_S256x128x1) shapeCasts_S256x128x1_S256x128)
      (ix2 r l) := rfl
  rw [e]
  unfold dynamicGather
  congr 1
  funext a
  match a with
  | ⟨0, _⟩ => rfl
  | ⟨1, _⟩ => exact Fin.ext h

/-! ## The tile -/

theorem decode_low (c : S256x128.Idx → BitVec 8) (sc : S256x128.Idx → EReal) (p : Fin 256) (l : Fin 128) :
    decode (F := Ideal) (lowWords (F := Ideal) c) sc (ix2 p l) = codeLow (c (ix2 p l)) * sc (ix2 p l) := by
  rw [← lowByte_mul, ← lowWords_byte]; rfl

theorem decode_high (c : S256x128.Idx → BitVec 8) (sc : S256x128.Idx → EReal) (p : Fin 256) (l : Fin 128) :
    decode (F := Ideal) (highWords (F := Ideal) c) sc (ix2 p l) = codeHigh (c (ix2 p l)) * sc (ix2 p l) := by
  rw [← highByte_mul, ← highWords_byte]; rfl

/-- Row `2 a + h` of a tile is half `h` of its pair `a`. -/
theorem pairs_apply (v : S256x128.Idx → EReal) (a : Fin 128) (h : Fin 2) (l : Fin 128) :
    pairs (F := Ideal) v (ix3 a h l) = v (ix2 (⟨2 * a.val + h.val, by omega⟩ : Fin 256) l) := by
  unfold pairs interleaveRows
  have hr : S128x2x128.row (ix3 a h l) = h.val := rfl
  rw [hr]
  have hm : ∀ i : S128x1x128.Idx, i = ix3 a (0 : Fin 1) l → (S128x128.rowMajor (ix2 a l)).val = (S128x1x128.rowMajor i).val := fun i hi => by
    rw [hi, Shape.rowMajor_val_two, Shape.rowMajor_val_three]
    show a.val * 128 + l.val = (a.val * 1 + 0) * 128 + l.val
    omega
  have hi : ∀ i : S128x1x128.Idx, (i 0).val = a.val → (i 2).val = l.val → i = ix3 a (0 : Fin 1) l := fun i h0 h2 => by
    funext b
    match b with
    | ⟨0, _⟩ => exact Fin.ext h0
    | ⟨1, _⟩ => exact Fin.ext (Nat.lt_one_iff.1 (i 1).isLt)
    | ⟨2, _⟩ => exact Fin.ext h2
  rcases Nat.mod_two_eq_zero_or_one h.val with e | e
  · rw [if_pos e, shapeCast_apply _ _ _ (ix2 a l) (hm _ (hi _ rfl rfl))]
    unfold rowsOfParity
    congr 1
    funext b
    match b with
    | ⟨0, _⟩ => exact Fin.ext (by show 2 * a.val + 0 = 2 * a.val + h.val; omega)
    | ⟨1, _⟩ => rfl
  · rw [if_neg (by omega), shapeCast_apply _ _ _ (ix2 a l) (hm _ (hi _ rfl rfl))]
    unfold rowsOfParity
    congr 1
    funext b
    match b with
    | ⟨0, _⟩ => exact Fin.ext (by show 2 * a.val + 1 = 2 * a.val + h.val; omega)
    | ⟨1, _⟩ => rfl

/-! ## The last columns -/

/-- Lane `l` of the four copies is column `l % 32`; the first two copies are read. -/
theorem tailCodes_apply (c : S256x32.Idx → BitVec 8) (p : Fin 256) (l : Fin 128) (h : l.val < 64) :
    tailCodes (F := Ideal) c (ix2 p l) = c (ix2 p (⟨l.val % 32, by omega⟩ : Fin 32)) := by
  unfold tailCodes
  rcases Nat.lt_or_ge l.val 32 with e | e
  · exact concatenate_apply_piece (t := S256x128) 1 _ _ _ 0 (by simp) S256x32 c rfl rfl 0 rfl (ix2 p (⟨l.val % 32, by omega⟩ : Fin 32))
      (fun b hb => by
        match b with
        | ⟨0, _⟩ => rfl
        | ⟨1, _⟩ => exact absurd rfl hb) (by show 0 + l.val % 32 = l.val; omega)
  · exact concatenate_apply_piece (t := S256x128) 1 _ _ _ 1 (by simp) S256x32 c rfl rfl 32 rfl (ix2 p (⟨l.val % 32, by omega⟩ : Fin 32))
      (fun b hb => by
        match b with
        | ⟨0, _⟩ => rfl
        | ⟨1, _⟩ => exact absurd rfl hb) (by show 32 + l.val % 32 = l.val; omega)

/-- Row `a` of one parity: the low weights' first thirty-two lanes, then the high weights' next thirty-two. -/
theorem tailRows_low (lo hi : S128x128.Idx → EReal) (a : Fin 128) (l : Fin 64) (h : l.val < 32) :
    tailRows (F := Ideal) lo hi (ix2 a l) = lo (ix2 a (⟨l.val, by omega⟩ : Fin 128)) := by
  unfold tailRows
  refine (concatenate_pair_apply_left (t := S128x64) (s₁ := S128x32) (s₂ := S128x32) 1 _ _ _ _ rfl (ix2 a (⟨l.val, h⟩ : Fin 32)) (fun b => ?_)).trans ?_
  · match b with
    | ⟨0, _⟩ => rfl
    | ⟨1, _⟩ => rfl
  · exact extractStridedSlice_apply _ _ _ _ _ (fun b => by
      match b with
      | ⟨0, _⟩ => exact (Nat.zero_add _).symm
      | ⟨1, _⟩ => exact (Nat.zero_add _).symm)

theorem tailRows_high (lo hi : S128x128.Idx → EReal) (a : Fin 128) (l : Fin 64) (h : 32 ≤ l.val) :
    tailRows (F := Ideal) lo hi (ix2 a l) = hi (ix2 a (⟨l.val, by omega⟩ : Fin 128)) := by
  unfold tailRows
  refine (concatenate_pair_apply_right (t := S128x64) (s₁ := S128x32) (s₂ := S128x32) 1 _ _ _ _ rfl rfl (ix2 a (⟨l.val - 32, by omega⟩ : Fin 32)) (fun b hb => ?_)
    (by show l.val - 32 + 32 = l.val; omega)).trans ?_
  · match b with
    | ⟨0, _⟩ => rfl
    | ⟨1, _⟩ => exact absurd rfl hb
  · exact extractStridedSlice_apply _ _ _ _ _ (fun b => by
      match b with
      | ⟨0, _⟩ => exact (Nat.zero_add _).symm
      | ⟨1, _⟩ => show l.val = 32 + (l.val - 32); omega)

theorem tailPairs_rows (lo hi : S256x128.Idx → EReal) (a : Fin 128) (h : Fin 2) (l : Fin 64) :
    tailPairs (F := Ideal) lo hi (ix3 a h l)
      = tailRows (F := Ideal) (fun i => lo (ix2 (⟨2 * (i 0).val + h.val, by have := (i 0).isLt; have : (i 0).val < 128 := this; omega⟩ : Fin 256) (i 1)))
          (fun i => hi (ix2 (⟨2 * (i 0).val + h.val, by have := (i 0).isLt; have : (i 0).val < 128 := this; omega⟩ : Fin 256) (i 1))) (ix2 a l) := by
  unfold tailPairs interleaveRows
  have hr : S128x2x64.row (ix3 a h l) = h.val := rfl
  rw [hr]
  have hm : ∀ i : S128x1x64.Idx, i = ix3 a (0 : Fin 1) l → (S128x64.rowMajor (ix2 a l)).val = (S128x1x64.rowMajor i).val := fun i hi => by
    rw [hi, Shape.rowMajor_val_two, Shape.rowMajor_val_three]
    show a.val * 64 + l.val = (a.val * 1 + 0) * 64 + l.val
    omega
  have hi' : ∀ i : S128x1x64.Idx, (i 0).val = a.val → (i 2).val = l.val → i = ix3 a (0 : Fin 1) l := fun i h0 h2 => by
    funext b
    match b with
    | ⟨0, _⟩ => exact Fin.ext h0
    | ⟨1, _⟩ => exact Fin.ext (Nat.lt_one_iff.1 (i 1).isLt)
    | ⟨2, _⟩ => exact Fin.ext h2
  rcases Nat.mod_two_eq_zero_or_one h.val with e | e
  · rw [if_pos e, shapeCast_apply _ _ _ (ix2 a l) (hm _ (hi' _ rfl rfl))]
    have e' : h.val = 0 := by omega
    refine congrArg₂ (fun x y => tailRows (F := Ideal) x y (ix2 a l)) ?_ ?_ <;>
    · unfold rowsOfParity
      funext i
      congr 1
      funext b
      match b with
      | ⟨0, _⟩ => exact Fin.ext (by show 2 * (i 0).val + 0 = 2 * (i 0).val + h.val; omega)
      | ⟨1, _⟩ => rfl
  · rw [if_neg (by omega), shapeCast_apply _ _ _ (ix2 a l) (hm _ (hi' _ rfl rfl))]
    have e' : h.val = 1 := by omega
    refine congrArg₂ (fun x y => tailRows (F := Ideal) x y (ix2 a l)) ?_ ?_ <;>
    · unfold rowsOfParity
      funext i
      congr 1
      funext b
      match b with
      | ⟨0, _⟩ => exact Fin.ext (by show 2 * (i 0).val + 1 = 2 * (i 0).val + h.val; omega)
      | ⟨1, _⟩ => rfl

theorem tailPairs_low (lo hi : S256x128.Idx → EReal) (a : Fin 128) (h : Fin 2) (l : Fin 64) (hl : l.val < 32) :
    tailPairs (F := Ideal) lo hi (ix3 a h l) = lo (ix2 (⟨2 * a.val + h.val, by omega⟩ : Fin 256) (⟨l.val, by omega⟩ : Fin 128)) := by
  rw [tailPairs_rows, tailRows_low _ _ _ _ hl]
theorem tailPairs_high (lo hi : S256x128.Idx → EReal) (a : Fin 128) (h : Fin 2) (l : Fin 64) (hl : 32 ≤ l.val) :
    tailPairs (F := Ideal) lo hi (ix3 a h l) = hi (ix2 (⟨2 * a.val + h.val, by omega⟩ : Fin 256) (⟨l.val, by omega⟩ : Fin 128)) := by
  rw [tailPairs_rows, tailRows_high _ _ _ _ hl]

end Cert.GateupIdeal.Proj
-- ==== Proof.Gateup.Product.lean ====
/- One slab of the products at ideal values, element by element. -/
module

public import proofs.«01_k».proof.Proof.Gateup.Body
public import Idealize.ShloMosaic.Lib.BitcastPair
public import Idealize.ShloMosaic.Lib.MatmulPlain
public import Idealize.ShloMosaic.Lib.ValueIdx
public import Idealize.ShloMosaic.Lib.Pipeline.Value

@[expose] public section

noncomputable section

namespace Cert.GateupIdeal.Proj

open Idealize.ShloMosaic Idealize.ShloMosaic.ValueIdx
open Cert.GateupIdeal Cert.GateupIdeal.Gen

/-- Row `p` of the weights the product reads is half `p % 2` of pair `p / 2`. -/
theorem rows_apply (w : S256x2x2880.Idx → EReal) (p : Fin 512) (k : Fin 2880) :
    interleaveRows S512x2880 (shapeCast S256x2880 (rowsOfParity 0 S256x1x2880 w bitcasts_S256x2x2880_w16_S256x1x2880_w32) shapeCasts_S256x1x2880_S256x2880)
      (shapeCast S256x2880 (rowsOfParity 1 S256x1x2880 w bitcasts_S256x2x2880_w16_S256x1x2880_w32) shapeCasts_S256x1x2880_S256x2880) bitcasts_S512x2880_w16_S256x2880_w32 (ix2 p k)
      = w (ix3 (⟨p.val / 2, by omega⟩ : Fin 256) (⟨p.val % 2, by omega⟩ : Fin 2) k) := by
  unfold interleaveRows
  have hr : S512x2880.row (ix2 p k) = p.val := rfl
  rw [hr]
  have hm : ∀ i : S256x2880.Idx, i = ix2 (⟨p.val / 2, by omega⟩ : Fin 256) k →
      (S256x1x2880.rowMajor (ix3 (⟨p.val / 2, by omega⟩ : Fin 256) (0 : Fin 1) k)).val = (S256x2880.rowMajor i).val := fun i hi => by
    rw [hi, Shape.rowMajor_val_two, Shape.rowMajor_val_three]
    show (p.val / 2 * 1 + 0) * 2880 + k.val = p.val / 2 * 2880 + k.val
    omega
  rcases Nat.mod_two_eq_zero_or_one p.val with e | e
  · rw [if_pos e, shapeCast_apply _ _ _ (ix3 (⟨p.val / 2, by omega⟩ : Fin 256) (0 : Fin 1) k) (hm _ (by
      funext b
      match b with
      | ⟨0, _⟩ => rfl
      | ⟨1, _⟩ => rfl))]
    unfold rowsOfParity
    congr 1
    funext b
    match b with
    | ⟨0, _⟩ => rfl
    | ⟨1, _⟩ => exact Fin.ext e.symm
    | ⟨2, _⟩ => rfl
  · rw [if_neg (by omega), shapeCast_apply _ _ _ (ix3 (⟨p.val / 2, by omega⟩ : Fin 256) (0 : Fin 1) k) (hm _ (by
      funext b
      match b with
      | ⟨0, _⟩ => rfl
      | ⟨1, _⟩ => rfl))]
    unfold rowsOfParity
    congr 1
    funext b
    match b with
    | ⟨0, _⟩ => rfl
    | ⟨1, _⟩ => exact Fin.ext e.symm
    | ⟨2, _⟩ => rfl

/-- Row `k` of the activations the product reads is a half of word row `k / 2`. -/
theorem acts_apply (a : S1440x256.Idx → BitVec 32) (k : Fin 2880) (t : Fin 256) :
    bitcastToFloat (F := Ideal) .bf16 (bitcast S2880x256 16 a bitcasts_S1440x256_w32_S2880x256_w16) (ix2 k t)
      = Ideal.ofBits .bf16 ((a (ix2 (⟨k.val / 2, by omega⟩ : Fin 1440) t)).extractLsb' (16 * (k.val % 2)) 16) := by
  unfold bitcastToFloat
  rw [bitcast_32_16]
  have hr : S2880x256.row (ix2 k t) = k.val := rfl
  show Ideal.ofBits .bf16 _ = _
  congr 2
  · congr 1
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))

/-- A slab of the products: row `p` of the weights and column `t` of the activations. -/
theorem product_apply (a : S1440x256.Idx → BitVec 32) (w : S256x2x2880.Idx → EReal) (p : Fin 512) (t : Fin 256) :
    product (F := Ideal) a w (ix2 p t)
      = ∑ k : Fin 2880, w (ix3 (⟨p.val / 2, by omega⟩ : Fin 256) (⟨p.val % 2, by omega⟩ : Fin 2) k)
          * Ideal.ofBits .bf16 ((a (ix2 (⟨k.val / 2, by omega⟩ : Fin 1440) t)).extractLsb' (16 * (k.val % 2)) 16) := by
  unfold product
  refine (Ideal.matmul_plain_apply (M := 512) (K := 2880) (N := 256) none _ _ _ p t).trans ?_
  have z : constant (F := Ideal) S512x256 .f32 0x00000000#32 (ix2 p t) = 0 := Ideal.ofBits_zero_f32
  rw [z, zero_add]
  refine Finset.sum_congr rfl fun k _ => ?_
  rw [rows_apply, acts_apply]

end Cert.GateupIdeal.Proj
-- ==== Proof.Gateup.Closed.lean ====
/- The gate and up projections and the quantised features at ideal values, in closed form: what both programs
   compute. -/
module

public import proofs.«01_k».proof.Proof.Codes
public import Idealize.ShloMosaic.Lib.ValueIdx

@[expose] public section

noncomputable section

namespace Cert.Gated

open Idealize.ShloMosaic Idealize.ShloMosaic.ValueIdx Cert.Codes

/-- The activation words' indices, the codes', the scales'. -/
abbrev ActIdx := (⟨2, ![1440, 1792]⟩ : Shape).Idx
abbrev CodeIdx := (⟨2, ![7680, 1440]⟩ : Shape).Idx
abbrev ScaleIdx := (⟨2, ![7680, 90]⟩ : Shape).Idx

/-- Row `r` of the activations, at token `t`: a half of word row `r / 2`. -/
def act (x0 : ActIdx → BitVec 32) (r : Fin 2880) (t : Fin 1792) : EReal :=
  Ideal.ofBits .bf16 ((x0 (ix2 ⟨r.val / 2, by omega⟩ t)).extractLsb' (16 * (r.val % 2)) 16)

/-- The scale of code column `p` of feature `n`: one byte for sixteen columns. -/
def scaleAt (s : ScaleIdx → BitVec 8) (n : Fin 7680) (p : Fin 1440) : EReal := scaleOf (s (ix2 n ⟨p.val / 16, by omega⟩))

/-- The two weights of code column `p`. -/
def weightLow (c : CodeIdx → BitVec 8) (s : ScaleIdx → BitVec 8) (n : Fin 7680) (p : Fin 1440) : EReal := codeLow (c (ix2 n p)) * scaleAt s n p
def weightHigh (c : CodeIdx → BitVec 8) (s : ScaleIdx → BitVec 8) (n : Fin 7680) (p : Fin 1440) : EReal := codeHigh (c (ix2 n p)) * scaleAt s n p

/-- The activation rows that meet them: in blocks of 256, the first 128 and the last 128; in the last block, of 64,
    the first 32 and the last 32. -/
def rowLow (p : Fin 1440) : Fin 2880 := ⟨256 * (p.val / 128) + p.val % 128, by omega⟩
def rowHigh (p : Fin 1440) : Fin 2880 := ⟨256 * (p.val / 128) + (if p.val < 1408 then 128 else 32) + p.val % 128, by split_ifs <;> omega⟩

/-- One projection: token `t`, feature `n`. -/
def gemm (x0 : ActIdx → BitVec 32) (c : CodeIdx → BitVec 8) (s : ScaleIdx → BitVec 8) (t : Fin 1792) (n : Fin 7680) : EReal :=
  ∑ p, act x0 (rowLow p) t * weightLow c s n p + ∑ p, act x0 (rowHigh p) t * weightHigh c s n p

/-- gate · sigmoid(gate) · up. -/
def feature (x0 : ActIdx → BitVec 32) (gc : CodeIdx → BitVec 8) (gs : ScaleIdx → BitVec 8) (uc : CodeIdx → BitVec 8) (us : ScaleIdx → BitVec 8)
    (t : Fin 1792) (n : Fin 7680) : EReal :=
  gemm x0 gc gs t n * Ideal.logistic (gemm x0 gc gs t n) * gemm x0 uc us t n

/-- The value of scale byte `k`. -/
def power (k : ℕ) : EReal := scaleOf (BitVec.ofNat 8 k)

/-- The greatest magnitude of a block of thirty-two. -/
def greatest (f : Fin 32 → EReal) : EReal := Finset.univ.fold max ⊥ fun k => max (f k) (-(f k))

/-- How many of the scale values from byte 1 to byte 255 a magnitude reaches. -/
def reached (a : EReal) : ℕ := (Finset.univ.filter fun k : Fin 255 => power (k.val + 1) ≤ a).card

/-- The scale byte of a block whose greatest magnitude is `a`: eight below the greatest power of two reached, 127 for
    a block of zeros. -/
def byte (a : EReal) : ℕ := if a = 0 then 127 else reached a - 8

/-- An element of a block, over the block's scale, held between -448 and 448. -/
def code (x a : EReal) : EReal := min (Ideal.ofBits .f32 0x43E00000#32) (max (Ideal.ofBits .f32 0xC3E00000#32) (x * power (254 - byte a)))

/-- The feature of a row of the dequantised result: in blocks of 256, the even features and then the odd ones. -/
def rowFeature (r : Fin 7680) : Fin 7680 := ⟨256 * (r.val / 256) + 2 * (r.val % 128) + r.val % 256 / 128, by omega⟩

section results

variable (x0 : ActIdx → BitVec 32) (gc : CodeIdx → BitVec 8) (gs : ScaleIdx → BitVec 8) (uc : CodeIdx → BitVec 8) (us : ScaleIdx → BitVec 8)

/-- The greatest magnitude of block `b` of token `t`'s features. -/
def blockMax (t : Fin 1792) (b : Fin 240) : EReal := greatest fun k => feature x0 gc gs uc us t ⟨32 * b.val + k.val, by omega⟩

/-- The code of feature `n` of token `t`, and the scale byte of block `b`. -/
def codeOut (t : Fin 1792) (n : Fin 7680) : EReal := code (feature x0 gc gs uc us t n) (blockMax x0 gc gs uc us t ⟨n.val / 32, by omega⟩)
def scaleOut (b : Fin 240) (t : Fin 1792) : BitVec 32 := BitVec.ofNat 32 (byte (blockMax x0 gc gs uc us t b))

/-- The dequantised code of feature `n` of token `t`. -/
def valueOut (t : Fin 1792) (n : Fin 7680) : EReal :=
  codeOut x0 gc gs uc us t n * power (byte (blockMax x0 gc gs uc us t ⟨n.val / 32, by omega⟩))

end results

/-! ## The rows, once each -/

/-- The nibble a row meets. -/
def nibble (k : Fin 2880) : Fin 1440 ⊕ Fin 1440 :=
  if h : k.val < 2816 then
    if h' : k.val % 256 < 128 then .inl ⟨128 * (k.val / 256) + k.val % 256, by omega⟩
    else .inr ⟨128 * (k.val / 256) + (k.val % 256 - 128), by omega⟩
  else if h' : k.val < 2848 then .inl ⟨k.val - 1408, by omega⟩ else .inr ⟨k.val - 1440, by omega⟩

theorem nibble_rowLow (p : Fin 1440) : nibble (rowLow p) = .inl p := by
  have e : (rowLow p).val = 256 * (p.val / 128) + p.val % 128 := rfl
  unfold nibble
  by_cases h : p.val < 1408
  · rw [dif_pos (by omega), dif_pos (by omega)]
    exact congrArg Sum.inl (Fin.ext (by show 128 * ((rowLow p).val / 256) + (rowLow p).val % 256 = p.val; omega))
  · rw [dif_neg (by omega), dif_pos (by omega)]
    exact congrArg Sum.inl (Fin.ext (by show (rowLow p).val - 1408 = p.val; omega))

theorem nibble_rowHigh (p : Fin 1440) : nibble (rowHigh p) = .inr p := by
  have e : (rowHigh p).val = 256 * (p.val / 128) + (if p.val < 1408 then 128 else 32) + p.val % 128 := rfl
  unfold nibble
  by_cases h : p.val < 1408
  · rw [if_pos h] at e
    rw [dif_pos (by omega), dif_neg (by omega)]
    exact congrArg Sum.inr (Fin.ext (by show 128 * ((rowHigh p).val / 256) + ((rowHigh p).val % 256 - 128) = p.val; omega))
  · rw [if_neg h] at e
    rw [dif_neg (by omega), dif_neg (by omega)]
    exact congrArg Sum.inr (Fin.ext (by show (rowHigh p).val - 1440 = p.val; omega))

theorem row_nibble (k : Fin 2880) : Sum.elim rowLow rowHigh (nibble k) = k := by
  unfold nibble
  by_cases h : k.val < 2816
  · rw [dif_pos h]
    by_cases h' : k.val % 256 < 128
    · rw [dif_pos h']
      exact Fin.ext (by
        show 256 * ((128 * (k.val / 256) + k.val % 256) / 128) + (128 * (k.val / 256) + k.val % 256) % 128 = k.val
        omega)
    · rw [dif_neg h']
      exact Fin.ext (by
        show 256 * ((128 * (k.val / 256) + (k.val % 256 - 128)) / 128) + (if 128 * (k.val / 256) + (k.val % 256 - 128) < 1408 then 128 else 32)
          + (128 * (k.val / 256) + (k.val % 256 - 128)) % 128 = k.val
        rw [if_pos (by omega)]
        omega)
  · rw [dif_neg h]
    by_cases h' : k.val < 2848
    · rw [dif_pos h']
      exact Fin.ext (by show 256 * ((k.val - 1408) / 128) + (k.val - 1408) % 128 = k.val; omega)
    · rw [dif_neg h']
      exact Fin.ext (by
        show 256 * ((k.val - 1440) / 128) + (if k.val - 1440 < 1408 then 128 else 32) + (k.val - 1440) % 128 = k.val
        rw [if_neg (by omega)]
        omega)

/-- Every activation row, once: as the row of a low nibble or of a high one. -/
def rows : Fin 1440 ⊕ Fin 1440 ≃ Fin 2880 where
  toFun := Sum.elim rowLow rowHigh
  invFun := nibble
  left_inv x := by
    match x with
    | .inl p => exact nibble_rowLow p
    | .inr p => exact nibble_rowHigh p
  right_inv := row_nibble

/-- A sum over the activation rows, by nibbles. -/
theorem sum_rows (f : Fin 2880 → EReal) : ∑ k, f k = ∑ p, f (rowLow p) + ∑ p, f (rowHigh p) := by
  rw [← Equiv.sum_comp rows, Fintype.sum_sum_type]
  rfl

end Cert.Gated
-- ==== Proof.Gateup.Quantiser.lean ====
/- The block quantiser at ideal values: the kernel's bitwise search for an exponent and the reference's count of the
   powers reached give the same scale byte, and their two scalings are the same. -/
module

public import proofs.«01_k».proof.Proof.Gateup.Closed

@[expose] public section

noncomputable section

namespace Cert.Gated

open Idealize.ShloMosaic Cert.Codes

/-! ## The powers of two -/

theorem power_mid (k : ℕ) (h1 : 1 ≤ k) (h2 : k ≤ 254) : power k = (((2 : ℝ) ^ ((k : ℤ) - 127) : ℝ) : EReal) := by
  have e : (BitVec.ofNat 8 k).toNat = k := by rw [BitVec.toNat_ofNat]; omega
  unfold power scaleOf
  rw [if_neg (fun h => by rw [h] at e; exact absurd e (by show ¬ 0 = k; omega)),
    if_neg (fun h => by rw [h] at e; exact absurd e (by show ¬ 255 = k; omega)), e]

theorem power_top : power 255 = ⊤ := by
  unfold power scaleOf
  rw [if_neg (by decide), if_pos (by decide)]

theorem power_mono (k l : ℕ) (h1 : 1 ≤ k) (h : k ≤ l) (h2 : l ≤ 255) : power k ≤ power l := by
  rcases Nat.lt_or_ge l 255 with hl | hl
  · rw [power_mid k h1 (by omega), power_mid l (by omega) (by omega)]
    exact EReal.coe_le_coe_iff.2 (zpow_le_zpow_right₀ (by norm_num) (by omega))
  · rw [show l = 255 by omega, power_top]
    exact le_top

theorem reached_le (a : EReal) : reached a ≤ 255 := by
  unfold reached
  exact (Finset.card_le_univ _).trans (by simp)

/-- A power is reached exactly where its byte is at most the count of the powers reached. -/
theorem power_le_iff (a : EReal) (k : ℕ) (h1 : 1 ≤ k) (h2 : k ≤ 255) : power k ≤ a ↔ k ≤ reached a := by
  constructor
  · intro h
    have hs : (Finset.univ.filter fun i : Fin 255 => i.val < k) ⊆ Finset.univ.filter fun i : Fin 255 => power (i.val + 1) ≤ a := fun i hi => by
      have hi' := (Finset.mem_filter.1 hi).2
      exact Finset.mem_filter.2 ⟨Finset.mem_univ _, (power_mono _ _ (by omega) (by omega) h2).trans h⟩
    have hc := Finset.card_le_card hs
    rw [Fin.card_filter_val_lt] at hc
    unfold reached
    omega
  · intro h
    by_contra hn
    have hs : (Finset.univ.filter fun i : Fin 255 => power (i.val + 1) ≤ a) ⊆ Finset.univ.filter fun i : Fin 255 => i.val < k - 1 := fun i hi => by
      have hi' := (Finset.mem_filter.1 hi).2
      refine Finset.mem_filter.2 ⟨Finset.mem_univ _, ?_⟩
      by_contra hk
      exact hn ((power_mono _ _ h1 (by omega) (by omega)).trans hi')
    have hc := Finset.card_le_card hs
    rw [Fin.card_filter_val_lt] at hc
    unfold reached at h
    omega

/-! ## The kernel's search -/

theorem ofNat_setWidth (n : ℕ) (h : n ≤ 255) : (BitVec.ofNat 8 n).setWidth 32 = BitVec.ofNat 32 n := by
  apply BitVec.eq_of_toNat_eq
  rw [BitVec.toNat_setWidth, BitVec.toNat_ofNat, BitVec.toNat_ofNat]
  omega

/-- A byte as an f32's exponent is its power. -/
theorem bits_power (n : ℕ) (h : n ≤ 255) : Ideal.ofBits .f32 (IntOp.shli .vector (BitVec.ofNat 32 n) 23#32) = power n := by
  rw [← ofNat_setWidth n h]
  exact scale_bits _

/-- One step of the search, at one element. -/
def step (a : EReal) (e b : BitVec 32) : BitVec 32 :=
  Scalar.select (Ideal.cmp .olt a (Ideal.ofBits .f32 (IntOp.shli .vector (IntOp.addi e b) 23#32))) e (IntOp.addi e b)

theorem step_ofNat (a : EReal) (n b : ℕ) (h1 : 1 ≤ n + b) (h2 : n + b ≤ 255) :
    step a (BitVec.ofNat 32 n) (BitVec.ofNat 32 b) = BitVec.ofNat 32 (if n + b ≤ reached a then n + b else n) := by
  have e : IntOp.addi (BitVec.ofNat 32 n) (BitVec.ofNat 32 b) = BitVec.ofNat 32 (n + b) := (BitVec.ofNat_add _ _).symm
  unfold step
  rw [e, bits_power _ h2]
  have hc : Ideal.cmp .olt a (power (n + b)) = BitVec.ofBool (decide (a < power (n + b))) := rfl
  rw [hc]
  by_cases h : n + b ≤ reached a
  · rw [if_pos h, decide_eq_false (not_lt.2 ((power_le_iff a _ h1 h2).2 h))]
    rfl
  · rw [if_neg h, decide_eq_true (not_le.1 fun hp => h ((power_le_iff a _ h1 h2).1 hp))]
    rfl

/-- What is known of the search when steps below `b` remain. -/
def Found (a : EReal) (b : ℕ) (e : BitVec 32) : Prop := ∃ n, e = BitVec.ofNat 32 n ∧ n ≤ reached a ∧ reached a < n + b ∧ n + b ≤ 256

theorem found_step (a : EReal) (b : ℕ) (hb : 1 ≤ b) (e : BitVec 32) (h : Found a (2 * b) e) : Found a b (step a e (BitVec.ofNat 32 b)) := by
  obtain ⟨n, rfl, h1, h2, h3⟩ := h
  rw [step_ofNat a n b (by omega) (by omega)]
  by_cases hc : n + b ≤ reached a
  · rw [if_pos hc]
    exact ⟨n + b, rfl, hc, by omega, by omega⟩
  · rw [if_neg hc]
    exact ⟨n, rfl, h1, by omega, by omega⟩

/-- The search, at one element. -/
def search (a : EReal) : BitVec 32 :=
  step a (step a (step a (step a (step a (step a (step a (step a 0#32 128#32) 64#32) 32#32) 16#32) 8#32) 4#32) 2#32) 1#32

theorem search_eq (a : EReal) : search a = BitVec.ofNat 32 (reached a) := by
  have h : Found a 1 (search a) :=
    found_step a 1 (by omega) _ <| found_step a 2 (by omega) _ <| found_step a 4 (by omega) _ <| found_step a 8 (by omega) _ <|
    found_step a 16 (by omega) _ <| found_step a 32 (by omega) _ <| found_step a 64 (by omega) _ <| found_step a 128 (by omega) _
      ⟨0, rfl, Nat.zero_le _, by have := reached_le a; omega, by omega⟩
  obtain ⟨n, e, h1, h2, _⟩ := h
  rw [e, show n = reached a by omega]

theorem clip_kernel : ∀ n : Fin 256, IntOp.minsi 254#32 (IntOp.maxsi 0#32 (IntOp.subi (BitVec.ofNat 32 n.val) 8#32)) = BitVec.ofNat 32 (n.val - 8) := by decide

theorem zero_bits : Ideal.ofBits .f32 0x00000000#32 = 0 := by simp [Ideal.ofBits, Ideal.ieee]
theorem top_bits : Ideal.ofBits .f32 0x7F800000#32 = ⊤ := by simp [Ideal.ofBits, Ideal.ieee]
theorem bot_bits : Ideal.ofBits .f32 0xFF800000#32 = ⊥ := by simp [Ideal.ofBits, Ideal.ieee]
theorem one_bits : Ideal.ofBits .f32 0x3F800000#32 = 1 := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num

theorem select_zero (a : EReal) (x y : BitVec 32) :
    Scalar.select (Ideal.cmp .oeq a (Ideal.ofBits .f32 0x00000000#32)) x y = if a = 0 then x else y := by
  rw [zero_bits]
  have hc : Ideal.cmp .oeq a 0 = BitVec.ofBool (decide (a = 0)) := rfl
  rw [hc]
  by_cases h : a = 0
  · rw [if_pos h, decide_eq_true h]; rfl
  · rw [if_neg h, decide_eq_false h]; rfl

/-- The kernel's scale byte. -/
theorem byte_kernel (a : EReal) :
    Scalar.select (Ideal.cmp .oeq a (Ideal.ofBits .f32 0x00000000#32)) 127#32 (IntOp.minsi 254#32 (IntOp.maxsi 0#32 (IntOp.subi (search a) 8#32)))
      = BitVec.ofNat 32 (byte a) := by
  rw [select_zero, search_eq, clip_kernel ⟨reached a, by have := reached_le a; omega⟩]
  unfold byte
  by_cases h : a = 0
  · rw [if_pos h, if_pos h]
  · rw [if_neg h, if_neg h]

theorem byte_le (a : EReal) : byte a ≤ 247 := by
  have := reached_le a
  unfold byte
  split_ifs <;> omega

theorem rest_kernel : ∀ n : Fin 248, IntOp.subi 254#32 (BitVec.ofNat 32 n.val) = BitVec.ofNat 32 (254 - n.val) := by decide

/-- The kernel's factor: the power of the byte that is 254 less the scale byte. -/
theorem factor_kernel (a : EReal) :
    Ideal.ofBits .f32 (IntOp.shli .vector (IntOp.subi 254#32 (BitVec.ofNat 32 (byte a))) 23#32) = power (254 - byte a) := by
  have := byte_le a
  rw [rest_kernel ⟨byte a, by omega⟩, bits_power _ (by omega)]

/-! ## The reference's count -/

theorem next_word : ∀ k : Fin 255, (BitVec.ofNat 8 (k.val + 1)).setWidth 32 = IntOp.addi (BitVec.ofNat 32 k.val) 1#32
    ∧ IntOp.cmpi .eq ((BitVec.ofNat 8 (k.val + 1)).setWidth 32) 0#32 = 0#1 := by decide

/-- The reference's `k`-th power. -/
theorem power_reference (k : Fin 255) :
    Scalar.select (IntOp.cmpi .eq (IntOp.addi (BitVec.ofNat 32 k.val) 1#32) 255#32) (Ideal.ofBits .f32 0x7F800000#32)
        (Ideal.pow (Ideal.ofBits .f32 0x40000000#32) (((IntOp.subi (IntOp.addi (BitVec.ofNat 32 k.val) 1#32) 127#32).toInt : ℝ) : EReal))
      = power (k.val + 1) := by
  obtain ⟨h1, h2⟩ := next_word k
  have h := scale_power (BitVec.ofNat 8 (k.val + 1))
  rw [h2, h1] at h
  exact h

/-- A sum of bits is the number of those set. -/
theorem count_bits {n : ℕ} (p : Fin n → Prop) [DecidablePred p] (S : Finset (Fin n)) :
    S.fold IntOp.addi 0#32 (fun k => (BitVec.ofBool (decide (p k))).setWidth 32) = BitVec.ofNat 32 (S.filter p).card := by
  classical
  induction S using Finset.induction_on with
  | empty => rfl
  | insert k S hk ih =>
    rw [Finset.fold_insert hk, ih, Finset.filter_insert]
    by_cases h : p k
    · rw [if_pos h, Finset.card_insert_of_notMem (fun hm => hk (Finset.mem_filter.1 hm).1), decide_eq_true h]
      rw [Nat.add_comm, BitVec.ofNat_add]
      rfl
    · rw [if_neg h, decide_eq_false h]
      exact BitVec.zero_add _

theorem clip_reference : ∀ n : Fin 256,
    IntOp.minsi 127#32 (IntOp.maxsi 4294967169#32 (IntOp.subi (IntOp.subi (BitVec.ofNat 32 n.val) 126#32) 9#32)) = IntOp.subi (BitVec.ofNat 32 (n.val - 8)) 127#32 := by
  decide

/-- The reference's exponent of the scale: the byte less 127. -/
theorem exponent_reference (a : EReal) :
    IntOp.minsi 127#32 (IntOp.maxsi 4294967169#32 (Scalar.select (Ideal.cmp .oeq a (Ideal.ofBits .f32 0x00000000#32)) 0#32
      (IntOp.subi (IntOp.subi (BitVec.ofNat 32 (reached a)) 126#32) 9#32))) = IntOp.subi (BitVec.ofNat 32 (byte a)) 127#32 := by
  rw [select_zero]
  unfold byte
  by_cases h : a = 0
  · rw [if_pos h, if_pos h]; decide
  · rw [if_neg h, if_neg h, clip_reference ⟨reached a, by have := reached_le a; omega⟩]

theorem byte_reference (n : ℕ) : IntOp.addi (IntOp.subi (BitVec.ofNat 32 n) 127#32) 127#32 = BitVec.ofNat 32 n := by
  show BitVec.ofNat 32 n - 127#32 + 127#32 = _
  exact BitVec.sub_add_cancel _ _

theorem negated : ∀ n : Fin 248, (-(IntOp.subi (BitVec.ofNat 32 n.val) 127#32)).toInt = ((254 - n.val : ℕ) : ℤ) - 127 := by decide

/-- The reference's factor. -/
theorem factor_reference (a : EReal) :
    Ideal.pow (Ideal.ofBits .f32 0x40000000#32) (((-(IntOp.subi (BitVec.ofNat 32 (byte a)) 127#32)).toInt : ℝ) : EReal) = power (254 - byte a) := by
  have hb := byte_le a
  rw [negated ⟨byte a, by omega⟩, power_mid _ (by omega) (by omega), two_bits]
  show ((Real.rpow 2 _ : ℝ) : EReal) = _
  exact congrArg _ (Real.rpow_intCast 2 _)

end Cert.Gated
-- ==== Proof.Gateup.Slab.lean ====
/- What is made of a slab of products at ideal values, element by element: the features, their scale bytes,
   their codes and their dequantised codes. -/
module

public import proofs.«01_k».proof.Proof.Gateup.Body
public import proofs.«01_k».proof.Proof.Gateup.Quantiser
public import Idealize.ShloMosaic.Lib.ValueIdx
public import Idealize.ShloMosaic.Lib.Pipeline.Value

@[expose] public section

noncomputable section

namespace Cert.GateupIdeal.Proj

open Idealize.ShloMosaic Idealize.ShloMosaic.ValueIdx
open Cert.GateupIdeal Cert.GateupIdeal.Gen

/-- Feature `32 b + k` of a slab: gate · sigmoid(gate) · up. -/
theorem gated_apply (acc : S512x256.Idx → EReal) (b : Fin 8) (k : Fin 32) (t : Fin 256) :
    gated (F := Ideal) acc (ix3 b k t)
      = acc (ix2 (⟨32 * b.val + k.val, by omega⟩ : Fin 512) t) * Ideal.logistic (acc (ix2 (⟨32 * b.val + k.val, by omega⟩ : Fin 512) t))
        * acc (ix2 (⟨256 + (32 * b.val + k.val), by omega⟩ : Fin 512) t) := by
  unfold gated
  rw [shapeCast_apply _ _ _ (ix2 (⟨32 * b.val + k.val, by omega⟩ : Fin 256) t) (by
    rw [Shape.rowMajor_val_two, Shape.rowMajor_val_three]
    show (32 * b.val + k.val) * 256 + t.val = (b.val * 32 + k.val) * 256 + t.val
    omega)]
  have hg : extractStridedSlice S256x256 ![0, 0] acc slices_S512x256_o0_0_S256x256 (ix2 (⟨32 * b.val + k.val, by omega⟩ : Fin 256) t)
      = acc (ix2 (⟨32 * b.val + k.val, by omega⟩ : Fin 512) t) := extractStridedSlice_apply _ _ _ _ _ (fun a => by
    match a with
    | ⟨0, _⟩ => exact (Nat.zero_add _).symm
    | ⟨1, _⟩ => exact (Nat.zero_add _).symm)
  have hu : extractStridedSlice S256x256 ![256, 0] acc slices_S512x256_o256_0_S256x256 (ix2 (⟨32 * b.val + k.val, by omega⟩ : Fin 256) t)
      = acc (ix2 (⟨256 + (32 * b.val + k.val), by omega⟩ : Fin 512) t) := extractStridedSlice_apply _ _ _ _ _ (fun a => by
    match a with
    | ⟨0, _⟩ => rfl
    | ⟨1, _⟩ => exact (Nat.zero_add _).symm)
  rw [← hg, ← hu]
  rfl

/-- The greatest magnitude of a block. -/
theorem greatest_apply (g : S8x32x256.Idx → EReal) (b : Fin 8) (t : Fin 256) :
    greatest (F := Ideal) g (ix3 b (0 : Fin 1) t) = Cert.Gated.greatest fun k => g (ix3 b k t) := by
  unfold greatest
  rw [shapeCast_apply _ _ _ (ix2 b t) (by
    rw [Shape.rowMajor_val_two, Shape.rowMajor_val_three]
    show b.val * 256 + t.val = (b.val * 1 + 0) * 256 + t.val
    omega)]
  refine (Ideal.multiReduction_maximumf_single (s := S8x32x256) (t := S8x256) (a := 1) (φ := .f32) _ _ _ _ _ _).trans ?_
  unfold Cert.Gated.greatest
  have h0 : FloatOps.ofBits (F := Ideal) .f32 0xFF800000#32 = (⊥ : EReal) := Cert.Gated.bot_bits
  rw [h0]
  refine congrArg (Finset.fold max (⊥ : EReal) · Finset.univ) (funext fun (k : Fin 32) => ?_)
  have hl : reduces_S8x32x256_S8x256.lift (ix2 b t) k = ix3 b k t := by
    funext a
    match a with
    | ⟨0, _⟩ => rfl
    | ⟨1, _⟩ => rfl
    | ⟨2, _⟩ => rfl
  show max (g (reduces_S8x32x256_S8x256.lift (ix2 b t) k)) (-(g (reduces_S8x32x256_S8x256.lift (ix2 b t) k))) = _
  rw [hl]

theorem searchStep_apply (m : S8x1x256.Idx → EReal) (e : S8x1x256.Idx → BitVec 32) (b : BitVec 32) (i : S8x1x256.Idx) :
    searchStep (F := Ideal) m e b i = Cert.Gated.step (m i) (e i) b := rfl

theorem exponent_apply (m : S8x1x256.Idx → EReal) (i : S8x1x256.Idx) : exponent (F := Ideal) m i = Cert.Gated.search (m i) := by
  unfold exponent Cert.Gated.search
  rw [searchStep_apply, searchStep_apply, searchStep_apply, searchStep_apply, searchStep_apply, searchStep_apply, searchStep_apply, searchStep_apply]
  rfl

theorem scaleBytes_apply (m : S8x1x256.Idx → EReal) (i : S8x1x256.Idx) : scaleBytes (F := Ideal) m i = BitVec.ofNat 32 (Cert.Gated.byte (m i)) := by
  rw [← Cert.Gated.byte_kernel, ← exponent_apply]
  rfl

/-- Narrowing and widening change no ideal value. -/
theorem same (v : S256x256.Idx → EReal) (h1 : FTy.fp8e4m3.bits < FTy.f32.bits) (h2 : FTy.fp8e4m3.bits < FTy.bf16.bits) :
    extf (F := Ideal) .bf16 (truncf (F := Ideal) (φ := .f32) .fp8e4m3 v h1) h2 = v := rfl

theorem narrowed (v : S256x256.Idx → EReal) (h : FTy.fp8e4m3.bits < FTy.bf16.bits) : truncf (F := Ideal) (φ := .bf16) .fp8e4m3 v h = v := rfl

theorem codes_apply (g : S8x32x256.Idx → EReal) (b : S8x1x256.Idx → BitVec 32) (c : Fin 8) (k : Fin 32) (t : Fin 256) :
    codes (F := Ideal) g b (ix2 (⟨32 * c.val + k.val, by omega⟩ : Fin 256) t)
      = min (Ideal.ofBits .f32 0x43E00000#32) (max (Ideal.ofBits .f32 0xC3E00000#32)
          (g (ix3 c k t) * Ideal.ofBits .f32 (IntOp.shli .vector (IntOp.subi 254#32 (b (ix3 c (0 : Fin 1) t))) 23#32))) := by
  have hb : broadcastTo S8x32x256 (bitcastToFloat (F := Ideal) .f32 (shli (subi (broadcast S8x1x256 254#32) b) (broadcast S8x1x256 23#32))) broadcasts_S8x1x256_S8x32x256 (ix3 c k t)
      = Ideal.ofBits .f32 (IntOp.shli .vector (IntOp.subi 254#32 (b (ix3 c (0 : Fin 1) t))) 23#32) :=
    broadcastTo_apply _ _ _ (ix3 c (0 : Fin 1) t) (fun a => by
      match a with
      | ⟨0, _⟩ => rfl
      | ⟨1, _⟩ => rfl
      | ⟨2, _⟩ => rfl)
  rw [← hb]
  unfold codes
  rw [same]
  rw [shapeCast_apply _ _ _ (ix3 c k t) (by
    rw [Shape.rowMajor_val_two, Shape.rowMajor_val_three]
    show (c.val * 32 + k.val) * 256 + t.val = (32 * c.val + k.val) * 256 + t.val
    omega)]
  rfl

/-- A stored code: token `t`, feature `32 c + k` of the slab. -/
theorem codeSlab_apply (g : S8x32x256.Idx → EReal) (t : Fin 256) (c : Fin 8) (k : Fin 32) :
    codeSlab (F := Ideal) g (ix2 t (⟨32 * c.val + k.val, by omega⟩ : Fin 256))
      = Cert.Gated.code (g (ix3 c k t)) (Cert.Gated.greatest fun k => g (ix3 c k t)) := by
  unfold codeSlab
  rw [narrowed]
  refine (transpose_apply _ _ _ _ (ix2 (⟨32 * c.val + k.val, by omega⟩ : Fin 256) t) (fun b => by
    match b with
    | ⟨0, _⟩ => rfl
    | ⟨1, _⟩ => rfl)).trans ?_
  rw [codes_apply, scaleBytes_apply, greatest_apply, Cert.Gated.factor_kernel]
  rfl

/-- A stored scale byte. -/
theorem scaleSlab_apply (g : S8x32x256.Idx → EReal) (c : Fin 8) (t : Fin 256) :
    scaleSlab (F := Ideal) g (ix2 c t) = BitVec.ofNat 32 (Cert.Gated.byte (Cert.Gated.greatest fun k => g (ix3 c k t))) := by
  unfold scaleSlab
  rw [shapeCast_apply _ _ _ (ix3 c (0 : Fin 1) t) (by
    rw [Shape.rowMajor_val_two, Shape.rowMajor_val_three]
    show (c.val * 1 + 0) * 256 + t.val = c.val * 256 + t.val
    omega), scaleBytes_apply, greatest_apply]

/-- A dequantised code, before the rows are put in their order. -/
theorem dequantised_apply (g : S8x32x256.Idx → EReal) (c : Fin 8) (k : Fin 32) (t : Fin 256) :
    dequantised (F := Ideal) g (ix2 (⟨32 * c.val + k.val, by omega⟩ : Fin 256) t)
      = Cert.Gated.code (g (ix3 c k t)) (Cert.Gated.greatest fun k => g (ix3 c k t))
        * Cert.Gated.power (Cert.Gated.byte (Cert.Gated.greatest fun k => g (ix3 c k t))) := by
  have hs : shapeCast S256x256 (broadcastTo S8x32x256 (shapeCast S8x1x256 (bitcastToFloat (F := Ideal) .f32
      (shli (scaleBytes (F := Ideal) (greatest (F := Ideal) g)) (broadcast S8x1x256 23#32))) shapeCasts_S8x1x256_S8x1x256) broadcasts_S8x1x256_S8x32x256) shapeCasts_S8x32x256_S256x256
        (ix2 (⟨32 * c.val + k.val, by omega⟩ : Fin 256) t)
      = Cert.Gated.power (Cert.Gated.byte (Cert.Gated.greatest fun k => g (ix3 c k t))) := by
    rw [shapeCast_apply _ _ _ (ix3 c k t) (by
      rw [Shape.rowMajor_val_two, Shape.rowMajor_val_three]
      show (c.val * 32 + k.val) * 256 + t.val = (32 * c.val + k.val) * 256 + t.val
      omega)]
    refine (broadcastTo_apply _ _ _ (ix3 c (0 : Fin 1) t) (fun a => by
      match a with
      | ⟨0, _⟩ => rfl
      | ⟨1, _⟩ => rfl
      | ⟨2, _⟩ => rfl)).trans ?_
    rw [shapeCast_apply _ _ _ (ix3 c (0 : Fin 1) t) rfl]
    show Ideal.ofBits .f32 (IntOp.shli .vector (scaleBytes (F := Ideal) (greatest (F := Ideal) g) (ix3 c (0 : Fin 1) t)) 23#32) = _
    rw [scaleBytes_apply, greatest_apply, Cert.Gated.bits_power _ (by have := Cert.Gated.byte_le (Cert.Gated.greatest fun k => g (ix3 c k t)); omega)]
  rw [← hs]
  have hc := codes_apply g (scaleBytes (F := Ideal) (greatest (F := Ideal) g)) c k t
  rw [scaleBytes_apply, greatest_apply, Cert.Gated.factor_kernel] at hc
  exact congrArg (· * _) hc

end Cert.GateupIdeal.Proj
-- ==== Proof.Gateup.Block.lean ====
/- The blocks of the three results at one grid point, element by element, from the blocks whose weights were decoded. -/
module

public import proofs.«01_k».proof.Proof.Gateup.Run
public import proofs.«01_k».proof.Proof.Gateup.Tile
public import proofs.«01_k».proof.Proof.Gateup.Product
public import proofs.«01_k».proof.Proof.Gateup.Slab

@[expose] public section

noncomputable section

namespace Cert.GateupIdeal.Proj

open Idealize.ShloMosaic Idealize.ShloMosaic.ValueIdx Cert.Codes
open Cert.Gated (ActIdx act rowLow rowHigh sum_rows)
open Cert.GateupIdeal Cert.GateupIdeal.Gen

section weights

variable (C : S256x1440.Idx → BitVec 8) (S : S256x90.Idx → BitVec 8)

theorem codes_idx (q : Fin 256) (p : Fin 1440) (hp : p.val < 1408) :
    (rCodes ⟨p.val / 128, by omega⟩).idx (ix2 q (⟨p.val % 128, by omega⟩ : Fin 128)) = ix2 q p := by
  funext a
  match a with
  | ⟨0, _⟩ => exact Fin.ext (by show 0 + 1 * q.val = q.val; omega)
  | ⟨1, _⟩ => exact Fin.ext (by show 128 * (p.val / 128) + 1 * (p.val % 128) = p.val; omega)

theorem tailCodes_idx (q : Fin 256) (p : Fin 1440) (l : Fin 32) (hp : p.val = 1408 + l.val) : rTailCodes.idx (ix2 q l) = ix2 q p := by
  funext a
  match a with
  | ⟨0, _⟩ => exact Fin.ext (by show 0 + 1 * q.val = q.val; omega)
  | ⟨1, _⟩ => exact Fin.ext (by show 1408 + 1 * l.val = p.val; omega)

theorem scales_idx (q : Fin 256) (g : Fin 90) : rScales.idx (ix2 q g) = ix2 q g := by
  funext a
  match a with
  | ⟨0, _⟩ => exact Fin.ext (by show 0 + 1 * q.val = q.val; omega)
  | ⟨1, _⟩ => exact Fin.ext (by show 0 + 1 * g.val = g.val; omega)

/-- The scale of code column `p`, where a lane finds it. -/
theorem lane_scale (n : IVec S256x128 32) (m : Fin 12) (l : Fin 128) (u : Fin 8) (q : Fin 256) (p : Fin 1440)
    (hu : lanesDiv n (ix2 q l) = BitVec.ofNat 32 u.val) (hp : 8 * m.val + u.val = p.val / 16) :
    tileScales (F := Ideal) (scales fun x => S (rScales.idx x)) n (BitVec.ofNat 32 (8 * m.val)) (ix2 q l)
      = scaleOf (S (ix2 q (⟨p.val / 16, by omega⟩ : Fin 90))) := by
  have h := scales_apply (fun x => S (rScales.idx x)) q ⟨p.val / 16, by omega⟩
  rw [tileScales_apply _ n m q l u hu]
  refine Eq.trans (congrArg _ (?_ : _ = ix2 q (⟨p.val / 16, by omega⟩ : Fin 128))) (h.trans (by rw [scales_idx]))
  congr 1
  exact Fin.ext hp

theorem tile_scale (q : Fin 256) (p : Fin 1440) (hp : p.val < 1408) :
    tileScales (F := Ideal) (scales fun x => S (rScales.idx x)) lanes (BitVec.ofNat 32 (8 * (p.val / 128))) (ix2 q (⟨p.val % 128, by omega⟩ : Fin 128))
      = scaleOf (S (ix2 q (⟨p.val / 16, by omega⟩ : Fin 90))) :=
  lane_scale S lanes ⟨p.val / 128, by omega⟩ _ ⟨p.val % 128 / 16, by omega⟩ q p (lanesDiv_apply _ _)
    (by show 8 * (p.val / 128) + p.val % 128 / 16 = p.val / 16; omega)

theorem tail_scale (q : Fin 256) (p : Fin 1440) (l : Fin 128) (hp : p.val = 1408 + l.val % 32) :
    tileScales (F := Ideal) (scales fun x => S (rScales.idx x)) lanesMod 88#32 (ix2 q l) = scaleOf (S (ix2 q (⟨p.val / 16, by omega⟩ : Fin 90))) :=
  lane_scale S lanesMod ⟨11, by omega⟩ _ ⟨l.val % 32 / 16, by omega⟩ q p (lanesDiv_mod_apply _ _)
    (by show 8 * 11 + l.val % 32 / 16 = p.val / 16; omega)

variable (h : Fin 2) (W : S256x2x2880.Idx → EReal) (hW : Half (F := Ideal) C S h W)

include hW

theorem weights_low (q : Fin 256) (p : Fin 1440) :
    W (ix3 (⟨128 * h.val + q.val / 2, by omega⟩ : Fin 256) (⟨q.val % 2, by omega⟩ : Fin 2) (rowLow p))
      = codeLow (C (ix2 q p)) * scaleOf (S (ix2 q (⟨p.val / 16, by omega⟩ : Fin 90))) := by
  by_cases hp : p.val < 1408
  · have e := (hW.1 ⟨p.val / 128, by omega⟩ (Finset.mem_univ _)).1
      (ix3 (⟨q.val / 2, by omega⟩ : Fin 128) (⟨q.val % 2, by omega⟩ : Fin 2) (⟨p.val % 128, by omega⟩ : Fin 128))
    rw [pairs_apply, show (⟨2 * (q.val / 2) + q.val % 2, by omega⟩ : Fin 256) = q from Fin.ext (by show 2 * (q.val / 2) + q.val % 2 = q.val; omega),
      decode_low, tile_scale S q p hp, codes_idx q p hp] at e
    refine Eq.trans (congrArg W ?_) e
    funext a
    match a with
    | ⟨0, _⟩ => exact Fin.ext (by rw [rLow_emb]; rfl)
    | ⟨1, _⟩ => exact Fin.ext (by rw [rLow_emb]; exact (Nat.zero_add _).symm)
    | ⟨2, _⟩ => exact Fin.ext (by rw [rLow_emb]; rfl)
  · have e := hW.2 (ix3 (⟨q.val / 2, by omega⟩ : Fin 128) (⟨q.val % 2, by omega⟩ : Fin 2) (⟨p.val - 1408, by omega⟩ : Fin 64))
    rw [tailPairs_low _ _ _ _ _ (by show p.val - 1408 < 32; omega),
      show (⟨2 * (q.val / 2) + q.val % 2, by omega⟩ : Fin 256) = q from Fin.ext (by show 2 * (q.val / 2) + q.val % 2 = q.val; omega),
      decode_low, tail_scale S q p _ (by show p.val = 1408 + (p.val - 1408) % 32; omega),
      tailCodes_apply _ _ _ (by show p.val - 1408 < 64; omega), tailCodes_idx q p _ (by show p.val = 1408 + (p.val - 1408) % 32; omega)] at e
    refine Eq.trans (congrArg W ?_) e
    funext a
    match a with
    | ⟨0, _⟩ => exact Fin.ext (by rw [rTail_emb]; rfl)
    | ⟨1, _⟩ => exact Fin.ext (by rw [rTail_emb]; exact (Nat.zero_add _).symm)
    | ⟨2, _⟩ => exact Fin.ext (by rw [rTail_emb]; show 256 * (p.val / 128) + p.val % 128 = 2816 + (p.val - 1408); omega)

theorem weights_high (q : Fin 256) (p : Fin 1440) :
    W (ix3 (⟨128 * h.val + q.val / 2, by omega⟩ : Fin 256) (⟨q.val % 2, by omega⟩ : Fin 2) (rowHigh p))
      = codeHigh (C (ix2 q p)) * scaleOf (S (ix2 q (⟨p.val / 16, by omega⟩ : Fin 90))) := by
  by_cases hp : p.val < 1408
  · have e := (hW.1 ⟨p.val / 128, by omega⟩ (Finset.mem_univ _)).2
      (ix3 (⟨q.val / 2, by omega⟩ : Fin 128) (⟨q.val % 2, by omega⟩ : Fin 2) (⟨p.val % 128, by omega⟩ : Fin 128))
    rw [pairs_apply, show (⟨2 * (q.val / 2) + q.val % 2, by omega⟩ : Fin 256) = q from Fin.ext (by show 2 * (q.val / 2) + q.val % 2 = q.val; omega),
      decode_high, tile_scale S q p hp, codes_idx q p hp] at e
    refine Eq.trans (congrArg W ?_) e
    funext a
    match a with
    | ⟨0, _⟩ => exact Fin.ext (by rw [rHigh_emb]; rfl)
    | ⟨1, _⟩ => exact Fin.ext (by rw [rHigh_emb]; exact (Nat.zero_add _).symm)
    | ⟨2, _⟩ => exact Fin.ext (by
        rw [rHigh_emb]
        show 256 * (p.val / 128) + (if p.val < 1408 then 128 else 32) + p.val % 128 = 256 * (p.val / 128) + 128 + p.val % 128
        rw [if_pos hp])
  · have e := hW.2 (ix3 (⟨q.val / 2, by omega⟩ : Fin 128) (⟨q.val % 2, by omega⟩ : Fin 2) (⟨p.val - 1376, by omega⟩ : Fin 64))
    rw [tailPairs_high _ _ _ _ _ (by show 32 ≤ p.val - 1376; omega),
      show (⟨2 * (q.val / 2) + q.val % 2, by omega⟩ : Fin 256) = q from Fin.ext (by show 2 * (q.val / 2) + q.val % 2 = q.val; omega),
      decode_high, tail_scale S q p _ (by show p.val = 1408 + (p.val - 1376) % 32; omega),
      tailCodes_apply _ _ _ (by show p.val - 1376 < 64; omega), tailCodes_idx q p _ (by show p.val = 1408 + (p.val - 1376) % 32; omega)] at e
    refine Eq.trans (congrArg W ?_) e
    funext a
    match a with
    | ⟨0, _⟩ => exact Fin.ext (by rw [rTail_emb]; rfl)
    | ⟨1, _⟩ => exact Fin.ext (by rw [rTail_emb]; exact (Nat.zero_add _).symm)
    | ⟨2, _⟩ => exact Fin.ext (by
        rw [rTail_emb]
        show 256 * (p.val / 128) + (if p.val < 1408 then 128 else 32) + p.val % 128 = 2816 + (p.val - 1376)
        rw [if_neg hp]
        omega)

end weights

/-! ## The products -/

/-- Row `q` of a block of weights against token `t`. -/
def rowDot (A : ActIdx → BitVec 32) (C : S256x1440.Idx → BitVec 8) (S : S256x90.Idx → BitVec 8) (t : Fin 1792) (q : Fin 256) : EReal :=
  ∑ p, act A (rowLow p) t * (codeLow (C (ix2 q p)) * scaleOf (S (ix2 q (⟨p.val / 16, by omega⟩ : Fin 90))))
    + ∑ p, act A (rowHigh p) t * (codeHigh (C (ix2 q p)) * scaleOf (S (ix2 q (⟨p.val / 16, by omega⟩ : Fin 90))))

theorem act_idx (a : Fin 1440) (t : Fin 1792) :
    (rAct ⟨t.val / 256, by omega⟩).idx (ix2 a (⟨t.val % 256, by omega⟩ : Fin 256)) = ix2 a t := by
  funext c
  match c with
  | ⟨0, _⟩ => exact Fin.ext (by show 0 + 1 * a.val = a.val; omega)
  | ⟨1, _⟩ => exact Fin.ext (by show 256 * (t.val / 256) + 1 * (t.val % 256) = t.val; omega)

theorem weights_idx (a : Fin 256) (h : Fin 2) (k : Fin 2880) : rWeights.idx (ix3 a h k) = ix3 a h k := by
  funext c
  match c with
  | ⟨0, _⟩ => exact Fin.ext (by show 0 + 1 * a.val = a.val; omega)
  | ⟨1, _⟩ => exact Fin.ext (by show 0 + 1 * h.val = h.val; omega)
  | ⟨2, _⟩ => exact Fin.ext (by show 0 + 1 * k.val = k.val; omega)

theorem dot_apply (A : ActIdx → BitVec 32) (C : S256x1440.Idx → BitVec 8) (S : S256x90.Idx → BitVec 8) (h : Fin 2) (W : S256x2x2880.Idx → EReal)
    (hW : Half (F := Ideal) C S h W) (t : Fin 1792) (q : Fin 256) (p : Fin 512) (hp : p.val = 256 * h.val + q.val) :
    product (F := Ideal) (fun x => A ((rAct ⟨t.val / 256, by omega⟩).idx x)) (fun x => W (rWeights.idx x)) (ix2 p (⟨t.val % 256, by omega⟩ : Fin 256))
      = rowDot A C S t q := by
  rw [product_apply]
  have hp2 : (⟨p.val / 2, by omega⟩ : Fin 256) = (⟨128 * h.val + q.val / 2, by omega⟩ : Fin 256) := Fin.ext (by show p.val / 2 = 128 * h.val + q.val / 2; omega)
  have hm2 : (⟨p.val % 2, by omega⟩ : Fin 2) = (⟨q.val % 2, by omega⟩ : Fin 2) := Fin.ext (by show p.val % 2 = q.val % 2; omega)
  have step : ∀ k : Fin 2880, W (rWeights.idx (ix3 (⟨p.val / 2, by omega⟩ : Fin 256) (⟨p.val % 2, by omega⟩ : Fin 2) k))
        * Ideal.ofBits .bf16 ((A ((rAct ⟨t.val / 256, by omega⟩).idx (ix2 (⟨k.val / 2, by omega⟩ : Fin 1440) (⟨t.val % 256, by omega⟩ : Fin 256)))).extractLsb' (16 * (k.val % 2)) 16)
      = act A k t * W (ix3 (⟨128 * h.val + q.val / 2, by omega⟩ : Fin 256) (⟨q.val % 2, by omega⟩ : Fin 2) k) := fun k => by
    rw [weights_idx, act_idx, mul_comm, act, hp2, hm2]
  rw [Finset.sum_congr rfl fun k _ => step k, sum_rows]
  refine congrArg₂ (· + ·) (Finset.sum_congr rfl fun p _ => ?_) (Finset.sum_congr rfl fun p _ => ?_)
  · rw [weights_low C S h W hW]
  · rw [weights_high C S h W hW]

/-- Feature `q` of a block, at token `t`. -/
def blockFeature (A : ActIdx → BitVec 32) (C0 : S256x1440.Idx → BitVec 8) (S0 : S256x90.Idx → BitVec 8) (C1 : S256x1440.Idx → BitVec 8)
    (S1 : S256x90.Idx → BitVec 8) (t : Fin 1792) (q : Fin 256) : EReal :=
  rowDot A C0 S0 t q * Ideal.logistic (rowDot A C0 S0 t q) * rowDot A C1 S1 t q

section features

variable (A : ActIdx → BitVec 32) (C0 : S256x1440.Idx → BitVec 8) (S0 : S256x90.Idx → BitVec 8) (C1 : S256x1440.Idx → BitVec 8)
  (S1 : S256x90.Idx → BitVec 8) (W : S256x2x2880.Idx → EReal) (hW : Weights (F := Ideal) C0 S0 C1 S1 W)

include hW

theorem features_apply (t : Fin 1792) (b : Fin 8) (k : Fin 32) :
    features (F := Ideal) A W ⟨t.val / 256, by omega⟩ (ix3 b k (⟨t.val % 256, by omega⟩ : Fin 256))
      = blockFeature A C0 S0 C1 S1 t ⟨32 * b.val + k.val, by omega⟩ := by
  unfold features
  rw [gated_apply, dot_apply A C0 S0 0 W hW.1 t ⟨32 * b.val + k.val, by omega⟩ _ (by show 32 * b.val + k.val = 256 * 0 + (32 * b.val + k.val); omega),
    dot_apply A C1 S1 1 W hW.2 t ⟨32 * b.val + k.val, by omega⟩ _ (by show 256 + (32 * b.val + k.val) = 256 * 1 + (32 * b.val + k.val); omega)]
  rfl

/-- The greatest magnitude of a block of thirty-two. -/
theorem block_greatest (t : Fin 1792) (b : Fin 8) :
    (Cert.Gated.greatest fun k => features (F := Ideal) A W ⟨t.val / 256, by omega⟩ (ix3 b k (⟨t.val % 256, by omega⟩ : Fin 256)))
      = Cert.Gated.greatest fun k => blockFeature A C0 S0 C1 S1 t ⟨32 * b.val + k.val, by omega⟩ :=
  congrArg _ (funext fun k => features_apply A C0 S0 C1 S1 W hW t b k)

theorem rowed_apply (k p : Fin 2) (Y : S512x1792.Idx → EReal) (hY : Rowed (F := Ideal) A W k Finset.univ Y) (t : Fin 1792) (j : Fin 128) :
    Y (ix2 (⟨256 * k.val + 128 * p.val + j.val, by omega⟩ : Fin 512) t)
      = Cert.Gated.code (blockFeature A C0 S0 C1 S1 t ⟨2 * j.val + p.val, by omega⟩)
          (Cert.Gated.greatest fun i => blockFeature A C0 S0 C1 S1 t ⟨32 * ((2 * j.val + p.val) / 32) + i.val, by omega⟩)
        * Cert.Gated.power (Cert.Gated.byte (Cert.Gated.greatest fun i => blockFeature A C0 S0 C1 S1 t ⟨32 * ((2 * j.val + p.val) / 32) + i.val, by omega⟩)) := by
  have e := hY ⟨t.val / 256, by omega⟩ (Finset.mem_univ _) p j (⟨t.val % 256, by omega⟩ : Fin 256)
  have s := dequantised_apply (features (F := Ideal) A W ⟨t.val / 256, by omega⟩) (⟨(2 * j.val + p.val) / 32, by omega⟩ : Fin 8)
    (⟨(2 * j.val + p.val) % 32, by omega⟩ : Fin 32) (⟨t.val % 256, by omega⟩ : Fin 256)
  rw [block_greatest A C0 S0 C1 S1 W hW, features_apply A C0 S0 C1 S1 W hW] at s
  have hq : (⟨32 * ((2 * j.val + p.val) / 32) + (2 * j.val + p.val) % 32, by omega⟩ : Fin 256) = ⟨2 * j.val + p.val, by omega⟩ :=
    Fin.ext (by show 32 * ((2 * j.val + p.val) / 32) + (2 * j.val + p.val) % 32 = 2 * j.val + p.val; omega)
  rw [hq] at s
  refine Eq.trans (congrArg Y ?_) (e.trans s)
  funext a
  match a with
  | ⟨0, _⟩ => exact Fin.ext (by rw [rG_emb]; show 256 * k.val + 128 * p.val + j.val = 128 * (2 * k.val + p.val) + j.val; omega)
  | ⟨1, _⟩ => exact Fin.ext (by rw [rG_emb]; show t.val = 256 * (t.val / 256) + t.val % 256; omega)

theorem coded_apply (k : Fin 2) (Y : S1792x512.Idx → EReal) (hY : Coded (F := Ideal) A W k Finset.univ Y) (t : Fin 1792) (q : Fin 256) :
    Y (ix2 t (⟨256 * k.val + q.val, by omega⟩ : Fin 512))
      = Cert.Gated.code (blockFeature A C0 S0 C1 S1 t q)
          (Cert.Gated.greatest fun j => blockFeature A C0 S0 C1 S1 t ⟨32 * (q.val / 32) + j.val, by omega⟩) := by
  have e := hY ⟨t.val / 256, by omega⟩ (Finset.mem_univ _) (ix2 (⟨t.val % 256, by omega⟩ : Fin 256) (⟨32 * (q.val / 32) + q.val % 32, by omega⟩ : Fin 256))
  have s := codeSlab_apply (features (F := Ideal) A W ⟨t.val / 256, by omega⟩) (⟨t.val % 256, by omega⟩ : Fin 256) (⟨q.val / 32, by omega⟩ : Fin 8) (⟨q.val % 32, by omega⟩ : Fin 32)
  rw [block_greatest A C0 S0 C1 S1 W hW, features_apply A C0 S0 C1 S1 W hW] at s
  have hq : (⟨32 * (q.val / 32) + q.val % 32, by omega⟩ : Fin 256) = q := Fin.ext (by show 32 * (q.val / 32) + q.val % 32 = q.val; omega)
  refine Eq.trans (congrArg Y ?_) (e.trans (s.trans (by rw [hq])))
  funext a
  match a with
  | ⟨0, _⟩ => exact Fin.ext (by rw [rCode_emb]; show t.val = 256 * (t.val / 256) + t.val % 256; omega)
  | ⟨1, _⟩ => exact Fin.ext (by rw [rCode_emb]; show 256 * k.val + q.val = 256 * k.val + (32 * (q.val / 32) + q.val % 32); omega)

theorem scaled_apply (k : Fin 2) (Y : S16x1792.Idx → BitVec 32) (hY : Scaled (F := Ideal) A W k Finset.univ Y) (b : Fin 8) (t : Fin 1792) :
    Y (ix2 (⟨8 * k.val + b.val, by omega⟩ : Fin 16) t)
      = BitVec.ofNat 32 (Cert.Gated.byte (Cert.Gated.greatest fun j => blockFeature A C0 S0 C1 S1 t ⟨32 * b.val + j.val, by omega⟩)) := by
  have e := hY ⟨t.val / 256, by omega⟩ (Finset.mem_univ _) (ix2 b (⟨t.val % 256, by omega⟩ : Fin 256))
  have s := scaleSlab_apply (features (F := Ideal) A W ⟨t.val / 256, by omega⟩) b (⟨t.val % 256, by omega⟩ : Fin 256)
  rw [block_greatest A C0 S0 C1 S1 W hW] at s
  refine Eq.trans (congrArg Y ?_) (e.trans s)
  funext a
  match a with
  | ⟨0, _⟩ => exact Fin.ext (by rw [rScale_emb]; rfl)
  | ⟨1, _⟩ => exact Fin.ext (by rw [rScale_emb]; show t.val = 256 * (t.val / 256) + t.val % 256; omega)

end features

end Cert.GateupIdeal.Proj
-- ==== Proof.Gateup.Fetched.lean ====
/- What a point's fetches put in the staging buffers: the activation words whole, and the rows of the codes and the
   scales that the point's two blocks of features have. -/
module

public import proofs.«01_k».proof.Proof.Gateup.Run
public import Idealize.ShloMosaic.Lib.ValueIdx
public import Idealize.ShloMosaic.Lib.Pipeline.Value

@[expose] public section

noncomputable section

namespace Cert.GateupIdeal.Proj

open Idealize.ShloMosaic Idealize.ShloMosaic.ValueIdx Idealize.ShloMosaic.TcCoe
open Cert.GateupIdeal Cert.GateupIdeal.Gen

variable (m : (ℓ : Loc nD τ sig) → Buf (Elt Ideal) ℓ) (c : Dev nD)

/-! ## Where the blocks lie -/

theorem index_1 (t : Fin cfg0.N) : (cfg0.win 1).index t = ![min (2 * t.val) 29, 0] := by
  rcases fin_N0 t with h | h | h | h | h | h | h | h | h | h | h | h | h | h | h | h <;> subst h <;> decide
theorem index_2 (t : Fin cfg0.N) : (cfg0.win 2).index t = ![min (2 * t.val) 29, 0] := by
  rcases fin_N0 t with h | h | h | h | h | h | h | h | h | h | h | h | h | h | h | h <;> subst h <;> decide
theorem index_3 (t : Fin cfg0.N) : (cfg0.win 3).index t = ![min (2 * t.val) 29, 0] := by
  rcases fin_N0 t with h | h | h | h | h | h | h | h | h | h | h | h | h | h | h | h <;> subst h <;> decide
theorem index_4 (t : Fin cfg0.N) : (cfg0.win 4).index t = ![min (2 * t.val) 29, 0] := by
  rcases fin_N0 t with h | h | h | h | h | h | h | h | h | h | h | h | h | h | h | h <;> subst h <;> decide
theorem index_5 (t : Fin cfg0.N) : (cfg0.win 5).index t = ![min (2 * t.val - 1) 29, 0] := by
  rcases fin_N0 t with h | h | h | h | h | h | h | h | h | h | h | h | h | h | h | h <;> subst h <;> decide
theorem index_6 (t : Fin cfg0.N) : (cfg0.win 6).index t = ![min (2 * t.val - 1) 29, 0] := by
  rcases fin_N0 t with h | h | h | h | h | h | h | h | h | h | h | h | h | h | h | h <;> subst h <;> decide
theorem index_7 (t : Fin cfg0.N) : (cfg0.win 7).index t = ![min (2 * t.val - 1) 29, 0] := by
  rcases fin_N0 t with h | h | h | h | h | h | h | h | h | h | h | h | h | h | h | h <;> subst h <;> decide
theorem index_8 (t : Fin cfg0.N) : (cfg0.win 8).index t = ![min (2 * t.val - 1) 29, 0] := by
  rcases fin_N0 t with h | h | h | h | h | h | h | h | h | h | h | h | h | h | h | h <;> subst h <;> decide
theorem index_9 (t : Fin cfg0.N) : (cfg0.win 9).index t = ![t.val - 1, 0] := by
  rcases fin_N0 t with h | h | h | h | h | h | h | h | h | h | h | h | h | h | h | h <;> subst h <;> decide
theorem index_10 (t : Fin cfg0.N) : (cfg0.win 10).index t = ![0, t.val - 1] := by
  rcases fin_N0 t with h | h | h | h | h | h | h | h | h | h | h | h | h | h | h | h <;> subst h <;> decide
theorem index_11 (t : Fin cfg0.N) : (cfg0.win 11).index t = ![t.val - 1, 0] := by
  rcases fin_N0 t with h | h | h | h | h | h | h | h | h | h | h | h | h | h | h | h <;> subst h <;> decide

theorem xsize_1 (t : Fin cfg0.N) : (cfg0.win 1).xsize (cfg0.grid.coords t) = ![256, 1440] := by
  rcases fin_N0 t with h | h | h | h | h | h | h | h | h | h | h | h | h | h | h | h <;> subst h <;> decide
theorem xsize_2 (t : Fin cfg0.N) : (cfg0.win 2).xsize (cfg0.grid.coords t) = ![256, 90] := by
  rcases fin_N0 t with h | h | h | h | h | h | h | h | h | h | h | h | h | h | h | h <;> subst h <;> decide
theorem xsize_3 (t : Fin cfg0.N) : (cfg0.win 3).xsize (cfg0.grid.coords t) = ![256, 1440] := by
  rcases fin_N0 t with h | h | h | h | h | h | h | h | h | h | h | h | h | h | h | h <;> subst h <;> decide
theorem xsize_4 (t : Fin cfg0.N) : (cfg0.win 4).xsize (cfg0.grid.coords t) = ![256, 90] := by
  rcases fin_N0 t with h | h | h | h | h | h | h | h | h | h | h | h | h | h | h | h <;> subst h <;> decide
theorem xsize_5 (t : Fin cfg0.N) : (cfg0.win 5).xsize (cfg0.grid.coords t) = ![256, 1440] := by
  rcases fin_N0 t with h | h | h | h | h | h | h | h | h | h | h | h | h | h | h | h <;> subst h <;> decide
theorem xsize_6 (t : Fin cfg0.N) : (cfg0.win 6).xsize (cfg0.grid.coords t) = ![256, 90] := by
  rcases fin_N0 t with h | h | h | h | h | h | h | h | h | h | h | h | h | h | h | h <;> subst h <;> decide
theorem xsize_7 (t : Fin cfg0.N) : (cfg0.win 7).xsize (cfg0.grid.coords t) = ![256, 1440] := by
  rcases fin_N0 t with h | h | h | h | h | h | h | h | h | h | h | h | h | h | h | h <;> subst h <;> decide
theorem xsize_8 (t : Fin cfg0.N) : (cfg0.win 8).xsize (cfg0.grid.coords t) = ![256, 90] := by
  rcases fin_N0 t with h | h | h | h | h | h | h | h | h | h | h | h | h | h | h | h <;> subst h <;> decide
theorem xsize_9 (t : Fin cfg0.N) : (cfg0.win 9).xsize (cfg0.grid.coords t) = ![512, 1792] := by
  rcases fin_N0 t with h | h | h | h | h | h | h | h | h | h | h | h | h | h | h | h <;> subst h <;> decide
theorem xsize_10 (t : Fin cfg0.N) : (cfg0.win 10).xsize (cfg0.grid.coords t) = ![1792, 512] := by
  rcases fin_N0 t with h | h | h | h | h | h | h | h | h | h | h | h | h | h | h | h <;> subst h <;> decide
theorem xsize_11 (t : Fin cfg0.N) : (cfg0.win 11).xsize (cfg0.grid.coords t) = ![16, 1792] := by
  rcases fin_N0 t with h | h | h | h | h | h | h | h | h | h | h | h | h | h | h | h <;> subst h <;> decide

/-! ## The fetched contents -/

theorem fetched_0 (t : Fin cfg0.N) (d) (a : Fin 1440) (k : Fin 1792) :
    fetchedAt m c 0 t d (ix2 a k) = m ((c : Thread nD τ).loc main_arg0) (ix2 a k) := by
  have hm : (cfg0.win 0).moved (cfg0.grid.coords t) (ix2 a k) = true := rfl
  unfold fetchedAt Pipeline.Window.fill
  rw [dif_pos hm, View.read_apply]
  refine congrArg (m ((c : Thread nD τ).loc main_arg0)) (?_ : ((cfg0.win 0).rect t).emb _ = _)
  funext b
  match b with
  | ⟨0, _⟩ => exact Fin.ext (Pipeline.Window.rect_emb_val_of_index_zero _ _ _ rfl _)
  | ⟨1, _⟩ => exact Fin.ext (Pipeline.Window.rect_emb_val_of_index_zero _ _ _ rfl _)

variable (t : Fin cfg0.N) (q : Fin 256) (r : Fin 7680)

theorem fetched_1 (hr : r.val = 256 * (min (2 * t.val) 29) + q.val) (d) (k : Fin 1440) :
    fetchedAt m c 1 t d (ix2 q k) = m ((c : Thread nD τ).loc main_arg1) (ix2 r k) := by
  have hm : (cfg0.win 1).moved (cfg0.grid.coords t) (ix2 q k) = true := ((cfg0.win 1).moved_iff _ _).mpr fun b => by
    rw [xsize_1]
    match b with
    | ⟨0, _⟩ => exact q.isLt
    | ⟨1, _⟩ => exact k.isLt
  unfold fetchedAt Pipeline.Window.fill
  rw [dif_pos hm, View.read_apply]
  refine congrArg (m ((c : Thread nD τ).loc main_arg1)) (?_ : ((cfg0.win 1).rect t).emb _ = _)
  funext b
  match b with
  | ⟨0, _⟩ => exact Fin.ext (((cfg0.win 1).rect_emb_val t _ _).trans (by rw [index_1]; show (min (2 * t.val) 29) * 256 + q.val = r.val; omega))
  | ⟨1, _⟩ => exact Fin.ext (((cfg0.win 1).rect_emb_val t _ _).trans (by rw [index_1]; show 0 * 1440 + k.val = k.val; omega))

theorem fetched_2 (hr : r.val = 256 * (min (2 * t.val) 29) + q.val) (d) (k : Fin 90) :
    fetchedAt m c 2 t d (ix2 q k) = m ((c : Thread nD τ).loc main_arg2) (ix2 r k) := by
  have hm : (cfg0.win 2).moved (cfg0.grid.coords t) (ix2 q k) = true := ((cfg0.win 2).moved_iff _ _).mpr fun b => by
    rw [xsize_2]
    match b with
    | ⟨0, _⟩ => exact q.isLt
    | ⟨1, _⟩ => exact k.isLt
  unfold fetchedAt Pipeline.Window.fill
  rw [dif_pos hm, View.read_apply]
  refine congrArg (m ((c : Thread nD τ).loc main_arg2)) (?_ : ((cfg0.win 2).rect t).emb _ = _)
  funext b
  match b with
  | ⟨0, _⟩ => exact Fin.ext (((cfg0.win 2).rect_emb_val t _ _).trans (by rw [index_2]; show (min (2 * t.val) 29) * 256 + q.val = r.val; omega))
  | ⟨1, _⟩ => exact Fin.ext (((cfg0.win 2).rect_emb_val t _ _).trans (by rw [index_2]; show 0 * 90 + k.val = k.val; omega))

theorem fetched_3 (hr : r.val = 256 * (min (2 * t.val) 29) + q.val) (d) (k : Fin 1440) :
    fetchedAt m c 3 t d (ix2 q k) = m ((c : Thread nD τ).loc main_arg3) (ix2 r k) := by
  have hm : (cfg0.win 3).moved (cfg0.grid.coords t) (ix2 q k) = true := ((cfg0.win 3).moved_iff _ _).mpr fun b => by
    rw [xsize_3]
    match b with
    | ⟨0, _⟩ => exact q.isLt
    | ⟨1, _⟩ => exact k.isLt
  unfold fetchedAt Pipeline.Window.fill
  rw [dif_pos hm, View.read_apply]
  refine congrArg (m ((c : Thread nD τ).loc main_arg3)) (?_ : ((cfg0.win 3).rect t).emb _ = _)
  funext b
  match b with
  | ⟨0, _⟩ => exact Fin.ext (((cfg0.win 3).rect_emb_val t _ _).trans (by rw [index_3]; show (min (2 * t.val) 29) * 256 + q.val = r.val; omega))
  | ⟨1, _⟩ => exact Fin.ext (((cfg0.win 3).rect_emb_val t _ _).trans (by rw [index_3]; show 0 * 1440 + k.val = k.val; omega))

theorem fetched_4 (hr : r.val = 256 * (min (2 * t.val) 29) + q.val) (d) (k : Fin 90) :
    fetchedAt m c 4 t d (ix2 q k) = m ((c : Thread nD τ).loc main_arg4) (ix2 r k) := by
  have hm : (cfg0.win 4).moved (cfg0.grid.coords t) (ix2 q k) = true := ((cfg0.win 4).moved_iff _ _).mpr fun b => by
    rw [xsize_4]
    match b with
    | ⟨0, _⟩ => exact q.isLt
    | ⟨1, _⟩ => exact k.isLt
  unfold fetchedAt Pipeline.Window.fill
  rw [dif_pos hm, View.read_apply]
  refine congrArg (m ((c : Thread nD τ).loc main_arg4)) (?_ : ((cfg0.win 4).rect t).emb _ = _)
  funext b
  match b with
  | ⟨0, _⟩ => exact Fin.ext (((cfg0.win 4).rect_emb_val t _ _).trans (by rw [index_4]; show (min (2 * t.val) 29) * 256 + q.val = r.val; omega))
  | ⟨1, _⟩ => exact Fin.ext (((cfg0.win 4).rect_emb_val t _ _).trans (by rw [index_4]; show 0 * 90 + k.val = k.val; omega))

theorem fetched_5 (hr : r.val = 256 * (min (2 * t.val - 1) 29) + q.val) (d) (k : Fin 1440) :
    fetchedAt m c 5 t d (ix2 q k) = m ((c : Thread nD τ).loc main_arg1) (ix2 r k) := by
  have hm : (cfg0.win 5).moved (cfg0.grid.coords t) (ix2 q k) = true := ((cfg0.win 5).moved_iff _ _).mpr fun b => by
    rw [xsize_5]
    match b with
    | ⟨0, _⟩ => exact q.isLt
    | ⟨1, _⟩ => exact k.isLt
  unfold fetchedAt Pipeline.Window.fill
  rw [dif_pos hm, View.read_apply]
  refine congrArg (m ((c : Thread nD τ).loc main_arg1)) (?_ : ((cfg0.win 5).rect t).emb _ = _)
  funext b
  match b with
  | ⟨0, _⟩ => exact Fin.ext (((cfg0.win 5).rect_emb_val t _ _).trans (by rw [index_5]; show (min (2 * t.val - 1) 29) * 256 + q.val = r.val; omega))
  | ⟨1, _⟩ => exact Fin.ext (((cfg0.win 5).rect_emb_val t _ _).trans (by rw [index_5]; show 0 * 1440 + k.val = k.val; omega))

theorem fetched_6 (hr : r.val = 256 * (min (2 * t.val - 1) 29) + q.val) (d) (k : Fin 90) :
    fetchedAt m c 6 t d (ix2 q k) = m ((c : Thread nD τ).loc main_arg2) (ix2 r k) := by
  have hm : (cfg0.win 6).moved (cfg0.grid.coords t) (ix2 q k) = true := ((cfg0.win 6).moved_iff _ _).mpr fun b => by
    rw [xsize_6]
    match b with
    | ⟨0, _⟩ => exact q.isLt
    | ⟨1, _⟩ => exact k.isLt
  unfold fetchedAt Pipeline.Window.fill
  rw [dif_pos hm, View.read_apply]
  refine congrArg (m ((c : Thread nD τ).loc main_arg2)) (?_ : ((cfg0.win 6).rect t).emb _ = _)
  funext b
  match b with
  | ⟨0, _⟩ => exact Fin.ext (((cfg0.win 6).rect_emb_val t _ _).trans (by rw [index_6]; show (min (2 * t.val - 1) 29) * 256 + q.val = r.val; omega))
  | ⟨1, _⟩ => exact Fin.ext (((cfg0.win 6).rect_emb_val t _ _).trans (by rw [index_6]; show 0 * 90 + k.val = k.val; omega))

theorem fetched_7 (hr : r.val = 256 * (min (2 * t.val - 1) 29) + q.val) (d) (k : Fin 1440) :
    fetchedAt m c 7 t d (ix2 q k) = m ((c : Thread nD τ).loc main_arg3) (ix2 r k) := by
  have hm : (cfg0.win 7).moved (cfg0.grid.coords t) (ix2 q k) = true := ((cfg0.win 7).moved_iff _ _).mpr fun b => by
    rw [xsize_7]
    match b with
    | ⟨0, _⟩ => exact q.isLt
    | ⟨1, _⟩ => exact k.isLt
  unfold fetchedAt Pipeline.Window.fill
  rw [dif_pos hm, View.read_apply]
  refine congrArg (m ((c : Thread nD τ).loc main_arg3)) (?_ : ((cfg0.win 7).rect t).emb _ = _)
  funext b
  match b with
  | ⟨0, _⟩ => exact Fin.ext (((cfg0.win 7).rect_emb_val t _ _).trans (by rw [index_7]; show (min (2 * t.val - 1) 29) * 256 + q.val = r.val; omega))
  | ⟨1, _⟩ => exact Fin.ext (((cfg0.win 7).rect_emb_val t _ _).trans (by rw [index_7]; show 0 * 1440 + k.val = k.val; omega))

theorem fetched_8 (hr : r.val = 256 * (min (2 * t.val - 1) 29) + q.val) (d) (k : Fin 90) :
    fetchedAt m c 8 t d (ix2 q k) = m ((c : Thread nD τ).loc main_arg4) (ix2 r k) := by
  have hm : (cfg0.win 8).moved (cfg0.grid.coords t) (ix2 q k) = true := ((cfg0.win 8).moved_iff _ _).mpr fun b => by
    rw [xsize_8]
    match b with
    | ⟨0, _⟩ => exact q.isLt
    | ⟨1, _⟩ => exact k.isLt
  unfold fetchedAt Pipeline.Window.fill
  rw [dif_pos hm, View.read_apply]
  refine congrArg (m ((c : Thread nD τ).loc main_arg4)) (?_ : ((cfg0.win 8).rect t).emb _ = _)
  funext b
  match b with
  | ⟨0, _⟩ => exact Fin.ext (((cfg0.win 8).rect_emb_val t _ _).trans (by rw [index_8]; show (min (2 * t.val - 1) 29) * 256 + q.val = r.val; omega))
  | ⟨1, _⟩ => exact Fin.ext (((cfg0.win 8).rect_emb_val t _ _).trans (by rw [index_8]; show 0 * 90 + k.val = k.val; omega))

end Cert.GateupIdeal.Proj
-- ==== Proof.Gateup.Arrays.lean ====
/- What the run leaves in the arrays of the dequantised rows, of the codes and of the scales. -/
module

public import proofs.«01_k».proof.Proof.Gateup.Block
public import proofs.«01_k».proof.Proof.Gateup.Fetched
public import Idealize.ShloMosaic.Lib.Pipeline.ArrRel

@[expose] public section

noncomputable section

namespace Cert.GateupIdeal.Proj

open Idealize.ShloMosaic Idealize.ShloMosaic.ValueIdx Idealize.ShloMosaic.TcCoe
open Idealize.ShloMosaic.Pipeline (Dat RDat)
open Cert.Codes
open Cert.Gated (act gemm feature codeOut scaleOut valueOut rowFeature blockMax)
open Cert.GateupIdeal Cert.GateupIdeal.Gen

variable (m : (ℓ : Loc nD τ sig) → Buf (Elt Ideal) ℓ) (c : Dev nD)

/-- The codes' array, from the arguments. -/
def out0 : S1792x7680.Idx → EReal := fun i =>
  codeOut (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The scales' array, from the arguments. -/
def out1 : S240x1792.Idx → BitVec 32 := fun i =>
  scaleOut (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The array of the dequantised rows, from the arguments. -/
def outRows : S7680x1792.Idx → EReal := fun i =>
  valueOut (m ((c : Thread nD τ).loc main_arg0)) (m ((c : Thread nD τ).loc main_arg1)) (m ((c : Thread nD τ).loc main_arg2))
    (m ((c : Thread nD τ).loc main_arg3)) (m ((c : Thread nD τ).loc main_arg4)) (i 1) (rowFeature (i 0))

/-! ## The features of the fetched blocks -/

section features

variable (t u : Fin cfg0.N) (tok : Fin 1792) (q : Fin 256) (n : Fin 7680)

theorem dot_fetched_1 (d0 d1 d2) (hn : n.val = 256 * (min (2 * u.val) 29) + q.val) :
    rowDot (fetchedAt m c 0 t d0) (fetchedAt m c 1 u d1) (fetchedAt m c 2 u d2) tok q
      = gemm (m ((c : Thread nD τ).loc main_arg0)) (m ((c : Thread nD τ).loc main_arg1)) (m ((c : Thread nD τ).loc main_arg2)) tok n := by
  unfold rowDot gemm
  refine congrArg₂ (· + ·) (Finset.sum_congr rfl fun p _ => ?_) (Finset.sum_congr rfl fun p _ => ?_)
  · rw [fetched_1 m c u q n hn, fetched_2 m c u q n hn]
    unfold act
    rw [fetched_0]
    rfl
  · rw [fetched_1 m c u q n hn, fetched_2 m c u q n hn]
    unfold act
    rw [fetched_0]
    rfl

theorem dot_fetched_3 (d0 d1 d2) (hn : n.val = 256 * (min (2 * u.val) 29) + q.val) :
    rowDot (fetchedAt m c 0 t d0) (fetchedAt m c 3 u d1) (fetchedAt m c 4 u d2) tok q
      = gemm (m ((c : Thread nD τ).loc main_arg0)) (m ((c : Thread nD τ).loc main_arg3)) (m ((c : Thread nD τ).loc main_arg4)) tok n := by
  unfold rowDot gemm
  refine congrArg₂ (· + ·) (Finset.sum_congr rfl fun p _ => ?_) (Finset.sum_congr rfl fun p _ => ?_)
  · rw [fetched_3 m c u q n hn, fetched_4 m c u q n hn]
    unfold act
    rw [fetched_0]
    rfl
  · rw [fetched_3 m c u q n hn, fetched_4 m c u q n hn]
    unfold act
    rw [fetched_0]
    rfl

theorem dot_fetched_5 (d0 d1 d2) (hn : n.val = 256 * (min (2 * u.val - 1) 29) + q.val) :
    rowDot (fetchedAt m c 0 t d0) (fetchedAt m c 5 u d1) (fetchedAt m c 6 u d2) tok q
      = gemm (m ((c : Thread nD τ).loc main_arg0)) (m ((c : Thread nD τ).loc main_arg1)) (m ((c : Thread nD τ).loc main_arg2)) tok n := by
  unfold rowDot gemm
  refine congrArg₂ (· + ·) (Finset.sum_congr rfl fun p _ => ?_) (Finset.sum_congr rfl fun p _ => ?_)
  · rw [fetched_5 m c u q n hn, fetched_6 m c u q n hn]
    unfold act
    rw [fetched_0]
    rfl
  · rw [fetched_5 m c u q n hn, fetched_6 m c u q n hn]
    unfold act
    rw [fetched_0]
    rfl

theorem dot_fetched_7 (d0 d1 d2) (hn : n.val = 256 * (min (2 * u.val - 1) 29) + q.val) :
    rowDot (fetchedAt m c 0 t d0) (fetchedAt m c 7 u d1) (fetchedAt m c 8 u d2) tok q
      = gemm (m ((c : Thread nD τ).loc main_arg0)) (m ((c : Thread nD τ).loc main_arg3)) (m ((c : Thread nD τ).loc main_arg4)) tok n := by
  unfold rowDot gemm
  refine congrArg₂ (· + ·) (Finset.sum_congr rfl fun p _ => ?_) (Finset.sum_congr rfl fun p _ => ?_)
  · rw [fetched_7 m c u q n hn, fetched_8 m c u q n hn]
    unfold act
    rw [fetched_0]
    rfl
  · rw [fetched_7 m c u q n hn, fetched_8 m c u q n hn]
    unfold act
    rw [fetched_0]
    rfl

theorem feature_first (d0 d1 d2 d3 d4) (hn : n.val = 256 * (min (2 * u.val) 29) + q.val) :
    blockFeature (fetchedAt m c 0 t d0) (fetchedAt m c 1 u d1) (fetchedAt m c 2 u d2) (fetchedAt m c 3 u d3) (fetchedAt m c 4 u d4) tok q
      = feature (m ((c : Thread nD τ).loc main_arg0)) (m ((c : Thread nD τ).loc main_arg1)) (m ((c : Thread nD τ).loc main_arg2))
          (m ((c : Thread nD τ).loc main_arg3)) (m ((c : Thread nD τ).loc main_arg4)) tok n := by
  unfold blockFeature feature
  rw [dot_fetched_1 m c t u tok q n _ _ _ hn, dot_fetched_3 m c t u tok q n _ _ _ hn]

theorem max_first (d0 d1 d2 d3 d4) (b : Fin 8) (g : Fin 240) (hg : g.val = 8 * (min (2 * u.val) 29) + b.val) :
    (Cert.Gated.greatest fun j => blockFeature (fetchedAt m c 0 t d0) (fetchedAt m c 1 u d1) (fetchedAt m c 2 u d2) (fetchedAt m c 3 u d3)
        (fetchedAt m c 4 u d4) tok ⟨32 * b.val + j.val, by omega⟩)
      = blockMax (m ((c : Thread nD τ).loc main_arg0)) (m ((c : Thread nD τ).loc main_arg1)) (m ((c : Thread nD τ).loc main_arg2))
          (m ((c : Thread nD τ).loc main_arg3)) (m ((c : Thread nD τ).loc main_arg4)) tok g := by
  unfold blockMax
  exact congrArg _ (funext fun j => feature_first m c t u tok _ _ _ _ _ _ _ (by
    show 32 * g.val + j.val = 256 * (min (2 * u.val) 29) + (32 * b.val + j.val)
    omega))

theorem feature_second (d0 d1 d2 d3 d4) (hn : n.val = 256 * (min (2 * u.val - 1) 29) + q.val) :
    blockFeature (fetchedAt m c 0 t d0) (fetchedAt m c 5 u d1) (fetchedAt m c 6 u d2) (fetchedAt m c 7 u d3) (fetchedAt m c 8 u d4) tok q
      = feature (m ((c : Thread nD τ).loc main_arg0)) (m ((c : Thread nD τ).loc main_arg1)) (m ((c : Thread nD τ).loc main_arg2))
          (m ((c : Thread nD τ).loc main_arg3)) (m ((c : Thread nD τ).loc main_arg4)) tok n := by
  unfold blockFeature feature
  rw [dot_fetched_5 m c t u tok q n _ _ _ hn, dot_fetched_7 m c t u tok q n _ _ _ hn]

theorem max_second (d0 d1 d2 d3 d4) (b : Fin 8) (g : Fin 240) (hg : g.val = 8 * (min (2 * u.val - 1) 29) + b.val) :
    (Cert.Gated.greatest fun j => blockFeature (fetchedAt m c 0 t d0) (fetchedAt m c 5 u d1) (fetchedAt m c 6 u d2) (fetchedAt m c 7 u d3)
        (fetchedAt m c 8 u d4) tok ⟨32 * b.val + j.val, by omega⟩)
      = blockMax (m ((c : Thread nD τ).loc main_arg0)) (m ((c : Thread nD τ).loc main_arg1)) (m ((c : Thread nD τ).loc main_arg2))
          (m ((c : Thread nD τ).loc main_arg3)) (m ((c : Thread nD τ).loc main_arg4)) tok g := by
  unfold blockMax
  exact congrArg _ (funext fun j => feature_second m c t u tok _ _ _ _ _ _ _ (by
    show 32 * g.val + j.val = 256 * (min (2 * u.val - 1) 29) + (32 * b.val + j.val)
    omega))

end features

/-! ## The three result blocks of a point -/

theorem left_9 (t : Fin cfg0.N) (ht : t.val ≠ 0) (X : S512x1792.Idx → EReal) (h : (rdat m c).Leaves 9 t X) (tok : Fin 1792) (q : Fin 512)
    (r : Fin 7680) (hr : r.val = 512 * (t.val - 1) + q.val) : X (ix2 q tok) = outRows m c (ix2 r tok) := by
  have hN : t.val < 16 := Nat.lt_of_lt_of_eq t.isLt N_0
  obtain ⟨_, _, Y11, Y12, hS⟩ := h
  obtain ⟨d0, W0, W1, hC, ⟨d5, d6, d7, d8, hB⟩, ⟨hX0, hX1⟩, _⟩ := hS ht
  obtain ⟨u, hu, d1, d2, d3, d4, hA⟩ := hC ht
  show _ = valueOut _ _ _ _ _ tok (rowFeature r)
  obtain ⟨n, hn⟩ : ∃ n, n = rowFeature r := ⟨_, rfl⟩
  have hv : n.val = 256 * (r.val / 256) + 2 * (r.val % 128) + r.val % 256 / 128 := congrArg Fin.val hn
  rw [← hn]
  have v1 : r.val / 256 = 2 * (t.val - 1) + q.val / 256 := by omega
  have v2 : r.val % 128 = q.val % 128 := by omega
  have v3 : r.val % 256 / 128 = q.val % 256 / 128 := by omega
  rw [v1, v2, v3] at hv
  unfold valueOut codeOut
  by_cases hq : q.val < 256
  · have w1 : q.val / 256 = 0 := by omega
    have w2 : q.val % 256 / 128 = q.val / 128 := by omega
    rw [w1, w2] at hv
    have e := rowed_apply _ _ _ _ _ _ hA 0 (⟨q.val / 128, by omega⟩ : Fin 2) X hX0 tok (⟨q.val % 128, by omega⟩ : Fin 128)
    rw [feature_first m c t u tok _ n _ _ _ _ _ (by show n.val = 256 * (min (2 * u.val) 29) + (2 * (q.val % 128) + q.val / 128); omega),
      max_first m c t u tok _ _ _ _ _ (⟨(2 * (q.val % 128) + q.val / 128) / 32, by omega⟩ : Fin 8) (⟨n.val / 32, by omega⟩ : Fin 240)
        (by show n.val / 32 = 8 * (min (2 * u.val) 29) + (2 * (q.val % 128) + q.val / 128) / 32; omega)] at e
    refine Eq.trans (congrArg X ?_) e
    exact congrArg (ix2 · tok) (Fin.ext (by show q.val = 256 * 0 + 128 * (q.val / 128) + q.val % 128; omega))
  · have w1 : q.val / 256 = 1 := by omega
    have w2 : q.val % 256 / 128 = (q.val - 256) / 128 := by omega
    rw [w1, w2] at hv
    have e := rowed_apply _ _ _ _ _ _ hB 1 (⟨(q.val - 256) / 128, by omega⟩ : Fin 2) X hX1 tok (⟨q.val % 128, by omega⟩ : Fin 128)
    rw [feature_second m c t t tok _ n _ _ _ _ _ (by show n.val = 256 * (min (2 * t.val - 1) 29) + (2 * (q.val % 128) + (q.val - 256) / 128); omega),
      max_second m c t t tok _ _ _ _ _ (⟨(2 * (q.val % 128) + (q.val - 256) / 128) / 32, by omega⟩ : Fin 8) (⟨n.val / 32, by omega⟩ : Fin 240)
        (by show n.val / 32 = 8 * (min (2 * t.val - 1) 29) + (2 * (q.val % 128) + (q.val - 256) / 128) / 32; omega)] at e
    refine Eq.trans (congrArg X ?_) e
    exact congrArg (ix2 · tok) (Fin.ext (by show q.val = 256 * 1 + 128 * ((q.val - 256) / 128) + q.val % 128; omega))

theorem left_10 (t : Fin cfg0.N) (ht : t.val ≠ 0) (X : S1792x512.Idx → EReal) (h : (rdat m c).Leaves 10 t X) (tok : Fin 1792) (q : Fin 512)
    (n : Fin 7680) (hn : n.val = 512 * (t.val - 1) + q.val) : X (ix2 tok q) = out0 m c (ix2 tok n) := by
  have hN : t.val < 16 := Nat.lt_of_lt_of_eq t.isLt N_0
  obtain ⟨_, _, Y10, Y12, hS⟩ := h
  obtain ⟨d0, W0, W1, hC, ⟨d5, d6, d7, d8, hB⟩, _, ⟨hX0, hX1⟩, _⟩ := hS ht
  obtain ⟨u, hu, d1, d2, d3, d4, hA⟩ := hC ht
  show _ = codeOut _ _ _ _ _ tok n
  unfold codeOut
  by_cases hq : q.val < 256
  · have e := coded_apply _ _ _ _ _ _ hA 0 X hX0 tok (⟨q.val, hq⟩ : Fin 256)
    rw [feature_first m c t u tok _ n _ _ _ _ _ (by show n.val = 256 * (min (2 * u.val) 29) + q.val; omega),
      max_first m c t u tok _ _ _ _ _ (⟨q.val / 32, by omega⟩ : Fin 8) (⟨n.val / 32, by omega⟩ : Fin 240)
        (by show n.val / 32 = 8 * (min (2 * u.val) 29) + q.val / 32; omega)] at e
    refine Eq.trans (congrArg X ?_) e
    exact congrArg (ix2 tok) (Fin.ext (by show q.val = 256 * 0 + q.val; omega))
  · have e := coded_apply _ _ _ _ _ _ hB 1 X hX1 tok (⟨q.val - 256, by omega⟩ : Fin 256)
    rw [feature_second m c t t tok _ n _ _ _ _ _ (by show n.val = 256 * (min (2 * t.val - 1) 29) + (q.val - 256); omega),
      max_second m c t t tok _ _ _ _ _ (⟨(q.val - 256) / 32, by omega⟩ : Fin 8) (⟨n.val / 32, by omega⟩ : Fin 240)
        (by show n.val / 32 = 8 * (min (2 * t.val - 1) 29) + (q.val - 256) / 32; omega)] at e
    refine Eq.trans (congrArg X ?_) e
    exact congrArg (ix2 tok) (Fin.ext (by show q.val = 256 * 1 + (q.val - 256); omega))

theorem left_11 (t : Fin cfg0.N) (ht : t.val ≠ 0) (X : S16x1792.Idx → BitVec 32) (h : (rdat m c).Leaves 11 t X) (tok : Fin 1792) (b : Fin 16)
    (g : Fin 240) (hg : g.val = 16 * (t.val - 1) + b.val) : X (ix2 b tok) = out1 m c (ix2 g tok) := by
  have hN : t.val < 16 := Nat.lt_of_lt_of_eq t.isLt N_0
  obtain ⟨_, _, Y10, Y11, hS⟩ := h
  obtain ⟨d0, W0, W1, hC, ⟨d5, d6, d7, d8, hB⟩, _, _, hX0, hX1⟩ := hS ht
  obtain ⟨u, hu, d1, d2, d3, d4, hA⟩ := hC ht
  show _ = scaleOut _ _ _ _ _ g tok
  unfold scaleOut
  by_cases hb : b.val < 8
  · have e := scaled_apply _ _ _ _ _ _ hA 0 X hX0 (⟨b.val, hb⟩ : Fin 8) tok
    rw [max_first m c t u tok _ _ _ _ _ (⟨b.val, hb⟩ : Fin 8) g (by show g.val = 8 * (min (2 * u.val) 29) + b.val; omega)] at e
    refine Eq.trans (congrArg X ?_) e
    exact congrArg (ix2 · tok) (Fin.ext (by show b.val = 8 * 0 + b.val; omega))
  · have e := scaled_apply _ _ _ _ _ _ hB 1 X hX1 (⟨b.val - 8, by omega⟩ : Fin 8) tok
    rw [max_second m c t t tok _ _ _ _ _ (⟨b.val - 8, by omega⟩ : Fin 8) g (by show g.val = 8 * (min (2 * t.val - 1) 29) + (b.val - 8); omega)] at e
    refine Eq.trans (congrArg X ?_) e
    exact congrArg (ix2 · tok) (Fin.ext (by show b.val = 8 * 1 + (b.val - 8); omega))

/-! ## The arrays -/

/-- The first point writes nothing back. -/
theorem flush_9 (t : Fin cfg0.N) (ht : (cfg0.win 9).flush t = true) : t.val ≠ 0 := fun h => by
  have e : t = t0_0 := Fin.ext h
  subst e
  exact absurd ht (by decide)

theorem flush_10 (t : Fin cfg0.N) (ht : (cfg0.win 10).flush t = true) : t.val ≠ 0 := fun h => by
  have e : t = t0_0 := Fin.ext h
  subst e
  exact absurd ht (by decide)

theorem flush_11 (t : Fin cfg0.N) (ht : (cfg0.win 11).flush t = true) : t.val ≠ 0 := fun h => by
  have e : t = t0_0 := Fin.ext h
  subst e
  exact absurd ht (by decide)

theorem covers_9 : (cfg0.win 9).Covers := by decide +kernel

theorem covers_10 : (cfg0.win 10).Covers := by decide +kernel

theorem covers_11 : (cfg0.win 11).Covers := by decide +kernel

variable {m} (r : PUnit × MemSt nD τ sig (Elt Ideal)) (h : RDat.FramePost cfg0 (rdat m) (V m) r)

include h

/-- The array of the dequantised rows at the end. -/
theorem rows_array : r.2.mem ((c : Thread nD τ).loc main_v0_0) = outRows m c := by
  obtain ⟨after, hL, hA⟩ := h.exists_exact c
  refine (hA 9).trans (Dat.arrAt_eq_of_cover ((rdat m c).withAfter after) 9 (outRows m c) (fun t ht => ?_) fun i => ?_)
  · have hl := hL 9 t ht
    have h0 := flush_9 t ht
    have hN : t.val < 16 := Nat.lt_of_lt_of_eq t.isLt N_0
    funext y
    rw [View.read_apply]
    have ha : (y 0).val < 512 := Nat.lt_of_lt_of_eq (y 0).isLt (congrFun (xsize_9 t) 0)
    have hb : (y 1).val < 1792 := Nat.lt_of_lt_of_eq (y 1).isLt (congrFun (xsize_9 t) 1)
    refine Eq.trans (b := after 9 t (ix2 (⟨(y 0).val, ha⟩ : Fin 512) (⟨(y 1).val, hb⟩ : Fin 1792))) ?_
      ((left_9 m c t h0 _ hl _ _ (⟨512 * (t.val - 1) + (y 0).val, by omega⟩ : Fin 7680) rfl).trans
        (congrArg (outRows m c) (?_ : _ = ((cfg0.win 9).rect t).emb y)))
    · refine congrArg (after 9 t) ?_
      funext b
      match b with
      | ⟨0, _⟩ => rfl
      | ⟨1, _⟩ => rfl
    · funext b
      match b with
      | ⟨0, _⟩ => exact Fin.ext (((cfg0.win 9).rect_emb_val t _ _).trans (by rw [index_9]; show (t.val - 1) * 512 + (y 0).val = 512 * (t.val - 1) + (y 0).val; omega)).symm
      | ⟨1, _⟩ => exact Fin.ext (((cfg0.win 9).rect_emb_val t _ _).trans (by rw [index_9]; show 0 * 1792 + (y 1).val = (y 1).val; omega)).symm
  · exact covers_9.cover _ (Memref.isWhole_whole _) i

/-- The codes' array at the end. -/
theorem codes_array : r.2.mem ((c : Thread nD τ).loc main_v0_1) = out0 m c := by
  obtain ⟨after, hL, hA⟩ := h.exists_exact c
  refine (hA 10).trans (Dat.arrAt_eq_of_cover ((rdat m c).withAfter after) 10 (out0 m c) (fun t ht => ?_) fun i => ?_)
  · have hl := hL 10 t ht
    have h0 := flush_10 t ht
    have hN : t.val < 16 := Nat.lt_of_lt_of_eq t.isLt N_0
    funext y
    rw [View.read_apply]
    have ha : (y 0).val < 1792 := Nat.lt_of_lt_of_eq (y 0).isLt (congrFun (xsize_10 t) 0)
    have hb : (y 1).val < 512 := Nat.lt_of_lt_of_eq (y 1).isLt (congrFun (xsize_10 t) 1)
    refine Eq.trans (b := after 10 t (ix2 (⟨(y 0).val, ha⟩ : Fin 1792) (⟨(y 1).val, hb⟩ : Fin 512))) ?_
      ((left_10 m c t h0 _ hl _ _ (⟨512 * (t.val - 1) + (y 1).val, by omega⟩ : Fin 7680) rfl).trans
        (congrArg (out0 m c) (?_ : _ = ((cfg0.win 10).rect t).emb y)))
    · refine congrArg (after 10 t) ?_
      funext b
      match b with
      | ⟨0, _⟩ => rfl
      | ⟨1, _⟩ => rfl
    · funext b
      match b with
      | ⟨0, _⟩ => exact Fin.ext (((cfg0.win 10).rect_emb_val t _ _).trans (by rw [index_10]; show 0 * 1792 + (y 0).val = (y 0).val; omega)).symm
      | ⟨1, _⟩ => exact Fin.ext (((cfg0.win 10).rect_emb_val t _ _).trans (by rw [index_10]; show (t.val - 1) * 512 + (y 1).val = 512 * (t.val - 1) + (y 1).val; omega)).symm
  · exact covers_10.cover _ (Memref.isWhole_whole _) i

/-- The scales' array at the end. -/
theorem scales_array : r.2.mem ((c : Thread nD τ).loc main_v0_2) = out1 m c := by
  obtain ⟨after, hL, hA⟩ := h.exists_exact c
  refine (hA 11).trans (Dat.arrAt_eq_of_cover ((rdat m c).withAfter after) 11 (out1 m c) (fun t ht => ?_) fun i => ?_)
  · have hl := hL 11 t ht
    have h0 := flush_11 t ht
    have hN : t.val < 16 := Nat.lt_of_lt_of_eq t.isLt N_0
    funext y
    rw [View.read_apply]
    have ha : (y 0).val < 16 := Nat.lt_of_lt_of_eq (y 0).isLt (congrFun (xsize_11 t) 0)
    have hb : (y 1).val < 1792 := Nat.lt_of_lt_of_eq (y 1).isLt (congrFun (xsize_11 t) 1)
    refine Eq.trans (b := after 11 t (ix2 (⟨(y 0).val, ha⟩ : Fin 16) (⟨(y 1).val, hb⟩ : Fin 1792))) ?_
      ((left_11 m c t h0 _ hl _ _ (⟨16 * (t.val - 1) + (y 0).val, by omega⟩ : Fin 240) rfl).trans
        (congrArg (out1 m c) (?_ : _ = ((cfg0.win 11).rect t).emb y)))
    · refine congrArg (after 11 t) ?_
      funext b
      match b with
      | ⟨0, _⟩ => rfl
      | ⟨1, _⟩ => rfl
    · funext b
      match b with
      | ⟨0, _⟩ => exact Fin.ext (((cfg0.win 11).rect_emb_val t _ _).trans (by rw [index_11]; show (t.val - 1) * 16 + (y 0).val = 16 * (t.val - 1) + (y 0).val; omega)).symm
      | ⟨1, _⟩ => exact Fin.ext (((cfg0.win 11).rect_emb_val t _ _).trans (by rw [index_11]; show 0 * 1792 + (y 1).val = (y 1).val; omega)).symm
  · exact covers_11.cover _ (Memref.isWhole_whole _) i

end Cert.GateupIdeal.Proj
-- ==== Proof.Gateup.Projections.lean ====
/- The reference's two projections, in closed form. -/
module

public import proofs.«01_k».proof.Proof.Gateup.Closed
public import proofs.«01_k».proof.Proof.Gen.GateupReferenceIdeal.Read
public import Idealize.ShloMosaic.Lib.BitcastConvert
public import Idealize.ShloMosaic.Lib.Pipeline.Value

@[expose] public section

noncomputable section

namespace Cert.GateupReferenceIdeal.Proj

open Idealize.ShloMosaic Idealize.ShloMosaic.ValueIdx Cert.Codes
open Cert.Gated (ActIdx CodeIdx ScaleIdx act rowLow rowHigh weightLow weightHigh gemm)
open Cert.GateupReferenceIdeal Cert.GateupReferenceIdeal.Gen Cert.GateupReferenceIdeal.Read

variable (x0 : ActIdx → BitVec 32)

/-! ## The weights -/

/-- A code column's group of sixteen. -/
theorem idx_group (n : Fin 7680) (p : Fin 1440) :
    idx_main_v66 (ix2 n p) = ix3 n (⟨p.val / 16, by omega⟩ : Fin 90) (⟨p.val % 16, by omega⟩ : Fin 16) := by
  funext a
  match a with
  | ⟨0, _⟩ => exact Fin.ext (by show (n.val * 1440 + p.val) / 1440 = n.val; omega)
  | ⟨1, _⟩ => exact Fin.ext (by show (n.val * 1440 + p.val) / 16 % 90 = p.val / 16; omega)
  | ⟨2, _⟩ => exact Fin.ext (by show (n.val * 1440 + p.val) % 16 = p.val % 16; omega)

theorem idx_code (n : Fin 7680) (p : Fin 1440) :
    idx_main_v62 (ix3 n (⟨p.val / 16, by omega⟩ : Fin 90) (⟨p.val % 16, by omega⟩ : Fin 16)) = ix2 n p := by
  funext a
  match a with
  | ⟨0, _⟩ => exact Fin.ext (by show ((n.val * 90 + p.val / 16) * 16 + p.val % 16) / 1440 = n.val; omega)
  | ⟨1, _⟩ => exact Fin.ext (by show ((n.val * 90 + p.val / 16) * 16 + p.val % 16) % 1440 = p.val; omega)

theorem idx_scale (n : Fin 7680) (g : Fin 90) (l : Fin 16) : idx_main_v63 (idx_main_v64 (ix3 n g l)) = ix2 n g := by
  funext a
  match a with
  | ⟨0, _⟩ => rfl
  | ⟨1, _⟩ => rfl

section gate

variable (x1 : CodeIdx → BitVec 8) (x2 : ScaleIdx → BitVec 8)

theorem gate_code_low (i : CodeIdx) : val_main_v61 (F := Ideal) x1 i = codeLow (x1 i) := by
  obtain ⟨h0, h1, h2, h3⟩ := low_bits (x1 i)
  rw [codeLow, ← tree_eq, ← h0, ← h1, ← h2, ← h3]
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_v35_apply, val_main_v34_apply]
  rfl

theorem gate_code_high (i : CodeIdx) : val_main_v93 (F := Ideal) x1 i = codeHigh (x1 i) := by
  obtain ⟨h0, h1, h2, h3⟩ := high_bits (x1 i)
  rw [codeHigh, ← tree_eq, ← h0, ← h1, ← h2, ← h3]
  rfl

theorem gate_scale (i : ScaleIdx) : val_main_v33 (F := Ideal) x2 i = scaleOf (x2 i) := by
  rw [← scale_power]
  rfl

theorem gate_low (n : Fin 7680) (p : Fin 1440) : val_main_v66 (F := Ideal) x1 x2 (ix2 n p) = weightLow x1 x2 n p := by
  rw [val_main_v66_apply]
  show val_main_v65 (F := Ideal) x1 x2 (idx_main_v66 (ix2 n p)) = _
  rw [idx_group, val_main_v65_apply, val_main_v62_apply]
  show FloatOps.mulf (F := Ideal) (φ := .bf16) (val_main_v61 (F := Ideal) x1 (idx_main_v62 _)) _ = _
  rw [idx_code, val_main_v64_apply, val_main_v63_apply]
  show FloatOps.mulf (F := Ideal) (φ := .bf16) _ (val_main_v33 (F := Ideal) x2 (idx_main_v63 (idx_main_v64 _))) = _
  rw [idx_scale, gate_code_low, gate_scale]
  rfl

theorem gate_high (n : Fin 7680) (p : Fin 1440) : val_main_v98 (F := Ideal) x1 x2 (ix2 n p) = weightHigh x1 x2 n p := by
  rw [val_main_v98_apply]
  show val_main_v97 (F := Ideal) x1 x2 (idx_main_v66 (ix2 n p)) = _
  rw [idx_group, val_main_v97_apply, val_main_v94_apply]
  show FloatOps.mulf (F := Ideal) (φ := .bf16) (val_main_v93 (F := Ideal) x1 (idx_main_v62 _)) _ = _
  rw [idx_code, val_main_v96_apply, val_main_v95_apply]
  show FloatOps.mulf (F := Ideal) (φ := .bf16) _ (val_main_v33 (F := Ideal) x2 (idx_main_v63 (idx_main_v64 _))) = _
  rw [idx_scale, gate_code_high, gate_scale]
  rfl

end gate

section up

variable (x3 : CodeIdx → BitVec 8) (x4 : ScaleIdx → BitVec 8)

theorem up_code_low (i : CodeIdx) : val_main_v142 (F := Ideal) x3 i = codeLow (x3 i) := by
  obtain ⟨h0, h1, h2, h3⟩ := low_bits (x3 i)
  rw [codeLow, ← tree_eq, ← h0, ← h1, ← h2, ← h3]
  simp only [val_main_v142_apply, val_main_v141_apply, val_main_v140_apply, val_main_v139_apply, val_main_v138_apply, val_main_v137_apply,
    val_main_v136_apply, val_main_v135_apply, val_main_v134_apply, val_main_v133_apply, val_main_v132_apply, val_main_v131_apply,
    val_main_v130_apply, val_main_v129_apply, val_main_v128_apply, val_main_v127_apply, val_main_v126_apply, val_main_v125_apply,
    val_main_v124_apply, val_main_v123_apply, val_main_v122_apply, val_main_v121_apply, val_main_v120_apply, val_main_v119_apply,
    val_main_v118_apply, val_main_v117_apply, val_main_v116_apply, val_main_v115_apply]
  rfl

theorem up_code_high (i : CodeIdx) : val_main_v174 (F := Ideal) x3 i = codeHigh (x3 i) := by
  obtain ⟨h0, h1, h2, h3⟩ := high_bits (x3 i)
  rw [codeHigh, ← tree_eq, ← h0, ← h1, ← h2, ← h3]
  rfl

theorem up_scale (i : ScaleIdx) : val_main_v114 (F := Ideal) x4 i = scaleOf (x4 i) := by
  rw [← scale_power]
  rfl

theorem up_low (n : Fin 7680) (p : Fin 1440) : val_main_v147 (F := Ideal) x3 x4 (ix2 n p) = weightLow x3 x4 n p := by
  rw [val_main_v147_apply]
  show val_main_v146 (F := Ideal) x3 x4 (idx_main_v66 (ix2 n p)) = _
  rw [idx_group, val_main_v146_apply, val_main_v143_apply]
  show FloatOps.mulf (F := Ideal) (φ := .bf16) (val_main_v142 (F := Ideal) x3 (idx_main_v62 _)) _ = _
  rw [idx_code, val_main_v145_apply, val_main_v144_apply]
  show FloatOps.mulf (F := Ideal) (φ := .bf16) _ (val_main_v114 (F := Ideal) x4 (idx_main_v63 (idx_main_v64 _))) = _
  rw [idx_scale, up_code_low, up_scale]
  rfl

theorem up_high (n : Fin 7680) (p : Fin 1440) : val_main_v179 (F := Ideal) x3 x4 (ix2 n p) = weightHigh x3 x4 n p := by
  rw [val_main_v179_apply]
  show val_main_v178 (F := Ideal) x3 x4 (idx_main_v66 (ix2 n p)) = _
  rw [idx_group, val_main_v178_apply, val_main_v175_apply]
  show FloatOps.mulf (F := Ideal) (φ := .bf16) (val_main_v174 (F := Ideal) x3 (idx_main_v62 _)) _ = _
  rw [idx_code, val_main_v177_apply, val_main_v176_apply]
  show FloatOps.mulf (F := Ideal) (φ := .bf16) _ (val_main_v114 (F := Ideal) x4 (idx_main_v63 (idx_main_v64 _))) = _
  rw [idx_scale, up_code_high, up_scale]
  rfl

end up

/-! ## The activations -/

/-- Half `h` of word row `a`. -/
theorem half (a : Fin 1440) (h : Fin 2) (t : Fin 1792) :
    val_main_v1 (F := Ideal) x0 (ix3 a h t) = Ideal.ofBits .bf16 ((x0 (ix2 a t)).extractLsb' (h.val * 16) 16) := by
  rw [val_main_v1_apply]
  unfold val_main_v0 bitcastToFloat
  rw [Host.bitcastConvertNarrow_apply]
  rw [show ∀ j : S1440x1792x2.Idx, (splits_S1440x1792_w32_S1440x1792x2_w16.drop j) = ix2 (j 0) (j 1) from fun j => by
    funext b
    match b with
    | ⟨0, _⟩ => rfl
    | ⟨1, _⟩ => rfl]
  rfl

theorem row (r : Fin 2880) (t : Fin 1792) : val_main_v2 (F := Ideal) x0 (ix2 r t) = act x0 r t := by
  have e : idx_main_v2 (ix2 r t) = ix3 (⟨r.val / 2, by omega⟩ : Fin 1440) (⟨r.val % 2, by omega⟩ : Fin 2) t := by
    funext c
    match c with
    | ⟨0, _⟩ => exact Fin.ext (by show (r.val * 1792 + t.val) / 3584 = r.val / 2; omega)
    | ⟨1, _⟩ => exact Fin.ext (by show (r.val * 1792 + t.val) / 1792 % 2 = r.val % 2; omega)
    | ⟨2, _⟩ => exact Fin.ext (by show (r.val * 1792 + t.val) % 1792 = t.val; omega)
  rw [val_main_v2_apply, e, half, act]
  rw [Nat.mul_comm]

/-- Row `256 a + 128 h + b` of the activations, out of the reshape into blocks of 256. -/
theorem block (a : Fin 11) (h : Fin 2) (b : Fin 128) (t : Fin 1792) (r : Fin 2880) (hr : r.val = 256 * a.val + 128 * h.val + b.val) :
    val_main_v4 (F := Ideal) x0 (ix4 a h b t) = act x0 r t := by
  have e : idx_main_v3 (idx_main_v4 (ix4 a h b t)) = ix2 r t := by
    funext c
    match c with
    | ⟨0, _⟩ => exact Fin.ext (by show (((a.val * 2 + h.val) * 128 + b.val) * 1792 + t.val) / 1792 = r.val; omega)
    | ⟨1, _⟩ => exact Fin.ext (by show (((a.val * 2 + h.val) * 128 + b.val) * 1792 + t.val) % 1792 = t.val; omega)
  rw [val_main_v4_apply, val_main_v3_apply, e, row]

/-- Row `2816 + 32 h + b`, out of the reshape of the last 64 rows. -/
theorem rest (h : Fin 2) (b : Fin 32) (t : Fin 1792) (r : Fin 2880) (hr : r.val = 2816 + 32 * h.val + b.val) :
    val_main_v6 (F := Ideal) x0 (ix3 h b t) = act x0 r t := by
  have e : idx_main_v5 (idx_main_v6 (ix3 h b t)) = ix2 r t := by
    funext c
    match c with
    | ⟨0, _⟩ => exact Fin.ext (by show 2816 + ((h.val * 32 + b.val) * 1792 + t.val) / 1792 = r.val; omega)
    | ⟨1, _⟩ => exact Fin.ext (by show ((h.val * 32 + b.val) * 1792 + t.val) % 1792 = t.val; omega)
  rw [val_main_v6_apply, val_main_v5_apply, e, row]

theorem idx_rows (p : Fin 1408) (t : Fin 1792) :
    idx_main_v9 (ix2 p t) = ix3 (⟨p.val / 128, by omega⟩ : Fin 11) (⟨p.val % 128, by omega⟩ : Fin 128) t := by
  funext a
  match a with
  | ⟨0, _⟩ => exact Fin.ext (by show (p.val * 1792 + t.val) / 229376 = p.val / 128; omega)
  | ⟨1, _⟩ => exact Fin.ext (by show (p.val * 1792 + t.val) / 1792 % 128 = p.val % 128; omega)
  | ⟨2, _⟩ => exact Fin.ext (by show (p.val * 1792 + t.val) % 1792 = t.val; omega)

theorem idx_block (a : Fin 11) (b : Fin 128) (t : Fin 1792) : idx_main_v8 (ix3 a b t) = ix4 a (0 : Fin 1) b t := by
  funext c
  match c with
  | ⟨0, _⟩ => exact Fin.ext (by show ((a.val * 128 + b.val) * 1792 + t.val) / 229376 = a.val; omega)
  | ⟨1, _⟩ => rfl
  | ⟨2, _⟩ => exact Fin.ext (by show ((a.val * 128 + b.val) * 1792 + t.val) / 1792 % 128 = b.val; omega)
  | ⟨3, _⟩ => exact Fin.ext (by show ((a.val * 128 + b.val) * 1792 + t.val) % 1792 = t.val; omega)

theorem idx_rest (b : Fin 32) (t : Fin 1792) : idx_main_v11 (ix2 b t) = ix3 (0 : Fin 1) b t := by
  funext c
  match c with
  | ⟨0, _⟩ => rfl
  | ⟨1, _⟩ => exact Fin.ext (by show (b.val * 1792 + t.val) / 1792 % 32 = b.val; omega)
  | ⟨2, _⟩ => exact Fin.ext (by show (b.val * 1792 + t.val) % 1792 = t.val; omega)

theorem idx_swap (t : Fin 1792) (p : Fin 1440) : idx_main_v19 (ix2 t p) = ix2 p t := by
  funext a
  match a with
  | ⟨0, _⟩ => rfl
  | ⟨1, _⟩ => rfl

theorem even_rows (p : Fin 1408) (t : Fin 1792) (r : Fin 2880) (hr : r.val = 256 * (p.val / 128) + p.val % 128) :
    val_main_v9 (F := Ideal) x0 (ix2 p t) = act x0 r t := by
  rw [val_main_v9_apply]
  show val_main_v8 (F := Ideal) x0 (idx_main_v9 (ix2 p t)) = _
  rw [idx_rows, val_main_v8_apply]
  show val_main_v7 (F := Ideal) x0 (idx_main_v8 _) = _
  rw [idx_block, val_main_v7_apply]
  refine Eq.trans (congrArg _ (?_ : _ = ix4 (⟨p.val / 128, by omega⟩ : Fin 11) (0 : Fin 2) (⟨p.val % 128, by omega⟩ : Fin 128) t))
    (block x0 _ _ _ _ _ (by show r.val = 256 * (p.val / 128) + 128 * 0 + p.val % 128; omega))
  funext c
  match c with
  | ⟨0, _⟩ => rfl
  | ⟨1, _⟩ => rfl
  | ⟨2, _⟩ => rfl
  | ⟨3, _⟩ => rfl

theorem even_rest (b : Fin 32) (t : Fin 1792) (r : Fin 2880) (hr : r.val = 2816 + 32 * 0 + b.val) : val_main_v11 (F := Ideal) x0 (ix2 b t) = act x0 r t := by
  rw [val_main_v11_apply]
  show val_main_v10 (F := Ideal) x0 (idx_main_v11 (ix2 b t)) = _
  rw [idx_rest, val_main_v10_apply]
  refine Eq.trans (congrArg _ (?_ : _ = ix3 (0 : Fin 2) b t)) (rest x0 _ _ _ _ hr)
  funext c
  match c with
  | ⟨0, _⟩ => rfl
  | ⟨1, _⟩ => rfl
  | ⟨2, _⟩ => rfl

theorem even (t : Fin 1792) (p : Fin 1440) : val_main_v19 (F := Ideal) x0 (ix2 t p) = act x0 (rowLow p) t := by
  rw [val_main_v19_apply]
  show val_main_v12 (F := Ideal) x0 (idx_main_v19 (ix2 t p)) = _
  rw [idx_swap]
  unfold val_main_v12
  by_cases hp : p.val < 1408
  · refine (concatenate_pair_apply_left (t := S1440x1792) (s₁ := S1408x1792) (s₂ := S32x1792) 0 _ _ _ (ix2 p t) rfl (ix2 (⟨p.val, hp⟩ : Fin 1408) t) fun b => ?_).trans
      (even_rows x0 (⟨p.val, hp⟩ : Fin 1408) t (rowLow p) (by
        rfl))
    match b with
    | ⟨0, _⟩ => rfl
    | ⟨1, _⟩ => rfl
  · refine (concatenate_pair_apply_right (t := S1440x1792) (s₁ := S1408x1792) (s₂ := S32x1792) 0 _ _ _ (ix2 p t) rfl rfl (ix2 (⟨p.val - 1408, by omega⟩ : Fin 32) t) (fun b hb => ?_)
      (by show p.val - 1408 + 1408 = p.val; omega)).trans
      (even_rest x0 (⟨p.val - 1408, by omega⟩ : Fin 32) t (rowLow p) (by
        show 256 * (p.val / 128) + p.val % 128 = 2816 + 32 * 0 + (p.val - 1408); omega))
    match b, hb with
    | ⟨0, _⟩, hb => exact absurd rfl hb
    | ⟨1, _⟩, _ => rfl

theorem odd_rows (p : Fin 1408) (t : Fin 1792) (r : Fin 2880) (hr : r.val = 256 * (p.val / 128) + 128 + p.val % 128) :
    val_main_v15 (F := Ideal) x0 (ix2 p t) = act x0 r t := by
  rw [val_main_v15_apply]
  show val_main_v14 (F := Ideal) x0 (idx_main_v9 (ix2 p t)) = _
  rw [idx_rows, val_main_v14_apply]
  show val_main_v13 (F := Ideal) x0 (idx_main_v8 _) = _
  rw [idx_block, val_main_v13_apply]
  refine Eq.trans (congrArg _ (?_ : _ = ix4 (⟨p.val / 128, by omega⟩ : Fin 11) (1 : Fin 2) (⟨p.val % 128, by omega⟩ : Fin 128) t))
    (block x0 _ _ _ _ _ (by show r.val = 256 * (p.val / 128) + 128 * 1 + p.val % 128; omega))
  funext c
  match c with
  | ⟨0, _⟩ => rfl
  | ⟨1, _⟩ => rfl
  | ⟨2, _⟩ => rfl
  | ⟨3, _⟩ => rfl

theorem odd_rest (b : Fin 32) (t : Fin 1792) (r : Fin 2880) (hr : r.val = 2816 + 32 * 1 + b.val) : val_main_v17 (F := Ideal) x0 (ix2 b t) = act x0 r t := by
  rw [val_main_v17_apply]
  show val_main_v16 (F := Ideal) x0 (idx_main_v11 (ix2 b t)) = _
  rw [idx_rest, val_main_v16_apply]
  refine Eq.trans (congrArg _ (?_ : _ = ix3 (1 : Fin 2) b t)) (rest x0 _ _ _ _ hr)
  funext c
  match c with
  | ⟨0, _⟩ => rfl
  | ⟨1, _⟩ => rfl
  | ⟨2, _⟩ => rfl

theorem odd (t : Fin 1792) (p : Fin 1440) : val_main_v20 (F := Ideal) x0 (ix2 t p) = act x0 (rowHigh p) t := by
  rw [val_main_v20_apply]
  show val_main_v18 (F := Ideal) x0 (idx_main_v19 (ix2 t p)) = _
  rw [idx_swap]
  unfold val_main_v18
  by_cases hp : p.val < 1408
  · refine (concatenate_pair_apply_left (t := S1440x1792) (s₁ := S1408x1792) (s₂ := S32x1792) 0 _ _ _ (ix2 p t) rfl (ix2 (⟨p.val, hp⟩ : Fin 1408) t) fun b => ?_).trans
      (odd_rows x0 (⟨p.val, hp⟩ : Fin 1408) t (rowHigh p) (by
        show 256 * (p.val / 128) + (if p.val < 1408 then 128 else 32) + p.val % 128 = 256 * (p.val / 128) + 128 + p.val % 128; rw [if_pos hp]))
    match b with
    | ⟨0, _⟩ => rfl
    | ⟨1, _⟩ => rfl
  · refine (concatenate_pair_apply_right (t := S1440x1792) (s₁ := S1408x1792) (s₂ := S32x1792) 0 _ _ _ (ix2 p t) rfl rfl (ix2 (⟨p.val - 1408, by omega⟩ : Fin 32) t) (fun b hb => ?_)
      (by show p.val - 1408 + 1408 = p.val; omega)).trans
      (odd_rest x0 (⟨p.val - 1408, by omega⟩ : Fin 32) t (rowHigh p) (by
        show 256 * (p.val / 128) + (if p.val < 1408 then 128 else 32) + p.val % 128 = 2816 + 32 * 1 + (p.val - 1408); rw [if_neg hp]; omega))
    match b, hb with
    | ⟨0, _⟩, hb => exact absurd rfl hb
    | ⟨1, _⟩, _ => rfl

/-! ## The products -/

theorem idx_lhs (t : Fin 1792) (n : Fin 7680) (p : Fin 1440) : lidx_main_v99 (ix2 t n) p = ix2 t p := by
  funext a
  match a with
  | ⟨0, _⟩ => rfl
  | ⟨1, _⟩ => rfl
theorem idx_rhs (t : Fin 1792) (n : Fin 7680) (p : Fin 1440) : ridx_main_v99 (ix2 t n) p = ix2 n p := by
  funext a
  match a with
  | ⟨0, _⟩ => rfl
  | ⟨1, _⟩ => rfl

theorem gate (x1 : CodeIdx → BitVec 8) (x2 : ScaleIdx → BitVec 8) (t : Fin 1792) (n : Fin 7680) :
    val_main_v101 (F := Ideal) x0 x1 x2 (ix2 t n) = gemm x0 x1 x2 t n := by
  rw [val_main_v101_apply, val_main_v99_apply, val_main_v100_apply]
  unfold gemm
  refine congrArg₂ (· + ·) (Finset.sum_congr rfl fun p _ => ?_) (Finset.sum_congr rfl fun p _ => ?_)
  · show val_main_v19 (F := Ideal) x0 (lidx_main_v99 (ix2 t n) p) * val_main_v66 (F := Ideal) x1 x2 (ridx_main_v99 (ix2 t n) p) = _
    rw [idx_lhs, idx_rhs, even, gate_low]
  · show val_main_v20 (F := Ideal) x0 (lidx_main_v99 (ix2 t n) p) * val_main_v98 (F := Ideal) x1 x2 (ridx_main_v99 (ix2 t n) p) = _
    rw [idx_lhs, idx_rhs, odd, gate_high]

theorem up (x3 : CodeIdx → BitVec 8) (x4 : ScaleIdx → BitVec 8) (t : Fin 1792) (n : Fin 7680) :
    val_main_v182 (F := Ideal) x0 x3 x4 (ix2 t n) = gemm x0 x3 x4 t n := by
  rw [val_main_v182_apply, val_main_v180_apply, val_main_v181_apply]
  unfold gemm
  refine congrArg₂ (· + ·) (Finset.sum_congr rfl fun p _ => ?_) (Finset.sum_congr rfl fun p _ => ?_)
  · show val_main_v19 (F := Ideal) x0 (lidx_main_v99 (ix2 t n) p) * val_main_v147 (F := Ideal) x3 x4 (ridx_main_v99 (ix2 t n) p) = _
    rw [idx_lhs, idx_rhs, even, up_low]
  · show val_main_v20 (F := Ideal) x0 (lidx_main_v99 (ix2 t n) p) * val_main_v179 (F := Ideal) x3 x4 (ridx_main_v99 (ix2 t n) p) = _
    rw [idx_lhs, idx_rhs, odd, up_high]

end Cert.GateupReferenceIdeal.Proj
-- ==== Proof.Gateup.Reference.lean ====
/- The reference's two results, in closed form. -/
module

public import proofs.«01_k».proof.Proof.Gateup.Projections
public import proofs.«01_k».proof.Proof.Gateup.Quantiser
public import Idealize.ShloMosaic.PureOps.Reduce
public import Idealize.ShloMosaic.PureOps.Ideal.Laws

@[expose] public section

noncomputable section

namespace Cert.GateupReferenceIdeal.Proj

open Idealize.ShloMosaic Idealize.ShloMosaic.ValueIdx Cert.Codes
open Cert.Gated (ActIdx CodeIdx ScaleIdx gemm feature blockMax codeOut scaleOut power reached byte code)
open Cert.GateupReferenceIdeal Cert.GateupReferenceIdeal.Gen Cert.GateupReferenceIdeal.Read

variable (x0 : ActIdx → BitVec 32) (x1 : CodeIdx → BitVec 8) (x2 : ScaleIdx → BitVec 8) (x3 : CodeIdx → BitVec 8) (x4 : ScaleIdx → BitVec 8)

/-- The sigmoid, an operation at a time. -/
theorem sigmoid (t : Fin 1792) (n : Fin 7680) : val_main_v188 (F := Ideal) x0 x1 x2 (ix2 t n) = Ideal.logistic (gemm x0 x1 x2 t n) := by
  rw [val_main_v188_apply, val_main_v187_apply, val_main_v186_apply, val_main_v185_apply, val_main_v184_apply, val_main_v183_apply, gate]
  show Ideal.div (Ideal.ofBits .f32 0x3F800000#32) (Ideal.ofBits .f32 0x3F800000#32 + Ideal.exp (-(gemm x0 x1 x2 t n))) = _
  rw [Cert.Gated.one_bits]
  rfl

theorem features (t : Fin 1792) (n : Fin 7680) : val_main_v190 (F := Ideal) x0 x1 x2 x3 x4 (ix2 t n) = feature x0 x1 x2 x3 x4 t n := by
  rw [val_main_v190_apply, val_main_v189_apply, sigmoid, gate, up]
  rfl

theorem blocks (t : Fin 1792) (b : Fin 240) (k : Fin 32) :
    val_main_v191 (F := Ideal) x0 x1 x2 x3 x4 (ix3 t b k) = feature x0 x1 x2 x3 x4 t ⟨32 * b.val + k.val, by omega⟩ := by
  have e : idx_main_v191 (ix3 t b k) = ix2 t (⟨32 * b.val + k.val, by omega⟩ : Fin 7680) := by
    funext a
    match a with
    | ⟨0, _⟩ => exact Fin.ext (by show ((t.val * 240 + b.val) * 32 + k.val) / 7680 = t.val; omega)
    | ⟨1, _⟩ => exact Fin.ext (by show ((t.val * 240 + b.val) * 32 + k.val) % 7680 = 32 * b.val + k.val; omega)
  rw [val_main_v191_apply, e, features]

/-! ## The greatest magnitude and its exponent -/

theorem reduces_blocks : S1792x240x32.Reduces [2] S1792x240 := by decide

theorem reduces_powers : S1792x240x255.Reduces [2] S1792x240 := by decide

theorem greatest (t : Fin 1792) (b : Fin 240) : val_main_v193 (F := Ideal) x0 x1 x2 x3 x4 (ix2 t b) = blockMax x0 x1 x2 x3 x4 t b := by
  unfold val_main_v193
  refine (Host.reduce_eq_fold_single _ _ _ reducesTo_S1792x240x32_S1792x240_d2 reduces_blocks h_S_ (ix2 t b)).trans ?_
  have h0 : val_main_cst_80 (F := Ideal) (Shape.Idx.first h_S_) = (⊥ : EReal) := Cert.Gated.bot_bits
  rw [h0]
  unfold blockMax Cert.Gated.greatest
  refine congrArg (Finset.fold max (⊥ : EReal) · Finset.univ) (funext fun (k : Fin 32) => ?_)
  have hl : reduces_blocks.lift (ix2 t b) k = ix3 t b k := by
    funext a
    match a with
    | ⟨0, _⟩ => rfl
    | ⟨1, _⟩ => rfl
    | ⟨2, _⟩ => rfl
  show val_main_v192 (F := Ideal) x0 x1 x2 x3 x4 (reduces_blocks.lift (ix2 t b) k) = _
  rw [hl, val_main_v192_apply, blocks]
  rfl

theorem powers (t : Fin 1792) (b : Fin 240) (k : Fin 255) : val_main_v206 (F := Ideal) (ix3 t b k) = power (k.val + 1) := by
  rw [val_main_v206_apply, val_main_v205_apply, val_main_v204_apply, val_main_v203_apply, val_main_v202_apply, val_main_v201_apply,
    val_main_v200_apply, val_main_v199_apply, val_main_v198_apply, val_main_v197_apply, val_main_v196_apply, val_main_call36_v0_apply]
  exact Cert.Gated.power_reference k

theorem reaches (t : Fin 1792) (b : Fin 240) (k : Fin 255) :
    val_main_v210 (F := Ideal) x0 x1 x2 x3 x4 (ix3 t b k)
      = (BitVec.ofBool (decide (power (k.val + 1) ≤ blockMax x0 x1 x2 x3 x4 t b))).setWidth 32 := by
  have e : idx_main_v207 (idx_main_v208 (ix3 t b k)) = ix2 t b := by
    funext a
    match a with
    | ⟨0, _⟩ => rfl
    | ⟨1, _⟩ => rfl
  rw [val_main_v210_apply, val_main_v209_apply, powers, val_main_v208_apply, val_main_v207_apply, e, greatest]
  rfl

theorem count (t : Fin 1792) (b : Fin 240) :
    val_main_v211 (F := Ideal) x0 x1 x2 x3 x4 (ix2 t b) = BitVec.ofNat 32 (reached (blockMax x0 x1 x2 x3 x4 t b)) := by
  unfold val_main_v211
  refine (Host.reduce_eq_fold_single _ _ _ reducesTo_S1792x240x255_S1792x240_d2 reduces_powers h_S_ (ix2 t b)).trans ?_
  unfold reached
  rw [← Cert.Gated.count_bits]
  refine congrArg (Finset.fold IntOp.addi (0#32) · Finset.univ) (funext fun (k : Fin 255) => ?_)
  have hl : reduces_powers.lift (ix2 t b) k = ix3 t b k := by
    funext a
    match a with
    | ⟨0, _⟩ => rfl
    | ⟨1, _⟩ => rfl
    | ⟨2, _⟩ => rfl
  show val_main_v210 (F := Ideal) x0 x1 x2 x3 x4 (reduces_powers.lift (ix2 t b) k) = _
  rw [hl, reaches]

theorem exponent (t : Fin 1792) (b : Fin 240) :
    val_main_v217 (F := Ideal) x0 x1 x2 x3 x4 (ix2 t b) = IntOp.subi (BitVec.ofNat 32 (byte (blockMax x0 x1 x2 x3 x4 t b))) 127#32 := by
  rw [val_main_v217_apply, val_main_call38_v2_apply, val_main_v216_apply, val_main_v215_apply, val_main_v213_apply, val_main_v195_apply, count,
    greatest, ← Cert.Gated.exponent_reference]
  rfl

/-! ## The results -/

theorem factor (t : Fin 1792) (b : Fin 240) (k : Fin 32) :
    val_main_v223 (F := Ideal) x0 x1 x2 x3 x4 (ix3 t b k) = power (254 - byte (blockMax x0 x1 x2 x3 x4 t b)) := by
  have e : idx_main_v222 (idx_main_v223 (ix3 t b k)) = ix2 t b := by
    funext a
    match a with
    | ⟨0, _⟩ => rfl
    | ⟨1, _⟩ => rfl
  rw [val_main_v223_apply, val_main_v222_apply, e, val_main_v221_apply, val_main_v219_apply, val_main_v218_apply, exponent,
    ← Cert.Gated.factor_reference]
  rfl

theorem codes (t : Fin 1792) (b : Fin 240) (k : Fin 32) :
    val_main_v225 (F := Ideal) x0 x1 x2 x3 x4 (ix3 t b k)
      = code (feature x0 x1 x2 x3 x4 t ⟨32 * b.val + k.val, by omega⟩) (blockMax x0 x1 x2 x3 x4 t b) := by
  rw [val_main_v225_apply, val_main_call39_v2_apply, val_main_v224_apply, factor, blocks]
  rfl

/-- The reference's codes are the closed form's. -/
theorem result (t : Fin 1792) (n : Fin 7680) : val_main_v229 (F := Ideal) x0 x1 x2 x3 x4 (ix2 t n) = codeOut x0 x1 x2 x3 x4 t n := by
  have e : idx_main_v226 (ix2 t n) = ix3 t (⟨n.val / 32, by omega⟩ : Fin 240) (⟨n.val % 32, by omega⟩ : Fin 32) := by
    funext a
    match a with
    | ⟨0, _⟩ => exact Fin.ext (by show (t.val * 7680 + n.val) / 7680 = t.val; omega)
    | ⟨1, _⟩ => exact Fin.ext (by show (t.val * 7680 + n.val) / 32 % 240 = n.val / 32; omega)
    | ⟨2, _⟩ => exact Fin.ext (by show (t.val * 7680 + n.val) % 32 = n.val % 32; omega)
  have hn : (⟨32 * (n.val / 32) + n.val % 32, by omega⟩ : Fin 7680) = n := Fin.ext (by show 32 * (n.val / 32) + n.val % 32 = n.val; omega)
  rw [val_main_v229_apply, val_main_v226_apply, e, codes]
  show code (feature x0 x1 x2 x3 x4 t (⟨32 * (n.val / 32) + n.val % 32, _⟩ : Fin 7680)) _ = _
  rw [hn]
  rfl

/-- The reference's scales are the closed form's. -/
theorem scales (b : Fin 240) (t : Fin 1792) : val_main_v230 (F := Ideal) x0 x1 x2 x3 x4 (ix2 b t) = scaleOut x0 x1 x2 x3 x4 b t := by
  have e : idx_main_v230 (ix2 b t) = ix2 t b := by
    funext a
    match a with
    | ⟨0, _⟩ => rfl
    | ⟨1, _⟩ => rfl
  rw [val_main_v230_apply, e, val_main_v228_apply, exponent]
  exact Cert.Gated.byte_reference _

end Cert.GateupReferenceIdeal.Proj
-- ==== Proof.Gateup.ReferenceRows.lean ====
/- The reference's dequantised rows, in closed form. -/
module

public import proofs.«01_k».proof.Proof.Gateup.Reference

@[expose] public section

noncomputable section

namespace Cert.GateupReferenceIdeal.Proj

open Idealize.ShloMosaic Idealize.ShloMosaic.ValueIdx Cert.Codes
open Cert.Gated (ActIdx CodeIdx ScaleIdx blockMax codeOut valueOut rowFeature power byte)
open Cert.GateupReferenceIdeal Cert.GateupReferenceIdeal.Gen Cert.GateupReferenceIdeal.Read

variable (x0 : ActIdx → BitVec 32) (x1 : CodeIdx → BitVec 8) (x2 : ScaleIdx → BitVec 8) (x3 : CodeIdx → BitVec 8) (x4 : ScaleIdx → BitVec 8)

/-- The scale that multiplies a block's codes: the power of its scale byte. -/
theorem scale (t : Fin 1792) (b : Fin 240) :
    val_main_v244 (F := Ideal) x0 x1 x2 x3 x4 (ix2 t b) = power (byte (blockMax x0 x1 x2 x3 x4 t b)) := by
  have hb : val_main_v228 (F := Ideal) x0 x1 x2 x3 x4 (ix2 t b) = (BitVec.ofNat 8 (byte (blockMax x0 x1 x2 x3 x4 t b))).setWidth 32 := by
    rw [Cert.Gated.ofNat_setWidth _ (by have := Cert.Gated.byte_le (blockMax x0 x1 x2 x3 x4 t b); omega), val_main_v228_apply, exponent]
    exact Cert.Gated.byte_reference _
  rw [val_main_v244_apply, val_main_v243_apply, val_main_v242_apply, val_main_v241_apply, val_main_v239_apply, val_main_v237_apply,
    val_main_v235_apply, val_main_v234_apply, hb]
  exact scale_power _

/-- A dequantised code, before the rows are put in their order. -/
theorem value (t : Fin 1792) (b : Fin 240) (k : Fin 32) :
    val_main_v247 (F := Ideal) x0 x1 x2 x3 x4 (ix3 t b k) = valueOut x0 x1 x2 x3 x4 t ⟨32 * b.val + k.val, by omega⟩ := by
  have e : idx_main_v232 (ix3 t b k) = ix2 t (⟨32 * b.val + k.val, by omega⟩ : Fin 7680) := by
    funext a
    match a with
    | ⟨0, _⟩ => exact Fin.ext (by show ((t.val * 240 + b.val) * 32 + k.val) / 7680 = t.val; omega)
    | ⟨1, _⟩ => exact Fin.ext (by show ((t.val * 240 + b.val) * 32 + k.val) % 7680 = 32 * b.val + k.val; omega)
  have e' : idx_main_v245 (idx_main_v246 (ix3 t b k)) = ix2 t b := by
    funext a
    match a with
    | ⟨0, _⟩ => rfl
    | ⟨1, _⟩ => rfl
  have hb : (⟨(32 * b.val + k.val) / 32, by omega⟩ : Fin 240) = b := Fin.ext (by show (32 * b.val + k.val) / 32 = b.val; omega)
  have h := result x0 x1 x2 x3 x4 t ⟨32 * b.val + k.val, by omega⟩
  rw [val_main_v229_apply] at h
  rw [val_main_v247_apply, val_main_v232_apply, e, val_main_v231_apply, val_main_v246_apply, val_main_v245_apply, e', scale]
  unfold valueOut
  rw [hb, ← h]
  rfl

/-- The reference's rows are the closed form's. -/
theorem rows (r : Fin 7680) (t : Fin 1792) :
    val_main_v250 (F := Ideal) x0 x1 x2 x3 x4 (ix2 r t) = valueOut x0 x1 x2 x3 x4 t (rowFeature r) := by
  have e : idx_main_v248 (idx_main_v249 (idx_main_v250 (ix2 r t)))
      = ix3 t (⟨(rowFeature r).val / 32, by omega⟩ : Fin 240) (⟨(rowFeature r).val % 32, by omega⟩ : Fin 32) := by
    have h3 : (r.val * 1792 + t.val) % 1792 = t.val := by omega
    have h0 : (r.val * 1792 + t.val) / 458752 = r.val / 256 := by omega
    have h1 : (r.val * 1792 + t.val) / 229376 % 2 = r.val % 256 / 128 := by omega
    have h2 : (r.val * 1792 + t.val) / 1792 % 128 = r.val % 128 := by omega
    have hf : ((t.val * 30 + r.val / 256) * 128 + r.val % 128) * 2 + r.val % 256 / 128
        = 7680 * t.val + (256 * (r.val / 256) + 2 * (r.val % 128) + r.val % 256 / 128) := by omega
    have hd : ∀ f, f < 7680 → (7680 * t.val + f) / 32 % 240 = f / 32 := fun f hf => by
      have e1 : (7680 * t.val + f) / 32 = 240 * t.val + f / 32 := by omega
      rw [e1]
      omega
    funext a
    match a with
    | ⟨0, _⟩ => exact Fin.ext (by
        show ((((r.val * 1792 + t.val) % 1792 * 30 + (r.val * 1792 + t.val) / 458752) * 128 + (r.val * 1792 + t.val) / 1792 % 128) * 2
          + (r.val * 1792 + t.val) / 229376 % 2) / 7680 = t.val
        rw [h0, h1, h2, h3, hf]
        omega)
    | ⟨1, _⟩ => exact Fin.ext (by
        show ((((r.val * 1792 + t.val) % 1792 * 30 + (r.val * 1792 + t.val) / 458752) * 128 + (r.val * 1792 + t.val) / 1792 % 128) * 2
          + (r.val * 1792 + t.val) / 229376 % 2) / 32 % 240 = (256 * (r.val / 256) + 2 * (r.val % 128) + r.val % 256 / 128) / 32
        rw [h0, h1, h2, h3, hf]
        exact hd _ (by omega))
    | ⟨2, _⟩ => exact Fin.ext (by
        show ((((r.val * 1792 + t.val) % 1792 * 30 + (r.val * 1792 + t.val) / 458752) * 128 + (r.val * 1792 + t.val) / 1792 % 128) * 2
          + (r.val * 1792 + t.val) / 229376 % 2) % 32 = (256 * (r.val / 256) + 2 * (r.val % 128) + r.val % 256 / 128) % 32
        rw [h0, h1, h2, h3, hf]
        omega)
  rw [val_main_v250_apply, val_main_v249_apply, val_main_v248_apply, e, value]
  congr 1
  exact Fin.ext (by show 32 * ((rowFeature r).val / 32) + (rowFeature r).val % 32 = (rowFeature r).val; omega)

end Cert.GateupReferenceIdeal.Proj
-- ==== Proof.Gateup.Algebraic.lean ====
/- At ideal values the projections' kernel and their reference end with the same results. -/
module

public import proofs.«01_k».proof.Defs
public import proofs.«01_k».proof.Proof.Gateup.Arrays
public import proofs.«01_k».proof.Proof.Gateup.ReferenceRows
public import proofs.«01_k».proof.Proof.Gen.GateupIdeal
public import proofs.«01_k».proof.Proof.Gen.GateupReferenceIdeal
public import proofs.«01_k».proof.Proof.Gen.GateupReferenceIdeal.Run
public import proofs.«01_k».proof.Proof.Gen.GateupReferenceIdeal.Read

@[expose] public section

noncomputable section

namespace Cert.GateupAlgebraic

open Idealize.ShloMosaic Idealize.ShloMosaic.ValueIdx Idealize.SL.Sem
open Idealize.ShloMosaic.Pipeline (RDat)

/-- The kernel's results are the reference's, element by element, from any arguments. -/
theorem kernel_reference : Cert.algebraic_GateupIdeal_GateupReferenceIdeal (hGateupIdeal := Cert.GateupIdeal.Gen.facts)
    (hGateupReferenceIdeal := Cert.GateupReferenceIdeal.Gen.facts) := fun m g m' g' _ hargs =>
  ⟨Cert.GateupIdeal.Proj.outRows m, Cert.GateupIdeal.Proj.out0 m, Cert.GateupIdeal.Proj.out1 m,
    Cert.GateupIdeal.Proj.run m g _ fun r h c => ⟨Cert.GateupIdeal.Proj.rows_array c r h.1, Cert.GateupIdeal.Proj.codes_array c r h.1, Cert.GateupIdeal.Proj.scales_array c r h.1,
      h.1.arr_in c 0 rfl, h.1.arr_in c 1 rfl, h.1.arr_in c 2 rfl, h.1.arr_in c 3 rfl, h.1.arr_in c 4 rfl⟩,
    (θ_run Cert.GateupReferenceIdeal.defs _ _).mono (fun r h c => by
      obtain ⟨h0, h1, h2, hrest⟩ := h c
      obtain ⟨a0, a1, a2, a3, a4⟩ := hargs c
      have b0 : StableHlo.launchContents m' c (Proc.tc.devRef Cert.GateupReferenceIdeal.main_arg0) = m (c.tc.loc Cert.GateupIdeal.main_arg0) := a0
      have b1 : StableHlo.launchContents m' c (Proc.tc.devRef Cert.GateupReferenceIdeal.main_arg1) = m (c.tc.loc Cert.GateupIdeal.main_arg1) := a1
      have b2 : StableHlo.launchContents m' c (Proc.tc.devRef Cert.GateupReferenceIdeal.main_arg2) = m (c.tc.loc Cert.GateupIdeal.main_arg2) := a2
      have b3 : StableHlo.launchContents m' c (Proc.tc.devRef Cert.GateupReferenceIdeal.main_arg3) = m (c.tc.loc Cert.GateupIdeal.main_arg3) := a3
      have b4 : StableHlo.launchContents m' c (Proc.tc.devRef Cert.GateupReferenceIdeal.main_arg4) = m (c.tc.loc Cert.GateupIdeal.main_arg4) := a4
      refine ⟨h0.trans ?_, h1.trans ?_, h2.trans ?_, hrest⟩
      · rw [Cert.GateupReferenceIdeal.Read.val_main_v250_eq, b0, b1, b2, b3, b4]
        funext i
        exact (congrArg _ (eq_ix2 i)).trans (Cert.GateupReferenceIdeal.Proj.rows _ _ _ _ _ (i 0) (i 1))
      · rw [Cert.GateupReferenceIdeal.Read.val_main_v229_eq, b0, b1, b2, b3, b4]
        funext i
        exact (congrArg _ (eq_ix2 i)).trans (Cert.GateupReferenceIdeal.Proj.result _ _ _ _ _ (i 0) (i 1))
      · rw [Cert.GateupReferenceIdeal.Read.val_main_v230_eq, b0, b1, b2, b3, b4]
        funext i
        exact (congrArg _ (eq_ix2 i)).trans (Cert.GateupReferenceIdeal.Proj.scales _ _ _ _ _ (i 0) (i 1))) (Cert.GateupReferenceIdeal.Value.run (F := Ideal) m' g')⟩

end Cert.GateupAlgebraic
-- ==== Proof.Oproj.Runs.lean ====
/- Programs that load from and store to a list of owned buffers, whatever they store: such a program runs to its
   end and hands every buffer of the list back. -/
module

public import proofs.«01_k».proof.Proof.Gateup.Fronts
public import Idealize.ShloMosaic.Lib.Exec

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

/-- An owned buffer, and what its contents may be. -/
structure Item (sig : RefSig) (Val : EltTy → Type) (κ : Kind) where
  {s : Shape}
  {e : EltTy}
  ref : Memref sig κ .vmem s e
  ok : (s.Idx → Val e) → Prop

/-- A buffer with any contents. -/
abbrev any {κ : Kind} {s : Shape} {e : EltTy} (m : Memref sig κ .vmem s e) : Item sig Val κ := ⟨m, fun _ => True⟩
/-- A buffer with the contents `X`. -/
abbrev kept {κ : Kind} {s : Shape} {e : EltTy} (m : Memref sig κ .vmem s e) (X : s.Idx → Val e) : Item sig Val κ := ⟨m, fun Y => Y = X⟩

variable {defs : Defs nD τ sig Val Λ} (𝒱 : Variants) (c : Thread nD τ) (E : Set ℕ)

/-- The buffer is owned. -/
def one (it : Item sig Val c.2.kind) : sProp 𝕄 := iprop(∃ X, ⌜it.ok X⌝ ∗ owns c it.ref fullShare X)

/-- The buffers of a list are owned, and `R` besides. -/
def held : List (Item sig Val c.2.kind) → sProp 𝕄 → sProp 𝕄
  | [], R => R
  | it :: L, R => iprop(one c it ∗ held L R)

theorem held_out (it : Item sig Val c.2.kind) (A B : List (Item sig Val c.2.kind)) (R : sProp 𝕄) :
    held c (A ++ it :: B) R ⊢ iprop(one c it ∗ held c (A ++ B) R) := by
  induction A with
  | nil => exact .rfl
  | cons a A ih =>
    show iprop(one c a ∗ held c (A ++ it :: B) R) ⊢ iprop(one c it ∗ one c a ∗ held c (A ++ B) R)
    exact (sep_mono .rfl ih).trans front2

theorem held_in (it : Item sig Val c.2.kind) (A B : List (Item sig Val c.2.kind)) (R : sProp 𝕄) :
    iprop(one c it ∗ held c (A ++ B) R) ⊢ held c (A ++ it :: B) R := by
  induction A with
  | nil => exact .rfl
  | cons a A ih =>
    show iprop(one c it ∗ one c a ∗ held c (A ++ B) R) ⊢ iprop(one c a ∗ held c (A ++ it :: B) R)
    exact front2.trans (sep_mono .rfl ih)

/-- The program runs on the buffers of the list, and gives them back. -/
def Runs (defs : Defs nD τ sig Val Λ) (𝒱 : Variants) (c : Thread nD τ) (U : Type) [URA U] (L : List (Item sig Val c.2.kind)) {α : Type} (p : Prog (TpuEff nD τ sig Val Λ c.2) α) : Prop :=
  ∀ (E : Set ℕ) (Q : α → sProp (MT nD τ sig Unit Val ℕ U ℕ)) (R : sProp (MT nD τ sig Unit Val ℕ U ℕ)), (∀ a, held c L R ⊢ Q a) → held c L R ⊢ wp frame (wpE defs 𝒱 c none) E p Q

/-- The buffer `m` is on the list, and `ok` is what the list says of its contents. -/
class Has {κ : Kind} {s : Shape} {e : EltTy} (m : Memref sig κ .vmem s e) (ok : outParam ((s.Idx → Val e) → Prop)) (L : List (Item sig Val κ)) : Prop where
  mem : (⟨m, ok⟩ : Item sig Val κ) ∈ L

instance (priority := high) Has.here {κ : Kind} {s : Shape} {e : EltTy} (m : Memref sig κ .vmem s e) (ok : (s.Idx → Val e) → Prop) (L : List (Item sig Val κ)) : Has m ok (⟨m, ok⟩ :: L) := ⟨.head _⟩
instance Has.there {κ : Kind} {s : Shape} {e : EltTy} (m : Memref sig κ .vmem s e) (ok : (s.Idx → Val e) → Prop) (it : Item sig Val κ) (L : List (Item sig Val κ)) [h : Has m ok L] : Has m ok (it :: L) := ⟨.tail _ h.mem⟩

variable {c 𝒱} {L : List (Item sig Val c.2.kind)} {α β : Type}

theorem Runs.pure (a : α) : Runs defs 𝒱 c U L (Pure.pure a) := fun _ _ _ h => (h a).trans (le_wp_ret _ _ _ _ _)

theorem Runs.bind {p : Prog (TpuEff nD τ sig Val Λ c.2) α} {k : α → Prog (TpuEff nD τ sig Val Λ c.2) β}
    (hp : Runs defs 𝒱 c U L p) (hk : ∀ a, Runs defs 𝒱 c U L (k a)) : Runs defs 𝒱 c U L (p >>= k) := fun E Q R h => by
  rw [wp_bind]
  exact hp E _ R fun a => hk a E Q R h

theorem Runs.dite {C : Prop} {dec : Decidable C} {p : C → Prog (TpuEff nD τ sig Val Λ c.2) α} {q : ¬ C → Prog (TpuEff nD τ sig Val Λ c.2) α}
    (hp : ∀ h, Runs defs 𝒱 c U L (p h)) (hq : ∀ h, Runs defs 𝒱 c U L (q h)) : Runs defs 𝒱 c U L (@_root_.dite _ C dec p q) := by
  by_cases h : C
  · rw [dif_pos h]; exact hp h
  · rw [dif_neg h]; exact hq h

theorem Runs.loop {w : Nat} {σ : Type} (l : Scf.Loop w) (hok : l.OK) (init : σ) (body : Fin l.trips → σ → Prog (TpuEff nD τ sig Val Λ c.2) σ)
    (hb : ∀ k a, Runs defs 𝒱 c U L (body k a)) : Runs defs 𝒱 c U L (Scf.Loop.for l hok init body) := fun E Q R h => by
  have h0 := exec_loop_last (M := MT nD τ sig Unit Val ℕ U ℕ) frame (wpE defs 𝒱 c none) E l.lb l.ub l.st hok init body
    { inv := fun _ _ => held c L R, step := fun k a => hb k a E _ R fun _ => .rfl } (Q := Q)
  iintro H
  iapply h0 $$ [H]
  · iexact H
  iintro %a H
  iapply (h a)
  iexact H

theorem Runs.load {s : Shape} {e : EltTy} {m : Memref sig c.2.kind .vmem s e} {ok : (s.Idx → Val e) → Prop} {r : LoadRect s} {hl : m.view.LoadsAt r}
    [hm : Has m ok L] : Runs defs 𝒱 c U L (Prog.lift (.load m r hl)) := fun E Q R h => by
  obtain ⟨A, B, rfl⟩ := List.append_of_mem hm.mem
  refine (held_out c _ A B R).trans ?_
  unfold one
  iintro ⟨⟨%X, %hX, H⟩, HR⟩
  iapply (Own.load 𝒱 c E m (X := X) (R := held c (A ++ B) R) ?_)
  · refine .trans ?_ (le_wp_ret _ _ _ _ _)
    refine .trans ?_ (h _)
    refine .trans ?_ (held_in c _ A B R)
    unfold one
    iintro ⟨H, HR⟩
    isplitl [H]
    · iexists X; isplitr; · ipureintro; exact hX
      iexact H
    · iexact HR
  · isplitl [H]; · iexact H
    iexact HR

theorem Runs.loadReshaped {s s' : Shape} {e : EltTy} {m : Memref sig c.2.kind .vmem s e} {ok : (s.Idx → Val e) → Prop} {h1 : s'.numel = s.numel} {h2 : 2 ≤ s.rank ∧ 2 ≤ s'.rank} {h3 : m.view.Contiguous}
    {r : LoadRect s'} {hl : (m.reshape s' h1 h2 h3).view.LoadsAt r}
    [hm : Has m ok L] : Runs defs 𝒱 c U L (Prog.lift (.load (m.reshape s' h1 h2 h3) r hl)) := fun E Q R h => by
  obtain ⟨A, B, rfl⟩ := List.append_of_mem hm.mem
  refine (held_out c _ A B R).trans ?_
  unfold one
  iintro ⟨⟨%X, %hX, H⟩, HR⟩
  iapply (Own.loadReshaped 𝒱 c E m (X := X) (R := held c (A ++ B) R) ?_)
  · intro x
    refine .trans ?_ (le_wp_ret _ _ _ _ _)
    refine .trans ?_ (h _)
    refine .trans ?_ (held_in c _ A B R)
    unfold one
    iintro ⟨H, HR⟩
    isplitl [H]
    · iexists X; isplitr; · ipureintro; exact hX
      iexact H
    · iexact HR
  · isplitl [H]; · iexact H
    iexact HR

theorem Runs.store {s : Shape} {e : EltTy} {m : Memref sig c.2.kind .vmem s e} {r : Rect s} {w : r.shape.Idx → Val e}
    {hx : (m.access r).Stores Finset.univ} {hu : Finset.univ = Finset.univ ∨ ∀ a, r.stride a = 1}
    [hm : Has m (fun _ => True) L] : Runs defs 𝒱 c U L (Prog.lift (.store m r w Finset.univ hx hu)) := fun E Q R h => by
  obtain ⟨A, B, rfl⟩ := List.append_of_mem hm.mem
  refine (held_out c _ A B R).trans ?_
  unfold one
  iintro ⟨⟨%X, %hX, H⟩, HR⟩
  iapply (Own.store 𝒱 c E m (X := X) (R := held c (A ++ B) R) ?_)
  · intro Y _ _
    refine .trans ?_ (le_wp_ret _ _ _ _ _)
    refine .trans ?_ (h _)
    refine .trans ?_ (held_in c _ A B R)
    unfold one
    iintro ⟨H, HR⟩
    isplitl [H]
    · iexists Y; isplitr; · ipureintro; exact trivial
      iexact H
    · iexact HR
  · isplitl [H]; · iexact H
    iexact HR

end Cert.Own
-- ==== Proof.Oproj.Body.lean ====
/- The output projection's body at ideal values: at every grid point it runs on its buffers, whatever it stores. -/
module

public import proofs.«01_k».proof.Proof.Oproj.Runs
public import proofs.«01_k».proof.Proof.Gen.OprojIdeal

@[expose] public section

noncomputable section

namespace Cert.OprojIdeal.Out

open Cert.OprojIdeal Cert.OprojIdeal.Gen
open Idealize.ShloMosaic Idealize.ShloMosaic.TcCoe
open Idealize.SL Idealize.SL.RA Idealize.SL.Sem
open Cert.Own

variable {F : FTy → Type} [FloatOps F] {U : Type} [URA U] {defs : Defs nD τ sig (Elt F) Λ₀} {𝒱 : Variants} {c : Dev nD} {L : List (Item sig (Elt F) .tc)} (i : grid0.Coords)
variable (a1 : Memref sig .tc .vmem S1536x1792 .i32) (h1 : a1.IsWhole) {o1 : (S1536x1792.Idx → Elt F .i32) → Prop} [Has a1 o1 L]
variable (a2 : Memref sig .tc .vmem S96x1792 .i32) (h2 : a2.IsWhole) {o2 : (S96x1792.Idx → Elt F .i32) → Prop} [Has a2 o2 L]
variable (a3 : Memref sig .tc .vmem S1x2880 .f32) (h3 : a3.IsWhole) {o3 : (S1x2880.Idx → Elt F .f32) → Prop} [Has a3 o3 L]
variable (a4 : Memref sig .tc .vmem S288x1536 .i8) (h4 : a4.IsWhole) {o4 : (S288x1536.Idx → Elt F .i8) → Prop} [Has a4 o4 L]
variable (a5 : Memref sig .tc .vmem S288x96 .i8) (h5 : a5.IsWhole) {o5 : (S288x96.Idx → Elt F .i8) → Prop} [Has a5 o5 L]
variable (a6 : Memref sig .tc .vmem S144x1792 .i32) (h6 : a6.IsWhole) {o6 : (S144x1792.Idx → Elt F .i32) → Prop} [Has a6 o6 L]
variable (a7 : Memref sig .tc .vmem S288x1536 .i8) (h7 : a7.IsWhole) {o7 : (S288x1536.Idx → Elt F .i8) → Prop} [Has a7 o7 L]
variable (a8 : Memref sig .tc .vmem S288x96 .i8) (h8 : a8.IsWhole) {o8 : (S288x96.Idx → Elt F .i8) → Prop} [Has a8 o8 L]
variable (a9 : Memref sig .tc .vmem S144x1792 .i32) (h9 : a9.IsWhole) {o9 : (S144x1792.Idx → Elt F .i32) → Prop} [Has a9 o9 L]
variable (a10 : Memref sig .tc .vmem S2880x1792 .f32) (h10 : a10.IsWhole) [Has a10 (fun _ => True) L]
variable (a11 : Memref sig .tc .vmem S2880x1792 .bf16) (h11 : a11.IsWhole) [Has a11 (fun _ => True) L]
variable (a12 : Memref sig .tc .vmem S1792x2880 .fp8e4m3) (h12 : a12.IsWhole) [Has a12 (fun _ => True) L]
variable (a13 : Memref sig .tc .vmem S1792x90 .i8) (h13 : a13.IsWhole) [Has a13 (fun _ => True) L]
variable (a14 : Memref sig .tc .vmem S1792x96 .i8) (h14 : a14.IsWhole) [Has a14 (fun _ => True) L]
variable (a15 : Memref sig .tc .vmem S144x2x3072 .bf16) (h15 : a15.IsWhole) [Has a15 (fun _ => True) L]
variable (a16 : Memref sig .tc .vmem S144x2x3072 .bf16) (h16 : a16.IsWhole) [Has a16 (fun _ => True) L]
variable (a17 : Memref sig .tc .vmem S2880x128 .f32) (h17 : a17.IsWhole) [Has a17 (fun _ => True) L]
variable (a18 : Memref sig .tc .vmem S96x1792 .i32) (h18 : a18.IsWhole) [Has a18 (fun _ => True) L]
variable (a19 : Memref sig .tc .vmem S24x256x128 .bf16) (h19 : a19.IsWhole) [Has a19 (fun _ => True) L]
variable (a20 : Memref sig .tc .vmem S8x1792 .f32) (h20 : a20.IsWhole) [Has a20 (fun _ => True) L]
include o1 o2 o3 o4 o5 o6 o7 o8 o9

set_option maxHeartbeats 40000000 in
/-- The second piece: the two chunks of a later grid point. -/
theorem part83 (x0 x1) : Runs defs 𝒱 c U L (k0_part83 i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1) := by
  unfold k0_part83
  repeat' first
    | with_reducible refine .bind ?_ fun _ => ?_
    | with_reducible exact .load
    | with_reducible exact .store
    | with_reducible exact .loadReshaped
    | with_reducible exact .pure _
    | delta k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82

set_option maxHeartbeats 40000000 in
/-- One slab of the norm and the quantiser. -/
theorem part138 (x0 x1 x2 x3) : Runs defs 𝒱 c U L (k0_part138 i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) := by
  unfold k0_part138
  repeat' first
    | with_reducible refine .bind ?_ fun _ => ?_
    | with_reducible exact .load
    | with_reducible exact .store
    | with_reducible exact .loadReshaped
    | with_reducible exact .pure _
    | delta k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137

set_option maxHeartbeats 40000000 in
/-- The last piece: the slabs, in a loop. -/
theorem part139 (x0) : Runs defs 𝒱 c U L (k0_part139 i a1 h1 a2 h2 a3 h3 a4 h4 a5 h5 a6 h6 a7 h7 a8 h8 a9 h9 a10 h10 a11 h11 a12 h12 a13 h13 a14 h14 a15 h15 a16 h16 a17 h17 a18 h18 a19 h19 a20 h20 x0) := by
  unfold k0_part139
  repeat' first
    | with_reducible refine .bind ?_ fun _ => ?_
    | with_reducible exact .load
    | with_reducible exact .store
    | with_reducible exact .loadReshaped
    | with_reducible exact .pure _
    | with_reducible exact part138 ..
    | with_reducible refine .loop _ _ _ _ fun _ _ => ?_

set_option maxHeartbeats 40000000 in
/-- The whole body. -/
theorem body : Runs defs 𝒱 c U L (cc0_oproj i a1 h1 a2 h2 a3 h3 a4 h4 a5 h5 a6 h6 a7 h7 a8 h8 a9 h9 a10 h10 a11 h11 a12 h12 a13 h13 a14 h14 a15 h15 a16 h16 a17 h17 a18 h18 a19 h19 a20 h20) := by
  unfold cc0_oproj
  repeat' first
    | with_reducible refine .bind ?_ fun _ => ?_
    | with_reducible exact .load
    | with_reducible exact .store
    | with_reducible exact .loadReshaped
    | with_reducible exact .pure _
    | with_reducible exact part83 ..
    | with_reducible exact part139 ..
    | with_reducible refine .dite (fun _ => ?_) fun _ => ?_
    | delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part140

end Cert.OprojIdeal.Out
-- ==== Proof.Oproj.Run.lean ====
/- The run of the output projection at ideal values: the program ends, its arguments unchanged
   and every counter at zero. What the body leaves in the buffers it writes is left open. -/
module

public import proofs.«01_k».proof.Proof.Oproj.Body
public import proofs.«01_k».proof.Proof.Gen.OprojIdeal.Launch
public import proofs.«01_k».proof.Proof.Gen.OprojIdeal.Frame
public import Idealize.ShloMosaic.Lib.Pipeline.FrameBody

@[expose] public section

noncomputable section

namespace Cert.OprojIdeal.Out

open Cert.OprojIdeal Cert.OprojIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA scopedRest)
open Cert.Own

variable {F : FTy → Type} [FloatOps F]

local notation "𝕄" => MT nD τ sig Unit (Elt F) ℕ (UR sig nD τ) ℕ

/-- The kernel's variants: none. -/
abbrev 𝒱₀ : Variants := Variants.none

/-- The whole body at one grid point: the buffers it reads as they were, the others with whatever it leaves. -/
theorem body_run (c : Dev nD) (i : grid0.Coords)
    (a1 : Memref sig .tc .vmem S1536x1792 .i32) (h1 : a1.IsWhole)
    (a2 : Memref sig .tc .vmem S96x1792 .i32) (h2 : a2.IsWhole)
    (a3 : Memref sig .tc .vmem S1x2880 .f32) (h3 : a3.IsWhole)
    (a4 : Memref sig .tc .vmem S288x1536 .i8) (h4 : a4.IsWhole)
    (a5 : Memref sig .tc .vmem S288x96 .i8) (h5 : a5.IsWhole)
    (a6 : Memref sig .tc .vmem S144x1792 .i32) (h6 : a6.IsWhole)
    (a7 : Memref sig .tc .vmem S288x1536 .i8) (h7 : a7.IsWhole)
    (a8 : Memref sig .tc .vmem S288x96 .i8) (h8 : a8.IsWhole)
    (a9 : Memref sig .tc .vmem S144x1792 .i32) (h9 : a9.IsWhole)
    (a10 : Memref sig .tc .vmem S2880x1792 .f32) (h10 : a10.IsWhole)
    (a11 : Memref sig .tc .vmem S2880x1792 .bf16) (h11 : a11.IsWhole)
    (a12 : Memref sig .tc .vmem S1792x2880 .fp8e4m3) (h12 : a12.IsWhole)
    (a13 : Memref sig .tc .vmem S1792x90 .i8) (h13 : a13.IsWhole)
    (a14 : Memref sig .tc .vmem S1792x96 .i8) (h14 : a14.IsWhole)
    (a15 : Memref sig .tc .vmem S144x2x3072 .bf16) (h15 : a15.IsWhole)
    (a16 : Memref sig .tc .vmem S144x2x3072 .bf16) (h16 : a16.IsWhole)
    (a17 : Memref sig .tc .vmem S2880x128 .f32) (h17 : a17.IsWhole)
    (a18 : Memref sig .tc .vmem S96x1792 .i32) (h18 : a18.IsWhole)
    (a19 : Memref sig .tc .vmem S24x256x128 .bf16) (h19 : a19.IsWhole)
    (a20 : Memref sig .tc .vmem S8x1792 .f32) (h20 : a20.IsWhole)
    (E : Set ℕ) (X1 : S1536x1792.Idx → Elt F .i32) (X2 : S96x1792.Idx → Elt F .i32) (X3 : S1x2880.Idx → Elt F .f32) (X4 : S288x1536.Idx → Elt F .i8) (X5 : S288x96.Idx → Elt F .i8) (X6 : S144x1792.Idx → Elt F .i32) (X7 : S288x1536.Idx → Elt F .i8) (X8 : S288x96.Idx → Elt F .i8) (X9 : S144x1792.Idx → Elt F .i32) (X10 : S2880x1792.Idx → Elt F .f32) (X11 : S2880x1792.Idx → Elt F .bf16) (X12 : S1792x2880.Idx → Elt F .fp8e4m3) (X13 : S1792x90.Idx → Elt F .i8) (X14 : S1792x96.Idx → Elt F .i8) (X15 : S144x2x3072.Idx → Elt F .bf16) (X16 : S144x2x3072.Idx → Elt F .bf16) (X17 : S2880x128.Idx → Elt F .f32) (X18 : S96x1792.Idx → Elt F .i32) (X19 : S24x256x128.Idx → Elt F .bf16) (X20 : S8x1792.Idx → Elt F .f32)
    (Q : PUnit → sProp 𝕄) (R : sProp 𝕄)
    (h : ∀ Y10 Y11 Y12 Y13 Y14 Y15 Y16 Y17 Y18 Y19 Y20,
      iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare Y10 ∗ owns (c : Thread nD τ) a11 fullShare Y11 ∗ owns (c : Thread nD τ) a12 fullShare Y12 ∗ owns (c : Thread nD τ) a13 fullShare Y13 ∗ owns (c : Thread nD τ) a14 fullShare Y14 ∗ owns (c : Thread nD τ) a15 fullShare Y15 ∗ owns (c : Thread nD τ) a16 fullShare Y16 ∗ owns (c : Thread nD τ) a17 fullShare Y17 ∗ owns (c : Thread nD τ) a18 fullShare Y18 ∗ owns (c : Thread nD τ) a19 fullShare Y19 ∗ owns (c : Thread nD τ) a20 fullShare Y20 ∗ R) ⊢ Q ⟨⟩) :
    iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11 ∗ owns (c : Thread nD τ) a12 fullShare X12 ∗ owns (c : Thread nD τ) a13 fullShare X13 ∗ owns (c : Thread nD τ) a14 fullShare X14 ∗ owns (c : Thread nD τ) a15 fullShare X15 ∗ owns (c : Thread nD τ) a16 fullShare X16 ∗ owns (c : Thread nD τ) a17 fullShare X17 ∗ owns (c : Thread nD τ) a18 fullShare X18 ∗ owns (c : Thread nD τ) a19 fullShare X19 ∗ owns (c : Thread nD τ) a20 fullShare X20 ∗ R)
      ⊢ wp frame (wpE (defs₀ (F := F)) 𝒱₀ c none) E (cc0_oproj (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20) Q := by
  have hr := body (defs := defs₀ (F := F)) (𝒱 := 𝒱₀) (U := UR sig nD τ) (c := c)
    (L := [kept a1 X1, kept a2 X2, kept a3 X3, kept a4 X4, kept a5 X5, kept a6 X6, kept a7 X7, kept a8 X8, kept a9 X9, any a10, any a11, any a12, any a13, any a14, any a15, any a16, any a17, any a18, any a19, any a20])
    i a1 h1 a2 h2 a3 h3 a4 h4 a5 h5 a6 h6 a7 h7 a8 h8 a9 h9 a10 h10 a11 h11 a12 h12 a13 h13 a14 h14 a15 h15 a16 h16 a17 h17 a18 h18 a19 h19 a20 h20
  refine .trans ?_ (hr E Q R fun _ => ?_)
  · simp only [held, one]
    iintro ⟨H1, H2, H3, H4, H5, H6, H7, H8, H9, H10, H11, H12, H13, H14, H15, H16, H17, H18, H19, H20, HR⟩
    isplitl [H1]
    · iexists X1; isplitr; · ipureintro; exact rfl
      iexact H1
    isplitl [H2]
    · iexists X2; isplitr; · ipureintro; exact rfl
      iexact H2
    isplitl [H3]
    · iexists X3; isplitr; · ipureintro; exact rfl
      iexact H3
    isplitl [H4]
    · iexists X4; isplitr; · ipureintro; exact rfl
      iexact H4
    isplitl [H5]
    · iexists X5; isplitr; · ipureintro; exact rfl
      iexact H5
    isplitl [H6]
    · iexists X6; isplitr; · ipureintro; exact rfl
      iexact H6
    isplitl [H7]
    · iexists X7; isplitr; · ipureintro; exact rfl
      iexact H7
    isplitl [H8]
    · iexists X8; isplitr; · ipureintro; exact rfl
      iexact H8
    isplitl [H9]
    · iexists X9; isplitr; · ipureintro; exact rfl
      iexact H9
    isplitl [H10]
    · iexists X10; isplitr; · ipureintro; exact trivial
      iexact H10
    isplitl [H11]
    · iexists X11; isplitr; · ipureintro; exact trivial
      iexact H11
    isplitl [H12]
    · iexists X12; isplitr; · ipureintro; exact trivial
      iexact H12
    isplitl [H13]
    · iexists X13; isplitr; · ipureintro; exact trivial
      iexact H13
    isplitl [H14]
    · iexists X14; isplitr; · ipureintro; exact trivial
      iexact H14
    isplitl [H15]
    · iexists X15; isplitr; · ipureintro; exact trivial
      iexact H15
    isplitl [H16]
    · iexists X16; isplitr; · ipureintro; exact trivial
      iexact H16
    isplitl [H17]
    · iexists X17; isplitr; · ipureintro; exact trivial
      iexact H17
    isplitl [H18]
    · iexists X18; isplitr; · ipureintro; exact trivial
      iexact H18
    isplitl [H19]
    · iexists X19; isplitr; · ipureintro; exact trivial
      iexact H19
    isplitl [H20]
    · iexists X20; isplitr; · ipureintro; exact trivial
      iexact H20
    iexact HR
  · simp only [held, one]
    iintro ⟨⟨%Y1, %e1, H1⟩, ⟨%Y2, %e2, H2⟩, ⟨%Y3, %e3, H3⟩, ⟨%Y4, %e4, H4⟩, ⟨%Y5, %e5, H5⟩, ⟨%Y6, %e6, H6⟩, ⟨%Y7, %e7, H7⟩, ⟨%Y8, %e8, H8⟩, ⟨%Y9, %e9, H9⟩, ⟨%Y10, %e10, H10⟩, ⟨%Y11, %e11, H11⟩, ⟨%Y12, %e12, H12⟩, ⟨%Y13, %e13, H13⟩, ⟨%Y14, %e14, H14⟩, ⟨%Y15, %e15, H15⟩, ⟨%Y16, %e16, H16⟩, ⟨%Y17, %e17, H17⟩, ⟨%Y18, %e18, H18⟩, ⟨%Y19, %e19, H19⟩, ⟨%Y20, %e20, H20⟩, HR⟩
    replace e1 : Y1 = X1 := e1
    subst e1
    replace e2 : Y2 = X2 := e2
    subst e2
    replace e3 : Y3 = X3 := e3
    subst e3
    replace e4 : Y4 = X4 := e4
    subst e4
    replace e5 : Y5 = X5 := e5
    subst e5
    replace e6 : Y6 = X6 := e6
    subst e6
    replace e7 : Y7 = X7 := e7
    subst e7
    replace e8 : Y8 = X8 := e8
    subst e8
    replace e9 : Y9 = X9 := e9
    subst e9
    iapply (h Y10 Y11 Y12 Y13 Y14 Y15 Y16 Y17 Y18 Y19 Y20)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact HR

section

variable (m : (ℓ : Loc nD τ sig) → Buf (Elt F) ℓ)

/-- What the body may leave in window `w`'s buffer: an input's contents as it found them, anything in an output's. -/
def after (w : Fin cfg0.W) (Y X : (cfg0.win w).block.Idx → Elt F (cfg0.win w).elt) : Prop :=
  (cfg0.win w).isOut = false → X = Y

def rdat (c : Dev nD) : RDat τ (Elt F) Unit ℕ (UR sig nD τ) ℕ cfg0 c where
  A w := V m c (Pipeline.arrRef spec0 w)
  after w _ := after w
  Φ _ := ΦA (Val := Elt F) (U := UR sig nD τ) spec0 c
  q := Pipeline.shareOf spec0
  owed _ := 0

theorem defs₀_row (t : Fin cfg0.N) : defs₀ (F := F) .tc cfg0.body (cfg0.bodyArgs t (cfg0.slots t)) = bodyAt0 t := by
  unfold defs₀; rw [Defs.onTc_tc]

/-- The body meets its obligation at every grid point. -/
theorem body_obligation (c : Dev nD) : (rdat m c).BodyObligation (defs₀ (F := F)) 𝒱₀ () Set.univ := fun t Y _ => by
  rw [bigSep_W0, bigSep_W0, defs₀_row]
  rw [show (rdat m c).Φ t.castSucc = ΦA (Val := Elt F) (U := UR sig nD τ) spec0 c from rfl,
    show (rdat m c).Φ t.succ = ΦA (Val := Elt F) (U := UR sig nD τ) spec0 c from rfl,
    show (rdat m c).owesAt () t.succ = (rdat m c).owesAt () t.castSucc from rfl]
  unfold ΦA
  rw [scopedRest0_eq]
  iintro ⟨⟨⟨⟨%X15, H15⟩, ⟨%X16, H16⟩, ⟨%X17, H17⟩, ⟨%X18, H18⟩, ⟨%X19, H19⟩, ⟨%X20, H20⟩⟩, HP⟩, Ho, H1, H2, H3, H4, H5, H6, H7, H8, H9, H10, H11, H12, H13, H14⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    Set.univ (Y 0) (Y 1) (Y 2) (Y 3) (Y 4) (Y 5) (Y 6) (Y 7) (Y 8) (Y 9) (Y 10) (Y 11) (Y 12) (Y 13) X15 X16 X17 X18 X19 X20 _
    iprop((rdat m c).owesAt () t.castSucc ∗ ∃ r, prngReg c r) ?_)
  · intro Y10 Y11 Y12 Y13 Y14 Y15 Y16 Y17 Y18 Y19 Y20
    rw [owns_whole, owns_whole, owns_whole, owns_whole, owns_whole, owns_whole]
    iintro ⟨H1, H2, H3, H4, H5, H6, H7, H8, H9, H10, H11, H12, H13, H14, H15, H16, H17, H18, H19, H20, Ho, HP⟩
    isplitl [H15 H16 H17 H18 H19 H20 HP]
    · isplitl [H15 H16 H17 H18 H19 H20]
      · isplitl [H15]
        · iexists Y15; iexact H15
        isplitl [H16]
        · iexists Y16; iexact H16
        isplitl [H17]
        · iexists Y17; iexact H17
        isplitl [H18]
        · iexists Y18; iexact H18
        isplitl [H19]
        · iexists Y19; iexact H19
        · iexists Y20; iexact H20
      · iexact HP
    isplitl [Ho]; · iexact Ho
    isplitl [H1]
    · iexists Y 0; isplitr; · ipureintro; exact fun _ => rfl
      iexact H1
    isplitl [H2]
    · iexists Y 1; isplitr; · ipureintro; exact fun _ => rfl
      iexact H2
    isplitl [H3]
    · iexists Y 2; isplitr; · ipureintro; exact fun _ => rfl
      iexact H3
    isplitl [H4]
    · iexists Y 3; isplitr; · ipureintro; exact fun _ => rfl
      iexact H4
    isplitl [H5]
    · iexists Y 4; isplitr; · ipureintro; exact fun _ => rfl
      iexact H5
    isplitl [H6]
    · iexists Y 5; isplitr; · ipureintro; exact fun _ => rfl
      iexact H6
    isplitl [H7]
    · iexists Y 6; isplitr; · ipureintro; exact fun _ => rfl
      iexact H7
    isplitl [H8]
    · iexists Y 7; isplitr; · ipureintro; exact fun _ => rfl
      iexact H8
    isplitl [H9]
    · iexists Y 8; isplitr; · ipureintro; exact fun _ => rfl
      iexact H9
    isplitl [H10]
    · iexists Y10; isplitr; · ipureintro; exact fun h => absurd h (by decide)
      iexact H10
    isplitl [H11]
    · iexists Y11; isplitr; · ipureintro; exact fun h => absurd h (by decide)
      iexact H11
    isplitl [H12]
    · iexists Y12; isplitr; · ipureintro; exact fun h => absurd h (by decide)
      iexact H12
    isplitl [H13]
    · iexists Y13; isplitr; · ipureintro; exact fun h => absurd h (by decide)
      iexact H13
    · iexists Y14; isplitr; · ipureintro; exact fun h => absurd h (by decide)
      iexact H14
  · rw [owns_whole, owns_whole, owns_whole, owns_whole, owns_whole, owns_whole]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [Ho]; · iexact Ho
    iexact HP

set_option backward.isDefEq.respectTransparency.types false in
/-- The program runs, and its arrays end as the windows' relations allow. -/
theorem run (g : Dev nD → PrngReg) (Q' : PUnit × MemSt nD τ sig (Elt F) → Prop)
    (hQ' : ∀ r, RDat.FramePost cfg0 (rdat m) (V m) r ∧ r.2.sem = (fun _ => 0) → Q' r) :
    θ_run (defs (F := F)) (onTc (τ := τ) (main (F := F))) ⟨m, fun _ => 0, g⟩ Q' :=
  RDat.θ_run_frame_track_shared cfgs 0 launch₀0 defs₀ 𝒱₀ (rdat m) m g main (body_obligation m)
    (fun _ _ _ => rfl) (fun _ _ => rfl) (V m) (hmain m 𝒱₀) (fun _ _ => rfl) (fun _ => .rfl) (fun _ => .rfl) Q' hQ'

end

end Cert.OprojIdeal.Out
-- ==== Proof.Oproj.Words.Body.lean ====
/- The output projection's body over the machine's words: at every grid point it runs on its buffers, whatever it stores. -/
module

public import proofs.«01_k».proof.Proof.Oproj.Runs
public import proofs.«01_k».proof.Proof.Gen.Oproj

@[expose] public section

noncomputable section

namespace Cert.Oproj.Out

open Cert.Oproj Cert.Oproj.Gen
open Idealize.ShloMosaic Idealize.ShloMosaic.TcCoe
open Idealize.SL Idealize.SL.RA Idealize.SL.Sem
open Cert.Own

variable {F : FTy → Type} [BitOps F] {U : Type} [URA U] {defs : Defs nD τ sig (Elt F) Λ₀} {𝒱 : Variants} {c : Dev nD} {L : List (Item sig (Elt F) .tc)} (i : grid0.Coords)
variable (a1 : Memref sig .tc .vmem S1536x1792 .i32) (h1 : a1.IsWhole) {o1 : (S1536x1792.Idx → Elt F .i32) → Prop} [Has a1 o1 L]
variable (a2 : Memref sig .tc .vmem S96x1792 .i32) (h2 : a2.IsWhole) {o2 : (S96x1792.Idx → Elt F .i32) → Prop} [Has a2 o2 L]
variable (a3 : Memref sig .tc .vmem S1x2880 .f32) (h3 : a3.IsWhole) {o3 : (S1x2880.Idx → Elt F .f32) → Prop} [Has a3 o3 L]
variable (a4 : Memref sig .tc .vmem S288x1536 .i8) (h4 : a4.IsWhole) {o4 : (S288x1536.Idx → Elt F .i8) → Prop} [Has a4 o4 L]
variable (a5 : Memref sig .tc .vmem S288x96 .i8) (h5 : a5.IsWhole) {o5 : (S288x96.Idx → Elt F .i8) → Prop} [Has a5 o5 L]
variable (a6 : Memref sig .tc .vmem S144x1792 .i32) (h6 : a6.IsWhole) {o6 : (S144x1792.Idx → Elt F .i32) → Prop} [Has a6 o6 L]
variable (a7 : Memref sig .tc .vmem S288x1536 .i8) (h7 : a7.IsWhole) {o7 : (S288x1536.Idx → Elt F .i8) → Prop} [Has a7 o7 L]
variable (a8 : Memref sig .tc .vmem S288x96 .i8) (h8 : a8.IsWhole) {o8 : (S288x96.Idx → Elt F .i8) → Prop} [Has a8 o8 L]
variable (a9 : Memref sig .tc .vmem S144x1792 .i32) (h9 : a9.IsWhole) {o9 : (S144x1792.Idx → Elt F .i32) → Prop} [Has a9 o9 L]
variable (a10 : Memref sig .tc .vmem S2880x1792 .f32) (h10 : a10.IsWhole) [Has a10 (fun _ => True) L]
variable (a11 : Memref sig .tc .vmem S2880x1792 .bf16) (h11 : a11.IsWhole) [Has a11 (fun _ => True) L]
variable (a12 : Memref sig .tc .vmem S1792x2880 .fp8e4m3) (h12 : a12.IsWhole) [Has a12 (fun _ => True) L]
variable (a13 : Memref sig .tc .vmem S1792x90 .i8) (h13 : a13.IsWhole) [Has a13 (fun _ => True) L]
variable (a14 : Memref sig .tc .vmem S1792x96 .i8) (h14 : a14.IsWhole) [Has a14 (fun _ => True) L]
variable (a15 : Memref sig .tc .vmem S144x3072 .i32) (h15 : a15.IsWhole) [Has a15 (fun _ => True) L]
variable (a16 : Memref sig .tc .vmem S144x3072 .i32) (h16 : a16.IsWhole) [Has a16 (fun _ => True) L]
variable (a17 : Memref sig .tc .vmem S2880x128 .f32) (h17 : a17.IsWhole) [Has a17 (fun _ => True) L]
variable (a18 : Memref sig .tc .vmem S96x1792 .i32) (h18 : a18.IsWhole) [Has a18 (fun _ => True) L]
variable (a19 : Memref sig .tc .vmem S24x256x128 .bf16) (h19 : a19.IsWhole) [Has a19 (fun _ => True) L]
variable (a20 : Memref sig .tc .vmem S8x1792 .f32) (h20 : a20.IsWhole) [Has a20 (fun _ => True) L]
include o1 o2 o3 o4 o5 o6 o7 o8 o9

set_option maxHeartbeats 40000000 in
/-- A printed piece. -/
theorem part27 : Runs defs 𝒱 c U L (k0_part27 i a1 h1 a2 h2 a3 h3 a4 h4 a5 h5 a6 h6 a7 h7 a8 h8 a9 h9 a10 h10 a11 h11 a12 h12 a13 h13 a14 h14 a15 h15 a16 h16 a17 h17 a18 h18 a19 h19 a20 h20) := by
  unfold k0_part27
  repeat' first
    | with_reducible refine .bind ?_ fun _ => ?_
    | with_reducible exact .load
    | with_reducible exact .store
    | with_reducible exact .loadReshaped
    | with_reducible exact .pure _
    | delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26

set_option maxHeartbeats 40000000 in
/-- A printed piece. -/
theorem part129 (x0 x1 x2 x3) : Runs defs 𝒱 c U L (k0_part129 i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) := by
  unfold k0_part129
  repeat' first
    | with_reducible refine .bind ?_ fun _ => ?_
    | with_reducible exact .load
    | with_reducible exact .store
    | with_reducible exact .loadReshaped
    | with_reducible exact .pure _
    | delta k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128

set_option maxHeartbeats 40000000 in
/-- A printed piece. -/
theorem part130 (x0) : Runs defs 𝒱 c U L (k0_part130 i a1 h1 a2 h2 a3 h3 a4 h4 a5 h5 a6 h6 a7 h7 a8 h8 a9 h9 a10 h10 a11 h11 a12 h12 a13 h13 a14 h14 a15 h15 a16 h16 a17 h17 a18 h18 a19 h19 a20 h20 x0) := by
  unfold k0_part130
  repeat' first
    | with_reducible refine .bind ?_ fun _ => ?_
    | with_reducible exact .load
    | with_reducible exact .store
    | with_reducible exact .loadReshaped
    | with_reducible exact .pure _
    | with_reducible exact part129 ..
    | with_reducible refine .loop _ _ _ _ fun _ _ => ?_

set_option maxHeartbeats 40000000 in
/-- The whole body. -/
theorem body : Runs defs 𝒱 c U L (cc0_oproj i a1 h1 a2 h2 a3 h3 a4 h4 a5 h5 a6 h6 a7 h7 a8 h8 a9 h9 a10 h10 a11 h11 a12 h12 a13 h13 a14 h14 a15 h15 a16 h16 a17 h17 a18 h18 a19 h19 a20 h20) := by
  unfold cc0_oproj
  repeat' first
    | with_reducible refine .bind ?_ fun _ => ?_
    | with_reducible exact .load
    | with_reducible exact .store
    | with_reducible exact .loadReshaped
    | with_reducible exact .pure _
    | with_reducible exact part27 ..
    | with_reducible exact part130 ..
    | with_reducible refine .dite (fun _ => ?_) fun _ => ?_
    | delta k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part131

end Cert.Oproj.Out
-- ==== Proof.Oproj.Words.Run.lean ====
/- The run of the output projection over the machine's words: the program ends, its arguments unchanged
   and every counter at zero. What the body leaves in the buffers it writes is left open. -/
module

public import proofs.«01_k».proof.Proof.Oproj.Words.Body
public import proofs.«01_k».proof.Proof.Gen.Oproj.Launch
public import proofs.«01_k».proof.Proof.Gen.Oproj.Frame
public import Idealize.ShloMosaic.Lib.Pipeline.FrameBody

@[expose] public section

noncomputable section

namespace Cert.Oproj.Out

open Cert.Oproj Cert.Oproj.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA scopedRest)
open Cert.Own

variable {F : FTy → Type} [BitOps F]

local notation "𝕄" => MT nD τ sig Unit (Elt F) ℕ (UR sig nD τ) ℕ

/-- The kernel's variants: none. -/
abbrev 𝒱₀ : Variants := Variants.none

/-- The whole body at one grid point: the buffers it reads as they were, the others with whatever it leaves. -/
theorem body_run (c : Dev nD) (i : grid0.Coords)
    (a1 : Memref sig .tc .vmem S1536x1792 .i32) (h1 : a1.IsWhole)
    (a2 : Memref sig .tc .vmem S96x1792 .i32) (h2 : a2.IsWhole)
    (a3 : Memref sig .tc .vmem S1x2880 .f32) (h3 : a3.IsWhole)
    (a4 : Memref sig .tc .vmem S288x1536 .i8) (h4 : a4.IsWhole)
    (a5 : Memref sig .tc .vmem S288x96 .i8) (h5 : a5.IsWhole)
    (a6 : Memref sig .tc .vmem S144x1792 .i32) (h6 : a6.IsWhole)
    (a7 : Memref sig .tc .vmem S288x1536 .i8) (h7 : a7.IsWhole)
    (a8 : Memref sig .tc .vmem S288x96 .i8) (h8 : a8.IsWhole)
    (a9 : Memref sig .tc .vmem S144x1792 .i32) (h9 : a9.IsWhole)
    (a10 : Memref sig .tc .vmem S2880x1792 .f32) (h10 : a10.IsWhole)
    (a11 : Memref sig .tc .vmem S2880x1792 .bf16) (h11 : a11.IsWhole)
    (a12 : Memref sig .tc .vmem S1792x2880 .fp8e4m3) (h12 : a12.IsWhole)
    (a13 : Memref sig .tc .vmem S1792x90 .i8) (h13 : a13.IsWhole)
    (a14 : Memref sig .tc .vmem S1792x96 .i8) (h14 : a14.IsWhole)
    (a15 : Memref sig .tc .vmem S144x3072 .i32) (h15 : a15.IsWhole)
    (a16 : Memref sig .tc .vmem S144x3072 .i32) (h16 : a16.IsWhole)
    (a17 : Memref sig .tc .vmem S2880x128 .f32) (h17 : a17.IsWhole)
    (a18 : Memref sig .tc .vmem S96x1792 .i32) (h18 : a18.IsWhole)
    (a19 : Memref sig .tc .vmem S24x256x128 .bf16) (h19 : a19.IsWhole)
    (a20 : Memref sig .tc .vmem S8x1792 .f32) (h20 : a20.IsWhole)
    (E : Set ℕ) (X1 : S1536x1792.Idx → Elt F .i32) (X2 : S96x1792.Idx → Elt F .i32) (X3 : S1x2880.Idx → Elt F .f32) (X4 : S288x1536.Idx → Elt F .i8) (X5 : S288x96.Idx → Elt F .i8) (X6 : S144x1792.Idx → Elt F .i32) (X7 : S288x1536.Idx → Elt F .i8) (X8 : S288x96.Idx → Elt F .i8) (X9 : S144x1792.Idx → Elt F .i32) (X10 : S2880x1792.Idx → Elt F .f32) (X11 : S2880x1792.Idx → Elt F .bf16) (X12 : S1792x2880.Idx → Elt F .fp8e4m3) (X13 : S1792x90.Idx → Elt F .i8) (X14 : S1792x96.Idx → Elt F .i8) (X15 : S144x3072.Idx → Elt F .i32) (X16 : S144x3072.Idx → Elt F .i32) (X17 : S2880x128.Idx → Elt F .f32) (X18 : S96x1792.Idx → Elt F .i32) (X19 : S24x256x128.Idx → Elt F .bf16) (X20 : S8x1792.Idx → Elt F .f32)
    (Q : PUnit → sProp 𝕄) (R : sProp 𝕄)
    (h : ∀ Y10 Y11 Y12 Y13 Y14 Y15 Y16 Y17 Y18 Y19 Y20,
      iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare Y10 ∗ owns (c : Thread nD τ) a11 fullShare Y11 ∗ owns (c : Thread nD τ) a12 fullShare Y12 ∗ owns (c : Thread nD τ) a13 fullShare Y13 ∗ owns (c : Thread nD τ) a14 fullShare Y14 ∗ owns (c : Thread nD τ) a15 fullShare Y15 ∗ owns (c : Thread nD τ) a16 fullShare Y16 ∗ owns (c : Thread nD τ) a17 fullShare Y17 ∗ owns (c : Thread nD τ) a18 fullShare Y18 ∗ owns (c : Thread nD τ) a19 fullShare Y19 ∗ owns (c : Thread nD τ) a20 fullShare Y20 ∗ R) ⊢ Q ⟨⟩) :
    iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11 ∗ owns (c : Thread nD τ) a12 fullShare X12 ∗ owns (c : Thread nD τ) a13 fullShare X13 ∗ owns (c : Thread nD τ) a14 fullShare X14 ∗ owns (c : Thread nD τ) a15 fullShare X15 ∗ owns (c : Thread nD τ) a16 fullShare X16 ∗ owns (c : Thread nD τ) a17 fullShare X17 ∗ owns (c : Thread nD τ) a18 fullShare X18 ∗ owns (c : Thread nD τ) a19 fullShare X19 ∗ owns (c : Thread nD τ) a20 fullShare X20 ∗ R)
      ⊢ wp frame (wpE (defs₀ (F := F)) 𝒱₀ c none) E (cc0_oproj (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20) Q := by
  have hr := body (defs := defs₀ (F := F)) (𝒱 := 𝒱₀) (U := UR sig nD τ) (c := c)
    (L := [kept a1 X1, kept a2 X2, kept a3 X3, kept a4 X4, kept a5 X5, kept a6 X6, kept a7 X7, kept a8 X8, kept a9 X9, any a10, any a11, any a12, any a13, any a14, any a15, any a16, any a17, any a18, any a19, any a20])
    i a1 h1 a2 h2 a3 h3 a4 h4 a5 h5 a6 h6 a7 h7 a8 h8 a9 h9 a10 h10 a11 h11 a12 h12 a13 h13 a14 h14 a15 h15 a16 h16 a17 h17 a18 h18 a19 h19 a20 h20
  refine .trans ?_ (hr E Q R fun _ => ?_)
  · simp only [held, one]
    iintro ⟨H1, H2, H3, H4, H5, H6, H7, H8, H9, H10, H11, H12, H13, H14, H15, H16, H17, H18, H19, H20, HR⟩
    isplitl [H1]
    · iexists X1; isplitr; · ipureintro; exact rfl
      iexact H1
    isplitl [H2]
    · iexists X2; isplitr; · ipureintro; exact rfl
      iexact H2
    isplitl [H3]
    · iexists X3; isplitr; · ipureintro; exact rfl
      iexact H3
    isplitl [H4]
    · iexists X4; isplitr; · ipureintro; exact rfl
      iexact H4
    isplitl [H5]
    · iexists X5; isplitr; · ipureintro; exact rfl
      iexact H5
    isplitl [H6]
    · iexists X6; isplitr; · ipureintro; exact rfl
      iexact H6
    isplitl [H7]
    · iexists X7; isplitr; · ipureintro; exact rfl
      iexact H7
    isplitl [H8]
    · iexists X8; isplitr; · ipureintro; exact rfl
      iexact H8
    isplitl [H9]
    · iexists X9; isplitr; · ipureintro; exact rfl
      iexact H9
    isplitl [H10]
    · iexists X10; isplitr; · ipureintro; exact trivial
      iexact H10
    isplitl [H11]
    · iexists X11; isplitr; · ipureintro; exact trivial
      iexact H11
    isplitl [H12]
    · iexists X12; isplitr; · ipureintro; exact trivial
      iexact H12
    isplitl [H13]
    · iexists X13; isplitr; · ipureintro; exact trivial
      iexact H13
    isplitl [H14]
    · iexists X14; isplitr; · ipureintro; exact trivial
      iexact H14
    isplitl [H15]
    · iexists X15; isplitr; · ipureintro; exact trivial
      iexact H15
    isplitl [H16]
    · iexists X16; isplitr; · ipureintro; exact trivial
      iexact H16
    isplitl [H17]
    · iexists X17; isplitr; · ipureintro; exact trivial
      iexact H17
    isplitl [H18]
    · iexists X18; isplitr; · ipureintro; exact trivial
      iexact H18
    isplitl [H19]
    · iexists X19; isplitr; · ipureintro; exact trivial
      iexact H19
    isplitl [H20]
    · iexists X20; isplitr; · ipureintro; exact trivial
      iexact H20
    iexact HR
  · simp only [held, one]
    iintro ⟨⟨%Y1, %e1, H1⟩, ⟨%Y2, %e2, H2⟩, ⟨%Y3, %e3, H3⟩, ⟨%Y4, %e4, H4⟩, ⟨%Y5, %e5, H5⟩, ⟨%Y6, %e6, H6⟩, ⟨%Y7, %e7, H7⟩, ⟨%Y8, %e8, H8⟩, ⟨%Y9, %e9, H9⟩, ⟨%Y10, %e10, H10⟩, ⟨%Y11, %e11, H11⟩, ⟨%Y12, %e12, H12⟩, ⟨%Y13, %e13, H13⟩, ⟨%Y14, %e14, H14⟩, ⟨%Y15, %e15, H15⟩, ⟨%Y16, %e16, H16⟩, ⟨%Y17, %e17, H17⟩, ⟨%Y18, %e18, H18⟩, ⟨%Y19, %e19, H19⟩, ⟨%Y20, %e20, H20⟩, HR⟩
    replace e1 : Y1 = X1 := e1
    subst e1
    replace e2 : Y2 = X2 := e2
    subst e2
    replace e3 : Y3 = X3 := e3
    subst e3
    replace e4 : Y4 = X4 := e4
    subst e4
    replace e5 : Y5 = X5 := e5
    subst e5
    replace e6 : Y6 = X6 := e6
    subst e6
    replace e7 : Y7 = X7 := e7
    subst e7
    replace e8 : Y8 = X8 := e8
    subst e8
    replace e9 : Y9 = X9 := e9
    subst e9
    iapply (h Y10 Y11 Y12 Y13 Y14 Y15 Y16 Y17 Y18 Y19 Y20)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact HR

section

variable (m : (ℓ : Loc nD τ sig) → Buf (Elt F) ℓ)

/-- What the body may leave in window `w`'s buffer: an input's contents as it found them, anything in an output's. -/
def after (w : Fin cfg0.W) (Y X : (cfg0.win w).block.Idx → Elt F (cfg0.win w).elt) : Prop :=
  (cfg0.win w).isOut = false → X = Y

def rdat (c : Dev nD) : RDat τ (Elt F) Unit ℕ (UR sig nD τ) ℕ cfg0 c where
  A w := V m c (Pipeline.arrRef spec0 w)
  after w _ := after w
  Φ _ := ΦA (Val := Elt F) (U := UR sig nD τ) spec0 c
  q := Pipeline.shareOf spec0
  owed _ := 0

theorem defs₀_row (t : Fin cfg0.N) : defs₀ (F := F) .tc cfg0.body (cfg0.bodyArgs t (cfg0.slots t)) = bodyAt0 t := by
  unfold defs₀; rw [Defs.onTc_tc]

/-- The body meets its obligation at every grid point. -/
theorem body_obligation (c : Dev nD) : (rdat m c).BodyObligation (defs₀ (F := F)) 𝒱₀ () Set.univ := fun t Y _ => by
  rw [bigSep_W0, bigSep_W0, defs₀_row]
  rw [show (rdat m c).Φ t.castSucc = ΦA (Val := Elt F) (U := UR sig nD τ) spec0 c from rfl,
    show (rdat m c).Φ t.succ = ΦA (Val := Elt F) (U := UR sig nD τ) spec0 c from rfl,
    show (rdat m c).owesAt () t.succ = (rdat m c).owesAt () t.castSucc from rfl]
  unfold ΦA
  rw [scopedRest0_eq]
  iintro ⟨⟨⟨⟨%X15, H15⟩, ⟨%X16, H16⟩, ⟨%X17, H17⟩, ⟨%X18, H18⟩, ⟨%X19, H19⟩, ⟨%X20, H20⟩⟩, HP⟩, Ho, H1, H2, H3, H4, H5, H6, H7, H8, H9, H10, H11, H12, H13, H14⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    Set.univ (Y 0) (Y 1) (Y 2) (Y 3) (Y 4) (Y 5) (Y 6) (Y 7) (Y 8) (Y 9) (Y 10) (Y 11) (Y 12) (Y 13) X15 X16 X17 X18 X19 X20 _
    iprop((rdat m c).owesAt () t.castSucc ∗ ∃ r, prngReg c r) ?_)
  · intro Y10 Y11 Y12 Y13 Y14 Y15 Y16 Y17 Y18 Y19 Y20
    rw [owns_whole, owns_whole, owns_whole, owns_whole, owns_whole, owns_whole]
    iintro ⟨H1, H2, H3, H4, H5, H6, H7, H8, H9, H10, H11, H12, H13, H14, H15, H16, H17, H18, H19, H20, Ho, HP⟩
    isplitl [H15 H16 H17 H18 H19 H20 HP]
    · isplitl [H15 H16 H17 H18 H19 H20]
      · isplitl [H15]
        · iexists Y15; iexact H15
        isplitl [H16]
        · iexists Y16; iexact H16
        isplitl [H17]
        · iexists Y17; iexact H17
        isplitl [H18]
        · iexists Y18; iexact H18
        isplitl [H19]
        · iexists Y19; iexact H19
        · iexists Y20; iexact H20
      · iexact HP
    isplitl [Ho]; · iexact Ho
    isplitl [H1]
    · iexists Y 0; isplitr; · ipureintro; exact fun _ => rfl
      iexact H1
    isplitl [H2]
    · iexists Y 1; isplitr; · ipureintro; exact fun _ => rfl
      iexact H2
    isplitl [H3]
    · iexists Y 2; isplitr; · ipureintro; exact fun _ => rfl
      iexact H3
    isplitl [H4]
    · iexists Y 3; isplitr; · ipureintro; exact fun _ => rfl
      iexact H4
    isplitl [H5]
    · iexists Y 4; isplitr; · ipureintro; exact fun _ => rfl
      iexact H5
    isplitl [H6]
    · iexists Y 5; isplitr; · ipureintro; exact fun _ => rfl
      iexact H6
    isplitl [H7]
    · iexists Y 6; isplitr; · ipureintro; exact fun _ => rfl
      iexact H7
    isplitl [H8]
    · iexists Y 7; isplitr; · ipureintro; exact fun _ => rfl
      iexact H8
    isplitl [H9]
    · iexists Y 8; isplitr; · ipureintro; exact fun _ => rfl
      iexact H9
    isplitl [H10]
    · iexists Y10; isplitr; · ipureintro; exact fun h => absurd h (by decide)
      iexact H10
    isplitl [H11]
    · iexists Y11; isplitr; · ipureintro; exact fun h => absurd h (by decide)
      iexact H11
    isplitl [H12]
    · iexists Y12; isplitr; · ipureintro; exact fun h => absurd h (by decide)
      iexact H12
    isplitl [H13]
    · iexists Y13; isplitr; · ipureintro; exact fun h => absurd h (by decide)
      iexact H13
    · iexists Y14; isplitr; · ipureintro; exact fun h => absurd h (by decide)
      iexact H14
  · rw [owns_whole, owns_whole, owns_whole, owns_whole, owns_whole, owns_whole]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [Ho]; · iexact Ho
    iexact HP

set_option backward.isDefEq.respectTransparency.types false in
/-- The program runs, and its arrays end as the windows' relations allow. -/
theorem run (g : Dev nD → PrngReg) (Q' : PUnit × MemSt nD τ sig (Elt F) → Prop)
    (hQ' : ∀ r, RDat.FramePost cfg0 (rdat m) (V m) r ∧ r.2.sem = (fun _ => 0) → Q' r) :
    θ_run (defs (F := F)) (onTc (τ := τ) (main (F := F))) ⟨m, fun _ => 0, g⟩ Q' :=
  RDat.θ_run_frame_track_shared cfgs 0 launch₀0 defs₀ 𝒱₀ (rdat m) m g main (body_obligation m)
    (fun _ _ _ => rfl) (fun _ _ => rfl) (V m) (hmain m 𝒱₀) (fun _ _ => rfl) (fun _ => .rfl) (fun _ => .rfl) Q' hQ'

end

end Cert.Oproj.Out
-- ==== Proof.Oproj.Frames.lean ====
/- The frames of the output projection's two programs, and the statements its idealization rests on. -/
module

public import proofs.«01_k».proof.Defs
public import proofs.«01_k».proof.Proof.Oproj.Run
public import proofs.«01_k».proof.Proof.Oproj.Words.Run
public import proofs.«01_k».proof.Proof.Gen.Oproj
public import proofs.«01_k».proof.Proof.Gen.OprojIdeal
public import Idealize.ShloMosaic.Lib.Bf16PairInverse

@[expose] public section

noncomputable section

namespace Cert.OprojFrames

open Idealize.ShloMosaic Idealize.SL.Sem
open Idealize.ShloMosaic.Pipeline (RDat)

/-- The kernel over the machine's words ends, with its arguments unchanged and every counter at zero. -/
theorem kernel : Cert.quiescent_Oproj (hOproj := Cert.Oproj.Gen.facts) := fun m g _ =>
  Cert.Oproj.Out.run m g _ fun _ h => ⟨fun c => ⟨h.1.arr_in c 0 rfl, h.1.arr_in c 1 rfl, h.1.arr_in c 2 rfl, h.1.arr_in c 3 rfl, h.1.arr_in c 4 rfl, h.1.arr_in c 5 rfl⟩, h.2⟩

/-- The kernel at ideal values likewise. -/
theorem kernelIdeal : Cert.quiescent_OprojIdeal (hOprojIdeal := Cert.OprojIdeal.Gen.facts) := fun m g _ =>
  Cert.OprojIdeal.Out.run m g _ fun _ h => ⟨fun c => ⟨h.1.arr_in c 0 rfl, h.1.arr_in c 1 rfl, h.1.arr_in c 2 rfl, h.1.arr_in c 3 rfl, h.1.arr_in c 4 rfl, h.1.arr_in c 5 rfl⟩, h.2⟩

/-- The rewrites of the idealization hold: words of two bf16 values are those values, in registers and in the buffers. -/
theorem preserves : Cert.preserves_Oproj_OprojIdeal :=
  ⟨IdealRules.bf16_pair.bufferStatement _ _, IdealRules.bf16_pair.statement _ _, IdealRules.bf16_pair.statement _ _,
    IdealRules.bf16_pair.statement _ _, IdealRules.bf16_pair.statement _ _, IdealRules.bf16_pair.statement _ _, IdealRules.bf16_pair.statement _ _,
    IdealRules.bf16_pair.statement _ _, IdealRules.bf16_pair.statement _ _, IdealRules.bf16_pair.statement _ _, IdealRules.bf16_pair.statement _ _,
    IdealRules.bf16_pair.statement _ _, IdealRules.bf16_pair.statement _ _⟩

end Cert.OprojFrames
-- ==== Proof.lean ====
module

public import proofs.«01_k».proof.Defs
public import proofs.«01_k».proof.Proof.Gen.Gateup
public import proofs.«01_k».proof.Proof.Gen.Gateup.Frame
public import proofs.«01_k».proof.Proof.Gen.Gateup.Launch
public import proofs.«01_k».proof.Proof.Gen.Gateup.Points
public import proofs.«01_k».proof.Proof.Gen.GateupIdeal
public import proofs.«01_k».proof.Proof.Gen.GateupIdeal.Frame
public import proofs.«01_k».proof.Proof.Gen.GateupIdeal.Launch
public import proofs.«01_k».proof.Proof.Gen.GateupIdeal.Points
public import proofs.«01_k».proof.Proof.Gen.GateupReferenceIdeal
public import proofs.«01_k».proof.Proof.Gen.GateupReferenceIdeal.Run
public import proofs.«01_k».proof.Proof.Gen.GateupReferenceIdeal.Read
public import proofs.«01_k».proof.Proof.Gen.Oproj
public import proofs.«01_k».proof.Proof.Gen.Oproj.Frame
public import proofs.«01_k».proof.Proof.Gen.Oproj.Launch
public import proofs.«01_k».proof.Proof.Gen.Oproj.Points
public import proofs.«01_k».proof.Proof.Gen.OprojIdeal
public import proofs.«01_k».proof.Proof.Gen.OprojIdeal.Frame
public import proofs.«01_k».proof.Proof.Gen.OprojIdeal.Launch
public import proofs.«01_k».proof.Proof.Gen.OprojIdeal.Points
public import proofs.«01_k».proof.Proof.Frames
public import proofs.«01_k».proof.Proof.Algebraic
public import proofs.«01_k».proof.Proof.Gateup.Frames
public import proofs.«01_k».proof.Proof.Gateup.Algebraic
public import proofs.«01_k».proof.Proof.Oproj.Frames

@[expose] public section

noncomputable section

namespace Cert.Proof

theorem claim : Cert.Claim := ⟨Cert.Kernel.Gen.facts, Cert.KernelIdeal.Gen.facts, Cert.ReferenceIdeal.Gen.facts,
  Cert.Gateup.Gen.facts, Cert.GateupIdeal.Gen.facts, Cert.GateupReferenceIdeal.Gen.facts,
  Cert.Oproj.Gen.facts, Cert.OprojIdeal.Gen.facts,
  Frames.kernel, Frames.kernelIdeal, Frames.referenceIdeal, GateupFrames.kernel, GateupFrames.kernelIdeal, GateupFrames.referenceIdeal,
  OprojFrames.kernel, OprojFrames.kernelIdeal,
  Frames.preserves, Algebraic.kernel_reference, GateupFrames.preserves, GateupAlgebraic.kernel_reference,
  OprojFrames.preserves⟩

end Cert.Proof

end
